-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite [hPre_finite : Cert.Pre_finite.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite [hPre_finite : Cert.Pre_finite.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_past [hPre_finite_past : Cert.Pre_finite_past.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_past.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_past [hPre_finite_past : Cert.Pre_finite_past.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_past.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_finite [hKernel9Ideal : Cert.Kernel9Ideal.Facts] [hPre_finite : Cert.Pre_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_finite [hReference9Ideal : Cert.Reference9Ideal.Facts] [hPre_finite : Cert.Pre_finite.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Kernel10Ideal_pre_finite_past [hKernel10Ideal : Cert.Kernel10Ideal.Facts] [hPre_finite_past : Cert.Pre_finite_past.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_past m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Reference10Ideal_pre_finite_past [hReference10Ideal : Cert.Reference10Ideal.Facts] [hPre_finite_past : Cert.Pre_finite_past.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_past m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v19)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v60) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v19)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v60) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)) (v4 : (c : Dev Cert.Kernel5Ideal.nD) → Buf (Elt Ideal) ((c.tc : Thread Cert.Kernel5Ideal.nD Cert.Kernel5Ideal.τ).loc Cert.Kernel5Ideal.main_v3_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_v3_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_v3) = v1 c
          ∧ r.2.mem ((c.tc : Thread Cert.Reference5Ideal.nD Cert.Reference5Ideal.τ).loc Cert.Reference5Ideal.main_v4) = v2 c
          ∧ r.2.mem ((c.tc : Thread Cert.Reference5Ideal.nD Cert.Reference5Ideal.τ).loc Cert.Reference5Ideal.main_v12) = v3 c
          ∧ r.2.mem ((c.tc : Thread Cert.Reference5Ideal.nD Cert.Reference5Ideal.τ).loc Cert.Reference5Ideal.main_v13) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)) (v3 : (c : Dev Cert.Kernel6Ideal.nD) → Buf (Elt Ideal) ((c.tc : Thread Cert.Kernel6Ideal.nD Cert.Kernel6Ideal.τ).loc Cert.Kernel6Ideal.main_v3_3)) (v4 : (c : Dev Cert.Kernel6Ideal.nD) → Buf (Elt Ideal) ((c.tc : Thread Cert.Kernel6Ideal.nD Cert.Kernel6Ideal.τ).loc Cert.Kernel6Ideal.main_v3_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_v3_3) = v3 c
          ∧ r.2.mem ((c.tc : Thread Cert.Kernel6Ideal.nD Cert.Kernel6Ideal.τ).loc Cert.Kernel6Ideal.main_v3_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_v3) = v1 c
          ∧ r.2.mem ((c.tc : Thread Cert.Reference6Ideal.nD Cert.Reference6Ideal.τ).loc Cert.Reference6Ideal.main_v4) = v2 c
          ∧ r.2.mem ((c.tc : Thread Cert.Reference6Ideal.nD Cert.Reference6Ideal.τ).loc Cert.Reference6Ideal.main_v12) = v3 c
          ∧ r.2.mem ((c.tc : Thread Cert.Reference6Ideal.nD Cert.Reference6Ideal.τ).loc Cert.Reference6Ideal.main_v13) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v37_0)) (v1 : (c : Dev Cert.Kernel7Ideal.nD) → Buf (Elt Ideal) ((c.tc : Thread Cert.Kernel7Ideal.nD Cert.Kernel7Ideal.τ).loc Cert.Kernel7Ideal.main_v37_1)) (v2 : (c : Dev Cert.Kernel7Ideal.nD) → Buf (Elt Ideal) ((c.tc : Thread Cert.Kernel7Ideal.nD Cert.Kernel7Ideal.τ).loc Cert.Kernel7Ideal.main_v37_2)) (v3 : (c : Dev Cert.Kernel7Ideal.nD) → Buf (Elt Ideal) ((c.tc : Thread Cert.Kernel7Ideal.nD Cert.Kernel7Ideal.τ).loc Cert.Kernel7Ideal.main_v37_3)) (v4 : (c : Dev Cert.Kernel7Ideal.nD) → Buf (Elt Ideal) ((c.tc : Thread Cert.Kernel7Ideal.nD Cert.Kernel7Ideal.τ).loc Cert.Kernel7Ideal.main_v37_4)) (v5 : (c : Dev Cert.Kernel7Ideal.nD) → Buf (Elt Ideal) ((c.tc : Thread Cert.Kernel7Ideal.nD Cert.Kernel7Ideal.τ).loc Cert.Kernel7Ideal.main_v37_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v37_0) = v0 c
          ∧ r.2.mem ((c.tc : Thread Cert.Kernel7Ideal.nD Cert.Kernel7Ideal.τ).loc Cert.Kernel7Ideal.main_v37_1) = v1 c
          ∧ r.2.mem ((c.tc : Thread Cert.Kernel7Ideal.nD Cert.Kernel7Ideal.τ).loc Cert.Kernel7Ideal.main_v37_2) = v2 c
          ∧ r.2.mem ((c.tc : Thread Cert.Kernel7Ideal.nD Cert.Kernel7Ideal.τ).loc Cert.Kernel7Ideal.main_v37_3) = v3 c
          ∧ r.2.mem ((c.tc : Thread Cert.Kernel7Ideal.nD Cert.Kernel7Ideal.τ).loc Cert.Kernel7Ideal.main_v37_4) = v4 c
          ∧ r.2.mem ((c.tc : Thread Cert.Kernel7Ideal.nD Cert.Kernel7Ideal.τ).loc Cert.Kernel7Ideal.main_v37_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v129) = v0 c
          ∧ r.2.mem ((c.tc : Thread Cert.Reference7Ideal.nD Cert.Reference7Ideal.τ).loc Cert.Reference7Ideal.main_v130) = v1 c
          ∧ r.2.mem ((c.tc : Thread Cert.Reference7Ideal.nD Cert.Reference7Ideal.τ).loc Cert.Reference7Ideal.main_v131) = v2 c
          ∧ r.2.mem ((c.tc : Thread Cert.Reference7Ideal.nD Cert.Reference7Ideal.τ).loc Cert.Reference7Ideal.main_v133) = v3 c
          ∧ r.2.mem ((c.tc : Thread Cert.Reference7Ideal.nD Cert.Reference7Ideal.τ).loc Cert.Reference7Ideal.main_v135) = v4 c
          ∧ r.2.mem ((c.tc : Thread Cert.Reference7Ideal.nD Cert.Reference7Ideal.τ).loc Cert.Reference7Ideal.main_v137) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v37_0)) (v1 : (c : Dev Cert.Kernel8Ideal.nD) → Buf (Elt Ideal) ((c.tc : Thread Cert.Kernel8Ideal.nD Cert.Kernel8Ideal.τ).loc Cert.Kernel8Ideal.main_v37_1)) (v2 : (c : Dev Cert.Kernel8Ideal.nD) → Buf (Elt Ideal) ((c.tc : Thread Cert.Kernel8Ideal.nD Cert.Kernel8Ideal.τ).loc Cert.Kernel8Ideal.main_v37_2)) (v3 : (c : Dev Cert.Kernel8Ideal.nD) → Buf (Elt Ideal) ((c.tc : Thread Cert.Kernel8Ideal.nD Cert.Kernel8Ideal.τ).loc Cert.Kernel8Ideal.main_v37_3)) (v4 : (c : Dev Cert.Kernel8Ideal.nD) → Buf (Elt Ideal) ((c.tc : Thread Cert.Kernel8Ideal.nD Cert.Kernel8Ideal.τ).loc Cert.Kernel8Ideal.main_v37_4)) (v5 : (c : Dev Cert.Kernel8Ideal.nD) → Buf (Elt Ideal) ((c.tc : Thread Cert.Kernel8Ideal.nD Cert.Kernel8Ideal.τ).loc Cert.Kernel8Ideal.main_v37_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v37_0) = v0 c
          ∧ r.2.mem ((c.tc : Thread Cert.Kernel8Ideal.nD Cert.Kernel8Ideal.τ).loc Cert.Kernel8Ideal.main_v37_1) = v1 c
          ∧ r.2.mem ((c.tc : Thread Cert.Kernel8Ideal.nD Cert.Kernel8Ideal.τ).loc Cert.Kernel8Ideal.main_v37_2) = v2 c
          ∧ r.2.mem ((c.tc : Thread Cert.Kernel8Ideal.nD Cert.Kernel8Ideal.τ).loc Cert.Kernel8Ideal.main_v37_3) = v3 c
          ∧ r.2.mem ((c.tc : Thread Cert.Kernel8Ideal.nD Cert.Kernel8Ideal.τ).loc Cert.Kernel8Ideal.main_v37_4) = v4 c
          ∧ r.2.mem ((c.tc : Thread Cert.Kernel8Ideal.nD Cert.Kernel8Ideal.τ).loc Cert.Kernel8Ideal.main_v37_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v129) = v0 c
          ∧ r.2.mem ((c.tc : Thread Cert.Reference8Ideal.nD Cert.Reference8Ideal.τ).loc Cert.Reference8Ideal.main_v130) = v1 c
          ∧ r.2.mem ((c.tc : Thread Cert.Reference8Ideal.nD Cert.Reference8Ideal.τ).loc Cert.Reference8Ideal.main_v131) = v2 c
          ∧ r.2.mem ((c.tc : Thread Cert.Reference8Ideal.nD Cert.Reference8Ideal.τ).loc Cert.Reference8Ideal.main_v133) = v3 c
          ∧ r.2.mem ((c.tc : Thread Cert.Reference8Ideal.nD Cert.Reference8Ideal.τ).loc Cert.Reference8Ideal.main_v135) = v4 c
          ∧ r.2.mem ((c.tc : Thread Cert.Reference8Ideal.nD Cert.Reference8Ideal.τ).loc Cert.Reference8Ideal.main_v137) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal_pre_finite [hKernel9Ideal : Cert.Kernel9Ideal.Facts] [hReference9Ideal : Cert.Reference9Ideal.Facts] [hPre_finite : Cert.Pre_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v16)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v16) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v29) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal_pre_finite_past [hKernel10Ideal : Cert.Kernel10Ideal.Facts] [hReference10Ideal : Cert.Reference10Ideal.Facts] [hPre_finite_past : Cert.Pre_finite_past.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_past m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v35)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v35) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v43) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite_past : Cert.Pre_finite_past.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite (hKernel9Ideal := hKernel9Ideal) (hPre_finite := hPre_finite)
    ∧ quiescent_Reference9Ideal (hReference9Ideal := hReference9Ideal)
    ∧ quiescent_Reference9Ideal_pre_finite (hReference9Ideal := hReference9Ideal) (hPre_finite := hPre_finite)
    ∧ quiescent_Kernel10 (hKernel10 := hKernel10)
    ∧ quiescent_Kernel10Ideal (hKernel10Ideal := hKernel10Ideal)
    ∧ quiescent_Kernel10Ideal_pre_finite_past (hKernel10Ideal := hKernel10Ideal) (hPre_finite_past := hPre_finite_past)
    ∧ quiescent_Reference10Ideal (hReference10Ideal := hReference10Ideal)
    ∧ quiescent_Reference10Ideal_pre_finite_past (hReference10Ideal := hReference10Ideal) (hPre_finite_past := hPre_finite_past)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite (hKernel9Ideal := hKernel9Ideal) (hReference9Ideal := hReference9Ideal) (hPre_finite := hPre_finite)
    ∧ preserves_Kernel10_Kernel10Ideal
    ∧ algebraic_Kernel10Ideal_Reference10Ideal_pre_finite_past (hKernel10Ideal := hKernel10Ideal) (hReference10Ideal := hReference10Ideal) (hPre_finite_past := hPre_finite_past)
-- ==== Pre_finite.lean ====
abbrev S2x4096x8x128 : Shape := ⟨4, ![2, 4096, 8, 128]⟩
abbrev S2x4096x8x64 : Shape := ⟨4, ![2, 4096, 8, 64]⟩
abbrev S2x4096x64 : Shape := ⟨3, ![2, 4096, 64]⟩
abbrev S_ : Shape := ⟨0, ![]⟩

class Facts : Prop where
  bcast_S_S2x4096x8x128 : S_.BroadcastsInDim S2x4096x8x128 (![] : Fin 0 → Fin S2x4096x8x128.rank)
  reducesTo_S2x4096x8x128_S_d0_1_2_3 : S2x4096x8x128.ReducesTo [0, 1, 2, 3] S_
  h_S_ : 0 < S_.numel
  bcast_S_S2x4096x8x64 : S_.BroadcastsInDim S2x4096x8x64 (![] : Fin 0 → Fin S2x4096x8x64.rank)
  reducesTo_S2x4096x8x64_S_d0_1_2_3 : S2x4096x8x64.ReducesTo [0, 1, 2, 3] S_
  bcast_S_S2x4096x64 : S_.BroadcastsInDim S2x4096x64 (![] : Fin 0 → Fin S2x4096x64.rank)
  reducesTo_S2x4096x64_S_d0_1_2 : S2x4096x64.ReducesTo [0, 1, 2] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S2x4096x8x128 .f32) (main_arg1 : FVec F S2x4096x8x64 .f32) (main_arg2 : FVec F S2x4096x8x128 .f32) (main_arg3 : FVec F S2x4096x64 .f32) (main_arg4 : FVec F S2x4096x8x128 .f32) : IVec S_ 1 :=
  let main_v0 : FVec F S2x4096x8x128 .f32 := Host.absf main_arg0
  let main_cst : FVec F S_ .f32 := constant S_ .f32 0x7F800000#32
  let main_v1 : FVec F S2x4096x8x128 .f32 := broadcastInDim S2x4096x8x128 ![] bcast_S_S2x4096x8x128 main_cst
  let main_v2 : IVec S2x4096x8x128 1 := cmpf .olt main_v0 main_v1
  let main_c : IVec S_ 1 := constantI S_ 1 1#1
  let main_v3 : IVec S_ 1 := (fun x v => Host.reduce IntOp.andi x v reducesTo_S2x4096x8x128_S_d0_1_2_3 h_S_) main_v2 main_c
  let main_v4 : FVec F S2x4096x8x64 .f32 := Host.absf main_arg1
  let main_cst_0 : FVec F S_ .f32 := constant S_ .f32 0x7F800000#32
  let main_v5 : FVec F S2x4096x8x64 .f32 := broadcastInDim S2x4096x8x64 ![] bcast_S_S2x4096x8x64 main_cst_0
  let main_v6 : IVec S2x4096x8x64 1 := cmpf .olt main_v4 main_v5
  let main_c_1 : IVec S_ 1 := constantI S_ 1 1#1
  let main_v7 : IVec S_ 1 := (fun x v => Host.reduce IntOp.andi x v reducesTo_S2x4096x8x64_S_d0_1_2_3 h_S_) main_v6 main_c_1
  let main_v8 : FVec F S2x4096x8x128 .f32 := Host.absf main_arg2
  let main_cst_2 : FVec F S_ .f32 := constant S_ .f32 0x7F800000#32
  let main_v9 : FVec F S2x4096x8x128 .f32 := broadcastInDim S2x4096x8x128 ![] bcast_S_S2x4096x8x128 main_cst_2
  let main_v10 : IVec S2x4096x8x128 1 := cmpf .olt main_v8 main_v9
  let main_c_3 : IVec S_ 1 := constantI S_ 1 1#1
  let main_v11 : IVec S_ 1 := (fun x v => Host.reduce IntOp.andi x v reducesTo_S2x4096x8x128_S_d0_1_2_3 h_S_) main_v10 main_c_3
  let main_v12 : FVec F S2x4096x64 .f32 := Host.absf main_arg3
  let main_cst_4 : FVec F S_ .f32 := constant S_ .f32 0x7F800000#32
  let main_v13 : FVec F S2x4096x64 .f32 := broadcastInDim S2x4096x64 ![] bcast_S_S2x4096x64 main_cst_4
  let main_v14 : IVec S2x4096x64 1 := cmpf .olt main_v12 main_v13
  let main_c_5 : IVec S_ 1 := constantI S_ 1 1#1
  let main_v15 : IVec S_ 1 := (fun x v => Host.reduce IntOp.andi x v reducesTo_S2x4096x64_S_d0_1_2 h_S_) main_v14 main_c_5
  fn_part1 (F := F) main_v3 main_v7 main_v11 main_v15
-- ==== Pre_finite_past.lean ====
abbrev S16x16x8x128 : Shape := ⟨4, ![16, 16, 8, 128]⟩
abbrev S16x16x8x64 : Shape := ⟨4, ![16, 16, 8, 64]⟩
abbrev S16x16x64 : Shape := ⟨3, ![16, 16, 64]⟩
abbrev S1x16x1024x512 : Shape := ⟨4, ![1, 16, 1024, 512]⟩
abbrev S1x16x1024x64 : Shape := ⟨4, ![1, 16, 1024, 64]⟩
abbrev S1x512x2048 : Shape := ⟨3, ![1, 512, 2048]⟩
abbrev S512x2048 : Shape := ⟨2, ![512, 2048]⟩
abbrev S512x8x256 : Shape := ⟨3, ![512, 8, 256]⟩
abbrev S512x8x128 : Shape := ⟨3, ![512, 8, 128]⟩
abbrev S_ : Shape := ⟨0, ![]⟩

class Facts : Prop where
  shapeCasts_S1x512x2048_S512x2048 : S1x512x2048.ShapeCasts S512x2048
  shapeCasts_S512x2048_S512x8x256 : S512x2048.ShapeCasts S512x8x256
  slices_S512x8x256_S512x8x128_0_0_0 : S512x8x256.Slices ![0, 0, 0] S512x8x128
  bcast_S_S16x16x8x128 : S_.BroadcastsInDim S16x16x8x128 (![] : Fin 0 → Fin S16x16x8x128.rank)
  reducesTo_S16x16x8x128_S_d0_1_2_3 : S16x16x8x128.ReducesTo [0, 1, 2, 3] S_
  h_S_ : 0 < S_.numel
  bcast_S_S16x16x8x64 : S_.BroadcastsInDim S16x16x8x64 (![] : Fin 0 → Fin S16x16x8x64.rank)
  reducesTo_S16x16x8x64_S_d0_1_2_3 : S16x16x8x64.ReducesTo [0, 1, 2, 3] S_
  bcast_S_S16x16x64 : S_.BroadcastsInDim S16x16x64 (![] : Fin 0 → Fin S16x16x64.rank)
  reducesTo_S16x16x64_S_d0_1_2 : S16x16x64.ReducesTo [0, 1, 2] S_
  bcast_S_S1x16x1024x512 : S_.BroadcastsInDim S1x16x1024x512 (![] : Fin 0 → Fin S1x16x1024x512.rank)
  reducesTo_S1x16x1024x512_S_d0_1_2_3 : S1x16x1024x512.ReducesTo [0, 1, 2, 3] S_
  bcast_S_S1x16x1024x64 : S_.BroadcastsInDim S1x16x1024x64 (![] : Fin 0 → Fin S1x16x1024x64.rank)
  reducesTo_S1x16x1024x64_S_d0_1_2_3 : S1x16x1024x64.ReducesTo [0, 1, 2, 3] S_
  bcast_S_S512x8x128 : S_.BroadcastsInDim S512x8x128 (![] : Fin 0 → Fin S512x8x128.rank)
  reducesTo_S512x8x128_S_d0_1_2 : S512x8x128.ReducesTo [0, 1, 2] S_

variable [Facts]

def fn_part2 {F : FTy → Type} [FloatOps F] (main_v22 : IVec S_ 1) (main_v26 : IVec S_ 1) (main_v30 : IVec S_ 1) (main_v33 : IVec S_ 1) : IVec S_ 1 :=
  let main_v34 : IVec S_ 1 := andi main_v33 main_v22
  let main_v35 : IVec S_ 1 := andi main_v34 main_v26
  let main_v36 : IVec S_ 1 := andi main_v35 main_v30
  main_v36

def fn_part1 {F : FTy → Type} [FloatOps F] (main_arg5 : FVec F S1x16x1024x512 .f32) (main_arg6 : FVec F S1x16x1024x64 .f32) (main_v2 : FVec F S512x8x128 .f32) (main_v6 : IVec S_ 1) (main_v10 : IVec S_ 1) (main_v14 : IVec S_ 1) (main_v15 : FVec F S16x16x64 .f32) (main_v16 : FVec F S16x16x64 .f32) : IVec S_ 1 :=
  let main_v17 : IVec S16x16x64 1 := cmpf .olt main_v15 main_v16
  let main_c_5 : IVec S_ 1 := constantI S_ 1 1#1
  let main_v18 : IVec S_ 1 := (fun x v => Host.reduce IntOp.andi x v reducesTo_S16x16x64_S_d0_1_2 h_S_) main_v17 main_c_5
  let main_v19 : FVec F S1x16x1024x512 .f32 := Host.absf main_arg5
  let main_cst_6 : FVec F S_ .f32 := constant S_ .f32 0x7F800000#32
  let main_v20 : FVec F S1x16x1024x512 .f32 := broadcastInDim S1x16x1024x512 ![] bcast_S_S1x16x1024x512 main_cst_6
  let main_v21 : IVec S1x16x1024x512 1 := cmpf .olt main_v19 main_v20
  let main_c_7 : IVec S_ 1 := constantI S_ 1 1#1
  let main_v22 : IVec S_ 1 := (fun x v => Host.reduce IntOp.andi x v reducesTo_S1x16x1024x512_S_d0_1_2_3 h_S_) main_v21 main_c_7
  let main_v23 : FVec F S1x16x1024x64 .f32 := Host.absf main_arg6
  let main_cst_8 : FVec F S_ .f32 := constant S_ .f32 0x7F800000#32
  let main_v24 : FVec F S1x16x1024x64 .f32 := broadcastInDim S1x16x1024x64 ![] bcast_S_S1x16x1024x64 main_cst_8
  let main_v25 : IVec S1x16x1024x64 1 := cmpf .olt main_v23 main_v24
  let main_c_9 : IVec S_ 1 := constantI S_ 1 1#1
  let main_v26 : IVec S_ 1 := (fun x v => Host.reduce IntOp.andi x v reducesTo_S1x16x1024x64_S_d0_1_2_3 h_S_) main_v25 main_c_9
  let main_v27 : FVec F S512x8x128 .f32 := Host.absf main_v2
  let main_cst_10 : FVec F S_ .f32 := constant S_ .f32 0x7F800000#32
  let main_v28 : FVec F S512x8x128 .f32 := broadcastInDim S512x8x128 ![] bcast_S_S512x8x128 main_cst_10
  let main_v29 : IVec S512x8x128 1 := cmpf .olt main_v27 main_v28
  let main_c_11 : IVec S_ 1 := constantI S_ 1 1#1
  let main_v30 : IVec S_ 1 := (fun x v => Host.reduce IntOp.andi x v reducesTo_S512x8x128_S_d0_1_2 h_S_) main_v29 main_c_11
  let main_v31 : IVec S_ 1 := andi main_v6 main_v10
  let main_v32 : IVec S_ 1 := andi main_v31 main_v14
  let main_v33 : IVec S_ 1 := andi main_v32 main_v18
  fn_part2 (F := F) main_v22 main_v26 main_v30 main_v33

def fn {F : FTy → Type} [FloatOps F] (main_arg0 : FVec F S16x16x8x128 .f32) (main_arg1 : FVec F S16x16x8x64 .f32) (main_arg2 : FVec F S16x16x8x128 .f32) (main_arg3 : FVec F S16x16x64 .f32) (main_arg4 : FVec F S16x16x8x128 .f32) (main_arg5 : FVec F S1x16x1024x512 .f32) (main_arg6 : FVec F S1x16x1024x64 .f32) (main_arg7 : FVec F S1x512x2048 .f32) : IVec S_ 1 :=
  let main_v0 : FVec F S512x2048 .f32 := shapeCast S512x2048 main_arg7 shapeCasts_S1x512x2048_S512x2048
  let main_v1 : FVec F S512x8x256 .f32 := shapeCast S512x8x256 main_v0 shapeCasts_S512x2048_S512x8x256
  let main_v2 : FVec F S512x8x128 .f32 := (extractStridedSlice S512x8x128 ![0, 0, 0] · slices_S512x8x256_S512x8x128_0_0_0) main_v1
  let main_v3 : FVec F S16x16x8x128 .f32 := Host.absf main_arg0
  let main_cst : FVec F S_ .f32 := constant S_ .f32 0x7F800000#32
  let main_v4 : FVec F S16x16x8x128 .f32 := broadcastInDim S16x16x8x128 ![] bcast_S_S16x16x8x128 main_cst
  let main_v5 : IVec S16x16x8x128 1 := cmpf .olt main_v3 main_v4
  let main_c : IVec S_ 1 := constantI S_ 1 1#1
  let main_v6 : IVec S_ 1 := (fun x v => Host.reduce IntOp.andi x v reducesTo_S16x16x8x128_S_d0_1_2_3 h_S_) main_v5 main_c
  let main_v7 : FVec F S16x16x8x64 .f32 := Host.absf main_arg1
  let main_cst_0 : FVec F S_ .f32 := constant S_ .f32 0x7F800000#32
  let main_v8 : FVec F S16x16x8x64 .f32 := broadcastInDim S16x16x8x64 ![] bcast_S_S16x16x8x64 main_cst_0
  let main_v9 : IVec S16x16x8x64 1 := cmpf .olt main_v7 main_v8
  let main_c_1 : IVec S_ 1 := constantI S_ 1 1#1
  let main_v10 : IVec S_ 1 := (fun x v => Host.reduce IntOp.andi x v reducesTo_S16x16x8x64_S_d0_1_2_3 h_S_) main_v9 main_c_1
  let main_v11 : FVec F S16x16x8x128 .f32 := Host.absf main_arg2
  let main_cst_2 : FVec F S_ .f32 := constant S_ .f32 0x7F800000#32
  let main_v12 : FVec F S16x16x8x128 .f32 := broadcastInDim S16x16x8x128 ![] bcast_S_S16x16x8x128 main_cst_2
  let main_v13 : IVec S16x16x8x128 1 := cmpf .olt main_v11 main_v12
  let main_c_3 : IVec S_ 1 := constantI S_ 1 1#1
  let main_v14 : IVec S_ 1 := (fun x v => Host.reduce IntOp.andi x v reducesTo_S16x16x8x128_S_d0_1_2_3 h_S_) main_v13 main_c_3
  let main_v15 : FVec F S16x16x64 .f32 := Host.absf main_arg3
  let main_cst_4 : FVec F S_ .f32 := constant S_ .f32 0x7F800000#32
  let main_v16 : FVec F S16x16x64 .f32 := broadcastInDim S16x16x64 ![] bcast_S_S16x16x64 main_cst_4
  fn_part1 (F := F) main_arg5 main_arg6 main_v2 main_v6 main_v10 main_v14 main_v15 main_v16
-- ==== Kernel.lean ====
abbrev S8192x2048 : Shape := ⟨2, ![8192, 2048]⟩
abbrev S1x2048x11008 : Shape := ⟨3, ![1, 2048, 11008]⟩
abbrev S1x5504x2048 : Shape := ⟨3, ![1, 5504, 2048]⟩
abbrev S1x2048 : Shape := ⟨2, ![1, 2048]⟩
abbrev S2048x11008 : Shape := ⟨2, ![2048, 11008]⟩
abbrev S5504x2048 : Shape := ⟨2, ![5504, 2048]⟩
abbrev S2048 : Shape := ⟨1, ![2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1x2048x11008, .f32⟩
  | .hbm, ⟨2, _⟩ => ⟨S1x5504x2048, .f32⟩
  | .hbm, ⟨3, _⟩ => ⟨S1x2048, .f32⟩
  | .hbm, ⟨4, _⟩ => ⟨S1x2048, .f32⟩
  | .hbm, ⟨5, _⟩ => ⟨S2048x11008, .f32⟩
  | .hbm, ⟨6, _⟩ => ⟨S2048x11008, .bf16⟩
  | .hbm, ⟨7, _⟩ => ⟨S5504x2048, .f32⟩
  | .hbm, ⟨8, _⟩ => ⟨S5504x2048, .bf16⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi c0_i32 v0
  let c10_i32 : BitVec 32 := 10#32
  let v2 : BitVec 32 := Scalar.divsi arg1 c10_i32
  let c0_i32_0 : BitVec 32 := 0#32
  let v3 : BitVec 1 := Scalar.cmpi .sgt arg1 c0_i32_0
  let v4 : BitVec 32 := Scalar.extui v3
  let c0_i32_1 : BitVec 32 := 0#32
  let v5 : BitVec 1 := Scalar.cmpi .slt arg1 c0_i32_1
  let v6 : BitVec 32 := Scalar.extui v5
  let v7 : BitVec 32 := Scalar.subi v4 v6
  let c0_i32_2 : BitVec 32 := 0#32
  let v8 : BitVec 1 := Scalar.cmpi .sgt c10_i32 c0_i32_2
  let v9 : BitVec 32 := Scalar.extui v8
  let c0_i32_3 : BitVec 32 := 0#32
  let v10 : BitVec 1 := Scalar.cmpi .slt c10_i32 c0_i32_3
  let v11 : BitVec 32 := Scalar.extui v10
  let v12 : BitVec 32 := Scalar.subi v9 v11
  let v13 : BitVec 1 := Scalar.cmpi .ne v7 v12
  let v14 : BitVec 32 := Scalar.remsi arg1 c10_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.muli v18 c1_i32_5
  let v20 : BitVec 32 := Scalar.subi v1 v19
  let c128_i32 : BitVec 32 := 128#32
  let v21 : BitVec 32 := Scalar.muli v20 c128_i32
  let c0_i32_6 : BitVec 32 := 0#32
  let c0_i32_7 : BitVec 32 := 0#32
  ![c0_i32_6.toNat, v21.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c43_i32 : BitVec 32 := 43#32
  let v1 : BitVec 32 := Scalar.addi c43_i32 v0
  let c10_i32 : BitVec 32 := 10#32
  let v2 : BitVec 32 := Scalar.divsi arg1 c10_i32
  let c0_i32 : BitVec 32 := 0#32
  let v3 : BitVec 1 := Scalar.cmpi .sgt arg1 c0_i32
  let v4 : BitVec 32 := Scalar.extui v3
  let c0_i32_0 : BitVec 32 := 0#32
  let v5 : BitVec 1 := Scalar.cmpi .slt arg1 c0_i32_0
  let v6 : BitVec 32 := Scalar.extui v5
  let v7 : BitVec 32 := Scalar.subi v4 v6
  let c0_i32_1 : BitVec 32 := 0#32
  let v8 : BitVec 1 := Scalar.cmpi .sgt c10_i32 c0_i32_1
  let v9 : BitVec 32 := Scalar.extui v8
  let c0_i32_2 : BitVec 32 := 0#32
  let v10 : BitVec 1 := Scalar.cmpi .slt c10_i32 c0_i32_2
  let v11 : BitVec 32 := Scalar.extui v10
  let v12 : BitVec 32 := Scalar.subi v9 v11
  let v13 : BitVec 1 := Scalar.cmpi .ne v7 v12
  let v14 : BitVec 32 := Scalar.remsi arg1 c10_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.muli v18 c1_i32_4
  let v20 : BitVec 32 := Scalar.subi v1 v19
  let c128_i32 : BitVec 32 := 128#32
  let v21 : BitVec 32 := Scalar.muli v20 c128_i32
  let c0_i32_5 : BitVec 32 := 0#32
  let c0_i32_6 : BitVec 32 := 0#32
  ![c0_i32_5.toNat, v21.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi c0_i32 v0
  let c10_i32 : BitVec 32 := 10#32
  let v2 : BitVec 32 := Scalar.divsi arg1 c10_i32
  let c0_i32_0 : BitVec 32 := 0#32
  let v3 : BitVec 1 := Scalar.cmpi .sgt arg1 c0_i32_0
  let v4 : BitVec 32 := Scalar.extui v3
  let c0_i32_1 : BitVec 32 := 0#32
  let v5 : BitVec 1 := Scalar.cmpi .slt arg1 c0_i32_1
  let v6 : BitVec 32 := Scalar.extui v5
  let v7 : BitVec 32 := Scalar.subi v4 v6
  let c0_i32_2 : BitVec 32 := 0#32
  let v8 : BitVec 1 := Scalar.cmpi .sgt c10_i32 c0_i32_2
  let v9 : BitVec 32 := Scalar.extui v8
  let c0_i32_3 : BitVec 32 := 0#32
  let v10 : BitVec 1 := Scalar.cmpi .slt c10_i32 c0_i32_3
  let v11 : BitVec 32 := Scalar.extui v10
  let v12 : BitVec 32 := Scalar.subi v9 v11
  let v13 : BitVec 1 := Scalar.cmpi .ne v7 v12
  let v14 : BitVec 32 := Scalar.remsi arg1 c10_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.muli v18 c1_i32_5
  let v20 : BitVec 32 := Scalar.subi v1 v19
  let c128_i32 : BitVec 32 := 128#32
  let v21 : BitVec 32 := Scalar.muli v20 c128_i32
  let c0_i32_6 : BitVec 32 := 0#32
  let c0_i32_7 : BitVec 32 := 0#32
  ![v21.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelIdeal.lean ====
abbrev S8192x2048 : Shape := ⟨2, ![8192, 2048]⟩
abbrev S1x2048x11008 : Shape := ⟨3, ![1, 2048, 11008]⟩
abbrev S1x5504x2048 : Shape := ⟨3, ![1, 5504, 2048]⟩
abbrev S1x2048 : Shape := ⟨2, ![1, 2048]⟩
abbrev S2048x11008 : Shape := ⟨2, ![2048, 11008]⟩
abbrev S5504x2048 : Shape := ⟨2, ![5504, 2048]⟩
abbrev S2048 : Shape := ⟨1, ![2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1x2048x11008, .f32⟩
  | .hbm, ⟨2, _⟩ => ⟨S1x5504x2048, .f32⟩
  | .hbm, ⟨3, _⟩ => ⟨S1x2048, .f32⟩
  | .hbm, ⟨4, _⟩ => ⟨S1x2048, .f32⟩
  | .hbm, ⟨5, _⟩ => ⟨S2048x11008, .f32⟩
  | .hbm, ⟨6, _⟩ => ⟨S2048x11008, .bf16⟩
  | .hbm, ⟨7, _⟩ => ⟨S5504x2048, .f32⟩
  | .hbm, ⟨8, _⟩ => ⟨S5504x2048, .bf16⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi c0_i32 v0
  let c10_i32 : BitVec 32 := 10#32
  let v2 : BitVec 32 := Scalar.divsi arg1 c10_i32
  let c0_i32_0 : BitVec 32 := 0#32
  let v3 : BitVec 1 := Scalar.cmpi .sgt arg1 c0_i32_0
  let v4 : BitVec 32 := Scalar.extui v3
  let c0_i32_1 : BitVec 32 := 0#32
  let v5 : BitVec 1 := Scalar.cmpi .slt arg1 c0_i32_1
  let v6 : BitVec 32 := Scalar.extui v5
  let v7 : BitVec 32 := Scalar.subi v4 v6
  let c0_i32_2 : BitVec 32 := 0#32
  let v8 : BitVec 1 := Scalar.cmpi .sgt c10_i32 c0_i32_2
  let v9 : BitVec 32 := Scalar.extui v8
  let c0_i32_3 : BitVec 32 := 0#32
  let v10 : BitVec 1 := Scalar.cmpi .slt c10_i32 c0_i32_3
  let v11 : BitVec 32 := Scalar.extui v10
  let v12 : BitVec 32 := Scalar.subi v9 v11
  let v13 : BitVec 1 := Scalar.cmpi .ne v7 v12
  let v14 : BitVec 32 := Scalar.remsi arg1 c10_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.muli v18 c1_i32_5
  let v20 : BitVec 32 := Scalar.subi v1 v19
  let c128_i32 : BitVec 32 := 128#32
  let v21 : BitVec 32 := Scalar.muli v20 c128_i32
  let c0_i32_6 : BitVec 32 := 0#32
  let c0_i32_7 : BitVec 32 := 0#32
  ![c0_i32_6.toNat, v21.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c43_i32 : BitVec 32 := 43#32
  let v1 : BitVec 32 := Scalar.addi c43_i32 v0
  let c10_i32 : BitVec 32 := 10#32
  let v2 : BitVec 32 := Scalar.divsi arg1 c10_i32
  let c0_i32 : BitVec 32 := 0#32
  let v3 : BitVec 1 := Scalar.cmpi .sgt arg1 c0_i32
  let v4 : BitVec 32 := Scalar.extui v3
  let c0_i32_0 : BitVec 32 := 0#32
  let v5 : BitVec 1 := Scalar.cmpi .slt arg1 c0_i32_0
  let v6 : BitVec 32 := Scalar.extui v5
  let v7 : BitVec 32 := Scalar.subi v4 v6
  let c0_i32_1 : BitVec 32 := 0#32
  let v8 : BitVec 1 := Scalar.cmpi .sgt c10_i32 c0_i32_1
  let v9 : BitVec 32 := Scalar.extui v8
  let c0_i32_2 : BitVec 32 := 0#32
  let v10 : BitVec 1 := Scalar.cmpi .slt c10_i32 c0_i32_2
  let v11 : BitVec 32 := Scalar.extui v10
  let v12 : BitVec 32 := Scalar.subi v9 v11
  let v13 : BitVec 1 := Scalar.cmpi .ne v7 v12
  let v14 : BitVec 32 := Scalar.remsi arg1 c10_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.muli v18 c1_i32_4
  let v20 : BitVec 32 := Scalar.subi v1 v19
  let c128_i32 : BitVec 32 := 128#32
  let v21 : BitVec 32 := Scalar.muli v20 c128_i32
  let c0_i32_5 : BitVec 32 := 0#32
  let c0_i32_6 : BitVec 32 := 0#32
  ![c0_i32_5.toNat, v21.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi c0_i32 v0
  let c10_i32 : BitVec 32 := 10#32
  let v2 : BitVec 32 := Scalar.divsi arg1 c10_i32
  let c0_i32_0 : BitVec 32 := 0#32
  let v3 : BitVec 1 := Scalar.cmpi .sgt arg1 c0_i32_0
  let v4 : BitVec 32 := Scalar.extui v3
  let c0_i32_1 : BitVec 32 := 0#32
  let v5 : BitVec 1 := Scalar.cmpi .slt arg1 c0_i32_1
  let v6 : BitVec 32 := Scalar.extui v5
  let v7 : BitVec 32 := Scalar.subi v4 v6
  let c0_i32_2 : BitVec 32 := 0#32
  let v8 : BitVec 1 := Scalar.cmpi .sgt c10_i32 c0_i32_2
  let v9 : BitVec 32 := Scalar.extui v8
  let c0_i32_3 : BitVec 32 := 0#32
  let v10 : BitVec 1 := Scalar.cmpi .slt c10_i32 c0_i32_3
  let v11 : BitVec 32 := Scalar.extui v10
  let v12 : BitVec 32 := Scalar.subi v9 v11
  let v13 : BitVec 1 := Scalar.cmpi .ne v7 v12
  let v14 : BitVec 32 := Scalar.remsi arg1 c10_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.muli v18 c1_i32_5
  let v20 : BitVec 32 := Scalar.subi v1 v19
  let c128_i32 : BitVec 32 := 128#32
  let v21 : BitVec 32 := Scalar.muli v20 c128_i32
  let c0_i32_6 : BitVec 32 := 0#32
  let c0_i32_7 : BitVec 32 := 0#32
  ![v21.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S8192x2048 : Shape := ⟨2, ![8192, 2048]⟩
abbrev S1x2048x11008 : Shape := ⟨3, ![1, 2048, 11008]⟩
abbrev S1x5504x2048 : Shape := ⟨3, ![1, 5504, 2048]⟩
abbrev S1x2048 : Shape := ⟨2, ![1, 2048]⟩
abbrev S_ : Shape := ⟨0, ![]⟩
abbrev S2048x11008 : Shape := ⟨2, ![2048, 11008]⟩
abbrev S5504x2048 : Shape := ⟨2, ![5504, 2048]⟩
abbrev S8192x11008 : Shape := ⟨2, ![8192, 11008]⟩
abbrev S8192x5504 : Shape := ⟨2, ![8192, 5504]⟩
abbrev S2048 : Shape := ⟨1, ![2048]⟩
abbrev S8192 : Shape := ⟨1, ![8192]⟩
abbrev S8192x1 : Shape := ⟨2, ![8192, 1]⟩

abbrev nBuf : Space → Nat
  | .hbm => 59
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x11008, .f32⟩
  | .hbm, ⟨2, _⟩ => ⟨S1x5504x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S2048x11008, .f32⟩
  | .hbm, ⟨9, _⟩ => ⟨S5504x2048, .f32⟩
  | .hbm, ⟨10, _⟩ => ⟨S8192x11008, .f32⟩
  | .hbm, ⟨11, _⟩ => ⟨S8192x5504, .f32⟩
  | .hbm, ⟨12, _⟩ => ⟨S8192x5504, .f32⟩
  | .hbm, ⟨13, _⟩ => ⟨S8192x5504, .f32⟩
  | .hbm, ⟨14, _⟩ => ⟨S8192x5504, .f32⟩
  | .hbm, ⟨15, _⟩ => ⟨S_, .f32⟩
  | .hbm, ⟨16, _⟩ => ⟨S8192x5504, .f32⟩
  | .hbm, ⟨17, _⟩ => ⟨S8192x5504, .f32⟩
  | .hbm, ⟨18, _⟩ => ⟨S_, .f32⟩
  | .hbm, ⟨19, _⟩ => ⟨S8192x5504, .f32⟩
  | .hbm, ⟨20, _⟩ => ⟨S8192x5504, .f32⟩
  | .hbm, ⟨21, _⟩ => ⟨S8192x5504, .f32⟩
  | .hbm, ⟨22, _⟩ => ⟨S8192x5504, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x2048, .f32⟩
  | .hbm, ⟨52, _⟩ => ⟨S8192x2048, .f32⟩
  | .hbm, ⟨53, _⟩ => ⟨S1x2048, .f32⟩
  | .hbm, ⟨54, _⟩ => ⟨S8192x2048, .f32⟩
  | .hbm, ⟨55, _⟩ => ⟨S8192x2048, .f32⟩
  | .hbm, ⟨56, _⟩ => ⟨S1x2048, .f32⟩
  | .hbm, ⟨57, _⟩ => ⟨S8192x2048, .f32⟩
  | .hbm, ⟨58, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Kernel2.lean ====
abbrev S256x2048 : Shape := ⟨2, ![256, 2048]⟩
abbrev S1x2048x11008 : Shape := ⟨3, ![1, 2048, 11008]⟩
abbrev S1x5504x2048 : Shape := ⟨3, ![1, 5504, 2048]⟩
abbrev S1x2048 : Shape := ⟨2, ![1, 2048]⟩
abbrev S2048x11008 : Shape := ⟨2, ![2048, 11008]⟩
abbrev S5504x2048 : Shape := ⟨2, ![5504, 2048]⟩
abbrev S2048 : Shape := ⟨1, ![2048]⟩
abbrev S2048x1408 : Shape := ⟨2, ![2048, 1408]⟩
abbrev S1408x2048 : Shape := ⟨2, ![1408, 2048]⟩
abbrev S256x1408 : Shape := ⟨2, ![256, 1408]⟩
abbrev S256 : Shape := ⟨1, ![256]⟩
abbrev S256x1 : Shape := ⟨2, ![256, 1]⟩

abbrev nBuf : Space → Nat
  | .hbm => 14
  | .vmem => 11
  | .smem => 0
  | _ => 0

abbrev bufTy : (tb : Table) → Fin (tcTables nBuf tb) → BufTy
  | .hbm, ⟨0, _⟩ => ⟨S256x2048, .f32⟩
  | .hbm, ⟨1, _⟩ => ⟨S1x2048x11008, .f32⟩
  | .hbm, ⟨2, _⟩ => ⟨S1x5504x2048, .f32⟩
  | .hbm, ⟨3, _⟩ => ⟨S1x2048, .f32⟩
  | .hbm, ⟨4, _⟩ => ⟨S1x2048, .f32⟩
  | .hbm, ⟨5, _⟩ => ⟨S2048x11008, .f32⟩
  | .hbm, ⟨6, _⟩ => ⟨S2048x11008, .bf16⟩
  | .hbm, ⟨7, _⟩ => ⟨S5504x2048, .f32⟩
  | .hbm, ⟨8, _⟩ => ⟨S5504x2048, .bf16⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S256x2048, .f32⟩
  | .local _ .vmem, ⟨0, _⟩ => ⟨S256x2048, .f32⟩
  | .local _ .vmem, ⟨1, _⟩ => ⟨S2048x1408, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S1408x2048, .bf16⟩
  | .local _ .vmem, ⟨6, _⟩ => ⟨S1408x2048, .bf16⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg1 c11_i32
  let c0_i32 : BitVec 32 := 0#32
  let v1 : BitVec 32 := Scalar.addi c0_i32 v0
  let c3_i32 : BitVec 32 := 3#32
  let v2 : BitVec 32 := Scalar.divsi arg1 c3_i32
  let c0_i32_0 : BitVec 32 := 0#32
  let v3 : BitVec 1 := Scalar.cmpi .sgt arg1 c0_i32_0
  let v4 : BitVec 32 := Scalar.extui v3
  let c0_i32_1 : BitVec 32 := 0#32
  let v5 : BitVec 1 := Scalar.cmpi .slt arg1 c0_i32_1
  let v6 : BitVec 32 := Scalar.extui v5
  let v7 : BitVec 32 := Scalar.subi v4 v6
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi arg1 c3_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.muli v18 c1_i32_5
  let v20 : BitVec 32 := Scalar.subi v1 v19
  let c128_i32 : BitVec 32 := 128#32
  let v21 : BitVec 32 := Scalar.muli v20 c128_i32
  let c0_i32_6 : BitVec 32 := 0#32
  let c0_i32_7 : BitVec 32 := 0#32
  ![c0_i32_6.toNat, v21.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg1 c11_i32
  let c43_i32 : BitVec 32 := 43#32
  let v1 : BitVec 32 := Scalar.addi c43_i32 v0
  let c3_i32 : BitVec 32 := 3#32
  let v2 : BitVec 32 := Scalar.divsi arg1 c3_i32
  let c0_i32 : BitVec 32 := 0#32
  let v3 : BitVec 1 := Scalar.cmpi .sgt arg1 c0_i32
  let v4 : BitVec 32 := Scalar.extui v3
  let c0_i32_0 : BitVec 32 := 0#32
  let v5 : BitVec 1 := Scalar.cmpi .slt arg1 c0_i32_0
  let v6 : BitVec 32 := Scalar.extui v5
  let v7 : BitVec 32 := Scalar.subi v4 v6
  let c0_i32_1 : BitVec 32 := 0#32
  let v8 : BitVec 1 := Scalar.cmpi .sgt c3_i32 c0_i32_1
  let v9 : BitVec 32 := Scalar.extui v8
  let c0_i32_2 : BitVec 32 := 0#32
  let v10 : BitVec 1 := Scalar.cmpi .slt c3_i32 c0_i32_2
  let v11 : BitVec 32 := Scalar.extui v10
  let v12 : BitVec 32 := Scalar.subi v9 v11
  let v13 : BitVec 1 := Scalar.cmpi .ne v7 v12
  let v14 : BitVec 32 := Scalar.remsi arg1 c3_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.muli v18 c1_i32_4
  let v20 : BitVec 32 := Scalar.subi v1 v19
  let c128_i32 : BitVec 32 := 128#32
  let v21 : BitVec 32 := Scalar.muli v20 c128_i32
  let c0_i32_5 : BitVec 32 := 0#32
  let c0_i32_6 : BitVec 32 := 0#32
  ![c0_i32_5.toNat, v21.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg1 c11_i32
  let c0_i32 : BitVec 32 := 0#32
  let v1 : BitVec 32 := Scalar.addi c0_i32 v0
  let c3_i32 : BitVec 32 := 3#32
  let v2 : BitVec 32 := Scalar.divsi arg1 c3_i32
  let c0_i32_0 : BitVec 32 := 0#32
  let v3 : BitVec 1 := Scalar.cmpi .sgt arg1 c0_i32_0
  let v4 : BitVec 32 := Scalar.extui v3
  let c0_i32_1 : BitVec 32 := 0#32
  let v5 : BitVec 1 := Scalar.cmpi .slt arg1 c0_i32_1
  let v6 : BitVec 32 := Scalar.extui v5
  let v7 : BitVec 32 := Scalar.subi v4 v6
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi arg1 c3_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.muli v18 c1_i32_5
  let v20 : BitVec 32 := Scalar.subi v1 v19
  let c128_i32 : BitVec 32 := 128#32
  let v21 : BitVec 32 := Scalar.muli v20 c128_i32
  let c0_i32_6 : BitVec 32 := 0#32
  let c0_i32_7 : BitVec 32 := 0#32
  ![v21.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference2Ideal.lean ====
abbrev S256x2048 : Shape := ⟨2, ![256, 2048]⟩
abbrev S1x2048x11008 : Shape := ⟨3, ![1, 2048, 11008]⟩
abbrev S1x5504x2048 : Shape := ⟨3, ![1, 5504, 2048]⟩
abbrev S1x2048 : Shape := ⟨2, ![1, 2048]⟩
abbrev S_ : Shape := ⟨0, ![]⟩
abbrev S2048x11008 : Shape := ⟨2, ![2048, 11008]⟩
abbrev S5504x2048 : Shape := ⟨2, ![5504, 2048]⟩
abbrev S256x11008 : Shape := ⟨2, ![256, 11008]⟩
abbrev S256x5504 : Shape := ⟨2, ![256, 5504]⟩
abbrev S2048 : Shape := ⟨1, ![2048]⟩
abbrev S256 : Shape := ⟨1, ![256]⟩
abbrev S256x1 : Shape := ⟨2, ![256, 1]⟩

abbrev nBuf : Space → Nat
  | .hbm => 59
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048x11008, .f32⟩
  | .hbm, ⟨2, _⟩ => ⟨S1x5504x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S256x2048, .f32⟩
  | .hbm, ⟨7, _⟩ => ⟨S256x2048, .f32⟩
  | .hbm, ⟨8, _⟩ => ⟨S2048x11008, .f32⟩
  | .hbm, ⟨9, _⟩ => ⟨S5504x2048, .f32⟩
  | .hbm, ⟨10, _⟩ => ⟨S256x11008, .f32⟩
  | .hbm, ⟨11, _⟩ => ⟨S256x5504, .f32⟩
  | .hbm, ⟨12, _⟩ => ⟨S256x5504, .f32⟩
  | .hbm, ⟨13, _⟩ => ⟨S256x5504, .f32⟩
  | .hbm, ⟨14, _⟩ => ⟨S256x5504, .f32⟩
  | .hbm, ⟨15, _⟩ => ⟨S_, .f32⟩
  | .hbm, ⟨16, _⟩ => ⟨S256x5504, .f32⟩
  | .hbm, ⟨17, _⟩ => ⟨S256x5504, .f32⟩
  | .hbm, ⟨18, _⟩ => ⟨S_, .f32⟩
  | .hbm, ⟨19, _⟩ => ⟨S256x5504, .f32⟩
  | .hbm, ⟨20, _⟩ => ⟨S256x5504, .f32⟩
  | .hbm, ⟨21, _⟩ => ⟨S256x5504, .f32⟩
  | .hbm, ⟨22, _⟩ => ⟨S256x5504, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S256, .f32⟩
  | .hbm, ⟨32, _⟩ => ⟨S256x1, .f32⟩
  | .hbm, ⟨33, _⟩ => ⟨S_, .f32⟩
  | .hbm, ⟨34, _⟩ => ⟨S256x1, .f32⟩
  | .hbm, ⟨35, _⟩ => ⟨S256x1, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256, .f32⟩
  | .hbm, ⟨41, _⟩ => ⟨S256x1, .f32⟩
  | .hbm, ⟨42, _⟩ => ⟨S_, .f32⟩
  | .hbm, ⟨43, _⟩ => ⟨S256x1, .f32⟩
  | .hbm, ⟨44, _⟩ => ⟨S256x1, .f32⟩
  | .hbm, ⟨45, _⟩ => ⟨S256x2048, .f32⟩
  | .hbm, ⟨46, _⟩ => ⟨S256x2048, .f32⟩
  | .hbm, ⟨47, _⟩ => ⟨S_, .f32⟩
  | .hbm, ⟨48, _⟩ => ⟨S256x1, .f32⟩
  | .hbm, ⟨49, _⟩ => ⟨S256x1, .f32⟩
  | .hbm, ⟨50, _⟩ => ⟨S256x1, .f32⟩
  | .hbm, ⟨51, _⟩ => ⟨S256x2048, .f32⟩
  | .hbm, ⟨52, _⟩ => ⟨S256x2048, .f32⟩
  | .hbm, ⟨53, _⟩ => ⟨S1x2048, .f32⟩
  | .hbm, ⟨54, _⟩ => ⟨S256x2048, .f32⟩
  | .hbm, ⟨55, _⟩ => ⟨S256x2048, .f32⟩
  | .hbm, ⟨56, _⟩ => ⟨S1x2048, .f32⟩
  | .hbm, ⟨57, _⟩ => ⟨S256x2048, .f32⟩
  | .hbm, ⟨58, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Kernel3.lean ====
abbrev S8192x2048 : Shape := ⟨2, ![8192, 2048]⟩
abbrev S8192x1024 : Shape := ⟨2, ![8192, 1024]⟩
abbrev S1x2048x8256 : Shape := ⟨3, ![1, 2048, 8256]⟩
abbrev S1x4096 : Shape := ⟨2, ![1, 4096]⟩
abbrev S1x1024x2048 : Shape := ⟨3, ![1, 1024, 2048]⟩
abbrev S1x2048x2048 : Shape := ⟨3, ![1, 2048, 2048]⟩
abbrev S1x2048 : Shape := ⟨2, ![1, 2048]⟩
abbrev S4096 : Shape := ⟨1, ![4096]⟩
abbrev S2048 : Shape := ⟨1, ![2048]⟩
abbrev S2048x8256 : Shape := ⟨2, ![2048, 8256]⟩
abbrev S8256x2048 : Shape := ⟨2, ![8256, 2048]⟩
abbrev S1024x2048 : Shape := ⟨2, ![1024, 2048]⟩
abbrev S2048x2048 : Shape := ⟨2, ![2048, 2048]⟩
abbrev S512x2048 : Shape := ⟨2, ![512, 2048]⟩
abbrev S512x1024 : Shape := ⟨2, ![512, 1024]⟩
abbrev S1x512 : Shape := ⟨2, ![1, 512]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 30
  | .vmem => 25
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S1x2048x8256, .f32⟩
  | .hbm, ⟨4, _⟩ => ⟨S1x4096, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S1x2048, .f32⟩
  | .hbm, ⟨9, _⟩ => ⟨S1x2048, .f32⟩
  | .hbm, ⟨10, _⟩ => ⟨S4096, .f32⟩
  | .hbm, ⟨11, _⟩ => ⟨S2048, .f32⟩
  | .hbm, ⟨12, _⟩ => ⟨S1x2048, .f32⟩
  | .hbm, ⟨13, _⟩ => ⟨S4096, .f32⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S2048x8256, .f32⟩
  | .hbm, ⟨21, _⟩ => ⟨S8256x2048, .f32⟩
  | .hbm, ⟨22, _⟩ => ⟨S8256x2048, .bf16⟩
  | .hbm, ⟨23, _⟩ => ⟨S1024x2048, .f32⟩
  | .hbm, ⟨24, _⟩ => ⟨S1024x2048, .bf16⟩
  | .hbm, ⟨25, _⟩ => ⟨S1024x2048, .f32⟩
  | .hbm, ⟨26, _⟩ => ⟨S1024x2048, .bf16⟩
  | .hbm, ⟨27, _⟩ => ⟨S2048x2048, .f32⟩
  | .hbm, ⟨28, _⟩ => ⟨S2048x2048, .bf16⟩
  | .hbm, ⟨29, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S512x2048, .bf16⟩
  | .local _ .vmem, ⟨19, _⟩ => ⟨S512x2048, .bf16⟩
  | .local _ .vmem, ⟨20, _⟩ => ⟨S1x2048, .f32⟩
  | .local _ .vmem, ⟨21, _⟩ => ⟨S1x2048, .f32⟩
  | .local _ .vmem, ⟨22, _⟩ => ⟨S512x2048, .f32⟩
  | .local _ .vmem, ⟨23, _⟩ => ⟨S512x2048, .f32⟩
  | .local _ .vmem, ⟨24, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c260_i32 : BitVec 32 := 260#32
  let v1 : BitVec 32 := Scalar.addi c260_i32 v0
  let c16_i32 : BitVec 32 := 16#32
  let v2 : BitVec 32 := Scalar.muli v1 c16_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c388_i32 : BitVec 32 := 388#32
  let v1 : BitVec 32 := Scalar.addi c388_i32 v0
  let c16_i32 : BitVec 32 := 16#32
  let v2 : BitVec 32 := Scalar.muli v1 c16_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Kernel3Ideal.lean ====
abbrev S8192x2048 : Shape := ⟨2, ![8192, 2048]⟩
abbrev S8192x1024 : Shape := ⟨2, ![8192, 1024]⟩
abbrev S1x2048x8256 : Shape := ⟨3, ![1, 2048, 8256]⟩
abbrev S1x4096 : Shape := ⟨2, ![1, 4096]⟩
abbrev S1x1024x2048 : Shape := ⟨3, ![1, 1024, 2048]⟩
abbrev S1x2048x2048 : Shape := ⟨3, ![1, 2048, 2048]⟩
abbrev S1x2048 : Shape := ⟨2, ![1, 2048]⟩
abbrev S4096 : Shape := ⟨1, ![4096]⟩
abbrev S2048 : Shape := ⟨1, ![2048]⟩
abbrev S2048x8256 : Shape := ⟨2, ![2048, 8256]⟩
abbrev S8256x2048 : Shape := ⟨2, ![8256, 2048]⟩
abbrev S1024x2048 : Shape := ⟨2, ![1024, 2048]⟩
abbrev S2048x2048 : Shape := ⟨2, ![2048, 2048]⟩
abbrev S512x2048 : Shape := ⟨2, ![512, 2048]⟩
abbrev S512x1024 : Shape := ⟨2, ![512, 1024]⟩
abbrev S1x512 : Shape := ⟨2, ![1, 512]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 30
  | .vmem => 25
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S1x2048x8256, .f32⟩
  | .hbm, ⟨4, _⟩ => ⟨S1x4096, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S1x2048, .f32⟩
  | .hbm, ⟨9, _⟩ => ⟨S1x2048, .f32⟩
  | .hbm, ⟨10, _⟩ => ⟨S4096, .f32⟩
  | .hbm, ⟨11, _⟩ => ⟨S2048, .f32⟩
  | .hbm, ⟨12, _⟩ => ⟨S1x2048, .f32⟩
  | .hbm, ⟨13, _⟩ => ⟨S4096, .f32⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S2048x8256, .f32⟩
  | .hbm, ⟨21, _⟩ => ⟨S8256x2048, .f32⟩
  | .hbm, ⟨22, _⟩ => ⟨S8256x2048, .bf16⟩
  | .hbm, ⟨23, _⟩ => ⟨S1024x2048, .f32⟩
  | .hbm, ⟨24, _⟩ => ⟨S1024x2048, .bf16⟩
  | .hbm, ⟨25, _⟩ => ⟨S1024x2048, .f32⟩
  | .hbm, ⟨26, _⟩ => ⟨S1024x2048, .bf16⟩
  | .hbm, ⟨27, _⟩ => ⟨S2048x2048, .f32⟩
  | .hbm, ⟨28, _⟩ => ⟨S2048x2048, .bf16⟩
  | .hbm, ⟨29, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S512x2048, .bf16⟩
  | .local _ .vmem, ⟨19, _⟩ => ⟨S512x2048, .bf16⟩
  | .local _ .vmem, ⟨20, _⟩ => ⟨S1x2048, .f32⟩
  | .local _ .vmem, ⟨21, _⟩ => ⟨S1x2048, .f32⟩
  | .local _ .vmem, ⟨22, _⟩ => ⟨S512x2048, .f32⟩
  | .local _ .vmem, ⟨23, _⟩ => ⟨S512x2048, .f32⟩
  | .local _ .vmem, ⟨24, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c260_i32 : BitVec 32 := 260#32
  let v1 : BitVec 32 := Scalar.addi c260_i32 v0
  let c16_i32 : BitVec 32 := 16#32
  let v2 : BitVec 32 := Scalar.muli v1 c16_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c388_i32 : BitVec 32 := 388#32
  let v1 : BitVec 32 := Scalar.addi c388_i32 v0
  let c16_i32 : BitVec 32 := 16#32
  let v2 : BitVec 32 := Scalar.muli v1 c16_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference3Ideal.lean ====
abbrev S8192x2048 : Shape := ⟨2, ![8192, 2048]⟩
abbrev S8192x1024 : Shape := ⟨2, ![8192, 1024]⟩
abbrev S1x2048x8256 : Shape := ⟨3, ![1, 2048, 8256]⟩
abbrev S1x4096 : Shape := ⟨2, ![1, 4096]⟩
abbrev S1x1024x2048 : Shape := ⟨3, ![1, 1024, 2048]⟩
abbrev S1x2048x2048 : Shape := ⟨3, ![1, 2048, 2048]⟩
abbrev S1x2048 : Shape := ⟨2, ![1, 2048]⟩
abbrev S2048x8256 : Shape := ⟨2, ![2048, 8256]⟩
abbrev S8192x8256 : Shape := ⟨2, ![8192, 8256]⟩
abbrev S8192x512 : Shape := ⟨2, ![8192, 512]⟩
abbrev S8192x64 : Shape := ⟨2, ![8192, 64]⟩
abbrev S8192x4096 : Shape := ⟨2, ![8192, 4096]⟩
abbrev S4096 : Shape := ⟨1, ![4096]⟩
abbrev S_ : Shape := ⟨0, ![]⟩
abbrev S1024x2048 : Shape := ⟨2, ![1024, 2048]⟩
abbrev S2048x2048 : Shape := ⟨2, ![2048, 2048]⟩
abbrev S2048 : Shape := ⟨1, ![2048]⟩
abbrev S8192 : Shape := ⟨1, ![8192]⟩
abbrev S8192x1 : Shape := ⟨2, ![8192, 1]⟩

abbrev nBuf : Space → Nat
  | .hbm => 79
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S1x2048x8256, .f32⟩
  | .hbm, ⟨4, _⟩ => ⟨S1x4096, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S1x2048, .f32⟩
  | .hbm, ⟨9, _⟩ => ⟨S1x2048, .f32⟩
  | .hbm, ⟨10, _⟩ => ⟨S2048x8256, .f32⟩
  | .hbm, ⟨11, _⟩ => ⟨S8192x8256, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x512, .f32⟩
  | .hbm, ⟨16, _⟩ => ⟨S8192x512, .f32⟩
  | .hbm, ⟨17, _⟩ => ⟨S8192x64, .f32⟩
  | .hbm, ⟨18, _⟩ => ⟨S8192x4096, .f32⟩
  | .hbm, ⟨19, _⟩ => ⟨S4096, .f32⟩
  | .hbm, ⟨20, _⟩ => ⟨S1x4096, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S_, .f32⟩
  | .hbm, ⟨29, _⟩ => ⟨S8192x4096, .f32⟩
  | .hbm, ⟨30, _⟩ => ⟨S8192x4096, .f32⟩
  | .hbm, ⟨31, _⟩ => ⟨S8192x2048, .f32⟩
  | .hbm, ⟨32, _⟩ => ⟨S8192x2048, .f32⟩
  | .hbm, ⟨33, _⟩ => ⟨S8192x1024, .f32⟩
  | .hbm, ⟨34, _⟩ => ⟨S1024x2048, .f32⟩
  | .hbm, ⟨35, _⟩ => ⟨S8192x2048, .f32⟩
  | .hbm, ⟨36, _⟩ => ⟨S8192x2048, .f32⟩
  | .hbm, ⟨37, _⟩ => ⟨S8192x1024, .f32⟩
  | .hbm, ⟨38, _⟩ => ⟨S1024x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S2048x2048, .f32⟩
  | .hbm, ⟨46, _⟩ => ⟨S8192x2048, .f32⟩
  | .hbm, ⟨47, _⟩ => ⟨S8192x2048, .f32⟩
  | .hbm, ⟨48, _⟩ => ⟨S2048, .f32⟩
  | .hbm, ⟨49, _⟩ => ⟨S2048, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x2048, .f32⟩
  | .hbm, ⟨66, _⟩ => ⟨S8192x2048, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S8192x1, .f32⟩
  | .hbm, ⟨71, _⟩ => ⟨S8192x2048, .f32⟩
  | .hbm, ⟨72, _⟩ => ⟨S8192x2048, .f32⟩
  | .hbm, ⟨73, _⟩ => ⟨S1x2048, .f32⟩
  | .hbm, ⟨74, _⟩ => ⟨S8192x2048, .f32⟩
  | .hbm, ⟨75, _⟩ => ⟨S8192x2048, .f32⟩
  | .hbm, ⟨76, _⟩ => ⟨S1x2048, .f32⟩
  | .hbm, ⟨77, _⟩ => ⟨S8192x2048, .f32⟩
  | .hbm, ⟨78, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_2 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_4 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Kernel4.lean ====
abbrev S256x2048 : Shape := ⟨2, ![256, 2048]⟩
abbrev S256x1024 : Shape := ⟨2, ![256, 1024]⟩
abbrev S1x2048x8256 : Shape := ⟨3, ![1, 2048, 8256]⟩
abbrev S1x4096 : Shape := ⟨2, ![1, 4096]⟩
abbrev S1x1024x2048 : Shape := ⟨3, ![1, 1024, 2048]⟩
abbrev S1x2048x2048 : Shape := ⟨3, ![1, 2048, 2048]⟩
abbrev S1x2048 : Shape := ⟨2, ![1, 2048]⟩
abbrev S4096 : Shape := ⟨1, ![4096]⟩
abbrev S2048 : Shape := ⟨1, ![2048]⟩
abbrev S2048x8256 : Shape := ⟨2, ![2048, 8256]⟩
abbrev S8256x2048 : Shape := ⟨2, ![8256, 2048]⟩
abbrev S1024x2048 : Shape := ⟨2, ![1024, 2048]⟩
abbrev S2048x2048 : Shape := ⟨2, ![2048, 2048]⟩
abbrev S512x2048 : Shape := ⟨2, ![512, 2048]⟩
abbrev S1x512 : Shape := ⟨2, ![1, 512]⟩
abbrev S1024x512 : Shape := ⟨2, ![1024, 512]⟩
abbrev S256x512 : Shape := ⟨2, ![256, 512]⟩
abbrev S256 : Shape := ⟨1, ![256]⟩
abbrev S256x1 : Shape := ⟨2, ![256, 1]⟩

abbrev nBuf : Space → Nat
  | .hbm => 30
  | .vmem => 21
  | .smem => 0
  | _ => 0

abbrev bufTy : (tb : Table) → Fin (tcTables nBuf tb) → BufTy
  | .hbm, ⟨0, _⟩ => ⟨S256x2048, .f32⟩
  | .hbm, ⟨1, _⟩ => ⟨S256x1024, .bf16⟩
  | .hbm, ⟨2, _⟩ => ⟨S256x1024, .bf16⟩
  | .hbm, ⟨3, _⟩ => ⟨S1x2048x8256, .f32⟩
  | .hbm, ⟨4, _⟩ => ⟨S1x4096, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S1x2048, .f32⟩
  | .hbm, ⟨9, _⟩ => ⟨S1x2048, .f32⟩
  | .hbm, ⟨10, _⟩ => ⟨S4096, .f32⟩
  | .hbm, ⟨11, _⟩ => ⟨S2048, .f32⟩
  | .hbm, ⟨12, _⟩ => ⟨S1x2048, .f32⟩
  | .hbm, ⟨13, _⟩ => ⟨S4096, .f32⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S2048x8256, .f32⟩
  | .hbm, ⟨21, _⟩ => ⟨S8256x2048, .f32⟩
  | .hbm, ⟨22, _⟩ => ⟨S8256x2048, .bf16⟩
  | .hbm, ⟨23, _⟩ => ⟨S1024x2048, .f32⟩
  | .hbm, ⟨24, _⟩ => ⟨S1024x2048, .bf16⟩
  | .hbm, ⟨25, _⟩ => ⟨S1024x2048, .f32⟩
  | .hbm, ⟨26, _⟩ => ⟨S1024x2048, .bf16⟩
  | .hbm, ⟨27, _⟩ => ⟨S2048x2048, .f32⟩
  | .hbm, ⟨28, _⟩ => ⟨S2048x2048, .bf16⟩
  | .hbm, ⟨29, _⟩ => ⟨S256x2048, .f32⟩
  | .local _ .vmem, ⟨0, _⟩ => ⟨S256x2048, .f32⟩
  | .local _ .vmem, ⟨1, _⟩ => ⟨S256x1024, .bf16⟩
  | .local _ .vmem, ⟨2, _⟩ => ⟨S256x1024, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S512x2048, .bf16⟩
  | .local _ .vmem, ⟨16, _⟩ => ⟨S512x2048, .bf16⟩
  | .local _ .vmem, ⟨17, _⟩ => ⟨S1x2048, .f32⟩
  | .local _ .vmem, ⟨18, _⟩ => ⟨S1x2048, .f32⟩
  | .local _ .vmem, ⟨19, _⟩ => ⟨S256x2048, .f32⟩
  | .local _ .vmem, ⟨20, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c260_i32 : BitVec 32 := 260#32
  let v1 : BitVec 32 := Scalar.addi c260_i32 v0
  let c16_i32 : BitVec 32 := 16#32
  let v2 : BitVec 32 := Scalar.muli v1 c16_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c388_i32 : BitVec 32 := 388#32
  let v1 : BitVec 32 := Scalar.addi c388_i32 v0
  let c16_i32 : BitVec 32 := 16#32
  let v2 : BitVec 32 := Scalar.muli v1 c16_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]
-- ==== Reference4Ideal.lean ====
abbrev S256x2048 : Shape := ⟨2, ![256, 2048]⟩
abbrev S256x1024 : Shape := ⟨2, ![256, 1024]⟩
abbrev S1x2048x8256 : Shape := ⟨3, ![1, 2048, 8256]⟩
abbrev S1x4096 : Shape := ⟨2, ![1, 4096]⟩
abbrev S1x1024x2048 : Shape := ⟨3, ![1, 1024, 2048]⟩
abbrev S1x2048x2048 : Shape := ⟨3, ![1, 2048, 2048]⟩
abbrev S1x2048 : Shape := ⟨2, ![1, 2048]⟩
abbrev S2048x8256 : Shape := ⟨2, ![2048, 8256]⟩
abbrev S256x8256 : Shape := ⟨2, ![256, 8256]⟩
abbrev S256x512 : Shape := ⟨2, ![256, 512]⟩
abbrev S256x64 : Shape := ⟨2, ![256, 64]⟩
abbrev S256x4096 : Shape := ⟨2, ![256, 4096]⟩
abbrev S4096 : Shape := ⟨1, ![4096]⟩
abbrev S_ : Shape := ⟨0, ![]⟩
abbrev S1024x2048 : Shape := ⟨2, ![1024, 2048]⟩
abbrev S2048x2048 : Shape := ⟨2, ![2048, 2048]⟩
abbrev S2048 : Shape := ⟨1, ![2048]⟩
abbrev S256 : Shape := ⟨1, ![256]⟩
abbrev S256x1 : Shape := ⟨2, ![256, 1]⟩

abbrev nBuf : Space → Nat
  | .hbm => 79
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x1024, .bf16⟩
  | .hbm, ⟨2, _⟩ => ⟨S256x1024, .bf16⟩
  | .hbm, ⟨3, _⟩ => ⟨S1x2048x8256, .f32⟩
  | .hbm, ⟨4, _⟩ => ⟨S1x4096, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S1x2048, .f32⟩
  | .hbm, ⟨9, _⟩ => ⟨S1x2048, .f32⟩
  | .hbm, ⟨10, _⟩ => ⟨S2048x8256, .f32⟩
  | .hbm, ⟨11, _⟩ => ⟨S256x8256, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S256x512, .f32⟩
  | .hbm, ⟨16, _⟩ => ⟨S256x512, .f32⟩
  | .hbm, ⟨17, _⟩ => ⟨S256x64, .f32⟩
  | .hbm, ⟨18, _⟩ => ⟨S256x4096, .f32⟩
  | .hbm, ⟨19, _⟩ => ⟨S4096, .f32⟩
  | .hbm, ⟨20, _⟩ => ⟨S1x4096, .f32⟩
  | .hbm, ⟨21, _⟩ => ⟨S256x4096, .f32⟩
  | .hbm, ⟨22, _⟩ => ⟨S256x4096, .f32⟩
  | .hbm, ⟨23, _⟩ => ⟨S256x4096, .f32⟩
  | .hbm, ⟨24, _⟩ => ⟨S256x4096, .f32⟩
  | .hbm, ⟨25, _⟩ => ⟨S_, .f32⟩
  | .hbm, ⟨26, _⟩ => ⟨S256x4096, .f32⟩
  | .hbm, ⟨27, _⟩ => ⟨S256x4096, .f32⟩
  | .hbm, ⟨28, _⟩ => ⟨S_, .f32⟩
  | .hbm, ⟨29, _⟩ => ⟨S256x4096, .f32⟩
  | .hbm, ⟨30, _⟩ => ⟨S256x4096, .f32⟩
  | .hbm, ⟨31, _⟩ => ⟨S256x2048, .f32⟩
  | .hbm, ⟨32, _⟩ => ⟨S256x2048, .f32⟩
  | .hbm, ⟨33, _⟩ => ⟨S256x1024, .f32⟩
  | .hbm, ⟨34, _⟩ => ⟨S1024x2048, .f32⟩
  | .hbm, ⟨35, _⟩ => ⟨S256x2048, .f32⟩
  | .hbm, ⟨36, _⟩ => ⟨S256x2048, .f32⟩
  | .hbm, ⟨37, _⟩ => ⟨S256x1024, .f32⟩
  | .hbm, ⟨38, _⟩ => ⟨S1024x2048, .f32⟩
  | .hbm, ⟨39, _⟩ => ⟨S256x2048, .f32⟩
  | .hbm, ⟨40, _⟩ => ⟨S256x2048, .f32⟩
  | .hbm, ⟨41, _⟩ => ⟨S256x2048, .f32⟩
  | .hbm, ⟨42, _⟩ => ⟨S_, .f32⟩
  | .hbm, ⟨43, _⟩ => ⟨S256x2048, .f32⟩
  | .hbm, ⟨44, _⟩ => ⟨S256x2048, .f32⟩
  | .hbm, ⟨45, _⟩ => ⟨S2048x2048, .f32⟩
  | .hbm, ⟨46, _⟩ => ⟨S256x2048, .f32⟩
  | .hbm, ⟨47, _⟩ => ⟨S256x2048, .f32⟩
  | .hbm, ⟨48, _⟩ => ⟨S2048, .f32⟩
  | .hbm, ⟨49, _⟩ => ⟨S2048, .f32⟩
  | .hbm, ⟨50, _⟩ => ⟨S_, .f32⟩
  | .hbm, ⟨51, _⟩ => ⟨S256, .f32⟩
  | .hbm, ⟨52, _⟩ => ⟨S256x1, .f32⟩
  | .hbm, ⟨53, _⟩ => ⟨S_, .f32⟩
  | .hbm, ⟨54, _⟩ => ⟨S256x1, .f32⟩
  | .hbm, ⟨55, _⟩ => ⟨S256x1, .f32⟩
  | .hbm, ⟨56, _⟩ => ⟨S256x2048, .f32⟩
  | .hbm, ⟨57, _⟩ => ⟨S256x2048, .f32⟩
  | .hbm, ⟨58, _⟩ => ⟨S256x2048, .f32⟩
  | .hbm, ⟨59, _⟩ => ⟨S_, .f32⟩
  | .hbm, ⟨60, _⟩ => ⟨S256, .f32⟩
  | .hbm, ⟨61, _⟩ => ⟨S256x1, .f32⟩
  | .hbm, ⟨62, _⟩ => ⟨S_, .f32⟩
  | .hbm, ⟨63, _⟩ => ⟨S256x1, .f32⟩
  | .hbm, ⟨64, _⟩ => ⟨S256x1, .f32⟩
  | .hbm, ⟨65, _⟩ => ⟨S256x2048, .f32⟩
  | .hbm, ⟨66, _⟩ => ⟨S256x2048, .f32⟩
  | .hbm, ⟨67, _⟩ => ⟨S_, .f32⟩
  | .hbm, ⟨68, _⟩ => ⟨S256x1, .f32⟩
  | .hbm, ⟨69, _⟩ => ⟨S256x1, .f32⟩
  | .hbm, ⟨70, _⟩ => ⟨S256x1, .f32⟩
  | .hbm, ⟨71, _⟩ => ⟨S256x2048, .f32⟩
  | .hbm, ⟨72, _⟩ => ⟨S256x2048, .f32⟩
  | .hbm, ⟨73, _⟩ => ⟨S1x2048, .f32⟩
  | .hbm, ⟨74, _⟩ => ⟨S256x2048, .f32⟩
  | .hbm, ⟨75, _⟩ => ⟨S256x2048, .f32⟩
  | .hbm, ⟨76, _⟩ => ⟨S1x2048, .f32⟩
  | .hbm, ⟨77, _⟩ => ⟨S256x2048, .f32⟩
  | .hbm, ⟨78, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_2 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_4 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Kernel5.lean ====
abbrev S8192x2048 : Shape := ⟨2, ![8192, 2048]⟩
abbrev S1x2048x8256 : Shape := ⟨3, ![1, 2048, 8256]⟩
abbrev S2048x8256 : Shape := ⟨2, ![2048, 8256]⟩
abbrev S8256x2048 : Shape := ⟨2, ![8256, 2048]⟩
abbrev S8192x1024 : Shape := ⟨2, ![8192, 1024]⟩
abbrev S256x2048 : Shape := ⟨2, ![256, 2048]⟩
abbrev S3072x2048 : Shape := ⟨2, ![3072, 2048]⟩
abbrev S256x1024 : Shape := ⟨2, ![256, 1024]⟩
abbrev S1024x2048 : Shape := ⟨2, ![1024, 2048]⟩

abbrev nBuf : Space → Nat
  | .hbm => 10
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1x2048x8256, .f32⟩
  | .hbm, ⟨2, _⟩ => ⟨S2048x8256, .f32⟩
  | .hbm, ⟨3, _⟩ => ⟨S8256x2048, .f32⟩
  | .hbm, ⟨4, _⟩ => ⟨S8256x2048, .bf16⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S8192x1024, .bf16⟩
  | .hbm, ⟨9, _⟩ => ⟨S8192x1024, .bf16⟩
  | .local _ .vmem, ⟨0, _⟩ => ⟨S256x2048, .f32⟩
  | .local _ .vmem, ⟨1, _⟩ => ⟨S256x2048, .f32⟩
  | .local _ .vmem, ⟨2, _⟩ => ⟨S3072x2048, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev main_v3_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel5Ideal.lean ====
abbrev S8192x2048 : Shape := ⟨2, ![8192, 2048]⟩
abbrev S1x2048x8256 : Shape := ⟨3, ![1, 2048, 8256]⟩
abbrev S2048x8256 : Shape := ⟨2, ![2048, 8256]⟩
abbrev S8256x2048 : Shape := ⟨2, ![8256, 2048]⟩
abbrev S8192x1024 : Shape := ⟨2, ![8192, 1024]⟩
abbrev S256x2048 : Shape := ⟨2, ![256, 2048]⟩
abbrev S3072x2048 : Shape := ⟨2, ![3072, 2048]⟩
abbrev S256x1024 : Shape := ⟨2, ![256, 1024]⟩
abbrev S1024x2048 : Shape := ⟨2, ![1024, 2048]⟩

abbrev nBuf : Space → Nat
  | .hbm => 10
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1x2048x8256, .f32⟩
  | .hbm, ⟨2, _⟩ => ⟨S2048x8256, .f32⟩
  | .hbm, ⟨3, _⟩ => ⟨S8256x2048, .f32⟩
  | .hbm, ⟨4, _⟩ => ⟨S8256x2048, .bf16⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S8192x1024, .bf16⟩
  | .hbm, ⟨9, _⟩ => ⟨S8192x1024, .bf16⟩
  | .local _ .vmem, ⟨0, _⟩ => ⟨S256x2048, .f32⟩
  | .local _ .vmem, ⟨1, _⟩ => ⟨S256x2048, .f32⟩
  | .local _ .vmem, ⟨2, _⟩ => ⟨S3072x2048, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev main_v3_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S8192x2048 : Shape := ⟨2, ![8192, 2048]⟩
abbrev S1x2048x8256 : Shape := ⟨3, ![1, 2048, 8256]⟩
abbrev S2048x8256 : Shape := ⟨2, ![2048, 8256]⟩
abbrev S8192x8256 : Shape := ⟨2, ![8192, 8256]⟩
abbrev S8192x1024 : Shape := ⟨2, ![8192, 1024]⟩
abbrev S8192x512 : Shape := ⟨2, ![8192, 512]⟩
abbrev S8192x64 : Shape := ⟨2, ![8192, 64]⟩
abbrev S8192x4096 : Shape := ⟨2, ![8192, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x8256, .f32⟩
  | .hbm, ⟨2, _⟩ => ⟨S2048x8256, .f32⟩
  | .hbm, ⟨3, _⟩ => ⟨S8192x8256, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x512, .f32⟩
  | .hbm, ⟨8, _⟩ => ⟨S8192x512, .f32⟩
  | .hbm, ⟨9, _⟩ => ⟨S8192x64, .f32⟩
  | .hbm, ⟨10, _⟩ => ⟨S8192x4096, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .bf16⟩
  | .hbm, ⟨15, _⟩ => ⟨S8192x1024, .bf16⟩
  | .hbm, ⟨16, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel6.lean ====
abbrev S256x2048 : Shape := ⟨2, ![256, 2048]⟩
abbrev S1x2048x8256 : Shape := ⟨3, ![1, 2048, 8256]⟩
abbrev S2048x8256 : Shape := ⟨2, ![2048, 8256]⟩
abbrev S8256x2048 : Shape := ⟨2, ![8256, 2048]⟩
abbrev S256x1024 : Shape := ⟨2, ![256, 1024]⟩
abbrev S3072x2048 : Shape := ⟨2, ![3072, 2048]⟩
abbrev S1024x2048 : Shape := ⟨2, ![1024, 2048]⟩

abbrev nBuf : Space → Nat
  | .hbm => 10
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S1x2048x8256, .f32⟩
  | .hbm, ⟨2, _⟩ => ⟨S2048x8256, .f32⟩
  | .hbm, ⟨3, _⟩ => ⟨S8256x2048, .f32⟩
  | .hbm, ⟨4, _⟩ => ⟨S8256x2048, .bf16⟩
  | .hbm, ⟨5, _⟩ => ⟨S256x1024, .bf16⟩
  | .hbm, ⟨6, _⟩ => ⟨S256x1024, .f32⟩
  | .hbm, ⟨7, _⟩ => ⟨S256x1024, .f32⟩
  | .hbm, ⟨8, _⟩ => ⟨S256x1024, .bf16⟩
  | .hbm, ⟨9, _⟩ => ⟨S256x1024, .bf16⟩
  | .local _ .vmem, ⟨0, _⟩ => ⟨S256x2048, .f32⟩
  | .local _ .vmem, ⟨1, _⟩ => ⟨S3072x2048, .bf16⟩
  | .local _ .vmem, ⟨2, _⟩ => ⟨S256x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev main_v3_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3072x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference6Ideal.lean ====
abbrev S256x2048 : Shape := ⟨2, ![256, 2048]⟩
abbrev S1x2048x8256 : Shape := ⟨3, ![1, 2048, 8256]⟩
abbrev S2048x8256 : Shape := ⟨2, ![2048, 8256]⟩
abbrev S256x8256 : Shape := ⟨2, ![256, 8256]⟩
abbrev S256x1024 : Shape := ⟨2, ![256, 1024]⟩
abbrev S256x512 : Shape := ⟨2, ![256, 512]⟩
abbrev S256x64 : Shape := ⟨2, ![256, 64]⟩
abbrev S256x4096 : Shape := ⟨2, ![256, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048x8256, .f32⟩
  | .hbm, ⟨2, _⟩ => ⟨S2048x8256, .f32⟩
  | .hbm, ⟨3, _⟩ => ⟨S256x8256, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x512, .f32⟩
  | .hbm, ⟨8, _⟩ => ⟨S256x512, .f32⟩
  | .hbm, ⟨9, _⟩ => ⟨S256x64, .f32⟩
  | .hbm, ⟨10, _⟩ => ⟨S256x4096, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .bf16⟩
  | .hbm, ⟨15, _⟩ => ⟨S256x1024, .bf16⟩
  | .hbm, ⟨16, _⟩ => ⟨S256x1024, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel7.lean ====
abbrev S8192x2048 : Shape := ⟨2, ![8192, 2048]⟩
abbrev S1x2048x8256 : Shape := ⟨3, ![1, 2048, 8256]⟩
abbrev S1x512 : Shape := ⟨2, ![1, 512]⟩
abbrev S1x512x1536 : Shape := ⟨3, ![1, 512, 1536]⟩
abbrev S1x512x2048 : Shape := ⟨3, ![1, 512, 2048]⟩
abbrev S_ : Shape := ⟨0, ![]⟩
abbrev S4096 : Shape := ⟨1, ![4096]⟩
abbrev S512x1536 : Shape := ⟨2, ![512, 1536]⟩
abbrev S512x2048 : Shape := ⟨2, ![512, 2048]⟩
abbrev S2048 : Shape := ⟨1, ![2048]⟩
abbrev S1x2048 : Shape := ⟨2, ![1, 2048]⟩
abbrev S512x8x192 : Shape := ⟨3, ![512, 8, 192]⟩
abbrev S512x8x256 : Shape := ⟨3, ![512, 8, 256]⟩
abbrev S512x8x128 : Shape := ⟨3, ![512, 8, 128]⟩
abbrev S512x1024 : Shape := ⟨2, ![512, 1024]⟩
abbrev S2048x8256 : Shape := ⟨2, ![2048, 8256]⟩
abbrev S8256x2048 : Shape := ⟨2, ![8256, 2048]⟩
abbrev S512 : Shape := ⟨1, ![512]⟩
abbrev S32 : Shape := ⟨1, ![32]⟩
abbrev S64 : Shape := ⟨1, ![64]⟩
abbrev S128 : Shape := ⟨1, ![128]⟩
abbrev S1x128 : Shape := ⟨2, ![1, 128]⟩
abbrev S8192x512 : Shape := ⟨2, ![8192, 512]⟩
abbrev S8192x64 : Shape := ⟨2, ![8192, 64]⟩
abbrev S8192x128 : Shape := ⟨2, ![8192, 128]⟩
abbrev S8192x1024 : Shape := ⟨2, ![8192, 1024]⟩
abbrev S1152x2048 : Shape := ⟨2, ![1152, 2048]⟩
abbrev S512x512 : Shape := ⟨2, ![512, 512]⟩
abbrev S512x64 : Shape := ⟨2, ![512, 64]⟩
abbrev S512x128 : Shape := ⟨2, ![512, 128]⟩
abbrev S128x2048 : Shape := ⟨2, ![128, 2048]⟩
abbrev S512x1 : Shape := ⟨2, ![512, 1]⟩

abbrev nBuf : Space → Nat
  | .hbm => 57
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S1x2048x8256, .f32⟩
  | .hbm, ⟨2, _⟩ => ⟨S1x512, .f32⟩
  | .hbm, ⟨3, _⟩ => ⟨S1x512x1536, .f32⟩
  | .hbm, ⟨4, _⟩ => ⟨S1x512, .f32⟩
  | .hbm, ⟨5, _⟩ => ⟨S1x512x2048, .f32⟩
  | .hbm, ⟨6, _⟩ => ⟨S_, .f32⟩
  | .hbm, ⟨7, _⟩ => ⟨S4096, .f32⟩
  | .hbm, ⟨8, _⟩ => ⟨S512x1536, .f32⟩
  | .hbm, ⟨9, _⟩ => ⟨S512x2048, .f32⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S512x1536, .bf16⟩
  | .hbm, ⟨15, _⟩ => ⟨S512x8x192, .bf16⟩
  | .hbm, ⟨16, _⟩ => ⟨S_, .i32⟩
  | .hbm, ⟨17, _⟩ => ⟨S_, .bf16⟩
  | .hbm, ⟨18, _⟩ => ⟨S512x8x256, .bf16⟩
  | .hbm, ⟨19, _⟩ => ⟨S512x2048, .bf16⟩
  | .hbm, ⟨20, _⟩ => ⟨S512x2048, .bf16⟩
  | .hbm, ⟨21, _⟩ => ⟨S512x8x256, .bf16⟩
  | .hbm, ⟨22, _⟩ => ⟨S512x8x128, .bf16⟩
  | .hbm, ⟨23, _⟩ => ⟨S512x1024, .bf16⟩
  | .hbm, ⟨24, _⟩ => ⟨S512x8x128, .bf16⟩
  | .hbm, ⟨25, _⟩ => ⟨S512x1024, .bf16⟩
  | .hbm, ⟨26, _⟩ => ⟨S2048x8256, .f32⟩
  | .hbm, ⟨27, _⟩ => ⟨S8256x2048, .f32⟩
  | .hbm, ⟨28, _⟩ => ⟨S8256x2048, .bf16⟩
  | .hbm, ⟨29, _⟩ => ⟨S512, .f32⟩
  | .hbm, ⟨30, _⟩ => ⟨S1x512, .f32⟩
  | .hbm, ⟨31, _⟩ => ⟨S512, .f32⟩
  | .hbm, ⟨32, _⟩ => ⟨S1x512, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S64, .f32⟩
  | .hbm, ⟨49, _⟩ => ⟨S128, .f32⟩
  | .hbm, ⟨50, _⟩ => ⟨S1x128, .f32⟩
  | .hbm, ⟨51, _⟩ => ⟨S8192x2048, .bf16⟩
  | .hbm, ⟨52, _⟩ => ⟨S8192x512, .f32⟩
  | .hbm, ⟨53, _⟩ => ⟨S8192x64, .f32⟩
  | .hbm, ⟨54, _⟩ => ⟨S8192x128, .bf16⟩
  | .hbm, ⟨55, _⟩ => ⟨S8192x1024, .bf16⟩
  | .hbm, ⟨56, _⟩ => ⟨S8192x1024, .bf16⟩
  | .local _ .vmem, ⟨0, _⟩ => ⟨S512x2048, .f32⟩
  | .local _ .vmem, ⟨1, _⟩ => ⟨S512x2048, .f32⟩
  | .local _ .vmem, ⟨2, _⟩ => ⟨S1152x2048, .bf16⟩
  | .local _ .vmem, ⟨3, _⟩ => ⟨S1x512, .f32⟩
  | .local _ .vmem, ⟨4, _⟩ => ⟨S1x512, .f32⟩
  | .local _ .vmem, ⟨5, _⟩ => ⟨S512x2048, .bf16⟩
  | .local _ .vmem, ⟨6, _⟩ => ⟨S512x1024, .bf16⟩
  | .local _ .vmem, ⟨7, _⟩ => ⟨S512x1024, .bf16⟩
  | .local _ .vmem, ⟨8, _⟩ => ⟨S1x128, .f32⟩
  | .local _ .vmem, ⟨9, _⟩ => ⟨S512x2048, .bf16⟩
  | .local _ .vmem, ⟨10, _⟩ => ⟨S512x2048, .bf16⟩
  | .local _ .vmem, ⟨11, _⟩ => ⟨S512x512, .f32⟩
  | .local _ .vmem, ⟨12, _⟩ => ⟨S512x512, .f32⟩
  | .local _ .vmem, ⟨13, _⟩ => ⟨S512x64, .f32⟩
  | .local _ .vmem, ⟨14, _⟩ => ⟨S512x64, .f32⟩
  | .local _ .vmem, ⟨15, _⟩ => ⟨S512x128, .bf16⟩
  | .local _ .vmem, ⟨16, _⟩ => ⟨S512x128, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37_0 : Ref sig .tc := ⟨.hbm, 51, rfl⟩
abbrev main_v37_1 : Ref sig .tc := ⟨.hbm, 52, rfl⟩
abbrev main_v37_2 : Ref sig .tc := ⟨.hbm, 53, rfl⟩
abbrev main_v37_3 : Ref sig .tc := ⟨.hbm, 54, rfl⟩
abbrev main_v37_4 : Ref sig .tc := ⟨.hbm, 55, rfl⟩
abbrev main_v37_5 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3072_i32 : BitVec 32 := 3072#32
  let c0_i32 : BitVec 32 := 0#32
  let c0_i32_0 : BitVec 32 := 0#32
  ![c3072_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1152x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference7Ideal.lean ====
abbrev S8192x2048 : Shape := ⟨2, ![8192, 2048]⟩
abbrev S1x2048x8256 : Shape := ⟨3, ![1, 2048, 8256]⟩
abbrev S1x512 : Shape := ⟨2, ![1, 512]⟩
abbrev S1x512x1536 : Shape := ⟨3, ![1, 512, 1536]⟩
abbrev S1x512x2048 : Shape := ⟨3, ![1, 512, 2048]⟩
abbrev S4096 : Shape := ⟨1, ![4096]⟩
abbrev S_ : Shape := ⟨0, ![]⟩
abbrev S2x4096x2048 : Shape := ⟨3, ![2, 4096, 2048]⟩
abbrev S2048x8256 : Shape := ⟨2, ![2048, 8256]⟩
abbrev S2x4096x8256 : Shape := ⟨3, ![2, 4096, 8256]⟩
abbrev S2x4096x1024 : Shape := ⟨3, ![2, 4096, 1024]⟩
abbrev S2x4096x512 : Shape := ⟨3, ![2, 4096, 512]⟩
abbrev S2x4096x64 : Shape := ⟨3, ![2, 4096, 64]⟩
abbrev S2x4096x4096 : Shape := ⟨3, ![2, 4096, 4096]⟩
abbrev S512 : Shape := ⟨1, ![512]⟩
abbrev S2x4096 : Shape := ⟨2, ![2, 4096]⟩
abbrev S2x4096x1 : Shape := ⟨3, ![2, 4096, 1]⟩
abbrev S1x1x512 : Shape := ⟨3, ![1, 1, 512]⟩
abbrev S512x1536 : Shape := ⟨2, ![512, 1536]⟩
abbrev S2x4096x1536 : Shape := ⟨3, ![2, 4096, 1536]⟩
abbrev S2x4096x8x192 : Shape := ⟨4, ![2, 4096, 8, 192]⟩
abbrev S2x4096x8x128 : Shape := ⟨4, ![2, 4096, 8, 128]⟩
abbrev S2x4096x8x64 : Shape := ⟨4, ![2, 4096, 8, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S2x4096x8x32 : Shape := ⟨4, ![2, 4096, 8, 32]⟩
abbrev S1x4096x1x32 : Shape := ⟨4, ![1, 4096, 1, 32]⟩
abbrev S2x4096x32 : Shape := ⟨3, ![2, 4096, 32]⟩
abbrev S1x4096x32 : Shape := ⟨3, ![1, 4096, 32]⟩
abbrev S512x2048 : Shape := ⟨2, ![512, 2048]⟩
abbrev S2x4096x8x256 : Shape := ⟨4, ![2, 4096, 8, 256]⟩
abbrev S2x4096x128 : Shape := ⟨3, ![2, 4096, 128]⟩
abbrev S8192x512 : Shape := ⟨2, ![8192, 512]⟩
abbrev S8192x64 : Shape := ⟨2, ![8192, 64]⟩
abbrev S8192x128 : Shape := ⟨2, ![8192, 128]⟩
abbrev S8192x1024 : Shape := ⟨2, ![8192, 1024]⟩

abbrev nBuf : Space → Nat
  | .hbm => 162
  | .vmem => 0
  | .smem => 0
  | _ => 0

abbrev hbmTy0_0 (i : Nat) : BufTy := match i % 128 with
  | 0 => ⟨S8192x2048, .f32⟩
  | 1 => ⟨S1x2048x8256, .f32⟩
  | 2 => ⟨S1x512, .f32⟩
  | 3 => ⟨S1x512x1536, .f32⟩
  | 4 => ⟨S1x512, .f32⟩
  | 5 => ⟨S1x512x2048, .f32⟩
  | 6 => ⟨S4096, .i32⟩
  | 7 => ⟨S_, .i32⟩
  | 8 => ⟨S4096, .i32⟩
  | 9 => ⟨S4096, .i32⟩
  | 10 => ⟨S2x4096x2048, .f32⟩
  | 11 => ⟨S2048x8256, .f32⟩
  | 12 => ⟨S2x4096x8256, .f32⟩
  | 13 => ⟨S2x4096x1024, .f32⟩
  | 14 => ⟨S2x4096x1024, .f32⟩
  | 15 => ⟨S2x4096x1024, .f32⟩
  | 16 => ⟨S2x4096x512, .f32⟩
  | 17 => ⟨S2x4096x512, .f32⟩
  | 18 => ⟨S2x4096x64, .f32⟩
  | 19 => ⟨S2x4096x4096, .f32⟩
  | 20 => ⟨S512, .f32⟩
  | 21 => ⟨S2x4096x512, .f32⟩
  | 22 => ⟨S_, .f32⟩
  | 23 => ⟨S2x4096, .f32⟩
  | 24 => ⟨S2x4096x1, .f32⟩
  | 25 => ⟨S_, .f32⟩
  | 26 => ⟨S2x4096x1, .f32⟩
  | 27 => ⟨S2x4096x1, .f32⟩
  | 28 => ⟨S_, .f32⟩
  | 29 => ⟨S2x4096x1, .f32⟩
  | 30 => ⟨S2x4096x1, .f32⟩
  | 31 => ⟨S2x4096x1, .f32⟩
  | 32 => ⟨S2x4096x512, .f32⟩
  | 33 => ⟨S2x4096x512, .f32⟩
  | 34 => ⟨S1x1x512, .f32⟩
  | 35 => ⟨S2x4096x512, .f32⟩
  | 36 => ⟨S2x4096x512, .f32⟩
  | 37 => ⟨S512x1536, .f32⟩
  | 38 => ⟨S2x4096x1536, .f32⟩
  | 39 => ⟨S2x4096x8x192, .f32⟩
  | 40 => ⟨S2x4096x8x128, .f32⟩
  | 41 => ⟨S2x4096x8x64, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S4096, .f32⟩
  | 57 => ⟨S4096x1, .f32⟩
  | 58 => ⟨S1x32, .f32⟩
  | 59 => ⟨S4096x32, .f32⟩
  | 60 => ⟨S4096x32, .f32⟩
  | 61 => ⟨S4096x32, .f32⟩
  | 62 => ⟨S4096x1x32, .f32⟩
  | 63 => ⟨S4096x1x32, .f32⟩
  | 64 => ⟨S4096x1x32, .f32⟩
  | 65 => ⟨S2x4096x8x32, .f32⟩
  | 66 => ⟨S2x4096x8x32, .f32⟩
  | 67 => ⟨S1x4096x1x32, .f32⟩
  | 68 => ⟨S2x4096x8x32, .f32⟩
  | 69 => ⟨S2x4096x8x32, .f32⟩
  | 70 => ⟨S1x4096x1x32, .f32⟩
  | 71 => ⟨S2x4096x8x32, .f32⟩
  | 72 => ⟨S2x4096x8x32, .f32⟩
  | 73 => ⟨S2x4096x8x32, .f32⟩
  | 74 => ⟨S1x4096x1x32, .f32⟩
  | 75 => ⟨S2x4096x8x32, .f32⟩
  | 76 => ⟨S2x4096x8x32, .f32⟩
  | 77 => ⟨S1x4096x1x32, .f32⟩
  | 78 => ⟨S2x4096x8x32, .f32⟩
  | 79 => ⟨S2x4096x8x32, .f32⟩
  | 80 => ⟨S2x4096x8x32, .f32⟩
  | 81 => ⟨S2x4096x8x64, .f32⟩
  | 82 => ⟨S512, .f32⟩
  | 83 => ⟨S2x4096x512, .f32⟩
  | 84 => ⟨S_, .f32⟩
  | 85 => ⟨S2x4096, .f32⟩
  | 86 => ⟨S2x4096x1, .f32⟩
  | 87 => ⟨S_, .f32⟩
  | 88 => ⟨S2x4096x1, .f32⟩
  | 89 => ⟨S2x4096x1, .f32⟩
  | 90 => ⟨S_, .f32⟩
  | 91 => ⟨S2x4096x1, .f32⟩
  | 92 => ⟨S2x4096x1, .f32⟩
  | 93 => ⟨S2x4096x1, .f32⟩
  | 94 => ⟨S2x4096x512, .f32⟩
  | 95 => ⟨S2x4096x512, .f32⟩
  | 96 => ⟨S1x1x512, .f32⟩
  | 97 => ⟨S2x4096x512, .f32⟩
  | 98 => ⟨S2x4096x512, .f32⟩
  | 99 => ⟨S32, .f32⟩
  | 100 => ⟨S_, .f32⟩
  | 101 => ⟨S32, .f32⟩
  | 102 => ⟨S32, .f32⟩
  | 103 => ⟨S_, .f32⟩
  | 104 => ⟨S32, .f32⟩
  | 105 => ⟨S32, .f32⟩
  | 106 => ⟨S32, .f32⟩
  | 107 => ⟨S_, .f32⟩
  | 108 => ⟨S32, .f32⟩
  | 109 => ⟨S32, .f32⟩
  | 110 => ⟨S_, .f32⟩
  | 111 => ⟨S32, .f32⟩
  | 112 => ⟨S32, .f32⟩
  | 113 => ⟨S4096, .f32⟩
  | 114 => ⟨S4096x1, .f32⟩
  | 115 => ⟨S1x32, .f32⟩
  | 116 => ⟨S4096x32, .f32⟩
  | 117 => ⟨S4096x32, .f32⟩
  | 118 => ⟨S4096x32, .f32⟩
  | 119 => ⟨S4096x32, .f32⟩
  | 120 => ⟨S4096x32, .f32⟩
  | 121 => ⟨S2x4096x32, .f32⟩
  | 122 => ⟨S2x4096x32, .f32⟩
  | 123 => ⟨S1x4096x32, .f32⟩
  | 124 => ⟨S2x4096x32, .f32⟩
  | 125 => ⟨S2x4096x32, .f32⟩
  | 126 => ⟨S1x4096x32, .f32⟩
  | 127 => ⟨S2x4096x32, .f32⟩
  | _ => ⟨S8192x2048, .f32⟩

abbrev hbmTy0_1 (i : Nat) : BufTy := match i % 128 with
  | 0 => ⟨S2x4096x32, .f32⟩
  | 1 => ⟨S2x4096x32, .f32⟩
  | 2 => ⟨S1x4096x32, .f32⟩
  | 3 => ⟨S2x4096x32, .f32⟩
  | 4 => ⟨S2x4096x32, .f32⟩
  | 5 => ⟨S1x4096x32, .f32⟩
  | 6 => ⟨S2x4096x32, .f32⟩
  | 7 => ⟨S2x4096x32, .f32⟩
  | 8 => ⟨S2x4096x32, .f32⟩
  | 9 => ⟨S2x4096x64, .f32⟩
  | 10 => ⟨S512x2048, .f32⟩
  | 11 => ⟨S2x4096x2048, .f32⟩
  | 12 => ⟨S2x4096x8x256, .f32⟩
  | 13 => ⟨S2x4096x8x128, .f32⟩
  | 14 => ⟨S2x4096x8x128, .f32⟩
  | 15 => ⟨S_, .f32⟩
  | 16 => ⟨S2x4096x8x64, .f32⟩
  | 17 => ⟨S2x4096x8x256, .f32⟩
  | 18 => ⟨S_, .f32⟩
  | 19 => ⟨S2x4096x8x256, .f32⟩
  | 20 => ⟨S2x4096x8x256, .f32⟩
  | 21 => ⟨S_, .f32⟩
  | 22 => ⟨S2x4096x64, .f32⟩
  | 23 => ⟨S2x4096x128, .f32⟩
  | 24 => ⟨S8192x2048, .f32⟩
  | 25 => ⟨S8192x2048, .bf16⟩
  | 26 => ⟨S8192x512, .f32⟩
  | 27 => ⟨S8192x64, .f32⟩
  | 28 => ⟨S8192x128, .f32⟩
  | 29 => ⟨S8192x128, .bf16⟩
  | 30 => ⟨S8192x1024, .f32⟩
  | 31 => ⟨S8192x1024, .bf16⟩
  | 32 => ⟨S8192x1024, .f32⟩
  | 33 => ⟨S8192x1024, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_6 : Ref sig .tc := ⟨.hbm, 84, rfl⟩
abbrev main_v70 : Ref sig .tc := ⟨.hbm, 85, rfl⟩
abbrev main_v71 : Ref sig .tc := ⟨.hbm, 86, rfl⟩
abbrev main_cst_7 : Ref sig .tc := ⟨.hbm, 87, rfl⟩
abbrev main_v72 : Ref sig .tc := ⟨.hbm, 88, rfl⟩
abbrev main_v73 : Ref sig .tc := ⟨.hbm, 89, rfl⟩
abbrev main_cst_8 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_9 : Ref sig .tc := ⟨.hbm, 100, rfl⟩
abbrev main_v83 : Ref sig .tc := ⟨.hbm, 101, rfl⟩
abbrev main_v84 : Ref sig .tc := ⟨.hbm, 102, rfl⟩
abbrev main_cst_10 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_11 : Ref sig .tc := ⟨.hbm, 107, rfl⟩
abbrev main_v88 : Ref sig .tc := ⟨.hbm, 108, rfl⟩
abbrev main_v89 : Ref sig .tc := ⟨.hbm, 109, rfl⟩
abbrev main_cst_12 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_cst_13 : Ref sig .tc := ⟨.hbm, 143, rfl⟩
abbrev main_v122 : Ref sig .tc := ⟨.hbm, 144, rfl⟩
abbrev main_v123 : Ref sig .tc := ⟨.hbm, 145, rfl⟩
abbrev main_cst_14 : Ref sig .tc := ⟨.hbm, 146, rfl⟩
abbrev main_v124 : Ref sig .tc := ⟨.hbm, 147, rfl⟩
abbrev main_v125 : Ref sig .tc := ⟨.hbm, 148, rfl⟩
abbrev main_cst_15 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩

abbrev nD : Nat := 1
abbrev τ : Topo := Topo.v7x

variable {F : FTy → Type} [FloatOps F]
-- ==== Kernel8.lean ====
abbrev S256x2048 : Shape := ⟨2, ![256, 2048]⟩
abbrev S1x2048x8256 : Shape := ⟨3, ![1, 2048, 8256]⟩
abbrev S1x512 : Shape := ⟨2, ![1, 512]⟩
abbrev S1x512x1536 : Shape := ⟨3, ![1, 512, 1536]⟩
abbrev S1x512x2048 : Shape := ⟨3, ![1, 512, 2048]⟩
abbrev S_ : Shape := ⟨0, ![]⟩
abbrev S4096 : Shape := ⟨1, ![4096]⟩
abbrev S512x1536 : Shape := ⟨2, ![512, 1536]⟩
abbrev S512x2048 : Shape := ⟨2, ![512, 2048]⟩
abbrev S2048 : Shape := ⟨1, ![2048]⟩
abbrev S1x2048 : Shape := ⟨2, ![1, 2048]⟩
abbrev S512x8x192 : Shape := ⟨3, ![512, 8, 192]⟩
abbrev S512x8x256 : Shape := ⟨3, ![512, 8, 256]⟩
abbrev S512x8x128 : Shape := ⟨3, ![512, 8, 128]⟩
abbrev S512x1024 : Shape := ⟨2, ![512, 1024]⟩
abbrev S2048x8256 : Shape := ⟨2, ![2048, 8256]⟩
abbrev S8256x2048 : Shape := ⟨2, ![8256, 2048]⟩
abbrev S512 : Shape := ⟨1, ![512]⟩
abbrev S32 : Shape := ⟨1, ![32]⟩
abbrev S64 : Shape := ⟨1, ![64]⟩
abbrev S128 : Shape := ⟨1, ![128]⟩
abbrev S1x128 : Shape := ⟨2, ![1, 128]⟩
abbrev S256x512 : Shape := ⟨2, ![256, 512]⟩
abbrev S256x64 : Shape := ⟨2, ![256, 64]⟩
abbrev S256x128 : Shape := ⟨2, ![256, 128]⟩
abbrev S256x1024 : Shape := ⟨2, ![256, 1024]⟩
abbrev S1152x2048 : Shape := ⟨2, ![1152, 2048]⟩
abbrev S128x2048 : Shape := ⟨2, ![128, 2048]⟩
abbrev S256 : Shape := ⟨1, ![256]⟩
abbrev S256x1 : Shape := ⟨2, ![256, 1]⟩

abbrev nBuf : Space → Nat
  | .hbm => 57
  | .vmem => 14
  | .smem => 0
  | _ => 0

abbrev bufTy : (tb : Table) → Fin (tcTables nBuf tb) → BufTy
  | .hbm, ⟨0, _⟩ => ⟨S256x2048, .f32⟩
  | .hbm, ⟨1, _⟩ => ⟨S1x2048x8256, .f32⟩
  | .hbm, ⟨2, _⟩ => ⟨S1x512, .f32⟩
  | .hbm, ⟨3, _⟩ => ⟨S1x512x1536, .f32⟩
  | .hbm, ⟨4, _⟩ => ⟨S1x512, .f32⟩
  | .hbm, ⟨5, _⟩ => ⟨S1x512x2048, .f32⟩
  | .hbm, ⟨6, _⟩ => ⟨S_, .f32⟩
  | .hbm, ⟨7, _⟩ => ⟨S4096, .f32⟩
  | .hbm, ⟨8, _⟩ => ⟨S512x1536, .f32⟩
  | .hbm, ⟨9, _⟩ => ⟨S512x2048, .f32⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S512x1536, .bf16⟩
  | .hbm, ⟨15, _⟩ => ⟨S512x8x192, .bf16⟩
  | .hbm, ⟨16, _⟩ => ⟨S_, .i32⟩
  | .hbm, ⟨17, _⟩ => ⟨S_, .bf16⟩
  | .hbm, ⟨18, _⟩ => ⟨S512x8x256, .bf16⟩
  | .hbm, ⟨19, _⟩ => ⟨S512x2048, .bf16⟩
  | .hbm, ⟨20, _⟩ => ⟨S512x2048, .bf16⟩
  | .hbm, ⟨21, _⟩ => ⟨S512x8x256, .bf16⟩
  | .hbm, ⟨22, _⟩ => ⟨S512x8x128, .bf16⟩
  | .hbm, ⟨23, _⟩ => ⟨S512x1024, .bf16⟩
  | .hbm, ⟨24, _⟩ => ⟨S512x8x128, .bf16⟩
  | .hbm, ⟨25, _⟩ => ⟨S512x1024, .bf16⟩
  | .hbm, ⟨26, _⟩ => ⟨S2048x8256, .f32⟩
  | .hbm, ⟨27, _⟩ => ⟨S8256x2048, .f32⟩
  | .hbm, ⟨28, _⟩ => ⟨S8256x2048, .bf16⟩
  | .hbm, ⟨29, _⟩ => ⟨S512, .f32⟩
  | .hbm, ⟨30, _⟩ => ⟨S1x512, .f32⟩
  | .hbm, ⟨31, _⟩ => ⟨S512, .f32⟩
  | .hbm, ⟨32, _⟩ => ⟨S1x512, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S64, .f32⟩
  | .hbm, ⟨49, _⟩ => ⟨S128, .f32⟩
  | .hbm, ⟨50, _⟩ => ⟨S1x128, .f32⟩
  | .hbm, ⟨51, _⟩ => ⟨S256x2048, .bf16⟩
  | .hbm, ⟨52, _⟩ => ⟨S256x512, .f32⟩
  | .hbm, ⟨53, _⟩ => ⟨S256x64, .f32⟩
  | .hbm, ⟨54, _⟩ => ⟨S256x128, .bf16⟩
  | .hbm, ⟨55, _⟩ => ⟨S256x1024, .bf16⟩
  | .hbm, ⟨56, _⟩ => ⟨S256x1024, .bf16⟩
  | .local _ .vmem, ⟨0, _⟩ => ⟨S256x2048, .f32⟩
  | .local _ .vmem, ⟨1, _⟩ => ⟨S1152x2048, .bf16⟩
  | .local _ .vmem, ⟨2, _⟩ => ⟨S1x512, .f32⟩
  | .local _ .vmem, ⟨3, _⟩ => ⟨S1x512, .f32⟩
  | .local _ .vmem, ⟨4, _⟩ => ⟨S512x2048, .bf16⟩
  | .local _ .vmem, ⟨5, _⟩ => ⟨S512x1024, .bf16⟩
  | .local _ .vmem, ⟨6, _⟩ => ⟨S512x1024, .bf16⟩
  | .local _ .vmem, ⟨7, _⟩ => ⟨S1x128, .f32⟩
  | .local _ .vmem, ⟨8, _⟩ => ⟨S256x2048, .bf16⟩
  | .local _ .vmem, ⟨9, _⟩ => ⟨S256x512, .f32⟩
  | .local _ .vmem, ⟨10, _⟩ => ⟨S256x64, .f32⟩
  | .local _ .vmem, ⟨11, _⟩ => ⟨S256x128, .bf16⟩
  | .local _ .vmem, ⟨12, _⟩ => ⟨S256x1024, .bf16⟩
  | .local _ .vmem, ⟨13, _⟩ => ⟨S256x1024, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37_0 : Ref sig .tc := ⟨.hbm, 51, rfl⟩
abbrev main_v37_1 : Ref sig .tc := ⟨.hbm, 52, rfl⟩
abbrev main_v37_2 : Ref sig .tc := ⟨.hbm, 53, rfl⟩
abbrev main_v37_3 : Ref sig .tc := ⟨.hbm, 54, rfl⟩
abbrev main_v37_4 : Ref sig .tc := ⟨.hbm, 55, rfl⟩
abbrev main_v37_5 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3072_i32 : BitVec 32 := 3072#32
  let c0_i32 : BitVec 32 := 0#32
  let c0_i32_0 : BitVec 32 := 0#32
  ![c3072_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1152x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== Reference8Ideal.lean ====
abbrev S256x2048 : Shape := ⟨2, ![256, 2048]⟩
abbrev S1x2048x8256 : Shape := ⟨3, ![1, 2048, 8256]⟩
abbrev S1x512 : Shape := ⟨2, ![1, 512]⟩
abbrev S1x512x1536 : Shape := ⟨3, ![1, 512, 1536]⟩
abbrev S1x512x2048 : Shape := ⟨3, ![1, 512, 2048]⟩
abbrev S16 : Shape := ⟨1, ![16]⟩
abbrev S_ : Shape := ⟨0, ![]⟩
abbrev S16x16x2048 : Shape := ⟨3, ![16, 16, 2048]⟩
abbrev S2048x8256 : Shape := ⟨2, ![2048, 8256]⟩
abbrev S16x16x8256 : Shape := ⟨3, ![16, 16, 8256]⟩
abbrev S16x16x1024 : Shape := ⟨3, ![16, 16, 1024]⟩
abbrev S16x16x512 : Shape := ⟨3, ![16, 16, 512]⟩
abbrev S16x16x64 : Shape := ⟨3, ![16, 16, 64]⟩
abbrev S16x16x4096 : Shape := ⟨3, ![16, 16, 4096]⟩
abbrev S512 : Shape := ⟨1, ![512]⟩
abbrev S16x16 : Shape := ⟨2, ![16, 16]⟩
abbrev S16x16x1 : Shape := ⟨3, ![16, 16, 1]⟩
abbrev S1x1x512 : Shape := ⟨3, ![1, 1, 512]⟩
abbrev S512x1536 : Shape := ⟨2, ![512, 1536]⟩
abbrev S16x16x1536 : Shape := ⟨3, ![16, 16, 1536]⟩
abbrev S16x16x8x192 : Shape := ⟨4, ![16, 16, 8, 192]⟩
abbrev S16x16x8x128 : Shape := ⟨4, ![16, 16, 8, 128]⟩
abbrev S16x16x8x64 : Shape := ⟨4, ![16, 16, 8, 64]⟩
abbrev S32 : Shape := ⟨1, ![32]⟩
abbrev S16x1 : Shape := ⟨2, ![16, 1]⟩
abbrev S1x32 : Shape := ⟨2, ![1, 32]⟩
abbrev S16x32 : Shape := ⟨2, ![16, 32]⟩
abbrev S16x1x32 : Shape := ⟨3, ![16, 1, 32]⟩
abbrev S16x16x8x32 : Shape := ⟨4, ![16, 16, 8, 32]⟩
abbrev S1x16x1x32 : Shape := ⟨4, ![1, 16, 1, 32]⟩
abbrev S16x16x32 : Shape := ⟨3, ![16, 16, 32]⟩
abbrev S1x16x32 : Shape := ⟨3, ![1, 16, 32]⟩
abbrev S512x2048 : Shape := ⟨2, ![512, 2048]⟩
abbrev S16x16x8x256 : Shape := ⟨4, ![16, 16, 8, 256]⟩
abbrev S16x16x128 : Shape := ⟨3, ![16, 16, 128]⟩
abbrev S256x512 : Shape := ⟨2, ![256, 512]⟩
abbrev S256x64 : Shape := ⟨2, ![256, 64]⟩
abbrev S256x128 : Shape := ⟨2, ![256, 128]⟩
abbrev S256x1024 : Shape := ⟨2, ![256, 1024]⟩

abbrev nBuf : Space → Nat
  | .hbm => 162
  | .vmem => 0
  | .smem => 0
  | _ => 0

abbrev hbmTy0_0 (i : Nat) : BufTy := match i % 128 with
  | 0 => ⟨S256x2048, .f32⟩
  | 1 => ⟨S1x2048x8256, .f32⟩
  | 2 => ⟨S1x512, .f32⟩
  | 3 => ⟨S1x512x1536, .f32⟩
  | 4 => ⟨S1x512, .f32⟩
  | 5 => ⟨S1x512x2048, .f32⟩
  | 6 => ⟨S16, .i32⟩
  | 7 => ⟨S_, .i32⟩
  | 8 => ⟨S16, .i32⟩
  | 9 => ⟨S16, .i32⟩
  | 10 => ⟨S16x16x2048, .f32⟩
  | 11 => ⟨S2048x8256, .f32⟩
  | 12 => ⟨S16x16x8256, .f32⟩
  | 13 => ⟨S16x16x1024, .f32⟩
  | 14 => ⟨S16x16x1024, .f32⟩
  | 15 => ⟨S16x16x1024, .f32⟩
  | 16 => ⟨S16x16x512, .f32⟩
  | 17 => ⟨S16x16x512, .f32⟩
  | 18 => ⟨S16x16x64, .f32⟩
  | 19 => ⟨S16x16x4096, .f32⟩
  | 20 => ⟨S512, .f32⟩
  | 21 => ⟨S16x16x512, .f32⟩
  | 22 => ⟨S_, .f32⟩
  | 23 => ⟨S16x16, .f32⟩
  | 24 => ⟨S16x16x1, .f32⟩
  | 25 => ⟨S_, .f32⟩
  | 26 => ⟨S16x16x1, .f32⟩
  | 27 => ⟨S16x16x1, .f32⟩
  | 28 => ⟨S_, .f32⟩
  | 29 => ⟨S16x16x1, .f32⟩
  | 30 => ⟨S16x16x1, .f32⟩
  | 31 => ⟨S16x16x1, .f32⟩
  | 32 => ⟨S16x16x512, .f32⟩
  | 33 => ⟨S16x16x512, .f32⟩
  | 34 => ⟨S1x1x512, .f32⟩
  | 35 => ⟨S16x16x512, .f32⟩
  | 36 => ⟨S16x16x512, .f32⟩
  | 37 => ⟨S512x1536, .f32⟩
  | 38 => ⟨S16x16x1536, .f32⟩
  | 39 => ⟨S16x16x8x192, .f32⟩
  | 40 => ⟨S16x16x8x128, .f32⟩
  | 41 => ⟨S16x16x8x64, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S16, .f32⟩
  | 57 => ⟨S16x1, .f32⟩
  | 58 => ⟨S1x32, .f32⟩
  | 59 => ⟨S16x32, .f32⟩
  | 60 => ⟨S16x32, .f32⟩
  | 61 => ⟨S16x32, .f32⟩
  | 62 => ⟨S16x1x32, .f32⟩
  | 63 => ⟨S16x1x32, .f32⟩
  | 64 => ⟨S16x1x32, .f32⟩
  | 65 => ⟨S16x16x8x32, .f32⟩
  | 66 => ⟨S16x16x8x32, .f32⟩
  | 67 => ⟨S1x16x1x32, .f32⟩
  | 68 => ⟨S16x16x8x32, .f32⟩
  | 69 => ⟨S16x16x8x32, .f32⟩
  | 70 => ⟨S1x16x1x32, .f32⟩
  | 71 => ⟨S16x16x8x32, .f32⟩
  | 72 => ⟨S16x16x8x32, .f32⟩
  | 73 => ⟨S16x16x8x32, .f32⟩
  | 74 => ⟨S1x16x1x32, .f32⟩
  | 75 => ⟨S16x16x8x32, .f32⟩
  | 76 => ⟨S16x16x8x32, .f32⟩
  | 77 => ⟨S1x16x1x32, .f32⟩
  | 78 => ⟨S16x16x8x32, .f32⟩
  | 79 => ⟨S16x16x8x32, .f32⟩
  | 80 => ⟨S16x16x8x32, .f32⟩
  | 81 => ⟨S16x16x8x64, .f32⟩
  | 82 => ⟨S512, .f32⟩
  | 83 => ⟨S16x16x512, .f32⟩
  | 84 => ⟨S_, .f32⟩
  | 85 => ⟨S16x16, .f32⟩
  | 86 => ⟨S16x16x1, .f32⟩
  | 87 => ⟨S_, .f32⟩
  | 88 => ⟨S16x16x1, .f32⟩
  | 89 => ⟨S16x16x1, .f32⟩
  | 90 => ⟨S_, .f32⟩
  | 91 => ⟨S16x16x1, .f32⟩
  | 92 => ⟨S16x16x1, .f32⟩
  | 93 => ⟨S16x16x1, .f32⟩
  | 94 => ⟨S16x16x512, .f32⟩
  | 95 => ⟨S16x16x512, .f32⟩
  | 96 => ⟨S1x1x512, .f32⟩
  | 97 => ⟨S16x16x512, .f32⟩
  | 98 => ⟨S16x16x512, .f32⟩
  | 99 => ⟨S32, .f32⟩
  | 100 => ⟨S_, .f32⟩
  | 101 => ⟨S32, .f32⟩
  | 102 => ⟨S32, .f32⟩
  | 103 => ⟨S_, .f32⟩
  | 104 => ⟨S32, .f32⟩
  | 105 => ⟨S32, .f32⟩
  | 106 => ⟨S32, .f32⟩
  | 107 => ⟨S_, .f32⟩
  | 108 => ⟨S32, .f32⟩
  | 109 => ⟨S32, .f32⟩
  | 110 => ⟨S_, .f32⟩
  | 111 => ⟨S32, .f32⟩
  | 112 => ⟨S32, .f32⟩
  | 113 => ⟨S16, .f32⟩
  | 114 => ⟨S16x1, .f32⟩
  | 115 => ⟨S1x32, .f32⟩
  | 116 => ⟨S16x32, .f32⟩
  | 117 => ⟨S16x32, .f32⟩
  | 118 => ⟨S16x32, .f32⟩
  | 119 => ⟨S16x32, .f32⟩
  | 120 => ⟨S16x32, .f32⟩
  | 121 => ⟨S16x16x32, .f32⟩
  | 122 => ⟨S16x16x32, .f32⟩
  | 123 => ⟨S1x16x32, .f32⟩
  | 124 => ⟨S16x16x32, .f32⟩
  | 125 => ⟨S16x16x32, .f32⟩
  | 126 => ⟨S1x16x32, .f32⟩
  | 127 => ⟨S16x16x32, .f32⟩
  | _ => ⟨S256x2048, .f32⟩

abbrev hbmTy0_1 (i : Nat) : BufTy := match i % 128 with
  | 0 => ⟨S16x16x32, .f32⟩
  | 1 => ⟨S16x16x32, .f32⟩
  | 2 => ⟨S1x16x32, .f32⟩
  | 3 => ⟨S16x16x32, .f32⟩
  | 4 => ⟨S16x16x32, .f32⟩
  | 5 => ⟨S1x16x32, .f32⟩
  | 6 => ⟨S16x16x32, .f32⟩
  | 7 => ⟨S16x16x32, .f32⟩
  | 8 => ⟨S16x16x32, .f32⟩
  | 9 => ⟨S16x16x64, .f32⟩
  | 10 => ⟨S512x2048, .f32⟩
  | 11 => ⟨S16x16x2048, .f32⟩
  | 12 => ⟨S16x16x8x256, .f32⟩
  | 13 => ⟨S16x16x8x128, .f32⟩
  | 14 => ⟨S16x16x8x128, .f32⟩
  | 15 => ⟨S_, .f32⟩
  | 16 => ⟨S16x16x8x64, .f32⟩
  | 17 => ⟨S16x16x8x256, .f32⟩
  | 18 => ⟨S_, .f32⟩
  | 19 => ⟨S16x16x8x256, .f32⟩
  | 20 => ⟨S16x16x8x256, .f32⟩
  | 21 => ⟨S_, .f32⟩
  | 22 => ⟨S16x16x64, .f32⟩
  | 23 => ⟨S16x16x128, .f32⟩
  | 24 => ⟨S256x2048, .f32⟩
  | 25 => ⟨S256x2048, .bf16⟩
  | 26 => ⟨S256x512, .f32⟩
  | 27 => ⟨S256x64, .f32⟩
  | 28 => ⟨S256x128, .f32⟩
  | 29 => ⟨S256x128, .bf16⟩
  | 30 => ⟨S256x1024, .f32⟩
  | 31 => ⟨S256x1024, .bf16⟩
  | 32 => ⟨S256x1024, .f32⟩
  | 33 => ⟨S256x1024, .bf16⟩
  | _ => ⟨S256x2048, .f32⟩

abbrev hbmTy (i : Nat) : BufTy := match i / 128 with
  | 0 => hbmTy0_0 i
  | 1 => hbmTy0_1 i
  | _ => ⟨S256x2048, .f32⟩

abbrev bufTy : (tb : Table) → Fin (tcTables nBuf tb) → BufTy
  | .hbm, ⟨i, _⟩ => hbmTy i
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_6 : Ref sig .tc := ⟨.hbm, 84, rfl⟩
abbrev main_v70 : Ref sig .tc := ⟨.hbm, 85, rfl⟩
abbrev main_v71 : Ref sig .tc := ⟨.hbm, 86, rfl⟩
abbrev main_cst_7 : Ref sig .tc := ⟨.hbm, 87, rfl⟩
abbrev main_v72 : Ref sig .tc := ⟨.hbm, 88, rfl⟩
abbrev main_v73 : Ref sig .tc := ⟨.hbm, 89, rfl⟩
abbrev main_cst_8 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_9 : Ref sig .tc := ⟨.hbm, 100, rfl⟩
abbrev main_v83 : Ref sig .tc := ⟨.hbm, 101, rfl⟩
abbrev main_v84 : Ref sig .tc := ⟨.hbm, 102, rfl⟩
abbrev main_cst_10 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_11 : Ref sig .tc := ⟨.hbm, 107, rfl⟩
abbrev main_v88 : Ref sig .tc := ⟨.hbm, 108, rfl⟩
abbrev main_v89 : Ref sig .tc := ⟨.hbm, 109, rfl⟩
abbrev main_cst_12 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_cst_13 : Ref sig .tc := ⟨.hbm, 143, rfl⟩
abbrev main_v122 : Ref sig .tc := ⟨.hbm, 144, rfl⟩
abbrev main_v123 : Ref sig .tc := ⟨.hbm, 145, rfl⟩
abbrev main_cst_14 : Ref sig .tc := ⟨.hbm, 146, rfl⟩
abbrev main_v124 : Ref sig .tc := ⟨.hbm, 147, rfl⟩
abbrev main_v125 : Ref sig .tc := ⟨.hbm, 148, rfl⟩
abbrev main_cst_15 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩

abbrev nD : Nat := 1
abbrev τ : Topo := Topo.v7x

variable {F : FTy → Type} [FloatOps F]
-- ==== Kernel9.lean ====
abbrev S2x4096x8x128 : Shape := ⟨4, ![2, 4096, 8, 128]⟩
abbrev S2x4096x8x64 : Shape := ⟨4, ![2, 4096, 8, 64]⟩
abbrev S2x4096x64 : Shape := ⟨3, ![2, 4096, 64]⟩
abbrev S_ : Shape := ⟨0, ![]⟩
abbrev S2x4096x8x256 : Shape := ⟨4, ![2, 4096, 8, 256]⟩
abbrev S2x4096x128 : Shape := ⟨3, ![2, 4096, 128]⟩
abbrev S8192x2048 : Shape := ⟨2, ![8192, 2048]⟩
abbrev S8192x1024 : Shape := ⟨2, ![8192, 1024]⟩
abbrev S8192x128 : Shape := ⟨2, ![8192, 128]⟩
abbrev S512x1024 : Shape := ⟨2, ![512, 1024]⟩
abbrev S4096x512 : Shape := ⟨2, ![4096, 512]⟩
abbrev S4096x128 : Shape := ⟨2, ![4096, 128]⟩
abbrev S512x512 : Shape := ⟨2, ![512, 512]⟩
abbrev S512x256 : Shape := ⟨2, ![512, 256]⟩
abbrev S512x128 : Shape := ⟨2, ![512, 128]⟩
abbrev S512x1 : Shape := ⟨2, ![512, 1]⟩
abbrev S512 : Shape := ⟨1, ![512]⟩

abbrev nBuf : Space → Nat
  | .hbm => 26
  | .vmem => 10
  | .smem => 0
  | _ => 0

abbrev bufTy : (tb : Table) → Fin (tcTables nBuf tb) → BufTy
  | .hbm, ⟨0, _⟩ => ⟨S2x4096x8x128, .f32⟩
  | .hbm, ⟨1, _⟩ => ⟨S2x4096x8x64, .f32⟩
  | .hbm, ⟨2, _⟩ => ⟨S2x4096x8x128, .f32⟩
  | .hbm, ⟨3, _⟩ => ⟨S2x4096x64, .f32⟩
  | .hbm, ⟨4, _⟩ => ⟨S2x4096x8x128, .f32⟩
  | .hbm, ⟨5, _⟩ => ⟨S_, .f32⟩
  | .hbm, ⟨6, _⟩ => ⟨S2x4096x8x64, .f32⟩
  | .hbm, ⟨7, _⟩ => ⟨S2x4096x8x256, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2x4096x8x256, .f32⟩
  | .hbm, ⟨13, _⟩ => ⟨S2x4096x8x256, .f32⟩
  | .hbm, ⟨14, _⟩ => ⟨S_, .f32⟩
  | .hbm, ⟨15, _⟩ => ⟨S2x4096x64, .f32⟩
  | .hbm, ⟨16, _⟩ => ⟨S2x4096x128, .f32⟩
  | .hbm, ⟨17, _⟩ => ⟨S8192x2048, .f32⟩
  | .hbm, ⟨18, _⟩ => ⟨S8192x2048, .bf16⟩
  | .hbm, ⟨19, _⟩ => ⟨S8192x1024, .f32⟩
  | .hbm, ⟨20, _⟩ => ⟨S8192x1024, .bf16⟩
  | .hbm, ⟨21, _⟩ => ⟨S8192x128, .f32⟩
  | .hbm, ⟨22, _⟩ => ⟨S8192x128, .bf16⟩
  | .hbm, ⟨23, _⟩ => ⟨S8192x1024, .f32⟩
  | .hbm, ⟨24, _⟩ => ⟨S8192x1024, .bf16⟩
  | .hbm, ⟨25, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S4096x512, .bf16⟩
  | .local _ .vmem, ⟨3, _⟩ => ⟨S4096x512, .bf16⟩
  | .local _ .vmem, ⟨4, _⟩ => ⟨S4096x128, .bf16⟩
  | .local _ .vmem, ⟨5, _⟩ => ⟨S4096x128, .bf16⟩
  | .local _ .vmem, ⟨6, _⟩ => ⟨S4096x512, .bf16⟩
  | .local _ .vmem, ⟨7, _⟩ => ⟨S4096x512, .bf16⟩
  | .local _ .vmem, ⟨8, _⟩ => ⟨S512x512, .bf16⟩
  | .local _ .vmem, ⟨9, _⟩ => ⟨S512x512, .bf16⟩
  | _, _ => ⟨S2x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 8], ![false, false, false]⟩

@[reducible] def k0_t1_loop (i : grid0.Coords) : Scf.Loop 32 :=
  let c0_i32 : BitVec 32 := 0#32
  let arg2 : BitVec 32 := BitVec.ofNat 32 (i 2).val
  let v17 : BitVec 32 := Scalar.subi arg2 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_12 : BitVec 32 := 1#32
  ⟨c0_i32, v21, c1_i32_12⟩
def k0_mult1 (i : grid0.Coords) (k0_t1 : Fin (k0_t1_loop i).trips) : BitVec 32 :=
  let c0_i32 : BitVec 32 := 0#32
  let c1_i32_12 : BitVec 32 := 1#32
  let arg8 : BitVec 32 := Scf.iv c0_i32 c1_i32_12 k0_t1
  let c512_i32_58 : BitVec 32 := 512#32
  let v196 : BitVec 32 := Scalar.muli arg8 c512_i32_58
  v196
def k0_off1 (i : grid0.Coords) (k0_t1 : Fin (k0_t1_loop i).trips) : Fin 2 → Nat :=
  let c0_i32 : BitVec 32 := 0#32
  let c1_i32_12 : BitVec 32 := 1#32
  let arg8 : BitVec 32 := Scf.iv c0_i32 c1_i32_12 k0_t1
  let c512_i32_58 : BitVec 32 := 512#32
  let v196 : BitVec 32 := Scalar.muli arg8 c512_i32_58
  let v197 : BitVec 32 := v196
  let v198 : Index := Scalar.indexCast v197
  let c0_59 : Index := 0#32
  ![v198.toNat, 0]
def k0_off2 (i : grid0.Coords) (k0_t1 : Fin (k0_t1_loop i).trips) : Fin 2 → Nat :=
  let c0_i32 : BitVec 32 := 0#32
  let c1_i32_12 : BitVec 32 := 1#32
  let arg8 : BitVec 32 := Scf.iv c0_i32 c1_i32_12 k0_t1
  let c512_i32_58 : BitVec 32 := 512#32
  let v196 : BitVec 32 := Scalar.muli arg8 c512_i32_58
  let v197 : BitVec 32 := v196
  let v201 : Index := Scalar.indexCast v197
  let c0_60 : Index := 0#32
  ![v201.toNat, 0]
def k0_off3 (i : grid0.Coords) (k0_t1 : Fin (k0_t1_loop i).trips) : Fin 2 → Nat :=
  let c0_i32 : BitVec 32 := 0#32
  let c1_i32_12 : BitVec 32 := 1#32
  let arg8 : BitVec 32 := Scf.iv c0_i32 c1_i32_12 k0_t1
  let c512_i32_58 : BitVec 32 := 512#32
  let v196 : BitVec 32 := Scalar.muli arg8 c512_i32_58
  let v197 : BitVec 32 := v196
  let v205 : Index := Scalar.indexCast v197
  let c128_61 : Index := 128#32
  ![v205.toNat, 128]
def k0_off4 (i : grid0.Coords) (k0_t1 : Fin (k0_t1_loop i).trips) : Fin 2 → Nat :=
  let c0_i32 : BitVec 32 := 0#32
  let c1_i32_12 : BitVec 32 := 1#32
  let arg8 : BitVec 32 := Scf.iv c0_i32 c1_i32_12 k0_t1
  let c512_i32_58 : BitVec 32 := 512#32
  let v196 : BitVec 32 := Scalar.muli arg8 c512_i32_58
  let v197 : BitVec 32 := v196
  let v209 : Index := Scalar.indexCast v197
  let c256_62 : Index := 256#32
  ![v209.toNat, 256]
def k0_off5 (i : grid0.Coords) (k0_t1 : Fin (k0_t1_loop i).trips) : Fin 2 → Nat :=
  let c0_i32 : BitVec 32 := 0#32
  let c1_i32_12 : BitVec 32 := 1#32
  let arg8 : BitVec 32 := Scf.iv c0_i32 c1_i32_12 k0_t1
  let c512_i32_58 : BitVec 32 := 512#32
  let v196 : BitVec 32 := Scalar.muli arg8 c512_i32_58
  let v197 : BitVec 32 := v196
  let v213 : Index := Scalar.indexCast v197
  let c384_63 : Index := 384#32
  ![v213.toNat, 384]
@[reducible] def k0_t2_loop (i : grid0.Coords) : Scf.Loop 32 :=
  let c0_i32 : BitVec 32 := 0#32
  let arg2 : BitVec 32 := BitVec.ofNat 32 (i 2).val
  let v17 : BitVec 32 := Scalar.subi arg2 c0_i32
  let c1_i32 : BitVec 32 := 1#32
  let v19 : BitVec 32 := Scalar.divsi v17 c1_i32
  let v20 : BitVec 32 := Scalar.muli v19 c1_i32
  let v21 : BitVec 32 := Scalar.addi c0_i32 v20
  let v18 : BitVec 32 := Scalar.addi c0_i32 v17
  let c1_i32_13 : BitVec 32 := 1#32
  ⟨v21, v18, c1_i32_13⟩
def k0_mult2 (i : grid0.Coords) (k0_t2 : Fin (k0_t2_loop i).trips) : BitVec 32 :=
  let c0_i32 : BitVec 32 := 0#32
  let arg2 : BitVec 32 := BitVec.ofNat 32 (i 2).val
  let v17 : BitVec 32 := Scalar.subi arg2 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_13 : BitVec 32 := 1#32
  let arg8 : BitVec 32 := Scf.iv v21 c1_i32_13 k0_t2
  let c512_i32_58 : BitVec 32 := 512#32
  let v196 : BitVec 32 := Scalar.muli arg8 c512_i32_58
  v196
def k0_off6 (i : grid0.Coords) (k0_t2 : Fin (k0_t2_loop i).trips) : Fin 2 → Nat :=
  let c0_i32 : BitVec 32 := 0#32
  let arg2 : BitVec 32 := BitVec.ofNat 32 (i 2).val
  let v17 : BitVec 32 := Scalar.subi arg2 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_13 : BitVec 32 := 1#32
  let arg8 : BitVec 32 := Scf.iv v21 c1_i32_13 k0_t2
  let c512_i32_58 : BitVec 32 := 512#32
  let v196 : BitVec 32 := Scalar.muli arg8 c512_i32_58
  let v197 : BitVec 32 := v196
  let v198 : Index := Scalar.indexCast v197
  let c0_59 : Index := 0#32
  ![v198.toNat, 0]
def k0_off7 (i : grid0.Coords) (k0_t2 : Fin (k0_t2_loop i).trips) : Fin 2 → Nat :=
  let c0_i32 : BitVec 32 := 0#32
  let arg2 : BitVec 32 := BitVec.ofNat 32 (i 2).val
  let v17 : BitVec 32 := Scalar.subi arg2 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_13 : BitVec 32 := 1#32
  let arg8 : BitVec 32 := Scf.iv v21 c1_i32_13 k0_t2
  let c512_i32_58 : BitVec 32 := 512#32
  let v196 : BitVec 32 := Scalar.muli arg8 c512_i32_58
  let v197 : BitVec 32 := v196
  let v201 : Index := Scalar.indexCast v197
  let c0_60 : Index := 0#32
  ![v201.toNat, 0]
def k0_off8 (i : grid0.Coords) (k0_t2 : Fin (k0_t2_loop i).trips) : Fin 2 → Nat :=
  let c0_i32 : BitVec 32 := 0#32
  let arg2 : BitVec 32 := BitVec.ofNat 32 (i 2).val
  let v17 : BitVec 32 := Scalar.subi arg2 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_13 : BitVec 32 := 1#32
  let arg8 : BitVec 32 := Scf.iv v21 c1_i32_13 k0_t2
  let c512_i32_58 : BitVec 32 := 512#32
  let v196 : BitVec 32 := Scalar.muli arg8 c512_i32_58
  let v197 : BitVec 32 := v196
  let v205 : Index := Scalar.indexCast v197
  let c128_61 : Index := 128#32
  ![v205.toNat, 128]
def k0_off9 (i : grid0.Coords) (k0_t2 : Fin (k0_t2_loop i).trips) : Fin 2 → Nat :=
  let c0_i32 : BitVec 32 := 0#32
  let arg2 : BitVec 32 := BitVec.ofNat 32 (i 2).val
  let v17 : BitVec 32 := Scalar.subi arg2 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_13 : BitVec 32 := 1#32
  let arg8 : BitVec 32 := Scf.iv v21 c1_i32_13 k0_t2
  let c512_i32_58 : BitVec 32 := 512#32
  let v196 : BitVec 32 := Scalar.muli arg8 c512_i32_58
  let v197 : BitVec 32 := v196
  let v209 : Index := Scalar.indexCast v197
  let c256_62 : Index := 256#32
  ![v209.toNat, 256]
def k0_off10 (i : grid0.Coords) (k0_t2 : Fin (k0_t2_loop i).trips) : Fin 2 → Nat :=
  let c0_i32 : BitVec 32 := 0#32
  let arg2 : BitVec 32 := BitVec.ofNat 32 (i 2).val
  let v17 : BitVec 32 := Scalar.subi arg2 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_13 : BitVec 32 := 1#32
  let arg8 : BitVec 32 := Scf.iv v21 c1_i32_13 k0_t2
  let c512_i32_58 : BitVec 32 := 512#32
  let v196 : BitVec 32 := Scalar.muli arg8 c512_i32_58
  let v197 : BitVec 32 := v196
  let v213 : Index := Scalar.indexCast v197
  let c384_63 : Index := 384#32
  ![v213.toNat, 384]
def k0_mult3 (i : grid0.Coords) : BitVec 32 :=
  let arg2 : BitVec 32 := BitVec.ofNat 32 (i 2).val
  let c512_i32 : BitVec 32 := 512#32
  let v26 : BitVec 32 := Scalar.muli arg2 c512_i32
  v26
def k0_off11 (i : grid0.Coords) : Fin 2 → Nat :=
  let arg2 : BitVec 32 := BitVec.ofNat 32 (i 2).val
  let c512_i32 : BitVec 32 := 512#32
  let v26 : BitVec 32 := Scalar.muli arg2 c512_i32
  let v27 : BitVec 32 := v26
  let v77 : Index := Scalar.indexCast v27
  let c0_27 : Index := 0#32
  ![v77.toNat, 0]
def k0_off12 (i : grid0.Coords) : Fin 2 → Nat :=
  let arg2 : BitVec 32 := BitVec.ofNat 32 (i 2).val
  let c512_i32 : BitVec 32 := 512#32
  let v26 : BitVec 32 := Scalar.muli arg2 c512_i32
  let v27 : BitVec 32 := v26
  let v80 : Index := Scalar.indexCast v27
  let c0_28 : Index := 0#32
  ![v80.toNat, 0]
def k0_off13 (i : grid0.Coords) : Fin 2 → Nat :=
  let arg2 : BitVec 32 := BitVec.ofNat 32 (i 2).val
  let c512_i32 : BitVec 32 := 512#32
  let v26 : BitVec 32 := Scalar.muli arg2 c512_i32
  let v27 : BitVec 32 := v26
  let v84 : Index := Scalar.indexCast v27
  let c128 : Index := 128#32
  ![v84.toNat, 128]
def k0_off14 (i : grid0.Coords) : Fin 2 → Nat :=
  let arg2 : BitVec 32 := BitVec.ofNat 32 (i 2).val
  let c512_i32 : BitVec 32 := 512#32
  let v26 : BitVec 32 := Scalar.muli arg2 c512_i32
  let v27 : BitVec 32 := v26
  let v88 : Index := Scalar.indexCast v27
  let c256_29 : Index := 256#32
  ![v88.toNat, 256]
def k0_off15 (i : grid0.Coords) : Fin 2 → Nat :=
  let arg2 : BitVec 32 := BitVec.ofNat 32 (i 2).val
  let c512_i32 : BitVec 32 := 512#32
  let v26 : BitVec 32 := Scalar.muli arg2 c512_i32
  let v27 : BitVec 32 := v26
  let v92 : Index := Scalar.indexCast v27
  let c384 : Index := 384#32
  ![v92.toNat, 384]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference9Ideal.lean ====
abbrev S2x4096x8x128 : Shape := ⟨4, ![2, 4096, 8, 128]⟩
abbrev S2x4096x8x64 : Shape := ⟨4, ![2, 4096, 8, 64]⟩
abbrev S2x4096x64 : Shape := ⟨3, ![2, 4096, 64]⟩
abbrev S4096 : Shape := ⟨1, ![4096]⟩
abbrev S2x8x4096x4096 : Shape := ⟨4, ![2, 8, 4096, 4096]⟩
abbrev S2x4096x4096x8 : Shape := ⟨4, ![2, 4096, 4096, 8]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩
abbrev S8192x1024 : Shape := ⟨2, ![8192, 1024]⟩

abbrev nBuf : Space → Nat
  | .hbm => 77
  | .vmem => 0
  | .smem => 0
  | _ => 0

abbrev bufTy : (tb : Table) → Fin (tcTables nBuf tb) → BufTy
  | .hbm, ⟨0, _⟩ => ⟨S2x4096x8x128, .f32⟩
  | .hbm, ⟨1, _⟩ => ⟨S2x4096x8x64, .f32⟩
  | .hbm, ⟨2, _⟩ => ⟨S2x4096x8x128, .f32⟩
  | .hbm, ⟨3, _⟩ => ⟨S2x4096x64, .f32⟩
  | .hbm, ⟨4, _⟩ => ⟨S2x4096x8x128, .f32⟩
  | .hbm, ⟨5, _⟩ => ⟨S4096, .i32⟩
  | .hbm, ⟨6, _⟩ => ⟨S2x8x4096x4096, .f32⟩
  | .hbm, ⟨7, _⟩ => ⟨S2x4096x4096x8, .f32⟩
  | .hbm, ⟨8, _⟩ => ⟨S2x8x4096x4096, .f32⟩
  | .hbm, ⟨9, _⟩ => ⟨S2x8x4096x4096, .f32⟩
  | .hbm, ⟨10, _⟩ => ⟨S_, .f32⟩
  | .hbm, ⟨11, _⟩ => ⟨S2x8x4096x4096, .f32⟩
  | .hbm, ⟨12, _⟩ => ⟨S2x8x4096x4096, .f32⟩
  | .hbm, ⟨13, _⟩ => ⟨S1x4096, .i32⟩
  | .hbm, ⟨14, _⟩ => ⟨S_, .i32⟩
  | .hbm, ⟨15, _⟩ => ⟨S_, .i32⟩
  | .hbm, ⟨16, _⟩ => ⟨S1x4096, .i32⟩
  | .hbm, ⟨17, _⟩ => ⟨S1x4096, .i32⟩
  | .hbm, ⟨18, _⟩ => ⟨S1x4096, .i32⟩
  | .hbm, ⟨19, _⟩ => ⟨S_, .i32⟩
  | .hbm, ⟨20, _⟩ => ⟨S1x4096, .i32⟩
  | .hbm, ⟨21, _⟩ => ⟨S1x4096, .i1⟩
  | .hbm, ⟨22, _⟩ => ⟨S1x4096, .i32⟩
  | .hbm, ⟨23, _⟩ => ⟨S1x4096, .i32⟩
  | .hbm, ⟨24, _⟩ => ⟨S_, .i32⟩
  | .hbm, ⟨25, _⟩ => ⟨S1x4096, .i32⟩
  | .hbm, ⟨26, _⟩ => ⟨S1x4096, .i1⟩
  | .hbm, ⟨27, _⟩ => ⟨S1x4096, .i1⟩
  | .hbm, ⟨28, _⟩ => ⟨S_, .i32⟩
  | .hbm, ⟨29, _⟩ => ⟨S1x4096, .i32⟩
  | .hbm, ⟨30, _⟩ => ⟨S1x4096, .i32⟩
  | .hbm, ⟨31, _⟩ => ⟨S1x4096, .i32⟩
  | .hbm, ⟨32, _⟩ => ⟨S4096x1, .i32⟩
  | .hbm, ⟨33, _⟩ => ⟨S_, .i32⟩
  | .hbm, ⟨34, _⟩ => ⟨S_, .i32⟩
  | .hbm, ⟨35, _⟩ => ⟨S4096x1, .i32⟩
  | .hbm, ⟨36, _⟩ => ⟨S4096x1, .i32⟩
  | .hbm, ⟨37, _⟩ => ⟨S4096x1, .i32⟩
  | .hbm, ⟨38, _⟩ => ⟨S_, .i32⟩
  | .hbm, ⟨39, _⟩ => ⟨S4096x1, .i32⟩
  | .hbm, ⟨40, _⟩ => ⟨S4096x1, .i1⟩
  | .hbm, ⟨41, _⟩ => ⟨S4096x1, .i32⟩
  | .hbm, ⟨42, _⟩ => ⟨S4096x1, .i32⟩
  | .hbm, ⟨43, _⟩ => ⟨S_, .i32⟩
  | .hbm, ⟨44, _⟩ => ⟨S4096x1, .i32⟩
  | .hbm, ⟨45, _⟩ => ⟨S4096x1, .i1⟩
  | .hbm, ⟨46, _⟩ => ⟨S4096x1, .i1⟩
  | .hbm, ⟨47, _⟩ => ⟨S_, .i32⟩
  | .hbm, ⟨48, _⟩ => ⟨S4096x1, .i32⟩
  | .hbm, ⟨49, _⟩ => ⟨S4096x1, .i32⟩
  | .hbm, ⟨50, _⟩ => ⟨S4096x1, .i32⟩
  | .hbm, ⟨51, _⟩ => ⟨S4096x4096, .i32⟩
  | .hbm, ⟨52, _⟩ => ⟨S4096x4096, .i32⟩
  | .hbm, ⟨53, _⟩ => ⟨S4096x4096, .i1⟩
  | .hbm, ⟨54, _⟩ => ⟨S_, .f32⟩
  | .hbm, ⟨55, _⟩ => ⟨S_, .f32⟩
  | .hbm, ⟨56, _⟩ => ⟨S2x8x4096x4096, .i1⟩
  | .hbm, ⟨57, _⟩ => ⟨S2x8x4096x4096, .f32⟩
  | .hbm, ⟨58, _⟩ => ⟨S2x8x4096x4096, .f32⟩
  | .hbm, ⟨59, _⟩ => ⟨S_, .f32⟩
  | .hbm, ⟨60, _⟩ => ⟨S2x8x4096, .f32⟩
  | .hbm, ⟨61, _⟩ => ⟨S_, .f32⟩
  | .hbm, ⟨62, _⟩ => ⟨S2x8x4096, .f32⟩
  | .hbm, ⟨63, _⟩ => ⟨S2x8x4096, .f32⟩
  | .hbm, ⟨64, _⟩ => ⟨S2x8x4096x1, .f32⟩
  | .hbm, ⟨65, _⟩ => ⟨S2x8x4096x4096, .f32⟩
  | .hbm, ⟨66, _⟩ => ⟨S2x8x4096x4096, .f32⟩
  | .hbm, ⟨67, _⟩ => ⟨S2x8x4096x4096, .f32⟩
  | .hbm, ⟨68, _⟩ => ⟨S_, .f32⟩
  | .hbm, ⟨69, _⟩ => ⟨S2x8x4096, .f32⟩
  | .hbm, ⟨70, _⟩ => ⟨S2x8x4096x1, .f32⟩
  | .hbm, ⟨71, _⟩ => ⟨S2x8x4096x4096, .f32⟩
  | .hbm, ⟨72, _⟩ => ⟨S2x8x4096x4096, .f32⟩
  | .hbm, ⟨73, _⟩ => ⟨S2x8x128x4096, .f32⟩
  | .hbm, ⟨74, _⟩ => ⟨S2x4096x8x128, .f32⟩
  | .hbm, ⟨75, _⟩ => ⟨S8192x1024, .f32⟩
  | .hbm, ⟨76, _⟩ => ⟨S8192x1024, .bf16⟩
  | _, _ => ⟨S2x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v8 : Ref sig .tc := ⟨.hbm, 31, rfl⟩
abbrev main_v9 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_cst_1 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v14 : Ref sig .tc := ⟨.hbm, 58, rfl⟩
abbrev main_cst_2 : Ref sig .tc := ⟨.hbm, 59, rfl⟩
abbrev main_v15 : Ref sig .tc := ⟨.hbm, 60, rfl⟩
abbrev main_cst_3 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_cst_4 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩

abbrev nD : Nat := 1
abbrev τ : Topo := Topo.v7x

variable {F : FTy → Type} [FloatOps F]
-- ==== Kernel10.lean ====
abbrev S16x16x8x128 : Shape := ⟨4, ![16, 16, 8, 128]⟩
abbrev S16x16x8x64 : Shape := ⟨4, ![16, 16, 8, 64]⟩
abbrev S16x16x64 : Shape := ⟨3, ![16, 16, 64]⟩
abbrev S1x16x1024x512 : Shape := ⟨4, ![1, 16, 1024, 512]⟩
abbrev S1x16x1024x64 : Shape := ⟨4, ![1, 16, 1024, 64]⟩
abbrev S1x512x2048 : Shape := ⟨3, ![1, 512, 2048]⟩
abbrev S_ : Shape := ⟨0, ![]⟩
abbrev S4096 : Shape := ⟨1, ![4096]⟩
abbrev S512x1536 : Shape := ⟨2, ![512, 1536]⟩
abbrev S512x2048 : Shape := ⟨2, ![512, 2048]⟩
abbrev S2048 : Shape := ⟨1, ![2048]⟩
abbrev S1x2048 : Shape := ⟨2, ![1, 2048]⟩
abbrev S512x8x192 : Shape := ⟨3, ![512, 8, 192]⟩
abbrev S512x8x256 : Shape := ⟨3, ![512, 8, 256]⟩
abbrev S512x8x128 : Shape := ⟨3, ![512, 8, 128]⟩
abbrev S512x1024 : Shape := ⟨2, ![512, 1024]⟩
abbrev S16x16x8x256 : Shape := ⟨4, ![16, 16, 8, 256]⟩
abbrev S16x16x128 : Shape := ⟨3, ![16, 16, 128]⟩
abbrev S256x2048 : Shape := ⟨2, ![256, 2048]⟩
abbrev S256x1024 : Shape := ⟨2, ![256, 1024]⟩
abbrev S256x128 : Shape := ⟨2, ![256, 128]⟩
abbrev S16x1024x512 : Shape := ⟨3, ![16, 1024, 512]⟩
abbrev S16x1024x64 : Shape := ⟨3, ![16, 1024, 64]⟩
abbrev S16x2048 : Shape := ⟨2, ![16, 2048]⟩
abbrev S16x1024 : Shape := ⟨2, ![16, 1024]⟩
abbrev S16x128 : Shape := ⟨2, ![16, 128]⟩
abbrev S1x1024x512 : Shape := ⟨3, ![1, 1024, 512]⟩
abbrev S1x1024x64 : Shape := ⟨3, ![1, 1024, 64]⟩
abbrev S1024x512 : Shape := ⟨2, ![1024, 512]⟩
abbrev S1024x1024 : Shape := ⟨2, ![1024, 1024]⟩
abbrev S1024x64 : Shape := ⟨2, ![1024, 64]⟩
abbrev S16x256 : Shape := ⟨2, ![16, 256]⟩
abbrev S1024x128 : Shape := ⟨2, ![1024, 128]⟩
abbrev S16x64 : Shape := ⟨2, ![16, 64]⟩
abbrev S16x16 : Shape := ⟨2, ![16, 16]⟩
abbrev S16 : Shape := ⟨1, ![16]⟩
abbrev S16x1 : Shape := ⟨2, ![16, 1]⟩

abbrev nBuf : Space → Nat
  | .hbm => 52
  | .vmem => 16
  | .smem => 0
  | _ => 0

abbrev bufTy : (tb : Table) → Fin (tcTables nBuf tb) → BufTy
  | .hbm, ⟨0, _⟩ => ⟨S16x16x8x128, .f32⟩
  | .hbm, ⟨1, _⟩ => ⟨S16x16x8x64, .f32⟩
  | .hbm, ⟨2, _⟩ => ⟨S16x16x8x128, .f32⟩
  | .hbm, ⟨3, _⟩ => ⟨S16x16x64, .f32⟩
  | .hbm, ⟨4, _⟩ => ⟨S16x16x8x128, .f32⟩
  | .hbm, ⟨5, _⟩ => ⟨S1x16x1024x512, .f32⟩
  | .hbm, ⟨6, _⟩ => ⟨S1x16x1024x64, .f32⟩
  | .hbm, ⟨7, _⟩ => ⟨S1x512x2048, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S512x1536, .f32⟩
  | .hbm, ⟨12, _⟩ => ⟨S512x2048, .f32⟩
  | .hbm, ⟨13, _⟩ => ⟨S2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S512x1536, .bf16⟩
  | .hbm, ⟨18, _⟩ => ⟨S512x8x192, .bf16⟩
  | .hbm, ⟨19, _⟩ => ⟨S_, .i32⟩
  | .hbm, ⟨20, _⟩ => ⟨S_, .bf16⟩
  | .hbm, ⟨21, _⟩ => ⟨S512x8x256, .bf16⟩
  | .hbm, ⟨22, _⟩ => ⟨S512x2048, .bf16⟩
  | .hbm, ⟨23, _⟩ => ⟨S512x2048, .bf16⟩
  | .hbm, ⟨24, _⟩ => ⟨S512x8x256, .bf16⟩
  | .hbm, ⟨25, _⟩ => ⟨S512x8x128, .bf16⟩
  | .hbm, ⟨26, _⟩ => ⟨S512x1024, .bf16⟩
  | .hbm, ⟨27, _⟩ => ⟨S512x8x128, .bf16⟩
  | .hbm, ⟨28, _⟩ => ⟨S512x1024, .bf16⟩
  | .hbm, ⟨29, _⟩ => ⟨S_, .f32⟩
  | .hbm, ⟨30, _⟩ => ⟨S16x16x8x64, .f32⟩
  | .hbm, ⟨31, _⟩ => ⟨S16x16x8x256, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S16x16x8x256, .f32⟩
  | .hbm, ⟨37, _⟩ => ⟨S16x16x8x256, .f32⟩
  | .hbm, ⟨38, _⟩ => ⟨S_, .f32⟩
  | .hbm, ⟨39, _⟩ => ⟨S16x16x64, .f32⟩
  | .hbm, ⟨40, _⟩ => ⟨S16x16x128, .f32⟩
  | .hbm, ⟨41, _⟩ => ⟨S256x2048, .f32⟩
  | .hbm, ⟨42, _⟩ => ⟨S256x2048, .bf16⟩
  | .hbm, ⟨43, _⟩ => ⟨S256x1024, .f32⟩
  | .hbm, ⟨44, _⟩ => ⟨S256x1024, .bf16⟩
  | .hbm, ⟨45, _⟩ => ⟨S256x128, .f32⟩
  | .hbm, ⟨46, _⟩ => ⟨S256x128, .bf16⟩
  | .hbm, ⟨47, _⟩ => ⟨S256x1024, .f32⟩
  | .hbm, ⟨48, _⟩ => ⟨S256x1024, .bf16⟩
  | .hbm, ⟨49, _⟩ => ⟨S16x1024x512, .f32⟩
  | .hbm, ⟨50, _⟩ => ⟨S16x1024x64, .f32⟩
  | .hbm, ⟨51, _⟩ => ⟨S256x1024, .bf16⟩
  | .local _ .vmem, ⟨0, _⟩ => ⟨S16x2048, .bf16⟩
  | .local _ .vmem, ⟨1, _⟩ => ⟨S16x2048, .bf16⟩
  | .local _ .vmem, ⟨2, _⟩ => ⟨S16x1024, .bf16⟩
  | .local _ .vmem, ⟨3, _⟩ => ⟨S16x1024, .bf16⟩
  | .local _ .vmem, ⟨4, _⟩ => ⟨S16x128, .bf16⟩
  | .local _ .vmem, ⟨5, _⟩ => ⟨S16x128, .bf16⟩
  | .local _ .vmem, ⟨6, _⟩ => ⟨S16x1024, .bf16⟩
  | .local _ .vmem, ⟨7, _⟩ => ⟨S16x1024, .bf16⟩
  | .local _ .vmem, ⟨8, _⟩ => ⟨S1x1024x512, .f32⟩
  | .local _ .vmem, ⟨9, _⟩ => ⟨S1x1024x512, .f32⟩
  | .local _ .vmem, ⟨10, _⟩ => ⟨S1x1024x64, .f32⟩
  | .local _ .vmem, ⟨11, _⟩ => ⟨S1x1024x64, .f32⟩
  | .local _ .vmem, ⟨12, _⟩ => ⟨S512x1024, .bf16⟩
  | .local _ .vmem, ⟨13, _⟩ => ⟨S512x1024, .bf16⟩
  | .local _ .vmem, ⟨14, _⟩ => ⟨S16x1024, .bf16⟩
  | .local _ .vmem, ⟨15, _⟩ => ⟨S16x1024, .bf16⟩
  | _, _ => ⟨S16x16x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_call0_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S16x16x8x128 : Shape := ⟨4, ![16, 16, 8, 128]⟩
abbrev S16x16x8x64 : Shape := ⟨4, ![16, 16, 8, 64]⟩
abbrev S16x16x64 : Shape := ⟨3, ![16, 16, 64]⟩
abbrev S1x16x1024x512 : Shape := ⟨4, ![1, 16, 1024, 512]⟩
abbrev S1x16x1024x64 : Shape := ⟨4, ![1, 16, 1024, 64]⟩
abbrev S1x512x2048 : Shape := ⟨3, ![1, 512, 2048]⟩
abbrev S1024 : Shape := ⟨1, ![1024]⟩
abbrev S16 : Shape := ⟨1, ![16]⟩
abbrev S_ : Shape := ⟨0, ![]⟩
abbrev S16x1024x512 : Shape := ⟨3, ![16, 1024, 512]⟩
abbrev S512x2048 : Shape := ⟨2, ![512, 2048]⟩
abbrev S16x1024x2048 : Shape := ⟨3, ![16, 1024, 2048]⟩
abbrev S16x1024x8x256 : Shape := ⟨4, ![16, 1024, 8, 256]⟩
abbrev S16x1024x8x128 : Shape := ⟨4, ![16, 1024, 8, 128]⟩
abbrev S16x1040x8x128 : Shape := ⟨4, ![16, 1040, 8, 128]⟩
abbrev S16x1024x64 : Shape := ⟨3, ![16, 1024, 64]⟩
abbrev S16x1040x64 : Shape := ⟨3, ![16, 1040, 64]⟩
abbrev S1040 : Shape := ⟨1, ![1040]⟩
abbrev S16x8x16x1040 : Shape := ⟨4, ![16, 8, 16, 1040]⟩
abbrev S16x1040x16x8 : Shape := ⟨4, ![16, 1040, 16, 8]⟩
abbrev S1x1040 : Shape := ⟨2, ![1, 1040]⟩
abbrev S16x1 : Shape := ⟨2, ![16, 1]⟩
abbrev S16x1040 : Shape := ⟨2, ![16, 1040]⟩
abbrev S16x8x16 : Shape := ⟨3, ![16, 8, 16]⟩
abbrev S16x8x16x1 : Shape := ⟨4, ![16, 8, 16, 1]⟩
abbrev S16x8x128x16 : Shape := ⟨4, ![16, 8, 128, 16]⟩
abbrev S256x1024 : Shape := ⟨2, ![256, 1024]⟩

abbrev nBuf : Space → Nat
  | .hbm => 95
  | .vmem => 0
  | .smem => 0
  | _ => 0

abbrev bufTy : (tb : Table) → Fin (tcTables nBuf tb) → BufTy
  | .hbm, ⟨0, _⟩ => ⟨S16x16x8x128, .f32⟩
  | .hbm, ⟨1, _⟩ => ⟨S16x16x8x64, .f32⟩
  | .hbm, ⟨2, _⟩ => ⟨S16x16x8x128, .f32⟩
  | .hbm, ⟨3, _⟩ => ⟨S16x16x64, .f32⟩
  | .hbm, ⟨4, _⟩ => ⟨S16x16x8x128, .f32⟩
  | .hbm, ⟨5, _⟩ => ⟨S1x16x1024x512, .f32⟩
  | .hbm, ⟨6, _⟩ => ⟨S1x16x1024x64, .f32⟩
  | .hbm, ⟨7, _⟩ => ⟨S1x512x2048, .f32⟩
  | .hbm, ⟨8, _⟩ => ⟨S1024, .i32⟩
  | .hbm, ⟨9, _⟩ => ⟨S16, .i32⟩
  | .hbm, ⟨10, _⟩ => ⟨S_, .i32⟩
  | .hbm, ⟨11, _⟩ => ⟨S16, .i32⟩
  | .hbm, ⟨12, _⟩ => ⟨S16, .i32⟩
  | .hbm, ⟨13, _⟩ => ⟨S16x1024x512, .f32⟩
  | .hbm, ⟨14, _⟩ => ⟨S512x2048, .f32⟩
  | .hbm, ⟨15, _⟩ => ⟨S16x1024x2048, .f32⟩
  | .hbm, ⟨16, _⟩ => ⟨S16x1024x8x256, .f32⟩
  | .hbm, ⟨17, _⟩ => ⟨S16x1024x8x128, .f32⟩
  | .hbm, ⟨18, _⟩ => ⟨S16x1040x8x128, .f32⟩
  | .hbm, ⟨19, _⟩ => ⟨S16x1024x8x128, .f32⟩
  | .hbm, ⟨20, _⟩ => ⟨S16x1040x8x128, .f32⟩
  | .hbm, ⟨21, _⟩ => ⟨S16x1024x64, .f32⟩
  | .hbm, ⟨22, _⟩ => ⟨S16x1040x64, .f32⟩
  | .hbm, ⟨23, _⟩ => ⟨S1040, .i32⟩
  | .hbm, ⟨24, _⟩ => ⟨S16x8x16x1040, .f32⟩
  | .hbm, ⟨25, _⟩ => ⟨S16x1040x16x8, .f32⟩
  | .hbm, ⟨26, _⟩ => ⟨S16x8x16x1040, .f32⟩
  | .hbm, ⟨27, _⟩ => ⟨S16x8x16x1040, .f32⟩
  | .hbm, ⟨28, _⟩ => ⟨S_, .f32⟩
  | .hbm, ⟨29, _⟩ => ⟨S16x8x16x1040, .f32⟩
  | .hbm, ⟨30, _⟩ => ⟨S16x8x16x1040, .f32⟩
  | .hbm, ⟨31, _⟩ => ⟨S1x1040, .i32⟩
  | .hbm, ⟨32, _⟩ => ⟨S_, .i32⟩
  | .hbm, ⟨33, _⟩ => ⟨S_, .i32⟩
  | .hbm, ⟨34, _⟩ => ⟨S1x1040, .i32⟩
  | .hbm, ⟨35, _⟩ => ⟨S1x1040, .i32⟩
  | .hbm, ⟨36, _⟩ => ⟨S1x1040, .i32⟩
  | .hbm, ⟨37, _⟩ => ⟨S_, .i32⟩
  | .hbm, ⟨38, _⟩ => ⟨S1x1040, .i32⟩
  | .hbm, ⟨39, _⟩ => ⟨S1x1040, .i1⟩
  | .hbm, ⟨40, _⟩ => ⟨S1x1040, .i32⟩
  | .hbm, ⟨41, _⟩ => ⟨S1x1040, .i32⟩
  | .hbm, ⟨42, _⟩ => ⟨S_, .i32⟩
  | .hbm, ⟨43, _⟩ => ⟨S1x1040, .i32⟩
  | .hbm, ⟨44, _⟩ => ⟨S1x1040, .i1⟩
  | .hbm, ⟨45, _⟩ => ⟨S1x1040, .i1⟩
  | .hbm, ⟨46, _⟩ => ⟨S_, .i32⟩
  | .hbm, ⟨47, _⟩ => ⟨S1x1040, .i32⟩
  | .hbm, ⟨48, _⟩ => ⟨S1x1040, .i32⟩
  | .hbm, ⟨49, _⟩ => ⟨S1x1040, .i32⟩
  | .hbm, ⟨50, _⟩ => ⟨S16x1, .i32⟩
  | .hbm, ⟨51, _⟩ => ⟨S_, .i32⟩
  | .hbm, ⟨52, _⟩ => ⟨S_, .i32⟩
  | .hbm, ⟨53, _⟩ => ⟨S16x1, .i32⟩
  | .hbm, ⟨54, _⟩ => ⟨S16x1, .i32⟩
  | .hbm, ⟨55, _⟩ => ⟨S16x1, .i32⟩
  | .hbm, ⟨56, _⟩ => ⟨S_, .i32⟩
  | .hbm, ⟨57, _⟩ => ⟨S16x1, .i32⟩
  | .hbm, ⟨58, _⟩ => ⟨S16x1, .i1⟩
  | .hbm, ⟨59, _⟩ => ⟨S16x1, .i32⟩
  | .hbm, ⟨60, _⟩ => ⟨S16x1, .i32⟩
  | .hbm, ⟨61, _⟩ => ⟨S_, .i32⟩
  | .hbm, ⟨62, _⟩ => ⟨S16x1, .i32⟩
  | .hbm, ⟨63, _⟩ => ⟨S16x1, .i1⟩
  | .hbm, ⟨64, _⟩ => ⟨S16x1, .i1⟩
  | .hbm, ⟨65, _⟩ => ⟨S_, .i32⟩
  | .hbm, ⟨66, _⟩ => ⟨S16x1, .i32⟩
  | .hbm, ⟨67, _⟩ => ⟨S16x1, .i32⟩
  | .hbm, ⟨68, _⟩ => ⟨S16x1, .i32⟩
  | .hbm, ⟨69, _⟩ => ⟨S16x1040, .i32⟩
  | .hbm, ⟨70, _⟩ => ⟨S16x1040, .i32⟩
  | .hbm, ⟨71, _⟩ => ⟨S16x1040, .i1⟩
  | .hbm, ⟨72, _⟩ => ⟨S_, .f32⟩
  | .hbm, ⟨73, _⟩ => ⟨S_, .f32⟩
  | .hbm, ⟨74, _⟩ => ⟨S16x8x16x1040, .i1⟩
  | .hbm, ⟨75, _⟩ => ⟨S16x8x16x1040, .f32⟩
  | .hbm, ⟨76, _⟩ => ⟨S16x8x16x1040, .f32⟩
  | .hbm, ⟨77, _⟩ => ⟨S_, .f32⟩
  | .hbm, ⟨78, _⟩ => ⟨S16x8x16, .f32⟩
  | .hbm, ⟨79, _⟩ => ⟨S_, .f32⟩
  | .hbm, ⟨80, _⟩ => ⟨S16x8x16, .f32⟩
  | .hbm, ⟨81, _⟩ => ⟨S16x8x16, .f32⟩
  | .hbm, ⟨82, _⟩ => ⟨S16x8x16x1, .f32⟩
  | .hbm, ⟨83, _⟩ => ⟨S16x8x16x1040, .f32⟩
  | .hbm, ⟨84, _⟩ => ⟨S16x8x16x1040, .f32⟩
  | .hbm, ⟨85, _⟩ => ⟨S16x8x16x1040, .f32⟩
  | .hbm, ⟨86, _⟩ => ⟨S_, .f32⟩
  | .hbm, ⟨87, _⟩ => ⟨S16x8x16, .f32⟩
  | .hbm, ⟨88, _⟩ => ⟨S16x8x16x1, .f32⟩
  | .hbm, ⟨89, _⟩ => ⟨S16x8x16x1040, .f32⟩
  | .hbm, ⟨90, _⟩ => ⟨S16x8x16x1040, .f32⟩
  | .hbm, ⟨91, _⟩ => ⟨S16x8x128x16, .f32⟩
  | .hbm, ⟨92, _⟩ => ⟨S16x16x8x128, .f32⟩
  | .hbm, ⟨93, _⟩ => ⟨S256x1024, .f32⟩
  | .hbm, ⟨94, _⟩ => ⟨S256x1024, .bf16⟩
  | _, _ => ⟨S16x16x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_c : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_v22 : Ref sig .tc := ⟨.hbm, 49, rfl⟩
abbrev main_v23 : Ref sig .tc := ⟨.hbm, 50, rfl⟩
abbrev main_c_1 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_c : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_0 : Ref sig .tc := ⟨.hbm, 65, rfl⟩
abbrev main_call1_v12 : Ref sig .tc := ⟨.hbm, 66, rfl⟩
abbrev main_call1_v13 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_cst_2 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v28 : Ref sig .tc := ⟨.hbm, 76, rfl⟩
abbrev main_cst_3 : Ref sig .tc := ⟨.hbm, 77, rfl⟩
abbrev main_v29 : Ref sig .tc := ⟨.hbm, 78, rfl⟩
abbrev main_cst_4 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_cst_5 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩

abbrev nD : Nat := 1
abbrev τ : Topo := Topo.v7x

variable {F : FTy → Type} [FloatOps F]
-- ==== Proof.FfnSpec.lean ====
/-
  The mathematics of the gated feed-forward layer with its residual and layer norm, over the extended reals, and the one
  re-indexing the kernels need: a sum over `M` hidden units taken chunk by chunk, the last chunk starting early so that it
  ends at `M`, its overlap with the chunk before masked out.
-/
module

public import Idealize.ShloMosaic.PureOps.Ideal
public import Idealize.ShloMosaic.Lib.Pointwise
public import Idealize.ShloMosaic.Lib.WordCmp

@[expose] public section

noncomputable section

namespace Cert.FfnSpec

open Idealize.ShloMosaic
open scoped BigOperators

/-- The gated activation of one hidden unit: `silu(g) · u`. -/
def act (g u : EReal) : EReal := g * Ideal.logistic g * u

/-- Hidden unit `n`'s contribution to output column `d`: its activation on the row `x`, times its outgoing weight. The first
    `M` columns of `wi` are the gates, the next `M` the values. -/
def unit {K M D : ℕ} (x : Fin K → EReal) (wi : Fin K → Fin (M + M) → EReal) (wo : Fin M → Fin D → EReal) (d : Fin D) (n : Fin M) : EReal :=
  act (∑ c, x c * wi c (Fin.castAdd M n)) (∑ c, x c * wi c (Fin.natAdd M n)) * wo n d

/-- The feed-forward layer on one row. -/
def swiglu {K M D : ℕ} (x : Fin K → EReal) (wi : Fin K → Fin (M + M) → EReal) (wo : Fin M → Fin D → EReal) (d : Fin D) : EReal :=
  ∑ n, unit x wi wo d n

/-- The mean of a row, the divisor (the row's length, as the programs' constant names it) given. -/
def mean {D : ℕ} (len : EReal) (v : Fin D → EReal) : EReal := Ideal.div (∑ d, v d) len

/-- Layer norm of a row: centred, divided by the standard deviation, scaled and shifted. -/
def layerNorm {D : ℕ} (len eps : EReal) (v g b : Fin D → EReal) (d : Fin D) : EReal :=
  (v d - mean len v) * Ideal.rsqrt (mean len (fun k => (v k - mean len v) * (v k - mean len v)) + eps) * g d + b d

/-- The residual sum the layer normalises: `α · x + half · y`. -/
def residual {D : ℕ} (α half : EReal) (x y : Fin D → EReal) (d : Fin D) : EReal := α * x d + half * y d

/-- The whole layer on one row. -/
def layer {D M : ℕ} (α half len eps : EReal) (x : Fin D → EReal) (wi : Fin D → Fin (M + M) → EReal) (wo : Fin M → Fin D → EReal)
    (g b : Fin D → EReal) (d : Fin D) : EReal :=
  layerNorm len eps (residual α half x (swiglu x wi wo)) g b d

/-! ### Sums by chunks -/

/-- A function of the first `M` numbers, read at any number (zero beyond). -/
def ext {M : ℕ} (f : Fin M → EReal) (n : ℕ) : EReal := if h : n < M then f ⟨n, h⟩ else 0

theorem ext_of_lt {M : ℕ} (f : Fin M → EReal) (n : ℕ) (h : n < M) : ext f n = f ⟨n, h⟩ := dif_pos h

theorem sum_ext {M : ℕ} (f : Fin M → EReal) : ∑ n ∈ Finset.range M, ext f n = ∑ n, f n := by
  rw [Finset.sum_range]
  exact Finset.sum_congr rfl fun n _ => ext_of_lt f n n.isLt

/-- Where chunk `j` starts: `C` apart, but the last (`j = J`) ends at `M`. -/
def start (J C M j : ℕ) : ℕ := if j = J then M - C else C * j

/-- Chunk `j` of the sum of `f`: `C` consecutive terms, the last chunk without the first `O`, which the chunk before holds. -/
def chunk {M : ℕ} (J C O : ℕ) (f : Fin M → EReal) (j : ℕ) : EReal :=
  ∑ k : Fin C, if j < J ∨ O ≤ (k : ℕ) then ext f (start J C M j + k) else 0

/-- Consecutive chunks of a sum, put together. -/
theorem sum_range_chunks (C J : ℕ) (f : ℕ → EReal) :
    ∑ j ∈ Finset.range J, ∑ k ∈ Finset.range C, f (C * j + k) = ∑ n ∈ Finset.range (C * J), f n := by
  induction J with
  | zero => simp
  | succ J ih => rw [Finset.sum_range_succ, ih, Nat.mul_succ, Finset.sum_range_add]

/-- THE RE-INDEXING: the chunks of a sum, the last one masked where it overlaps, are the sum. -/
theorem sum_chunk {M : ℕ} (J C O : ℕ) (hO : O ≤ C) (hC : C ≤ M) (hM : M + O = C * J + C) (f : Fin M → EReal) :
    ∑ j ∈ Finset.range (J + 1), chunk J C O f j = ∑ n, f n := by
  rw [Finset.sum_range_succ, ← sum_ext f]
  have h1 : ∀ j ∈ Finset.range J, chunk J C O f j = ∑ k ∈ Finset.range C, ext f (C * j + k) := by
    intro j hj
    have hj : j < J := Finset.mem_range.mp hj
    rw [Finset.sum_range]
    refine Finset.sum_congr rfl fun k _ => ?_
    rw [if_pos (Or.inl hj), start, if_neg (by omega)]
  have h2 : chunk J C O f J = ∑ k ∈ Finset.range (C - O), ext f (C * J + k) := by
    have hCO : C = O + (C - O) := by omega
    have e : chunk J C O f J = ∑ k ∈ Finset.range C, if O ≤ k then ext f (M - C + k) else 0 := by
      rw [Finset.sum_range]
      refine Finset.sum_congr rfl fun k _ => ?_
      simp only [lt_irrefl, false_or, start, if_true]
    rw [e, hCO, Finset.sum_range_add, Finset.sum_eq_zero, zero_add]
    · rw [← hCO]
      refine Finset.sum_congr rfl fun k _ => ?_
      rw [if_pos (by omega)]
      congr 1
      omega
    · intro k hk
      rw [if_neg (by have := Finset.mem_range.mp hk; omega)]
  have hr : Finset.range M = Finset.range (C * J + (C - O)) := congrArg Finset.range (by omega)
  rw [Finset.sum_congr rfl h1, sum_range_chunks, h2, hr, Finset.sum_range_add]

/-! ### The mask, as the kernels compute it -/

/-- The kernels' mask: not the last chunk, or past the overlap. -/
theorem mask (j k J O : ℕ) (a b : EReal) (hj : j < 2 ^ 31) (hk : k < 2 ^ 31) (hJ : J < 2 ^ 31) (hO : O < 2 ^ 31) :
    Scalar.select (IntOp.ori (Scalar.cmpi .slt (BitVec.ofNat 32 j) (BitVec.ofNat 32 J)) (IntOp.cmpi .sge (BitVec.ofNat 32 k) (BitVec.ofNat 32 O))) a b
      = if j < J ∨ O ≤ k then a else b := by
  word_cmp

end Cert.FfnSpec

end
-- ==== Proof.RowFold.lean ====
/-
  What the accumulating calls have in common, followed in one row of a row block: the block's first grid point starts the
  row at its own part, the next points add theirs, and the last one finishes the sum. Beside it, the sums by equal blocks
  such a call adds up.
-/
module

public import proofs.«01_k».proof.Proof.FfnSpec

@[expose] public section

noncomputable section

namespace Cert.RowFold

open scoped BigOperators
open Cert.FfnSpec

/-- After the last point of block `n / S`, the row is the finished sum of the block's `S = J + 1` parts. `out` holds a row of the
    output block and of the carried copy of the rows after each point, `x b` the row the copy is of. -/
theorem fold {D K N J S : ℕ} (hS : S = J + 1) (hJ : 0 < J) (out : (n : ℕ) → n < N → (Fin D → EReal) × (Fin K → EReal))
    (x : ℕ → Fin K → EReal) (part : ℕ → ℕ → Fin D → EReal) (last : ℕ → (Fin D → EReal) → Fin D → EReal)
    (hA : ∀ n h, n % S = 0 → out n h = (part (n / S) 0, x (n / S)))
    (hB : ∀ n h h', ¬n % S = 0 → ¬n % S = J → (out (n - 1) h').2 = x (n / S) →
      out n h = (fun d => (out (n - 1) h').1 d + part (n / S) (n % S) d, x (n / S)))
    (hC : ∀ n h h', ¬n % S = 0 → n % S = J → (out (n - 1) h').2 = x (n / S) →
      out n h = (last (n / S) fun d => (out (n - 1) h').1 d + part (n / S) J d, x (n / S))) :
    ∀ (n : ℕ) (h : n < N), (out n h).2 = x (n / S)
      ∧ (¬n % S = J → (out n h).1 = fun d => ∑ j ∈ Finset.range (n % S + 1), part (n / S) j d)
      ∧ (n % S = J → (out n h).1 = last (n / S) fun d => ∑ j ∈ Finset.range (J + 1), part (n / S) j d) := by
  subst hS
  intro n
  induction n with
  | zero =>
    intro h
    rw [hA 0 h (Nat.zero_mod _), Nat.zero_mod]
    refine ⟨rfl, fun _ => ?_, fun h' => by omega⟩
    funext d
    rw [Finset.sum_range_one]
  | succ n ih =>
    intro h
    by_cases h0 : (n + 1) % (J + 1) = 0
    · rw [hA _ h h0]
      refine ⟨rfl, fun _ => ?_, fun h' => by omega⟩
      funext d
      rw [h0, Finset.sum_range_one]
    · obtain ⟨ihx, ihs, -⟩ := ih (by omega)
      have hd : n / (J + 1) = (n + 1) / (J + 1) := by
        exact (Nat.succ_div_of_not_dvd fun hd => h0 (Nat.mod_eq_zero_of_dvd hd)).symm
      have hm : n % (J + 1) + 1 = (n + 1) % (J + 1) := by
        have e1 := Nat.div_add_mod n (J + 1)
        have e2 := Nat.div_add_mod (n + 1) (J + 1)
        rw [hd] at e1
        omega
      have hlt := Nat.mod_lt (n + 1) (show J + 1 > 0 by omega)
      have ihs := ihs (by omega)
      rw [hd] at ihx ihs
      rw [hm] at ihs
      have e : ∀ d, (out n (by omega)).1 d + part ((n + 1) / (J + 1)) ((n + 1) % (J + 1)) d
          = ∑ j ∈ Finset.range ((n + 1) % (J + 1) + 1), part ((n + 1) / (J + 1)) j d := fun d => by
        rw [Finset.sum_range_succ, ihs]
      by_cases h1 : (n + 1) % (J + 1) = J
      · rw [hC (n + 1) h (by omega) h0 h1 ihx]
        refine ⟨rfl, fun h' => absurd h1 h', fun _ => ?_⟩
        rw [h1] at e
        exact congrArg _ (funext e)
      · rw [hB (n + 1) h (by omega) h0 h1 ihx]
        exact ⟨rfl, fun _ => funext e, fun h' => absurd h' h1⟩

/-- Block `j` of the sum of `f`: `C` consecutive terms. -/
def block {M : ℕ} (C : ℕ) (f : Fin M → EReal) (j : ℕ) : EReal := ∑ k : Fin C, ext f (C * j + k)

/-- The blocks of a sum, put together. -/
theorem sum_block {M : ℕ} (J C : ℕ) (hM : C * J = M) (f : Fin M → EReal) : ∑ j ∈ Finset.range J, block C f j = ∑ n, f n := by
  subst hM
  rw [← sum_ext f, ← sum_range_chunks]
  exact Finset.sum_congr rfl fun j _ => (Finset.sum_range fun k => ext f (C * j + k)).symm

end Cert.RowFold

end
-- ==== Proof.FfnPrompt.lean ====
/-
  What one grid point of the prompt rows' feed-forward kernel computes, read at an index: the three payloads of the body as
  `Cert.FfnSpec`'s functions, the blocks the windows bring in as parts of the argument arrays (the three weight windows are
  element-indexed: they start at the element their index map names), and what a point leaves in the output block and in the
  carried half-precision copy of the rows.
-/
module

public import proofs.«01_k».proof.Proof.Gen.KernelIdeal.Value
public import proofs.«01_k».proof.Proof.RowFold
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.FfnSpec

/-! ### The payloads at an index -/

/-- The copy of the rows the first point of a row block keeps: over the reals the rows themselves. -/
theorem pay1_at (x : FVec Ideal S512x2048 .f32) (r : Fin 512) (d : Fin 2048) : k0_pay1 (F := Ideal) x (ix2 r d) = x (ix2 r d) := by
  pointwise [k0_pay1]

/-- The zero fill. -/
theorem pay2_at (r : Fin 512) (d : Fin 2048) : k0_pay2 (F := Ideal) (ix2 r d) = 0 := by
  pointwise [k0_pay2]

/-- A chunk's accumulation: the block so far plus the chunk's masked hidden units times their outgoing weights. -/
theorem pay3_at (i : grid0.Coords) (x : FVec Ideal S512x2048 .bf16) (wg wu : FVec Ideal S2048x512 .bf16) (acc : FVec Ideal S512x2048 .f32)
    (wo : FVec Ideal S512x2048 .bf16) (r : Fin 512) (d : Fin 2048) (s : EReal)
    (hs : s = ∑ k : Fin 512, if (i 1).val < 10 ∨ 128 ≤ (k : ℕ) then
        act (∑ c : Fin 2048, x (ix2 r c) * wg (ix2 c k)) (∑ c : Fin 2048, x (ix2 r c) * wu (ix2 c k)) * wo (ix2 k d) else 0) :
    k0_pay3 (F := Ideal) i x wg wu acc wo (ix2 r d) = acc (ix2 r d) + s := by
  have hi : (i 1).val < 11 := (i 1).isLt
  rw [hs]
  clear hs
  have e : ∀ k : Fin 512, (if (i 1).val < 10 ∨ 128 ≤ (k : ℕ) then
        act (∑ c : Fin 2048, x (ix2 r c) * wg (ix2 c k)) (∑ c : Fin 2048, x (ix2 r c) * wu (ix2 c k)) * wo (ix2 k d) else 0) = _ :=
    fun k => (mask (i 1).val k 10 128 _ _ (by omega) (by omega) (by omega) (by omega)).symm
  rw [Finset.sum_congr rfl fun k _ => e k]
  pointwise [k0_pay3]
  rfl

/-- The last point's layer norm of the residual sum, over what its operands hold in the row. -/
theorem pay4_at (x acc : FVec Ideal S512x2048 .f32) (g b : FVec Ideal S1x2048 .f32) (r : Fin 512) (d : Fin 2048)
    (xv av gv bv : Fin 2048 → EReal) (hx : ∀ k : Fin 2048, x (ix2 r k) = xv k) (ha : ∀ k : Fin 2048, acc (ix2 r k) = av k)
    (hg : ∀ k : Fin 2048, g (ix2 0 k) = gv k) (hb : ∀ k : Fin 2048, b (ix2 0 k) = bv k) :
    k0_pay4 (F := Ideal) x acc g b (ix2 r d)
      = layerNorm (Ideal.ofBits .f32 0x45000000#32) (Ideal.ofBits .f32 0x3727C5AC#32)
          (residual (Ideal.ofBits .f32 0x3F9837F0#32) (Ideal.ofBits .f32 0x3F000000#32) xv av) gv bv d := by
  obtain rfl : (fun k => x (ix2 r k)) = xv := funext hx
  obtain rfl : (fun k => acc (ix2 r k)) = av := funext ha
  obtain rfl : (fun k => g (ix2 0 k)) = gv := funext hg
  obtain rfl : (fun k => b (ix2 0 k)) = bv := funext hb
  pointwise [k0_pay4]
  rfl

/-! ### The blocks -/

variable (m : (ℓ : Loc nD τ sig) → Buf (Elt Ideal) ℓ)

/-- The argument arrays, as functions of their coordinates: the rows, -/
def X (c : Dev nD) (R : Fin 8192) (k : Fin 2048) : EReal := (show FVec Ideal S8192x2048 .f32 from m ((c : Thread nD τ).loc main_arg0)) (ix2 R k)
/-- the incoming weights (gates, then values), -/
def Wi (c : Dev nD) (k : Fin 2048) (n : Fin (5504 + 5504)) : EReal :=
  (show FVec Ideal S1x2048x11008 .f32 from m ((c : Thread nD τ).loc main_arg1)) (ix3 0 k ⟨n.val, n.isLt⟩)
/-- the outgoing weights, -/
def Wo (c : Dev nD) (n : Fin 5504) (d : Fin 2048) : EReal :=
  (show FVec Ideal S1x5504x2048 .f32 from m ((c : Thread nD τ).loc main_arg2)) (ix3 0 n d)
/-- the norm's scale -/
def Ga (c : Dev nD) (d : Fin 2048) : EReal := (show FVec Ideal S1x2048 .f32 from m ((c : Thread nD τ).loc main_arg3)) (ix2 0 d)
/-- and shift. -/
def Be (c : Dev nD) (d : Fin 2048) : EReal := (show FVec Ideal S1x2048 .f32 from m ((c : Thread nD τ).loc main_arg4)) (ix2 0 d)

/-- The windows' index maps in closed form: point `t` is chunk `t % 11` of row block `t / 11`. -/
theorem idx : ∀ t : Fin cfg0.N, win0_0.index t = ![t.val / 11, 0]
    ∧ win0_1.index t = ![0, start 10 512 5504 (t.val % 11)]
    ∧ win0_2.index t = ![0, 5504 + start 10 512 5504 (t.val % 11)]
    ∧ win0_3.index t = ![start 10 512 5504 (t.val % 11), 0]
    ∧ win0_4.index t = ![0, 0] ∧ win0_5.index t = ![0, 0] ∧ win0_6.index t = ![t.val / 11, 0]
    ∧ (grid0.coords t 1).val = t.val % 11 ∧ start 10 512 5504 (t.val % 11) + 512 ≤ 5504 :=
  (by decide +kernel : ∀ t : Fin grid0.N, _)

/-- Row `r` of row block `b` (there are 16 blocks of 512). -/
def row (b : ℕ) (r : Fin 512) : Fin 8192 := ⟨(b * 512 + r.val) % 8192, Nat.mod_lt _ (by decide)⟩

theorem row_val (t : Fin cfg0.N) (r : Fin 512) : (row (t.val / 11) r).val = t.val / 11 * 512 + r.val := by
  have := lt_of_lt_of_eq t.isLt (show cfg0.N = 176 from N_0)
  exact Nat.mod_eq_of_lt (by omega)

theorem blk0 (c : Dev nD) (t : Fin cfg0.N) (r : Fin 512) (k : Fin 2048) :
    (show FVec Ideal S512x2048 .f32 from iblk m c 0 t) (ix2 r k) = X m c (row (t.val / 11) r) k := by
  unfold X
  have e := row_val t r
  generalize row (t.val / 11) r = R at e
  blk_point [iblk, V, idx t]

/-- Where an element of an element-indexed weight block sits: the map's value plus its place in the block. -/
theorem emb1 (t : Fin cfg0.N) (y : S2048x512.Idx) (a : Fin 2) : (((win0_1.blk t).view.emb y) a : ℕ) = win0_1.index t a + (y a : ℕ) :=
  ValueKit.view_emb_slice_whole_unit_val main_v1 _ _ _ y a
theorem emb2 (t : Fin cfg0.N) (y : S2048x512.Idx) (a : Fin 2) : (((win0_2.blk t).view.emb y) a : ℕ) = win0_2.index t a + (y a : ℕ) :=
  ValueKit.view_emb_slice_whole_unit_val main_v1 _ _ _ y a
theorem emb3 (t : Fin cfg0.N) (y : S512x2048.Idx) (a : Fin 2) : (((win0_3.blk t).view.emb y) a : ℕ) = win0_3.index t a + (y a : ℕ) :=
  ValueKit.view_emb_slice_whole_unit_val main_v3 _ _ _ y a
/-- Where an element of the output block sits in the result array. -/
theorem emb6 (t : Fin cfg0.N) (y : S512x2048.Idx) (a : Fin 2) :
    ((((View.whole main_v8).slice (win0_6.rect t)).emb y) a : ℕ) = win0_6.index t a * win0_6.size a + (y a : ℕ) :=
  ValueKit.view_emb_slice_whole_unit_val main_v8 _ _ _ y a

theorem blk1 (c : Dev nD) (t : Fin cfg0.N) (k : Fin 2048) (n : Fin 512) (N : Fin 5504) (hN : N.val = start 10 512 5504 (t.val % 11) + n.val) :
    (show FVec Ideal S2048x512 .bf16 from iblk m c 1 t) (ix2 k n) = Wi m c k (Fin.castAdd 5504 N) := by
  unfold Wi iblk
  blk_simp
  entry_read
  pointwise
  refine congrArg (m (c, Proc.tc.devRef main_arg1)) ?_
  refine (ix3_inj ..).2 ⟨rfl, Fin.ext ?_, Fin.ext ?_⟩
  · exact (emb1 t (ix2 k n) 0).trans (by rw [(idx t).2.1]; simp)
  · exact (emb1 t (ix2 k n) 1).trans (by rw [(idx t).2.1]; simp [hN])

theorem blk2 (c : Dev nD) (t : Fin cfg0.N) (k : Fin 2048) (n : Fin 512) (N : Fin 5504) (hN : N.val = start 10 512 5504 (t.val % 11) + n.val) :
    (show FVec Ideal S2048x512 .bf16 from iblk m c 2 t) (ix2 k n) = Wi m c k (Fin.natAdd 5504 N) := by
  unfold Wi iblk
  blk_simp
  entry_read
  pointwise
  refine congrArg (m (c, Proc.tc.devRef main_arg1)) ?_
  refine (ix3_inj ..).2 ⟨rfl, Fin.ext ?_, Fin.ext ?_⟩
  · exact (emb2 t (ix2 k n) 0).trans (by rw [(idx t).2.2.1]; simp)
  · exact (emb2 t (ix2 k n) 1).trans (by rw [(idx t).2.2.1]; simp [hN]; omega)

theorem blk3 (c : Dev nD) (t : Fin cfg0.N) (n : Fin 512) (d : Fin 2048) (N : Fin 5504) (hN : N.val = start 10 512 5504 (t.val % 11) + n.val) :
    (show FVec Ideal S512x2048 .bf16 from iblk m c 3 t) (ix2 n d) = Wo m c N d := by
  unfold Wo iblk
  blk_simp
  entry_read
  pointwise
  refine congrArg (m (c, Proc.tc.devRef main_arg2)) ?_
  refine (ix3_inj ..).2 ⟨rfl, Fin.ext ?_, Fin.ext ?_⟩
  · exact (emb3 t (ix2 n d) 0).trans (by rw [(idx t).2.2.2.1]; simp [hN])
  · exact (emb3 t (ix2 n d) 1).trans (by rw [(idx t).2.2.2.1]; simp)

theorem blk4 (c : Dev nD) (t : Fin cfg0.N) (d : Fin 2048) : (show FVec Ideal S1x2048 .f32 from iblk m c 4 t) (ix2 0 d) = Ga m c d := by
  unfold Ga
  blk_simp [iblk]
  entry_read
  pointwise
  blk_simp [idx t]
  blk_ext [idx t]

theorem blk5 (c : Dev nD) (t : Fin cfg0.N) (d : Fin 2048) : (show FVec Ideal S1x2048 .f32 from iblk m c 5 t) (ix2 0 d) = Be m c d := by
  unfold Be
  blk_point [iblk, V, idx t]

/-! ### What a point leaves -/

/-- The hidden units' contributions to column `d` of row `R`. -/
def units (c : Dev nD) (R : Fin 8192) (d : Fin 2048) : Fin 5504 → EReal := unit (X m c R) (Wi m c) (Wo m c) d

/-- A chunk's accumulation at point `t`, over any half-precision copy `x` of the point's rows: chunk `t % 11` of the units. -/
theorem step_at (c : Dev nD) (t : Fin cfg0.N) (x : FVec Ideal S512x2048 .bf16) (acc : FVec Ideal S512x2048 .f32) (r : Fin 512) (d : Fin 2048)
    (R : Fin 8192) (hx : ∀ k : Fin 2048, x (ix2 r k) = X m c R k) :
    k0_pay3 (F := Ideal) (grid0.coords t) x (iblk m c 1 t) (iblk m c 2 t) acc (iblk m c 3 t) (ix2 r d)
      = acc (ix2 r d) + chunk 10 512 128 (units m c R d) (t.val % 11) := by
  have hs := (idx t).2.2.2.2.2.2.2.2
  refine pay3_at (grid0.coords t) x _ _ acc _ r d _ (Finset.sum_congr rfl fun k _ => ?_)
  rw [(idx t).2.2.2.2.2.2.2.1]
  refine if_congr Iff.rfl ?_ rfl
  have hk : start 10 512 5504 (t.val % 11) + k.val < 5504 := by omega
  rw [ext_of_lt _ _ hk]
  unfold units unit
  refine congrArg₂ (· * ·) (congrArg₂ act ?_ ?_) ?_
  · refine Finset.sum_congr rfl fun j _ => ?_
    rw [hx]
    exact congrArg _ (blk1 m c t j k ⟨_, hk⟩ rfl).symm
  · refine Finset.sum_congr rfl fun j _ => ?_
    rw [hx]
    exact congrArg _ (blk2 m c t j k ⟨_, hk⟩ rfl).symm
  · exact (blk3 m c t k d ⟨_, hk⟩ rfl).symm

/-- The first point of a row block leaves the first chunk, and the copy of the rows; -/
theorem out_A (c : Dev nD) (t : Fin cfg0.N) (h0 : t.val % 11 = 0) (h1 : ¬t.val % 11 = 10) :
    outsAt0 m c t.val t.isLt
      = (k0_pay3 (grid0.coords t) (k0_pay1 (iblk m c 0 t)) (iblk m c 1 t) (iblk m c 2 t) (k0_pay2 (F := Ideal)) (iblk m c 3 t), k0_pay1 (iblk m c 0 t)) := by
  rw [outsAt0_A m c t h0 h1]
  frame_out

/-- a middle point adds its chunk and keeps the copy; -/
theorem out_B (c : Dev nD) (t : Fin cfg0.N) (h0 : ¬t.val % 11 = 0) (h1 : ¬t.val % 11 = 10) (h) :
    outsAt0 m c t.val t.isLt
      = (k0_pay3 (grid0.coords t) (outsAt0 m c (t.val - 1) h).2 (iblk m c 1 t) (iblk m c 2 t) (outsAt0 m c (t.val - 1) h).1 (iblk m c 3 t),
          (outsAt0 m c (t.val - 1) h).2) := by
  rw [outsAt0_B m c t h0 h1]
  frame_out
  refine Prod.ext ?_ rfl
  exact congrArg (fun x => k0_pay3 (F := Ideal) (grid0.coords t) x (iblk m c 1 t) (iblk m c 2 t) (outsAt0 m c (t.val - 1) h).1 (iblk m c 3 t))
    (Memref.IsWhole.read_unread _ _)

/-- the last point adds its chunk and normalises. -/
theorem out_C (c : Dev nD) (t : Fin cfg0.N) (h0 : ¬t.val % 11 = 0) (h1 : t.val % 11 = 10) (h) :
    outsAt0 m c t.val t.isLt
      = (k0_pay4 (iblk m c 0 t)
          (k0_pay3 (grid0.coords t) (outsAt0 m c (t.val - 1) h).2 (iblk m c 1 t) (iblk m c 2 t) (outsAt0 m c (t.val - 1) h).1 (iblk m c 3 t))
          (iblk m c 4 t) (iblk m c 5 t), (outsAt0 m c (t.val - 1) h).2) := by
  rw [outsAt0_C m c t h0 h1]
  frame_out
  refine Prod.ext ?_ rfl
  exact congrArg (fun x => k0_pay4 (F := Ideal) (iblk m c 0 t)
      (k0_pay3 (grid0.coords t) x (iblk m c 1 t) (iblk m c 2 t) (outsAt0 m c (t.val - 1) h).1 (iblk m c 3 t)) (iblk m c 4 t) (iblk m c 5 t))
    (Memref.IsWhole.read_unread _ _)

/-- The layer's result at row `R`, column `d`. -/
def result (c : Dev nD) (R : Fin 8192) (d : Fin 2048) : EReal :=
  layer (Ideal.ofBits .f32 0x3F9837F0#32) (Ideal.ofBits .f32 0x3F000000#32) (Ideal.ofBits .f32 0x45000000#32) (Ideal.ofBits .f32 0x3727C5AC#32)
    (X m c R) (Wi m c) (Wo m c) (Ga m c) (Be m c) d

/-- The points in one row of the blocks: the copy stays the row, and the block's last point leaves the layer's result. -/
theorem fold (c : Dev nD) (r : Fin 512) (n : ℕ) (h : n < cfg0.N) (hn : n % 11 = 10) (d : Fin 2048) :
    (show FVec Ideal S512x2048 .f32 from (outsAt0 m c n h).1) (ix2 r d) = result m c (row (n / 11) r) d := by
  have hf := (RowFold.fold (S := 11) (J := 10) rfl (by decide)
    (fun n h => (fun d : Fin 2048 => (show FVec Ideal S512x2048 .f32 from (outsAt0 m c n h).1) (ix2 r d),
      fun k : Fin 2048 => (show FVec Ideal S512x2048 .bf16 from (outsAt0 m c n h).2) (ix2 r k)))
    (fun b => X m c (row b r)) (fun b j d => chunk 10 512 128 (units m c (row b r) d) j)
    (fun b v => layerNorm (Ideal.ofBits .f32 0x45000000#32) (Ideal.ofBits .f32 0x3727C5AC#32)
      (residual (Ideal.ofBits .f32 0x3F9837F0#32) (Ideal.ofBits .f32 0x3F000000#32) (X m c (row b r)) v) (Ga m c) (Be m c))
    (fun n h h0 => ?_) (fun n h h' h0 h1 hx => ?_) (fun n h h' h0 h1 hx => ?_) n h).2.2 hn
  · refine (congrFun hf d).trans ?_
    have e : ∀ k : Fin 2048, ∑ j ∈ Finset.range (10 + 1), chunk 10 512 128 (units m c (row (n / 11) r) k) j = swiglu (X m c (row (n / 11) r)) (Wi m c) (Wo m c) k :=
      fun k => sum_chunk 10 512 128 (by decide) (by decide) (by decide) _
    simp only [e]
    rfl
  · rw [out_A m c ⟨n, h⟩ h0 (show ¬n % 11 = 10 by omega)]
    have hx : ∀ k : Fin 2048, k0_pay1 (F := Ideal) (iblk m c 0 ⟨n, h⟩) (ix2 r k) = X m c (row (n / 11) r) k :=
      fun k => (pay1_at _ r k).trans (blk0 m c ⟨n, h⟩ r k)
    refine Prod.ext (funext fun d => ?_) (funext hx)
    refine (step_at m c ⟨n, h⟩ _ _ r d _ hx).trans ?_
    rw [pay2_at, zero_add]
    exact congrArg _ h0
  · rw [out_B m c ⟨n, h⟩ h0 h1 h']
    exact Prod.ext (funext fun d => step_at m c ⟨n, h⟩ _ _ r d _ (congrFun hx)) hx
  · rw [out_C m c ⟨n, h⟩ h0 h1 h']
    refine Prod.ext (funext fun d => ?_) hx
    refine pay4_at _ _ _ _ r d _ _ _ _ (fun k => blk0 m c ⟨n, h⟩ r k) (fun k => ?_) (fun k => blk4 m c ⟨n, h⟩ k) (fun k => blk5 m c ⟨n, h⟩ k)
    exact (step_at m c ⟨n, h⟩ _ _ r k _ (congrFun hx)).trans (congrArg (fun j => _ + chunk 10 512 128 _ j) h1)

/-- THE RESULT ARRAY after the run, element by element. -/
theorem final (c : Dev nD) : (dats m 0 c).arrAt 6 (cfgs 0).N
    = (show FVec Ideal S8192x2048 .f32 from fun i => result m c (i 0) (i 1)) := by
  refine (dats m 0 c).arrAt_eq_of_covers 6 _ (by decide +kernel) fun t hf y => ?_
  blk_simp
  rw [after0_6]
  have h1 := (flush0_6 t).mp hf
  idx_vars y
  have e0 : (((View.whole main_v8).slice (win0_6.rect t)).emb (ix2 y0 y1) 0 : Fin 8192) = row (t.val / 11) y0 :=
    Fin.ext ((emb6 t (ix2 y0 y1) 0).trans (by rw [row_val, (idx t).2.2.2.2.2.2.1]; simp))
  have e1 : (((View.whole main_v8).slice (win0_6.rect t)).emb (ix2 y0 y1) 1 : Fin 2048) = y1 :=
    Fin.ext ((emb6 t (ix2 y0 y1) 1).trans (by rw [(idx t).2.2.2.2.2.2.1]; simp))
  exact (fold m c y0 t.val t.isLt h1 y1).trans (congrArg₂ (result m c) e0.symm e1.symm)

end Cert.KernelIdeal.Hand

end
-- ==== Proof.FfnPromptRef.lean ====
/-
  What the reference of the prompt rows' feed-forward layer computes, read at an index: `Cert.FfnSpec`'s layer of the
  argument arrays.
-/
module

public import proofs.«01_k».proof.Proof.Gen.ReferenceIdeal.Read
public import proofs.«01_k».proof.Proof.FfnSpec
public import Idealize.ShloMosaic.Lib.Pointwise

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.ReferenceIdeal.Value Cert.ReferenceIdeal.Read Cert.FfnSpec

variable (x0 : FVec Ideal S8192x2048 .f32) (x1 : FVec Ideal S1x2048x11008 .f32) (x2 : FVec Ideal S1x5504x2048 .f32)
  (x3 x4 : FVec Ideal S1x2048 .f32)

/-- The gated feed-forward product. -/
theorem v9_at (R : Fin 8192) (d : Fin 2048) :
    val_main_v9 (F := Ideal) x0 x1 x2 (ix2 R d)
      = swiglu (fun k => x0 (ix2 R k)) (fun k (n : Fin (5504 + 5504)) => x1 (ix3 0 k ⟨n.val, n.isLt⟩)) (fun n d => x2 (ix3 0 n d)) d := by
  pointwise [val_main_v9, val_main_v8, val_main_v7, val_main_call0_v5, val_main_call0_v4, val_main_call0_cst_0, val_main_call0_v3,
    val_main_call0_v2, val_main_call0_cst, val_main_call0_v1, val_main_call0_v0, val_main_v6, val_main_v5, val_main_v4, val_main_v3, val_main_v2]
  rfl

/-- The residual sum. -/
theorem v12_at (R : Fin 8192) (d : Fin 2048) :
    val_main_v12 (F := Ideal) x0 x1 x2 (ix2 R d)
      = residual (Ideal.ofBits .f32 0x3F9837F0#32) (Ideal.ofBits .f32 0x3F000000#32) (fun k => x0 (ix2 R k))
          (swiglu (fun k => x0 (ix2 R k)) (fun k (n : Fin (5504 + 5504)) => x1 (ix3 0 k ⟨n.val, n.isLt⟩)) (fun n d => x2 (ix3 0 n d))) d := by
  pointwise [val_main_v12, val_main_v11, val_main_v10, val_main_v1, val_main_v0, val_main_cst, val_main_cst_0, v9_at]
  rfl

/-- The layer norm of any array of rows, as the reference takes it. -/
theorem out_at (R : Fin 8192) (d : Fin 2048) :
    val_main_v38 (F := Ideal) x0 x1 x2 x3 x4 (ix2 R d)
      = layer (Ideal.ofBits .f32 0x3F9837F0#32) (Ideal.ofBits .f32 0x3F000000#32) (Ideal.ofBits .f32 0x45000000#32) (Ideal.ofBits .f32 0x3727C5AC#32)
          (fun k => x0 (ix2 R k)) (fun k (n : Fin (5504 + 5504)) => x1 (ix3 0 k ⟨n.val, n.isLt⟩)) (fun n d => x2 (ix3 0 n d))
          (fun k => x3 (ix2 0 k)) (fun k => x4 (ix2 0 k)) d := by
  pointwise [val_main_v38, val_main_v37, val_main_v36, val_main_v35, val_main_v34, val_main_v33, val_main_v32, val_main_v31, val_main_v30,
    val_main_v29, val_main_v28, val_main_v27, val_main_v26, val_main_v25, val_main_v24, val_main_v23, val_main_v22, val_main_v21, val_main_v20,
    val_main_v19, val_main_v18, val_main_v17, val_main_v16, val_main_v15, val_main_v14, val_main_v13, val_main_cst_1, val_main_cst_2,
    val_main_cst_3, val_main_cst_4, val_main_cst_5, v12_at]
  rfl

end Cert.ReferenceIdeal.Hand

end
-- ==== Proof.FfnSample.lean ====
/-
  What one grid point of the sample rows' feed-forward kernel computes, read at an index: the three payloads of the body as
  `Cert.FfnSpec`'s functions, the blocks the windows bring in as parts of the argument arrays (the three weight windows are
  element-indexed: they start at the element their index map names), and what a point leaves in the output block and in the
  carried half-precision copy of the rows.
-/
module

public import proofs.«01_k».proof.Proof.Gen.Kernel2Ideal.Value
public import proofs.«01_k».proof.Proof.RowFold
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Hand

open Cert.Kernel2Ideal Cert.Kernel2Ideal.Gen Cert.FfnSpec

/-! ### The payloads at an index -/

/-- The copy of the rows the first point of a row block keeps: over the reals the rows themselves. -/
theorem pay1_at (x : FVec Ideal S256x2048 .f32) (r : Fin 256) (d : Fin 2048) : k0_pay1 (F := Ideal) x (ix2 r d) = x (ix2 r d) := by
  pointwise [k0_pay1]

/-- The zero fill. -/
theorem pay2_at (r : Fin 256) (d : Fin 2048) : k0_pay2 (F := Ideal) (ix2 r d) = 0 := by
  pointwise [k0_pay2]

/-- A chunk's accumulation: the block so far plus the chunk's masked hidden units times their outgoing weights. -/
theorem pay3_at (i : grid0.Coords) (x : FVec Ideal S256x2048 .bf16) (wg wu : FVec Ideal S2048x1408 .bf16) (acc : FVec Ideal S256x2048 .f32)
    (wo : FVec Ideal S1408x2048 .bf16) (r : Fin 256) (d : Fin 2048) (s : EReal)
    (hs : s = ∑ k : Fin 1408, if (i 1).val < 3 ∨ 128 ≤ (k : ℕ) then
        act (∑ c : Fin 2048, x (ix2 r c) * wg (ix2 c k)) (∑ c : Fin 2048, x (ix2 r c) * wu (ix2 c k)) * wo (ix2 k d) else 0) :
    k0_pay3 (F := Ideal) i x wg wu acc wo (ix2 r d) = acc (ix2 r d) + s := by
  have hi : (i 1).val < 4 := (i 1).isLt
  rw [hs]
  clear hs
  have e : ∀ k : Fin 1408, (if (i 1).val < 3 ∨ 128 ≤ (k : ℕ) then
        act (∑ c : Fin 2048, x (ix2 r c) * wg (ix2 c k)) (∑ c : Fin 2048, x (ix2 r c) * wu (ix2 c k)) * wo (ix2 k d) else 0) = _ :=
    fun k => (mask (i 1).val k 3 128 _ _ (by omega) (by omega) (by omega) (by omega)).symm
  rw [Finset.sum_congr rfl fun k _ => e k]
  pointwise [k0_pay3]
  rfl

/-- The last point's layer norm of the residual sum, over what its operands hold in the row. -/
theorem pay4_at (x acc : FVec Ideal S256x2048 .f32) (g b : FVec Ideal S1x2048 .f32) (r : Fin 256) (d : Fin 2048)
    (xv av gv bv : Fin 2048 → EReal) (hx : ∀ k : Fin 2048, x (ix2 r k) = xv k) (ha : ∀ k : Fin 2048, acc (ix2 r k) = av k)
    (hg : ∀ k : Fin 2048, g (ix2 0 k) = gv k) (hb : ∀ k : Fin 2048, b (ix2 0 k) = bv k) :
    k0_pay4 (F := Ideal) x acc g b (ix2 r d)
      = layerNorm (Ideal.ofBits .f32 0x45000000#32) (Ideal.ofBits .f32 0x3727C5AC#32)
          (residual (Ideal.ofBits .f32 0x3F9837F0#32) (Ideal.ofBits .f32 0x3F000000#32) xv av) gv bv d := by
  obtain rfl : (fun k => x (ix2 r k)) = xv := funext hx
  obtain rfl : (fun k => acc (ix2 r k)) = av := funext ha
  obtain rfl : (fun k => g (ix2 0 k)) = gv := funext hg
  obtain rfl : (fun k => b (ix2 0 k)) = bv := funext hb
  pointwise [k0_pay4]
  rfl

/-! ### The blocks -/

variable (m : (ℓ : Loc nD τ sig) → Buf (Elt Ideal) ℓ)

/-- The argument arrays, as functions of their coordinates: the rows, -/
def X (c : Dev nD) (R : Fin 256) (k : Fin 2048) : EReal := (show FVec Ideal S256x2048 .f32 from m ((c : Thread nD τ).loc main_arg0)) (ix2 R k)
/-- the incoming weights (gates, then values), -/
def Wi (c : Dev nD) (k : Fin 2048) (n : Fin (5504 + 5504)) : EReal :=
  (show FVec Ideal S1x2048x11008 .f32 from m ((c : Thread nD τ).loc main_arg1)) (ix3 0 k ⟨n.val, n.isLt⟩)
/-- the outgoing weights, -/
def Wo (c : Dev nD) (n : Fin 5504) (d : Fin 2048) : EReal :=
  (show FVec Ideal S1x5504x2048 .f32 from m ((c : Thread nD τ).loc main_arg2)) (ix3 0 n d)
/-- the norm's scale -/
def Ga (c : Dev nD) (d : Fin 2048) : EReal := (show FVec Ideal S1x2048 .f32 from m ((c : Thread nD τ).loc main_arg3)) (ix2 0 d)
/-- and shift. -/
def Be (c : Dev nD) (d : Fin 2048) : EReal := (show FVec Ideal S1x2048 .f32 from m ((c : Thread nD τ).loc main_arg4)) (ix2 0 d)

/-- The windows' index maps in closed form: point `t` is chunk `t % 4` of row block `t / 4`. -/
theorem idx : ∀ t : Fin cfg0.N, win0_0.index t = ![t.val / 4, 0]
    ∧ win0_1.index t = ![0, start 3 1408 5504 (t.val % 4)]
    ∧ win0_2.index t = ![0, 5504 + start 3 1408 5504 (t.val % 4)]
    ∧ win0_3.index t = ![start 3 1408 5504 (t.val % 4), 0]
    ∧ win0_4.index t = ![0, 0] ∧ win0_5.index t = ![0, 0] ∧ win0_6.index t = ![t.val / 4, 0]
    ∧ (grid0.coords t 1).val = t.val % 4 ∧ start 3 1408 5504 (t.val % 4) + 1408 ≤ 5504 :=
  (by decide +kernel : ∀ t : Fin grid0.N, _)

/-- Row `r` of row block `b` (there is one block, of 256). -/
def row (b : ℕ) (r : Fin 256) : Fin 256 := ⟨(b * 256 + r.val) % 256, Nat.mod_lt _ (by decide)⟩

theorem row_val (t : Fin cfg0.N) (r : Fin 256) : (row (t.val / 4) r).val = t.val / 4 * 256 + r.val := by
  have := lt_of_lt_of_eq t.isLt (show cfg0.N = 4 from N_0)
  exact Nat.mod_eq_of_lt (by omega)

theorem blk0 (c : Dev nD) (t : Fin cfg0.N) (r : Fin 256) (k : Fin 2048) :
    (show FVec Ideal S256x2048 .f32 from iblk m c 0 t) (ix2 r k) = X m c (row (t.val / 4) r) k := by
  unfold X
  have e := row_val t r
  generalize row (t.val / 4) r = R at e
  blk_point [iblk, V, idx t]

/-- Where an element of an element-indexed weight block sits: the map's value plus its place in the block. -/
theorem emb1 (t : Fin cfg0.N) (y : S2048x1408.Idx) (a : Fin 2) : (((win0_1.blk t).view.emb y) a : ℕ) = win0_1.index t a + (y a : ℕ) :=
  ValueKit.view_emb_slice_whole_unit_val main_v1 _ _ _ y a
theorem emb2 (t : Fin cfg0.N) (y : S2048x1408.Idx) (a : Fin 2) : (((win0_2.blk t).view.emb y) a : ℕ) = win0_2.index t a + (y a : ℕ) :=
  ValueKit.view_emb_slice_whole_unit_val main_v1 _ _ _ y a
theorem emb3 (t : Fin cfg0.N) (y : S1408x2048.Idx) (a : Fin 2) : (((win0_3.blk t).view.emb y) a : ℕ) = win0_3.index t a + (y a : ℕ) :=
  ValueKit.view_emb_slice_whole_unit_val main_v3 _ _ _ y a
/-- Where an element of the output block sits in the result array. -/
theorem emb6 (t : Fin cfg0.N) (y : S256x2048.Idx) (a : Fin 2) :
    ((((View.whole main_v8).slice (win0_6.rect t)).emb y) a : ℕ) = win0_6.index t a * win0_6.size a + (y a : ℕ) :=
  ValueKit.view_emb_slice_whole_unit_val main_v8 _ _ _ y a

theorem blk1 (c : Dev nD) (t : Fin cfg0.N) (k : Fin 2048) (n : Fin 1408) (N : Fin 5504) (hN : N.val = start 3 1408 5504 (t.val % 4) + n.val) :
    (show FVec Ideal S2048x1408 .bf16 from iblk m c 1 t) (ix2 k n) = Wi m c k (Fin.castAdd 5504 N) := by
  unfold Wi iblk
  blk_simp
  entry_read
  pointwise
  refine congrArg (m (c, Proc.tc.devRef main_arg1)) ?_
  refine (ix3_inj ..).2 ⟨rfl, Fin.ext ?_, Fin.ext ?_⟩
  · exact (emb1 t (ix2 k n) 0).trans (by rw [(idx t).2.1]; simp)
  · exact (emb1 t (ix2 k n) 1).trans (by rw [(idx t).2.1]; simp [hN])

theorem blk2 (c : Dev nD) (t : Fin cfg0.N) (k : Fin 2048) (n : Fin 1408) (N : Fin 5504) (hN : N.val = start 3 1408 5504 (t.val % 4) + n.val) :
    (show FVec Ideal S2048x1408 .bf16 from iblk m c 2 t) (ix2 k n) = Wi m c k (Fin.natAdd 5504 N) := by
  unfold Wi iblk
  blk_simp
  entry_read
  pointwise
  refine congrArg (m (c, Proc.tc.devRef main_arg1)) ?_
  refine (ix3_inj ..).2 ⟨rfl, Fin.ext ?_, Fin.ext ?_⟩
  · exact (emb2 t (ix2 k n) 0).trans (by rw [(idx t).2.2.1]; simp)
  · exact (emb2 t (ix2 k n) 1).trans (by rw [(idx t).2.2.1]; simp [hN]; omega)

theorem blk3 (c : Dev nD) (t : Fin cfg0.N) (n : Fin 1408) (d : Fin 2048) (N : Fin 5504) (hN : N.val = start 3 1408 5504 (t.val % 4) + n.val) :
    (show FVec Ideal S1408x2048 .bf16 from iblk m c 3 t) (ix2 n d) = Wo m c N d := by
  unfold Wo iblk
  blk_simp
  entry_read
  pointwise
  refine congrArg (m (c, Proc.tc.devRef main_arg2)) ?_
  refine (ix3_inj ..).2 ⟨rfl, Fin.ext ?_, Fin.ext ?_⟩
  · exact (emb3 t (ix2 n d) 0).trans (by rw [(idx t).2.2.2.1]; simp [hN])
  · exact (emb3 t (ix2 n d) 1).trans (by rw [(idx t).2.2.2.1]; simp)

theorem blk4 (c : Dev nD) (t : Fin cfg0.N) (d : Fin 2048) : (show FVec Ideal S1x2048 .f32 from iblk m c 4 t) (ix2 0 d) = Ga m c d := by
  unfold Ga
  blk_simp [iblk]
  entry_read
  pointwise
  blk_simp [idx t]
  blk_ext [idx t]

theorem blk5 (c : Dev nD) (t : Fin cfg0.N) (d : Fin 2048) : (show FVec Ideal S1x2048 .f32 from iblk m c 5 t) (ix2 0 d) = Be m c d := by
  unfold Be
  blk_point [iblk, V, idx t]

/-! ### What a point leaves -/

/-- The hidden units' contributions to column `d` of row `R`. -/
def units (c : Dev nD) (R : Fin 256) (d : Fin 2048) : Fin 5504 → EReal := unit (X m c R) (Wi m c) (Wo m c) d

/-- A chunk's accumulation at point `t`, over any half-precision copy `x` of the point's rows: chunk `t % 4` of the units. -/
theorem step_at (c : Dev nD) (t : Fin cfg0.N) (x : FVec Ideal S256x2048 .bf16) (acc : FVec Ideal S256x2048 .f32) (r : Fin 256) (d : Fin 2048)
    (R : Fin 256) (hx : ∀ k : Fin 2048, x (ix2 r k) = X m c R k) :
    k0_pay3 (F := Ideal) (grid0.coords t) x (iblk m c 1 t) (iblk m c 2 t) acc (iblk m c 3 t) (ix2 r d)
      = acc (ix2 r d) + chunk 3 1408 128 (units m c R d) (t.val % 4) := by
  have hs := (idx t).2.2.2.2.2.2.2.2
  refine pay3_at (grid0.coords t) x _ _ acc _ r d _ (Finset.sum_congr rfl fun k _ => ?_)
  rw [(idx t).2.2.2.2.2.2.2.1]
  refine if_congr Iff.rfl ?_ rfl
  have hk : start 3 1408 5504 (t.val % 4) + k.val < 5504 := by omega
  rw [ext_of_lt _ _ hk]
  unfold units unit
  refine congrArg₂ (· * ·) (congrArg₂ act ?_ ?_) ?_
  · refine Finset.sum_congr rfl fun j _ => ?_
    rw [hx]
    exact congrArg _ (blk1 m c t j k ⟨_, hk⟩ rfl).symm
  · refine Finset.sum_congr rfl fun j _ => ?_
    rw [hx]
    exact congrArg _ (blk2 m c t j k ⟨_, hk⟩ rfl).symm
  · exact (blk3 m c t k d ⟨_, hk⟩ rfl).symm

/-- The first point of a row block leaves the first chunk, and the copy of the rows; -/
theorem out_A (c : Dev nD) (t : Fin cfg0.N) (h0 : t.val % 4 = 0) (h1 : ¬t.val % 4 = 3) :
    outsAt0 m c t.val t.isLt
      = (k0_pay3 (grid0.coords t) (k0_pay1 (iblk m c 0 t)) (iblk m c 1 t) (iblk m c 2 t) (k0_pay2 (F := Ideal)) (iblk m c 3 t), k0_pay1 (iblk m c 0 t)) := by
  rw [outsAt0_A m c t h0 h1]
  frame_out

/-- a middle point adds its chunk and keeps the copy; -/
theorem out_B (c : Dev nD) (t : Fin cfg0.N) (h0 : ¬t.val % 4 = 0) (h1 : ¬t.val % 4 = 3) (h) :
    outsAt0 m c t.val t.isLt
      = (k0_pay3 (grid0.coords t) (outsAt0 m c (t.val - 1) h).2 (iblk m c 1 t) (iblk m c 2 t) (outsAt0 m c (t.val - 1) h).1 (iblk m c 3 t),
          (outsAt0 m c (t.val - 1) h).2) := by
  rw [outsAt0_B m c t h0 h1]
  frame_out
  refine Prod.ext ?_ rfl
  exact congrArg (fun x => k0_pay3 (F := Ideal) (grid0.coords t) x (iblk m c 1 t) (iblk m c 2 t) (outsAt0 m c (t.val - 1) h).1 (iblk m c 3 t))
    (Memref.IsWhole.read_unread _ _)

/-- the last point adds its chunk and normalises. -/
theorem out_C (c : Dev nD) (t : Fin cfg0.N) (h0 : ¬t.val % 4 = 0) (h1 : t.val % 4 = 3) (h) :
    outsAt0 m c t.val t.isLt
      = (k0_pay4 (iblk m c 0 t)
          (k0_pay3 (grid0.coords t) (outsAt0 m c (t.val - 1) h).2 (iblk m c 1 t) (iblk m c 2 t) (outsAt0 m c (t.val - 1) h).1 (iblk m c 3 t))
          (iblk m c 4 t) (iblk m c 5 t), (outsAt0 m c (t.val - 1) h).2) := by
  rw [outsAt0_C m c t h0 h1]
  frame_out
  refine Prod.ext ?_ rfl
  exact congrArg (fun x => k0_pay4 (F := Ideal) (iblk m c 0 t)
      (k0_pay3 (grid0.coords t) x (iblk m c 1 t) (iblk m c 2 t) (outsAt0 m c (t.val - 1) h).1 (iblk m c 3 t)) (iblk m c 4 t) (iblk m c 5 t))
    (Memref.IsWhole.read_unread _ _)

/-- The layer's result at row `R`, column `d`. -/
def result (c : Dev nD) (R : Fin 256) (d : Fin 2048) : EReal :=
  layer (Ideal.ofBits .f32 0x3F9837F0#32) (Ideal.ofBits .f32 0x3F000000#32) (Ideal.ofBits .f32 0x45000000#32) (Ideal.ofBits .f32 0x3727C5AC#32)
    (X m c R) (Wi m c) (Wo m c) (Ga m c) (Be m c) d

/-- The points in one row of the blocks: the copy stays the row, and the block's last point leaves the layer's result. -/
theorem fold (c : Dev nD) (r : Fin 256) (n : ℕ) (h : n < cfg0.N) (hn : n % 4 = 3) (d : Fin 2048) :
    (show FVec Ideal S256x2048 .f32 from (outsAt0 m c n h).1) (ix2 r d) = result m c (row (n / 4) r) d := by
  have hf := (RowFold.fold (S := 4) (J := 3) rfl (by decide)
    (fun n h => (fun d : Fin 2048 => (show FVec Ideal S256x2048 .f32 from (outsAt0 m c n h).1) (ix2 r d),
      fun k : Fin 2048 => (show FVec Ideal S256x2048 .bf16 from (outsAt0 m c n h).2) (ix2 r k)))
    (fun b => X m c (row b r)) (fun b j d => chunk 3 1408 128 (units m c (row b r) d) j)
    (fun b v => layerNorm (Ideal.ofBits .f32 0x45000000#32) (Ideal.ofBits .f32 0x3727C5AC#32)
      (residual (Ideal.ofBits .f32 0x3F9837F0#32) (Ideal.ofBits .f32 0x3F000000#32) (X m c (row b r)) v) (Ga m c) (Be m c))
    (fun n h h0 => ?_) (fun n h h' h0 h1 hx => ?_) (fun n h h' h0 h1 hx => ?_) n h).2.2 hn
  · refine (congrFun hf d).trans ?_
    have e : ∀ k : Fin 2048, ∑ j ∈ Finset.range (3 + 1), chunk 3 1408 128 (units m c (row (n / 4) r) k) j = swiglu (X m c (row (n / 4) r)) (Wi m c) (Wo m c) k :=
      fun k => sum_chunk 3 1408 128 (by decide) (by decide) (by decide) _
    simp only [e]
    rfl
  · rw [out_A m c ⟨n, h⟩ h0 (show ¬n % 4 = 3 by omega)]
    have hx : ∀ k : Fin 2048, k0_pay1 (F := Ideal) (iblk m c 0 ⟨n, h⟩) (ix2 r k) = X m c (row (n / 4) r) k :=
      fun k => (pay1_at _ r k).trans (blk0 m c ⟨n, h⟩ r k)
    refine Prod.ext (funext fun d => ?_) (funext hx)
    refine (step_at m c ⟨n, h⟩ _ _ r d _ hx).trans ?_
    rw [pay2_at, zero_add]
    exact congrArg _ h0
  · rw [out_B m c ⟨n, h⟩ h0 h1 h']
    exact Prod.ext (funext fun d => step_at m c ⟨n, h⟩ _ _ r d _ (congrFun hx)) hx
  · rw [out_C m c ⟨n, h⟩ h0 h1 h']
    refine Prod.ext (funext fun d => ?_) hx
    refine pay4_at _ _ _ _ r d _ _ _ _ (fun k => blk0 m c ⟨n, h⟩ r k) (fun k => ?_) (fun k => blk4 m c ⟨n, h⟩ k) (fun k => blk5 m c ⟨n, h⟩ k)
    exact (step_at m c ⟨n, h⟩ _ _ r k _ (congrFun hx)).trans (congrArg (fun j => _ + chunk 3 1408 128 _ j) h1)

/-- THE RESULT ARRAY after the run, element by element. -/
theorem final (c : Dev nD) : (dats m 0 c).arrAt 6 (cfgs 0).N
    = (show FVec Ideal S256x2048 .f32 from fun i => result m c (i 0) (i 1)) := by
  refine (dats m 0 c).arrAt_eq_of_covers 6 _ (by decide +kernel) fun t hf y => ?_
  blk_simp
  rw [after0_6]
  have h1 := (flush0_6 t).mp hf
  idx_vars y
  have e0 : (((View.whole main_v8).slice (win0_6.rect t)).emb (ix2 y0 y1) 0 : Fin 256) = row (t.val / 4) y0 :=
    Fin.ext ((emb6 t (ix2 y0 y1) 0).trans (by rw [row_val, (idx t).2.2.2.2.2.2.1]; simp))
  have e1 : (((View.whole main_v8).slice (win0_6.rect t)).emb (ix2 y0 y1) 1 : Fin 2048) = y1 :=
    Fin.ext ((emb6 t (ix2 y0 y1) 1).trans (by rw [(idx t).2.2.2.2.2.2.1]; simp))
  exact (fold m c y0 t.val t.isLt h1 y1).trans (congrArg₂ (result m c) e0.symm e1.symm)

end Cert.Kernel2Ideal.Hand

end
-- ==== Proof.FfnSampleRef.lean ====
/-
  What the reference of the sample rows' feed-forward layer computes, read at an index: `Cert.FfnSpec`'s layer of the
  argument arrays.
-/
module

public import proofs.«01_k».proof.Proof.Gen.Reference2Ideal.Read
public import proofs.«01_k».proof.Proof.FfnSpec
public import Idealize.ShloMosaic.Lib.Pointwise

@[expose] public section

set_option maxRecDepth 16384

noncomputable section

open Idealize.ShloMosaic Idealize.ShloMosaic.TcCoe Idealize.SL.Sem

namespace Cert.Reference2Ideal.Hand

open Cert.Reference2Ideal Cert.Reference2Ideal.Gen Cert.Reference2Ideal.Value Cert.Reference2Ideal.Read Cert.FfnSpec

variable (x0 : FVec Ideal S256x2048 .f32) (x1 : FVec Ideal S1x2048x11008 .f32) (x2 : FVec Ideal S1x5504x2048 .f32)
  (x3 x4 : FVec Ideal S1x2048 .f32)

/-- The gated feed-forward product. -/
theorem v9_at (R : Fin 256) (d : Fin 2048) :
    val_main_v9 (F := Ideal) x0 x1 x2 (ix2 R d)
      = swiglu (fun k => x0 (ix2 R k)) (fun k (n : Fin (5504 + 5504)) => x1 (ix3 0 k ⟨n.val, n.isLt⟩)) (fun n d => x2 (ix3 0 n d)) d := by
  pointwise [val_main_v9, val_main_v8, val_main_v7, val_main_call0_v5, val_main_call0_v4, val_main_call0_cst_0, val_main_call0_v3,
    val_main_call0_v2, val_main_call0_cst, val_main_call0_v1, val_main_call0_v0, val_main_v6, val_main_v5, val_main_v4, val_main_v3, val_main_v2]
  rfl

/-- The residual sum. -/
theorem v12_at (R : Fin 256) (d : Fin 2048) :
    val_main_v12 (F := Ideal) x0 x1 x2 (ix2 R d)
      = residual (Ideal.ofBits .f32 0x3F9837F0#32) (Ideal.ofBits .f32 0x3F000000#32) (fun k => x0 (ix2 R k))
          (swiglu (fun k => x0 (ix2 R k)) (fun k (n : Fin (5504 + 5504)) => x1 (ix3 0 k ⟨n.val, n.isLt⟩)) (fun n d => x2 (ix3 0 n d))) d := by
  pointwise [val_main_v12, val_main_v11, val_main_v10, val_main_v1, val_main_v0, val_main_cst, val_main_cst_0, v9_at]
  rfl

/-- The layer norm of any array of rows, as the reference takes it. -/
theorem out_at (R : Fin 256) (d : Fin 2048) :
    val_main_v38 (F := Ideal) x0 x1 x2 x3 x4 (ix2 R d)
      = layer (Ideal.ofBits .f32 0x3F9837F0#32) (Ideal.ofBits .f32 0x3F000000#32) (Ideal.ofBits .f32 0x45000000#32) (Ideal.ofBits .f32 0x3727C5AC#32)
          (fun k => x0 (ix2 R k)) (fun k (n : Fin (5504 + 5504)) => x1 (ix3 0 k ⟨n.val, n.isLt⟩)) (fun n d => x2 (ix3 0 n d))
          (fun k => x3 (ix2 0 k)) (fun k => x4 (ix2 0 k)) d := by
  pointwise [val_main_v38, val_main_v37, val_main_v36, val_main_v35, val_main_v34, val_main_v33, val_main_v32, val_main_v31, val_main_v30,
    val_main_v29, val_main_v28, val_main_v27, val_main_v26, val_main_v25, val_main_v24, val_main_v23, val_main_v22, val_main_v21, val_main_v20,
    val_main_v19, val_main_v18, val_main_v17, val_main_v16, val_main_v15, val_main_v14, val_main_v13, val_main_cst_1, val_main_cst_2,
    val_main_cst_3, val_main_cst_4, val_main_cst_5, v12_at]
  rfl

end Cert.Reference2Ideal.Hand

end
-- ==== Proof.MergeSpec.lean ====
/-
  The mathematics of the gated merge of the two attention branches with its residual and layer norm, over the extended reals.
-/
module

public import proofs.«01_k».proof.Proof.FfnSpec

@[expose] public section

noncomputable section

namespace Cert.MergeSpec

open Idealize.ShloMosaic Cert.FfnSpec
open scoped BigOperators

/-- A gate of one merged column: the logistic of the row's product with the gate's weights, plus its bias. -/
def gate {K N : ℕ} (h : Fin K → EReal) (w : Fin K → Fin N → EReal) (b : Fin N → EReal) (n : Fin N) : EReal :=
  Ideal.logistic (∑ c, h c * w c n + b n)

/-- A branch's output projected to one merged column. -/
def branch {J N : ℕ} (o : Fin J → EReal) (w : Fin J → Fin N → EReal) (n : Fin N) : EReal := ∑ c, o c * w c n

/-- One merged column: the two branches' projections, each times its gate. -/
def merged {K J N : ℕ} (h : Fin K → EReal) (osb omla : Fin J → EReal) (wgs wgm : Fin K → Fin N → EReal) (bgs bgm : Fin N → EReal)
    (wbs wbm : Fin J → Fin N → EReal) (n : Fin N) : EReal :=
  gate h wgs bgs n * branch osb wbs n + gate h wgm bgm n * branch omla wbm n

/-- The residual sum the layer normalises: `α · h + y`. -/
def residual {D : ℕ} (α : EReal) (h y : Fin D → EReal) (d : Fin D) : EReal := α * h d + y d

/-- The merge on one row: the merged columns through the output weights, the residual, the layer norm. -/
def layer {D J N : ℕ} (α len eps : EReal) (h : Fin D → EReal) (osb omla : Fin J → EReal) (wgs wgm : Fin D → Fin N → EReal)
    (bgs bgm : Fin N → EReal) (wbs wbm : Fin J → Fin N → EReal) (wo : Fin N → Fin D → EReal) (g b : Fin D → EReal) (d : Fin D) : EReal :=
  layerNorm len eps (residual α h fun d => ∑ n, merged h osb omla wgs wgm bgs bgm wbs wbm n * wo n d) g b d

end Cert.MergeSpec

end
-- ==== Proof.MergePrompt.lean ====
/-
  What the gated merge of the prompt rows computes: the payloads of the body read at an index as `Cert.MergeSpec`'s functions,
  the blocks the windows bring in as parts of the argument arrays (the two gate windows are element-indexed: they start at the
  row of the transposed input weights their index maps name), what a point leaves in the output block and in the carried copy
  of the rows, and the result array after the run.
-/
module

public import proofs.«01_k».proof.Proof.Gen.Kernel3Ideal.Value
public import proofs.«01_k».proof.Proof.RowFold
public import proofs.«01_k».proof.Proof.MergeSpec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Hand

open Cert.Kernel3Ideal Cert.Kernel3Ideal.Gen Cert.MergeSpec

/-! ### The payloads at an index -/

/-- The copy of the rows the first point of a row block keeps: over the reals the rows themselves. -/
theorem pay3_at (x : FVec Ideal S512x2048 .f32) (r : Fin 512) (d : Fin 2048) : k0_pay3 (F := Ideal) x (ix2 r d) = x (ix2 r d) := by
  pointwise [k0_pay3]

/-- The zero fill. -/
theorem pay4_at (r : Fin 512) (d : Fin 2048) : k0_pay4 (F := Ideal) (ix2 r d) = 0 := by
  pointwise [k0_pay4]

/-- A chunk of merged columns. -/
theorem pay5_at (x : FVec Ideal S512x2048 .bf16) (wgs : FVec Ideal S512x2048 .bf16) (bgs : FVec Ideal S1x512 .f32)
    (wgm : FVec Ideal S512x2048 .bf16) (bgm : FVec Ideal S1x512 .f32) (osb : FVec Ideal S512x1024 .bf16) (wbs : FVec Ideal S1024x512 .bf16)
    (omla : FVec Ideal S512x1024 .bf16) (wbm : FVec Ideal S1024x512 .bf16) (r : Fin 512) (n : Fin 512) :
    k0_pay5 (F := Ideal) x wgs bgs wgm bgm osb wbs omla wbm (ix2 r n)
      = merged (fun c : Fin 2048 => x (ix2 r c)) (fun c : Fin 1024 => osb (ix2 r c)) (fun c => omla (ix2 r c))
          (fun c n => wgs (ix2 n c)) (fun c n => wgm (ix2 n c)) (fun n => bgs (ix2 0 n)) (fun n => bgm (ix2 0 n))
          (fun c n => wbs (ix2 c n)) (fun c n => wbm (ix2 c n)) n := by
  pointwise [k0_pay5]
  rfl

/-- A chunk's accumulation: the block so far plus the chunk's merged columns times their output weights. -/
theorem pay1_at (v : FVec Ideal S512x512 .f32) (acc : FVec Ideal S512x2048 .f32) (wo : FVec Ideal S512x2048 .bf16) (r : Fin 512)
    (d : Fin 2048) : k0_pay1 (F := Ideal) v acc wo (ix2 r d) = acc (ix2 r d) + ∑ n : Fin 512, v (ix2 r n) * wo (ix2 n d) := by
  pointwise [k0_pay1]

/-- The last point's layer norm of the residual sum, over what its operands hold in the row. -/
theorem pay2_at (x acc : FVec Ideal S512x2048 .f32) (g b : FVec Ideal S1x2048 .f32) (r : Fin 512) (d : Fin 2048)
    (xv av gv bv : Fin 2048 → EReal) (hx : ∀ k : Fin 2048, x (ix2 r k) = xv k) (ha : ∀ k : Fin 2048, acc (ix2 r k) = av k)
    (hg : ∀ k : Fin 2048, g (ix2 0 k) = gv k) (hb : ∀ k : Fin 2048, b (ix2 0 k) = bv k) :
    k0_pay2 (F := Ideal) x acc g b (ix2 r d)
      = FfnSpec.layerNorm (Ideal.ofBits .f32 0x45000000#32) (Ideal.ofBits .f32 0x3727C5AC#32)
          (residual (Ideal.ofBits .f32 0x3F9837F0#32) xv av) gv bv d := by
  obtain rfl : (fun k => x (ix2 r k)) = xv := funext hx
  obtain rfl : (fun k => acc (ix2 r k)) = av := funext ha
  obtain rfl : (fun k => g (ix2 0 k)) = gv := funext hg
  obtain rfl : (fun k => b (ix2 0 k)) = bv := funext hb
  pointwise [k0_pay2]
  rfl

/-! ### The blocks -/

variable (m : (ℓ : Loc nD τ sig) → Buf (Elt Ideal) ℓ)

/-- The argument arrays, as functions of their coordinates: the rows, -/
def H (c : Dev nD) (R : Fin 8192) (k : Fin 2048) : EReal := (show FVec Ideal S8192x2048 .f32 from m ((c : Thread nD τ).loc main_arg0)) (ix2 R k)
/-- the two branches' outputs, -/
def Os (c : Dev nD) (R : Fin 8192) (k : Fin 1024) : EReal := (show FVec Ideal S8192x1024 .bf16 from m ((c : Thread nD τ).loc main_arg1)) (ix2 R k)
def Om (c : Dev nD) (R : Fin 8192) (k : Fin 1024) : EReal := (show FVec Ideal S8192x1024 .bf16 from m ((c : Thread nD τ).loc main_arg2)) (ix2 R k)
/-- the two gates' columns of the input weights, -/
def Gs (c : Dev nD) (k n : Fin 2048) : EReal :=
  (show FVec Ideal S1x2048x8256 .f32 from m ((c : Thread nD τ).loc main_arg3)) (ix3 0 k ⟨4160 + n.val, by omega⟩)
def Gm (c : Dev nD) (k n : Fin 2048) : EReal :=
  (show FVec Ideal S1x2048x8256 .f32 from m ((c : Thread nD τ).loc main_arg3)) (ix3 0 k ⟨6208 + n.val, by omega⟩)
/-- the gates' biases, -/
def Bs (c : Dev nD) (n : Fin 2048) : EReal := (show FVec Ideal S1x4096 .f32 from m ((c : Thread nD τ).loc main_arg4)) (ix2 0 ⟨n.val, by omega⟩)
def Bm (c : Dev nD) (n : Fin 2048) : EReal :=
  (show FVec Ideal S1x4096 .f32 from m ((c : Thread nD τ).loc main_arg4)) (ix2 0 ⟨2048 + n.val, by omega⟩)
/-- the branches' weights, -/
def Ws (c : Dev nD) (k : Fin 1024) (n : Fin 2048) : EReal :=
  (show FVec Ideal S1x1024x2048 .f32 from m ((c : Thread nD τ).loc main_arg5)) (ix3 0 k n)
def Wm (c : Dev nD) (k : Fin 1024) (n : Fin 2048) : EReal :=
  (show FVec Ideal S1x1024x2048 .f32 from m ((c : Thread nD τ).loc main_arg6)) (ix3 0 k n)
/-- the output weights, -/
def Wo (c : Dev nD) (n d : Fin 2048) : EReal := (show FVec Ideal S1x2048x2048 .f32 from m ((c : Thread nD τ).loc main_arg7)) (ix3 0 n d)
/-- the norm's scale -/
def Ga (c : Dev nD) (d : Fin 2048) : EReal := (show FVec Ideal S1x2048 .f32 from m ((c : Thread nD τ).loc main_arg8)) (ix2 0 d)
/-- and shift. -/
def Be (c : Dev nD) (d : Fin 2048) : EReal := (show FVec Ideal S1x2048 .f32 from m ((c : Thread nD τ).loc main_arg9)) (ix2 0 d)

/-- The windows' index maps in closed form: point `t` is chunk `t % 4` of row block `t / 4`. -/
theorem idx : ∀ t : Fin cfg0.N, win0_0.index t = ![t.val / 4, 0] ∧ win0_1.index t = ![t.val / 4, 0] ∧ win0_2.index t = ![t.val / 4, 0]
    ∧ win0_3.index t = ![4160 + 512 * (t.val % 4), 0] ∧ win0_4.index t = ![6208 + 512 * (t.val % 4), 0]
    ∧ win0_5.index t = ![0, t.val % 4] ∧ win0_6.index t = ![0, t.val % 4] ∧ win0_7.index t = ![0, t.val % 4]
    ∧ win0_8.index t = ![0, t.val % 4] ∧ win0_9.index t = ![t.val % 4, 0]
    ∧ win0_10.index t = ![0, 0] ∧ win0_11.index t = ![0, 0] ∧ win0_12.index t = ![t.val / 4, 0] :=
  (by decide +kernel : ∀ t : Fin grid0.N, _)

/-- Row `r` of row block `b`. -/
def row (b : ℕ) (r : Fin 512) : Fin 8192 := ⟨(b * 512 + r.val) % 8192, Nat.mod_lt _ (by decide)⟩

theorem row_val (t : Fin cfg0.N) (r : Fin 512) : (row (t.val / 4) r).val = t.val / 4 * 512 + r.val := by
  have := lt_of_lt_of_eq t.isLt (show cfg0.N = 64 from N_0)
  exact Nat.mod_eq_of_lt (by omega)

theorem blk0 (c : Dev nD) (t : Fin cfg0.N) (r : Fin 512) (k : Fin 2048) :
    (show FVec Ideal S512x2048 .f32 from iblk m c 0 t) (ix2 r k) = H m c (row (t.val / 4) r) k := by
  unfold H
  have e := row_val t r
  generalize row (t.val / 4) r = R at e
  blk_point [iblk, V, idx t]

theorem blk1 (c : Dev nD) (t : Fin cfg0.N) (r : Fin 512) (k : Fin 1024) :
    (show FVec Ideal S512x1024 .bf16 from iblk m c 1 t) (ix2 r k) = Os m c (row (t.val / 4) r) k := by
  unfold Os
  have e := row_val t r
  generalize row (t.val / 4) r = R at e
  blk_point [iblk, V, idx t]

theorem blk2 (c : Dev nD) (t : Fin cfg0.N) (r : Fin 512) (k : Fin 1024) :
    (show FVec Ideal S512x1024 .bf16 from iblk m c 2 t) (ix2 r k) = Om m c (row (t.val / 4) r) k := by
  unfold Om
  have e := row_val t r
  generalize row (t.val / 4) r = R at e
  blk_point [iblk, V, idx t]

/-- Where an element of an element-indexed gate block sits: the map's value plus its place in the block. -/
theorem emb3 (t : Fin cfg0.N) (y : S512x2048.Idx) (a : Fin 2) : (((win0_3.blk t).view.emb y) a : ℕ) = win0_3.index t a + (y a : ℕ) :=
  ValueKit.view_emb_slice_whole_unit_val main_v12 _ _ _ y a
theorem emb4 (t : Fin cfg0.N) (y : S512x2048.Idx) (a : Fin 2) : (((win0_4.blk t).view.emb y) a : ℕ) = win0_4.index t a + (y a : ℕ) :=
  ValueKit.view_emb_slice_whole_unit_val main_v12 _ _ _ y a
/-- Where an element of the output block sits in the result array. -/
theorem emb12 (t : Fin cfg0.N) (y : S512x2048.Idx) (a : Fin 2) :
    ((((View.whole main_v19).slice (win0_12.rect t)).emb y) a : ℕ) = win0_12.index t a * win0_12.size a + (y a : ℕ) :=
  ValueKit.view_emb_slice_whole_unit_val main_v19 _ _ _ y a

theorem blk3 (c : Dev nD) (t : Fin cfg0.N) (n : Fin 512) (k N : Fin 2048) (hN : N.val = 512 * (t.val % 4) + n.val) :
    (show FVec Ideal S512x2048 .bf16 from iblk m c 3 t) (ix2 n k) = Gs m c k N := by
  unfold Gs iblk
  blk_simp
  entry_read
  pointwise
  refine congrArg (m (c, Proc.tc.devRef main_arg3)) ?_
  refine (ix3_inj ..).2 ⟨rfl, Fin.ext ?_, Fin.ext ?_⟩
  · exact (emb3 t (ix2 n k) 1).trans (by rw [(idx t).2.2.2.1]; simp)
  · exact (emb3 t (ix2 n k) 0).trans (by rw [(idx t).2.2.2.1]; simp [hN]; omega)

theorem blk4 (c : Dev nD) (t : Fin cfg0.N) (n : Fin 512) (k N : Fin 2048) (hN : N.val = 512 * (t.val % 4) + n.val) :
    (show FVec Ideal S512x2048 .bf16 from iblk m c 4 t) (ix2 n k) = Gm m c k N := by
  unfold Gm iblk
  blk_simp
  entry_read
  pointwise
  refine congrArg (m (c, Proc.tc.devRef main_arg3)) ?_
  refine (ix3_inj ..).2 ⟨rfl, Fin.ext ?_, Fin.ext ?_⟩
  · exact (emb4 t (ix2 n k) 1).trans (by rw [(idx t).2.2.2.2.1]; simp)
  · exact (emb4 t (ix2 n k) 0).trans (by rw [(idx t).2.2.2.2.1]; simp [hN]; omega)

theorem blk5 (c : Dev nD) (t : Fin cfg0.N) (n : Fin 512) (N : Fin 2048) (hN : N.val = 512 * (t.val % 4) + n.val) :
    (show FVec Ideal S1x512 .f32 from iblk m c 5 t) (ix2 0 n) = Bs m c N := by
  unfold Bs
  blk_simp [iblk]
  entry_read
  pointwise
  blk_simp [idx t]
  blk_ext [idx t, hN]

theorem blk6 (c : Dev nD) (t : Fin cfg0.N) (n : Fin 512) (N : Fin 2048) (hN : N.val = 512 * (t.val % 4) + n.val) :
    (show FVec Ideal S1x512 .f32 from iblk m c 6 t) (ix2 0 n) = Bm m c N := by
  unfold Bm
  blk_simp [iblk]
  entry_read
  pointwise
  blk_simp [idx t]
  blk_ext [idx t, hN]

theorem blk7 (c : Dev nD) (t : Fin cfg0.N) (k : Fin 1024) (n : Fin 512) (N : Fin 2048) (hN : N.val = 512 * (t.val % 4) + n.val) :
    (show FVec Ideal S1024x512 .bf16 from iblk m c 7 t) (ix2 k n) = Ws m c k N := by
  unfold Ws
  blk_simp [iblk]
  entry_read
  pointwise
  blk_simp [idx t]
  blk_ext [idx t, hN]

theorem blk8 (c : Dev nD) (t : Fin cfg0.N) (k : Fin 1024) (n : Fin 512) (N : Fin 2048) (hN : N.val = 512 * (t.val % 4) + n.val) :
    (show FVec Ideal S1024x512 .bf16 from iblk m c 8 t) (ix2 k n) = Wm m c k N := by
  unfold Wm
  blk_simp [iblk]
  entry_read
  pointwise
  blk_simp [idx t]
  blk_ext [idx t, hN]

theorem blk9 (c : Dev nD) (t : Fin cfg0.N) (n : Fin 512) (d N : Fin 2048) (hN : N.val = 512 * (t.val % 4) + n.val) :
    (show FVec Ideal S512x2048 .bf16 from iblk m c 9 t) (ix2 n d) = Wo m c N d := by
  unfold Wo
  blk_simp [iblk]
  entry_read
  pointwise
  blk_simp [idx t]
  blk_ext [idx t, hN]

theorem blk10 (c : Dev nD) (t : Fin cfg0.N) (d : Fin 2048) : (show FVec Ideal S1x2048 .f32 from iblk m c 10 t) (ix2 0 d) = Ga m c d := by
  unfold Ga
  blk_simp [iblk]
  entry_read
  pointwise
  blk_simp [idx t]
  blk_ext [idx t]

theorem blk11 (c : Dev nD) (t : Fin cfg0.N) (d : Fin 2048) : (show FVec Ideal S1x2048 .f32 from iblk m c 11 t) (ix2 0 d) = Be m c d := by
  unfold Be
  blk_simp [iblk]
  entry_read
  pointwise
  blk_simp [idx t]
  blk_ext [idx t]

/-! ### What a point leaves -/

/-- A merged column's contribution to column `d` of row `R`. -/
def units (c : Dev nD) (R : Fin 8192) (d n : Fin 2048) : EReal :=
  merged (H m c R) (Os m c R) (Om m c R) (Gs m c) (Gm m c) (Bs m c) (Bm m c) (Ws m c) (Wm m c) n * Wo m c n d

/-- The accumulation of point `t`, over a copy `x` of the rows. -/
def step (c : Dev nD) (t : Fin cfg0.N) (x : FVec Ideal S512x2048 .bf16) (acc : FVec Ideal S512x2048 .f32) : FVec Ideal S512x2048 .f32 :=
  k0_pay1 (F := Ideal) (k0_pay5 x (iblk m c 3 t) (iblk m c 5 t) (iblk m c 4 t) (iblk m c 6 t) (iblk m c 1 t) (iblk m c 7 t) (iblk m c 2 t)
    (iblk m c 8 t)) acc (iblk m c 9 t)

/-- It adds chunk `t % 4` of the merged columns. -/
theorem step_at (c : Dev nD) (t : Fin cfg0.N) (x : FVec Ideal S512x2048 .bf16) (acc : FVec Ideal S512x2048 .f32) (r : Fin 512) (d : Fin 2048)
    (hx : ∀ k : Fin 2048, x (ix2 r k) = H m c (row (t.val / 4) r) k) :
    step m c t x acc (ix2 r d) = acc (ix2 r d) + RowFold.block 512 (units m c (row (t.val / 4) r) d) (t.val % 4) := by
  refine (pay1_at _ acc _ r d).trans (congrArg _ (Finset.sum_congr rfl fun k _ => ?_))
  have hk : 512 * (t.val % 4) + k.val < 2048 := by omega
  rw [FfnSpec.ext_of_lt _ _ hk]
  refine congrArg₂ (· * ·) ((pay5_at _ _ _ _ _ _ _ _ _ r k).trans ?_) (blk9 m c t k d ⟨_, hk⟩ rfl)
  refine congrArg₂ (· + ·) (congrArg₂ (· * ·) ?_ ?_) (congrArg₂ (· * ·) ?_ ?_)
  · refine congrArg Ideal.logistic (congrArg₂ (· + ·) (Finset.sum_congr rfl fun j _ => ?_) (blk5 m c t k ⟨_, hk⟩ rfl))
    exact congrArg₂ (· * ·) (hx j) (blk3 m c t k j ⟨_, hk⟩ rfl)
  · exact Finset.sum_congr rfl fun j _ => congrArg₂ (· * ·) (blk1 m c t r j) (blk7 m c t j k ⟨_, hk⟩ rfl)
  · refine congrArg Ideal.logistic (congrArg₂ (· + ·) (Finset.sum_congr rfl fun j _ => ?_) (blk6 m c t k ⟨_, hk⟩ rfl))
    exact congrArg₂ (· * ·) (hx j) (blk4 m c t k j ⟨_, hk⟩ rfl)
  · exact Finset.sum_congr rfl fun j _ => congrArg₂ (· * ·) (blk2 m c t r j) (blk8 m c t j k ⟨_, hk⟩ rfl)

/-- The first point of a row block leaves the first chunk, and the copy of the rows; -/
theorem out_A (c : Dev nD) (t : Fin cfg0.N) (h0 : t.val % 4 = 0) (h1 : ¬t.val % 4 = 3) :
    outsAt0 m c t.val t.isLt = (step m c t (k0_pay3 (iblk m c 0 t)) (k0_pay4 (F := Ideal)), k0_pay3 (iblk m c 0 t)) := by
  rw [outsAt0_A m c t h0 h1]
  unfold step
  frame_out

/-- a middle point adds its chunk and keeps the copy; -/
theorem out_B (c : Dev nD) (t : Fin cfg0.N) (h0 : ¬t.val % 4 = 0) (h1 : ¬t.val % 4 = 3) (h) :
    outsAt0 m c t.val t.isLt = (step m c t (outsAt0 m c (t.val - 1) h).2 (outsAt0 m c (t.val - 1) h).1, (outsAt0 m c (t.val - 1) h).2) := by
  rw [outsAt0_B m c t h0 h1]
  unfold step
  frame_out
  refine Prod.ext ?_ rfl
  exact congrArg (fun x => step m c t x (outsAt0 m c (t.val - 1) h).1) (Memref.IsWhole.read_unread _ _)

/-- the last point adds its chunk and normalises. -/
theorem out_C (c : Dev nD) (t : Fin cfg0.N) (h0 : ¬t.val % 4 = 0) (h1 : t.val % 4 = 3) (h) :
    outsAt0 m c t.val t.isLt
      = (k0_pay2 (iblk m c 0 t) (step m c t (outsAt0 m c (t.val - 1) h).2 (outsAt0 m c (t.val - 1) h).1) (iblk m c 10 t) (iblk m c 11 t),
          (outsAt0 m c (t.val - 1) h).2) := by
  rw [outsAt0_C m c t h0 h1]
  unfold step
  frame_out
  refine Prod.ext ?_ rfl
  exact congrArg (fun x => k0_pay2 (F := Ideal) (iblk m c 0 t) (step m c t x (outsAt0 m c (t.val - 1) h).1) (iblk m c 10 t) (iblk m c 11 t))
    (Memref.IsWhole.read_unread _ _)

/-- The merge's result at row `R`, column `d`. -/
def result (c : Dev nD) (R : Fin 8192) (d : Fin 2048) : EReal :=
  layer (Ideal.ofBits .f32 0x3F9837F0#32) (Ideal.ofBits .f32 0x45000000#32) (Ideal.ofBits .f32 0x3727C5AC#32)
    (H m c R) (Os m c R) (Om m c R) (Gs m c) (Gm m c) (Bs m c) (Bm m c) (Ws m c) (Wm m c) (Wo m c) (Ga m c) (Be m c) d

/-- The points in one row of the blocks: the copy stays the row, and the block's last point leaves the merge's result. -/
theorem fold (c : Dev nD) (r : Fin 512) (n : ℕ) (h : n < cfg0.N) (hn : n % 4 = 3) (d : Fin 2048) :
    (show FVec Ideal S512x2048 .f32 from (outsAt0 m c n h).1) (ix2 r d) = result m c (row (n / 4) r) d := by
  have hf := (RowFold.fold (S := 4) (J := 3) rfl (by decide)
    (fun n h => (fun d : Fin 2048 => (show FVec Ideal S512x2048 .f32 from (outsAt0 m c n h).1) (ix2 r d),
      fun k : Fin 2048 => (show FVec Ideal S512x2048 .bf16 from (outsAt0 m c n h).2) (ix2 r k)))
    (fun b => H m c (row b r)) (fun b j d => RowFold.block 512 (units m c (row b r) d) j)
    (fun b v => FfnSpec.layerNorm (Ideal.ofBits .f32 0x45000000#32) (Ideal.ofBits .f32 0x3727C5AC#32)
      (residual (Ideal.ofBits .f32 0x3F9837F0#32) (H m c (row b r)) v) (Ga m c) (Be m c))
    (fun n h h0 => ?_) (fun n h h' h0 h1 hx => ?_) (fun n h h' h0 h1 hx => ?_) n h).2.2 hn
  · refine (congrFun hf d).trans ?_
    have e : ∀ k : Fin 2048, ∑ j ∈ Finset.range (3 + 1), RowFold.block 512 (units m c (row (n / 4) r) k) j = ∑ i, units m c (row (n / 4) r) k i :=
      fun k => RowFold.sum_block (3 + 1) 512 (by decide) _
    simp only [e]
    rfl
  · rw [out_A m c ⟨n, h⟩ h0 (show ¬n % 4 = 3 by omega)]
    have hx : ∀ k : Fin 2048, k0_pay3 (F := Ideal) (iblk m c 0 ⟨n, h⟩) (ix2 r k) = H m c (row (n / 4) r) k :=
      fun k => (pay3_at _ r k).trans (blk0 m c ⟨n, h⟩ r k)
    refine Prod.ext (funext fun d => ?_) (funext hx)
    refine (step_at m c ⟨n, h⟩ _ _ r d hx).trans ?_
    rw [pay4_at, zero_add]
    exact congrArg _ h0
  · rw [out_B m c ⟨n, h⟩ h0 h1 h']
    exact Prod.ext (funext fun d => step_at m c ⟨n, h⟩ _ _ r d (congrFun hx)) hx
  · rw [out_C m c ⟨n, h⟩ h0 h1 h']
    refine Prod.ext (funext fun d => ?_) hx
    refine pay2_at _ _ _ _ r d _ _ _ _ (fun k => blk0 m c ⟨n, h⟩ r k) (fun k => ?_) (fun k => blk10 m c ⟨n, h⟩ k) (fun k => blk11 m c ⟨n, h⟩ k)
    exact (step_at m c ⟨n, h⟩ _ _ r k (congrFun hx)).trans (congrArg (fun j => _ + RowFold.block 512 _ j) h1)

/-- THE RESULT ARRAY after the run, element by element. -/
theorem final (c : Dev nD) : (dats m 0 c).arrAt 12 (cfgs 0).N
    = (show FVec Ideal S8192x2048 .f32 from fun i => result m c (i 0) (i 1)) := by
  refine (dats m 0 c).arrAt_eq_of_covers 12 _ (by decide +kernel) fun t hf y => ?_
  blk_simp
  rw [after0_12]
  have h1 := (flush0_12 t).mp hf
  idx_vars y
  have e0 : (((View.whole main_v19).slice (win0_12.rect t)).emb (ix2 y0 y1) 0 : Fin 8192) = row (t.val / 4) y0 :=
    Fin.ext ((emb12 t (ix2 y0 y1) 0).trans (by rw [row_val, (idx t).2.2.2.2.2.2.2.2.2.2.2.2]; simp))
  have e1 : (((View.whole main_v19).slice (win0_12.rect t)).emb (ix2 y0 y1) 1 : Fin 2048) = y1 :=
    Fin.ext ((emb12 t (ix2 y0 y1) 1).trans (by rw [(idx t).2.2.2.2.2.2.2.2.2.2.2.2]; simp))
  exact (fold m c y0 t.val t.isLt h1 y1).trans (congrArg₂ (result m c) e0.symm e1.symm)

end Cert.Kernel3Ideal.Hand

end
-- ==== Proof.MergePromptRef.lean ====
/-
  What the reference of the prompt rows' gated merge computes, read at an index: `Cert.MergeSpec`'s layer of the argument
  arrays.
-/
module

public import proofs.«01_k».proof.Proof.Gen.Reference3Ideal.Read
public import proofs.«01_k».proof.Proof.MergeSpec
public import Idealize.ShloMosaic.Lib.Pointwise

@[expose] public section

set_option maxRecDepth 16384

noncomputable section

open Idealize.ShloMosaic Idealize.ShloMosaic.TcCoe Idealize.SL.Sem

namespace Cert.Reference3Ideal.Hand

open Cert.Reference3Ideal Cert.Reference3Ideal.Gen Cert.Reference3Ideal.Value Cert.Reference3Ideal.Read Cert.MergeSpec

variable (x0 : FVec Ideal S8192x2048 .f32) (x1 x2 : FVec Ideal S8192x1024 .bf16) (x3 : FVec Ideal S1x2048x8256 .f32)
  (x4 : FVec Ideal S1x4096 .f32) (x5 x6 : FVec Ideal S1x1024x2048 .f32) (x7 : FVec Ideal S1x2048x2048 .f32) (x8 x9 : FVec Ideal S1x2048 .f32)

/-- A gate column, of either gate. -/
theorem v18_at (R : Fin 8192) (n : Fin 4096) :
    val_main_v18 (F := Ideal) x0 x3 x4 (ix2 R n)
      = gate (fun k => x0 (ix2 R k)) (fun k (n : Fin 4096) => x3 (ix3 0 k ⟨4160 + n.val, by omega⟩)) (fun n => x4 (ix2 0 n)) n := by
  pointwise [val_main_v18, val_main_v17, val_main_v16, val_main_v15, val_main_v14, val_main_v13, val_main_v12, val_main_v11, val_main_v10,
    val_main_v9, val_main_v8, val_main_v1, val_main_v0, val_main_cst, val_main_cst_0]
  rfl

/-- A merged column. -/
theorem v29_at (R : Fin 8192) (n : Fin 2048) :
    val_main_v29 (F := Ideal) x0 x1 x2 x3 x4 x5 x6 (ix2 R n)
      = merged (fun k => x0 (ix2 R k)) (fun k => x1 (ix2 R k)) (fun k => x2 (ix2 R k))
          (fun k (n : Fin 2048) => x3 (ix3 0 k ⟨4160 + n.val, by omega⟩)) (fun k n => x3 (ix3 0 k ⟨6208 + n.val, by omega⟩))
          (fun n => x4 (ix2 0 ⟨n.val, by omega⟩)) (fun n => x4 (ix2 0 ⟨2048 + n.val, by omega⟩))
          (fun k n => x5 (ix3 0 k n)) (fun k n => x6 (ix3 0 k n)) n := by
  have e : ∀ k : Fin 2048, x3 (ix3 0 k ⟨4160 + (2048 + n.val), by omega⟩) = x3 (ix3 0 k ⟨6208 + n.val, by omega⟩) :=
    fun k => congrArg (fun N : Fin 8256 => x3 (ix3 0 k N)) (Fin.ext (by simp; omega))
  pointwise [val_main_v29, val_main_v28, val_main_v27, val_main_v26, val_main_v25, val_main_v24, val_main_v23, val_main_v22, val_main_v21,
    val_main_v20, val_main_v19, v18_at, gate, e]
  rfl

/-- The merge's result. -/
theorem out_at (R : Fin 8192) (d : Fin 2048) :
    val_main_v60 (F := Ideal) x0 x1 x2 x3 x4 x5 x6 x7 x8 x9 (ix2 R d)
      = layer (Ideal.ofBits .f32 0x3F9837F0#32) (Ideal.ofBits .f32 0x45000000#32) (Ideal.ofBits .f32 0x3727C5AC#32)
          (fun k => x0 (ix2 R k)) (fun k => x1 (ix2 R k)) (fun k => x2 (ix2 R k))
          (fun k (n : Fin 2048) => x3 (ix3 0 k ⟨4160 + n.val, by omega⟩)) (fun k n => x3 (ix3 0 k ⟨6208 + n.val, by omega⟩))
          (fun n => x4 (ix2 0 ⟨n.val, by omega⟩)) (fun n => x4 (ix2 0 ⟨2048 + n.val, by omega⟩))
          (fun k n => x5 (ix3 0 k n)) (fun k n => x6 (ix3 0 k n)) (fun n d => x7 (ix3 0 n d)) (fun k => x8 (ix2 0 k)) (fun k => x9 (ix2 0 k)) d := by
  have hv : ∀ d : Fin 2048, val_main_v34 (F := Ideal) x0 x1 x2 x3 x4 x5 x6 x7 (ix2 R d)
      = residual (Ideal.ofBits .f32 0x3F9837F0#32) (fun k => x0 (ix2 R k)) (fun d => ∑ n, merged (fun k => x0 (ix2 R k)) (fun k => x1 (ix2 R k))
          (fun k => x2 (ix2 R k)) (fun k (n : Fin 2048) => x3 (ix3 0 k ⟨4160 + n.val, by omega⟩)) (fun k n => x3 (ix3 0 k ⟨6208 + n.val, by omega⟩))
          (fun n => x4 (ix2 0 ⟨n.val, by omega⟩)) (fun n => x4 (ix2 0 ⟨2048 + n.val, by omega⟩))
          (fun k n => x5 (ix3 0 k n)) (fun k n => x6 (ix3 0 k n)) n * x7 (ix3 0 n d)) d := by
    intro d
    pointwise [val_main_v34, val_main_v33, val_main_v32, val_main_v31, val_main_v30, val_main_cst_1, v29_at]
    rfl
  pointwise [val_main_v60, val_main_v59, val_main_v58, val_main_v57, val_main_v56, val_main_v55, val_main_v54, val_main_v53, val_main_v52,
    val_main_v51, val_main_v50, val_main_v49, val_main_v48, val_main_v47, val_main_v46, val_main_v45, val_main_v44, val_main_v43, val_main_v42,
    val_main_v41, val_main_v40, val_main_v39, val_main_v38, val_main_v37, val_main_v36, val_main_v35, val_main_cst_2,
    val_main_cst_3, val_main_cst_4, val_main_cst_5, val_main_cst_6, hv]
  rfl

end Cert.Reference3Ideal.Hand

end
-- ==== Proof.MergeSample.lean ====
/-
  What the gated merge of the sample rows computes: the payloads of the body read at an index as `Cert.MergeSpec`'s functions,
  the blocks the windows bring in as parts of the argument arrays (the two gate windows are element-indexed: they start at the
  row of the transposed input weights their index maps name), what a point leaves in the output block and in the carried copy
  of the rows, and the result array after the run.
-/
module

public import proofs.«01_k».proof.Proof.Gen.Kernel4Ideal.Value
public import proofs.«01_k».proof.Proof.RowFold
public import proofs.«01_k».proof.Proof.MergeSpec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Hand

open Cert.Kernel4Ideal Cert.Kernel4Ideal.Gen Cert.MergeSpec

/-! ### The payloads at an index -/

/-- The copy of the rows the first point of a row block keeps: over the reals the rows themselves. -/
theorem pay3_at (x : FVec Ideal S256x2048 .f32) (r : Fin 256) (d : Fin 2048) : k0_pay3 (F := Ideal) x (ix2 r d) = x (ix2 r d) := by
  pointwise [k0_pay3]

/-- The zero fill. -/
theorem pay4_at (r : Fin 256) (d : Fin 2048) : k0_pay4 (F := Ideal) (ix2 r d) = 0 := by
  pointwise [k0_pay4]

/-- A chunk of merged columns. -/
theorem pay5_at (x : FVec Ideal S256x2048 .bf16) (wgs : FVec Ideal S512x2048 .bf16) (bgs : FVec Ideal S1x512 .f32)
    (wgm : FVec Ideal S512x2048 .bf16) (bgm : FVec Ideal S1x512 .f32) (osb : FVec Ideal S256x1024 .bf16) (wbs : FVec Ideal S1024x512 .bf16)
    (omla : FVec Ideal S256x1024 .bf16) (wbm : FVec Ideal S1024x512 .bf16) (r : Fin 256) (n : Fin 512) :
    k0_pay5 (F := Ideal) x wgs bgs wgm bgm osb wbs omla wbm (ix2 r n)
      = merged (fun c : Fin 2048 => x (ix2 r c)) (fun c : Fin 1024 => osb (ix2 r c)) (fun c => omla (ix2 r c))
          (fun c n => wgs (ix2 n c)) (fun c n => wgm (ix2 n c)) (fun n => bgs (ix2 0 n)) (fun n => bgm (ix2 0 n))
          (fun c n => wbs (ix2 c n)) (fun c n => wbm (ix2 c n)) n := by
  pointwise [k0_pay5]
  rfl

/-- A chunk's accumulation: the block so far plus the chunk's merged columns times their output weights. -/
theorem pay1_at (v : FVec Ideal S256x512 .f32) (acc : FVec Ideal S256x2048 .f32) (wo : FVec Ideal S512x2048 .bf16) (r : Fin 256)
    (d : Fin 2048) : k0_pay1 (F := Ideal) v acc wo (ix2 r d) = acc (ix2 r d) + ∑ n : Fin 512, v (ix2 r n) * wo (ix2 n d) := by
  pointwise [k0_pay1]

/-- The last point's layer norm of the residual sum, over what its operands hold in the row. -/
theorem pay2_at (x acc : FVec Ideal S256x2048 .f32) (g b : FVec Ideal S1x2048 .f32) (r : Fin 256) (d : Fin 2048)
    (xv av gv bv : Fin 2048 → EReal) (hx : ∀ k : Fin 2048, x (ix2 r k) = xv k) (ha : ∀ k : Fin 2048, acc (ix2 r k) = av k)
    (hg : ∀ k : Fin 2048, g (ix2 0 k) = gv k) (hb : ∀ k : Fin 2048, b (ix2 0 k) = bv k) :
    k0_pay2 (F := Ideal) x acc g b (ix2 r d)
      = FfnSpec.layerNorm (Ideal.ofBits .f32 0x45000000#32) (Ideal.ofBits .f32 0x3727C5AC#32)
          (residual (Ideal.ofBits .f32 0x3F9837F0#32) xv av) gv bv d := by
  obtain rfl : (fun k => x (ix2 r k)) = xv := funext hx
  obtain rfl : (fun k => acc (ix2 r k)) = av := funext ha
  obtain rfl : (fun k => g (ix2 0 k)) = gv := funext hg
  obtain rfl : (fun k => b (ix2 0 k)) = bv := funext hb
  pointwise [k0_pay2]
  rfl

/-! ### The blocks -/

variable (m : (ℓ : Loc nD τ sig) → Buf (Elt Ideal) ℓ)

/-- The argument arrays, as functions of their coordinates: the rows, -/
def H (c : Dev nD) (R : Fin 256) (k : Fin 2048) : EReal := (show FVec Ideal S256x2048 .f32 from m ((c : Thread nD τ).loc main_arg0)) (ix2 R k)
/-- the two branches' outputs, -/
def Os (c : Dev nD) (R : Fin 256) (k : Fin 1024) : EReal := (show FVec Ideal S256x1024 .bf16 from m ((c : Thread nD τ).loc main_arg1)) (ix2 R k)
def Om (c : Dev nD) (R : Fin 256) (k : Fin 1024) : EReal := (show FVec Ideal S256x1024 .bf16 from m ((c : Thread nD τ).loc main_arg2)) (ix2 R k)
/-- the two gates' columns of the input weights, -/
def Gs (c : Dev nD) (k n : Fin 2048) : EReal :=
  (show FVec Ideal S1x2048x8256 .f32 from m ((c : Thread nD τ).loc main_arg3)) (ix3 0 k ⟨4160 + n.val, by omega⟩)
def Gm (c : Dev nD) (k n : Fin 2048) : EReal :=
  (show FVec Ideal S1x2048x8256 .f32 from m ((c : Thread nD τ).loc main_arg3)) (ix3 0 k ⟨6208 + n.val, by omega⟩)
/-- the gates' biases, -/
def Bs (c : Dev nD) (n : Fin 2048) : EReal := (show FVec Ideal S1x4096 .f32 from m ((c : Thread nD τ).loc main_arg4)) (ix2 0 ⟨n.val, by omega⟩)
def Bm (c : Dev nD) (n : Fin 2048) : EReal :=
  (show FVec Ideal S1x4096 .f32 from m ((c : Thread nD τ).loc main_arg4)) (ix2 0 ⟨2048 + n.val, by omega⟩)
/-- the branches' weights, -/
def Ws (c : Dev nD) (k : Fin 1024) (n : Fin 2048) : EReal :=
  (show FVec Ideal S1x1024x2048 .f32 from m ((c : Thread nD τ).loc main_arg5)) (ix3 0 k n)
def Wm (c : Dev nD) (k : Fin 1024) (n : Fin 2048) : EReal :=
  (show FVec Ideal S1x1024x2048 .f32 from m ((c : Thread nD τ).loc main_arg6)) (ix3 0 k n)
/-- the output weights, -/
def Wo (c : Dev nD) (n d : Fin 2048) : EReal := (show FVec Ideal S1x2048x2048 .f32 from m ((c : Thread nD τ).loc main_arg7)) (ix3 0 n d)
/-- the norm's scale -/
def Ga (c : Dev nD) (d : Fin 2048) : EReal := (show FVec Ideal S1x2048 .f32 from m ((c : Thread nD τ).loc main_arg8)) (ix2 0 d)
/-- and shift. -/
def Be (c : Dev nD) (d : Fin 2048) : EReal := (show FVec Ideal S1x2048 .f32 from m ((c : Thread nD τ).loc main_arg9)) (ix2 0 d)

/-- The windows' index maps in closed form: point `t` is chunk `t % 4` of row block `t / 4`. -/
theorem idx : ∀ t : Fin cfg0.N, win0_0.index t = ![t.val / 4, 0] ∧ win0_1.index t = ![t.val / 4, 0] ∧ win0_2.index t = ![t.val / 4, 0]
    ∧ win0_3.index t = ![4160 + 512 * (t.val % 4), 0] ∧ win0_4.index t = ![6208 + 512 * (t.val % 4), 0]
    ∧ win0_5.index t = ![0, t.val % 4] ∧ win0_6.index t = ![0, t.val % 4] ∧ win0_7.index t = ![0, t.val % 4]
    ∧ win0_8.index t = ![0, t.val % 4] ∧ win0_9.index t = ![t.val % 4, 0]
    ∧ win0_10.index t = ![0, 0] ∧ win0_11.index t = ![0, 0] ∧ win0_12.index t = ![t.val / 4, 0] :=
  (by decide +kernel : ∀ t : Fin grid0.N, _)

/-- Row `r` of row block `b`. -/
def row (b : ℕ) (r : Fin 256) : Fin 256 := ⟨(b * 256 + r.val) % 256, Nat.mod_lt _ (by decide)⟩

theorem row_val (t : Fin cfg0.N) (r : Fin 256) : (row (t.val / 4) r).val = t.val / 4 * 256 + r.val := by
  have := lt_of_lt_of_eq t.isLt (show cfg0.N = 4 from N_0)
  exact Nat.mod_eq_of_lt (by omega)

theorem blk0 (c : Dev nD) (t : Fin cfg0.N) (r : Fin 256) (k : Fin 2048) :
    (show FVec Ideal S256x2048 .f32 from iblk m c 0 t) (ix2 r k) = H m c (row (t.val / 4) r) k := by
  unfold H
  have e := row_val t r
  generalize row (t.val / 4) r = R at e
  blk_point [iblk, V, idx t]

theorem blk1 (c : Dev nD) (t : Fin cfg0.N) (r : Fin 256) (k : Fin 1024) :
    (show FVec Ideal S256x1024 .bf16 from iblk m c 1 t) (ix2 r k) = Os m c (row (t.val / 4) r) k := by
  unfold Os
  have e := row_val t r
  generalize row (t.val / 4) r = R at e
  blk_point [iblk, V, idx t]

theorem blk2 (c : Dev nD) (t : Fin cfg0.N) (r : Fin 256) (k : Fin 1024) :
    (show FVec Ideal S256x1024 .bf16 from iblk m c 2 t) (ix2 r k) = Om m c (row (t.val / 4) r) k := by
  unfold Om
  have e := row_val t r
  generalize row (t.val / 4) r = R at e
  blk_point [iblk, V, idx t]

/-- Where an element of an element-indexed gate block sits: the map's value plus its place in the block. -/
theorem emb3 (t : Fin cfg0.N) (y : S512x2048.Idx) (a : Fin 2) : (((win0_3.blk t).view.emb y) a : ℕ) = win0_3.index t a + (y a : ℕ) :=
  ValueKit.view_emb_slice_whole_unit_val main_v12 _ _ _ y a
theorem emb4 (t : Fin cfg0.N) (y : S512x2048.Idx) (a : Fin 2) : (((win0_4.blk t).view.emb y) a : ℕ) = win0_4.index t a + (y a : ℕ) :=
  ValueKit.view_emb_slice_whole_unit_val main_v12 _ _ _ y a
/-- Where an element of the output block sits in the result array. -/
theorem emb12 (t : Fin cfg0.N) (y : S256x2048.Idx) (a : Fin 2) :
    ((((View.whole main_v19).slice (win0_12.rect t)).emb y) a : ℕ) = win0_12.index t a * win0_12.size a + (y a : ℕ) :=
  ValueKit.view_emb_slice_whole_unit_val main_v19 _ _ _ y a

theorem blk3 (c : Dev nD) (t : Fin cfg0.N) (n : Fin 512) (k N : Fin 2048) (hN : N.val = 512 * (t.val % 4) + n.val) :
    (show FVec Ideal S512x2048 .bf16 from iblk m c 3 t) (ix2 n k) = Gs m c k N := by
  unfold Gs iblk
  blk_simp
  entry_read
  pointwise
  refine congrArg (m (c, Proc.tc.devRef main_arg3)) ?_
  refine (ix3_inj ..).2 ⟨rfl, Fin.ext ?_, Fin.ext ?_⟩
  · exact (emb3 t (ix2 n k) 1).trans (by rw [(idx t).2.2.2.1]; simp)
  · exact (emb3 t (ix2 n k) 0).trans (by rw [(idx t).2.2.2.1]; simp [hN]; omega)

theorem blk4 (c : Dev nD) (t : Fin cfg0.N) (n : Fin 512) (k N : Fin 2048) (hN : N.val = 512 * (t.val % 4) + n.val) :
    (show FVec Ideal S512x2048 .bf16 from iblk m c 4 t) (ix2 n k) = Gm m c k N := by
  unfold Gm iblk
  blk_simp
  entry_read
  pointwise
  refine congrArg (m (c, Proc.tc.devRef main_arg3)) ?_
  refine (ix3_inj ..).2 ⟨rfl, Fin.ext ?_, Fin.ext ?_⟩
  · exact (emb4 t (ix2 n k) 1).trans (by rw [(idx t).2.2.2.2.1]; simp)
  · exact (emb4 t (ix2 n k) 0).trans (by rw [(idx t).2.2.2.2.1]; simp [hN]; omega)

theorem blk5 (c : Dev nD) (t : Fin cfg0.N) (n : Fin 512) (N : Fin 2048) (hN : N.val = 512 * (t.val % 4) + n.val) :
    (show FVec Ideal S1x512 .f32 from iblk m c 5 t) (ix2 0 n) = Bs m c N := by
  unfold Bs
  blk_simp [iblk]
  entry_read
  pointwise
  blk_simp [idx t]
  blk_ext [idx t, hN]

theorem blk6 (c : Dev nD) (t : Fin cfg0.N) (n : Fin 512) (N : Fin 2048) (hN : N.val = 512 * (t.val % 4) + n.val) :
    (show FVec Ideal S1x512 .f32 from iblk m c 6 t) (ix2 0 n) = Bm m c N := by
  unfold Bm
  blk_simp [iblk]
  entry_read
  pointwise
  blk_simp [idx t]
  blk_ext [idx t, hN]

theorem blk7 (c : Dev nD) (t : Fin cfg0.N) (k : Fin 1024) (n : Fin 512) (N : Fin 2048) (hN : N.val = 512 * (t.val % 4) + n.val) :
    (show FVec Ideal S1024x512 .bf16 from iblk m c 7 t) (ix2 k n) = Ws m c k N := by
  unfold Ws
  blk_simp [iblk]
  entry_read
  pointwise
  blk_simp [idx t]
  blk_ext [idx t, hN]

theorem blk8 (c : Dev nD) (t : Fin cfg0.N) (k : Fin 1024) (n : Fin 512) (N : Fin 2048) (hN : N.val = 512 * (t.val % 4) + n.val) :
    (show FVec Ideal S1024x512 .bf16 from iblk m c 8 t) (ix2 k n) = Wm m c k N := by
  unfold Wm
  blk_simp [iblk]
  entry_read
  pointwise
  blk_simp [idx t]
  blk_ext [idx t, hN]

theorem blk9 (c : Dev nD) (t : Fin cfg0.N) (n : Fin 512) (d N : Fin 2048) (hN : N.val = 512 * (t.val % 4) + n.val) :
    (show FVec Ideal S512x2048 .bf16 from iblk m c 9 t) (ix2 n d) = Wo m c N d := by
  unfold Wo
  blk_simp [iblk]
  entry_read
  pointwise
  blk_simp [idx t]
  blk_ext [idx t, hN]

theorem blk10 (c : Dev nD) (t : Fin cfg0.N) (d : Fin 2048) : (show FVec Ideal S1x2048 .f32 from iblk m c 10 t) (ix2 0 d) = Ga m c d := by
  unfold Ga
  blk_simp [iblk]
  entry_read
  pointwise
  blk_simp [idx t]
  blk_ext [idx t]

theorem blk11 (c : Dev nD) (t : Fin cfg0.N) (d : Fin 2048) : (show FVec Ideal S1x2048 .f32 from iblk m c 11 t) (ix2 0 d) = Be m c d := by
  unfold Be
  blk_simp [iblk]
  entry_read
  pointwise
  blk_simp [idx t]
  blk_ext [idx t]

/-! ### What a point leaves -/

/-- A merged column's contribution to column `d` of row `R`. -/
def units (c : Dev nD) (R : Fin 256) (d n : Fin 2048) : EReal :=
  merged (H m c R) (Os m c R) (Om m c R) (Gs m c) (Gm m c) (Bs m c) (Bm m c) (Ws m c) (Wm m c) n * Wo m c n d

/-- The accumulation of point `t`, over a copy `x` of the rows. -/
def step (c : Dev nD) (t : Fin cfg0.N) (x : FVec Ideal S256x2048 .bf16) (acc : FVec Ideal S256x2048 .f32) : FVec Ideal S256x2048 .f32 :=
  k0_pay1 (F := Ideal) (k0_pay5 x (iblk m c 3 t) (iblk m c 5 t) (iblk m c 4 t) (iblk m c 6 t) (iblk m c 1 t) (iblk m c 7 t) (iblk m c 2 t)
    (iblk m c 8 t)) acc (iblk m c 9 t)

/-- It adds chunk `t % 4` of the merged columns. -/
theorem step_at (c : Dev nD) (t : Fin cfg0.N) (x : FVec Ideal S256x2048 .bf16) (acc : FVec Ideal S256x2048 .f32) (r : Fin 256) (d : Fin 2048)
    (hx : ∀ k : Fin 2048, x (ix2 r k) = H m c (row (t.val / 4) r) k) :
    step m c t x acc (ix2 r d) = acc (ix2 r d) + RowFold.block 512 (units m c (row (t.val / 4) r) d) (t.val % 4) := by
  refine (pay1_at _ acc _ r d).trans (congrArg _ (Finset.sum_congr rfl fun k _ => ?_))
  have hk : 512 * (t.val % 4) + k.val < 2048 := by omega
  rw [FfnSpec.ext_of_lt _ _ hk]
  refine congrArg₂ (· * ·) ((pay5_at _ _ _ _ _ _ _ _ _ r k).trans ?_) (blk9 m c t k d ⟨_, hk⟩ rfl)
  refine congrArg₂ (· + ·) (congrArg₂ (· * ·) ?_ ?_) (congrArg₂ (· * ·) ?_ ?_)
  · refine congrArg Ideal.logistic (congrArg₂ (· + ·) (Finset.sum_congr rfl fun j _ => ?_) (blk5 m c t k ⟨_, hk⟩ rfl))
    exact congrArg₂ (· * ·) (hx j) (blk3 m c t k j ⟨_, hk⟩ rfl)
  · exact Finset.sum_congr rfl fun j _ => congrArg₂ (· * ·) (blk1 m c t r j) (blk7 m c t j k ⟨_, hk⟩ rfl)
  · refine congrArg Ideal.logistic (congrArg₂ (· + ·) (Finset.sum_congr rfl fun j _ => ?_) (blk6 m c t k ⟨_, hk⟩ rfl))
    exact congrArg₂ (· * ·) (hx j) (blk4 m c t k j ⟨_, hk⟩ rfl)
  · exact Finset.sum_congr rfl fun j _ => congrArg₂ (· * ·) (blk2 m c t r j) (blk8 m c t j k ⟨_, hk⟩ rfl)

/-- The first point of a row block leaves the first chunk, and the copy of the rows; -/
theorem out_A (c : Dev nD) (t : Fin cfg0.N) (h0 : t.val % 4 = 0) (h1 : ¬t.val % 4 = 3) :
    outsAt0 m c t.val t.isLt = (step m c t (k0_pay3 (iblk m c 0 t)) (k0_pay4 (F := Ideal)), k0_pay3 (iblk m c 0 t)) := by
  rw [outsAt0_A m c t h0 h1]
  unfold step
  frame_out

/-- a middle point adds its chunk and keeps the copy; -/
theorem out_B (c : Dev nD) (t : Fin cfg0.N) (h0 : ¬t.val % 4 = 0) (h1 : ¬t.val % 4 = 3) (h) :
    outsAt0 m c t.val t.isLt = (step m c t (outsAt0 m c (t.val - 1) h).2 (outsAt0 m c (t.val - 1) h).1, (outsAt0 m c (t.val - 1) h).2) := by
  rw [outsAt0_B m c t h0 h1]
  unfold step
  frame_out
  refine Prod.ext ?_ rfl
  exact congrArg (fun x => step m c t x (outsAt0 m c (t.val - 1) h).1) (Memref.IsWhole.read_unread _ _)

/-- the last point adds its chunk and normalises. -/
theorem out_C (c : Dev nD) (t : Fin cfg0.N) (h0 : ¬t.val % 4 = 0) (h1 : t.val % 4 = 3) (h) :
    outsAt0 m c t.val t.isLt
      = (k0_pay2 (iblk m c 0 t) (step m c t (outsAt0 m c (t.val - 1) h).2 (outsAt0 m c (t.val - 1) h).1) (iblk m c 10 t) (iblk m c 11 t),
          (outsAt0 m c (t.val - 1) h).2) := by
  rw [outsAt0_C m c t h0 h1]
  unfold step
  frame_out
  refine Prod.ext ?_ rfl
  exact congrArg (fun x => k0_pay2 (F := Ideal) (iblk m c 0 t) (step m c t x (outsAt0 m c (t.val - 1) h).1) (iblk m c 10 t) (iblk m c 11 t))
    (Memref.IsWhole.read_unread _ _)

/-- The merge's result at row `R`, column `d`. -/
def result (c : Dev nD) (R : Fin 256) (d : Fin 2048) : EReal :=
  layer (Ideal.ofBits .f32 0x3F9837F0#32) (Ideal.ofBits .f32 0x45000000#32) (Ideal.ofBits .f32 0x3727C5AC#32)
    (H m c R) (Os m c R) (Om m c R) (Gs m c) (Gm m c) (Bs m c) (Bm m c) (Ws m c) (Wm m c) (Wo m c) (Ga m c) (Be m c) d

/-- The points in one row of the blocks: the copy stays the row, and the block's last point leaves the merge's result. -/
theorem fold (c : Dev nD) (r : Fin 256) (n : ℕ) (h : n < cfg0.N) (hn : n % 4 = 3) (d : Fin 2048) :
    (show FVec Ideal S256x2048 .f32 from (outsAt0 m c n h).1) (ix2 r d) = result m c (row (n / 4) r) d := by
  have hf := (RowFold.fold (S := 4) (J := 3) rfl (by decide)
    (fun n h => (fun d : Fin 2048 => (show FVec Ideal S256x2048 .f32 from (outsAt0 m c n h).1) (ix2 r d),
      fun k : Fin 2048 => (show FVec Ideal S256x2048 .bf16 from (outsAt0 m c n h).2) (ix2 r k)))
    (fun b => H m c (row b r)) (fun b j d => RowFold.block 512 (units m c (row b r) d) j)
    (fun b v => FfnSpec.layerNorm (Ideal.ofBits .f32 0x45000000#32) (Ideal.ofBits .f32 0x3727C5AC#32)
      (residual (Ideal.ofBits .f32 0x3F9837F0#32) (H m c (row b r)) v) (Ga m c) (Be m c))
    (fun n h h0 => ?_) (fun n h h' h0 h1 hx => ?_) (fun n h h' h0 h1 hx => ?_) n h).2.2 hn
  · refine (congrFun hf d).trans ?_
    have e : ∀ k : Fin 2048, ∑ j ∈ Finset.range (3 + 1), RowFold.block 512 (units m c (row (n / 4) r) k) j = ∑ i, units m c (row (n / 4) r) k i :=
      fun k => RowFold.sum_block (3 + 1) 512 (by decide) _
    simp only [e]
    rfl
  · rw [out_A m c ⟨n, h⟩ h0 (show ¬n % 4 = 3 by omega)]
    have hx : ∀ k : Fin 2048, k0_pay3 (F := Ideal) (iblk m c 0 ⟨n, h⟩) (ix2 r k) = H m c (row (n / 4) r) k :=
      fun k => (pay3_at _ r k).trans (blk0 m c ⟨n, h⟩ r k)
    refine Prod.ext (funext fun d => ?_) (funext hx)
    refine (step_at m c ⟨n, h⟩ _ _ r d hx).trans ?_
    rw [pay4_at, zero_add]
    exact congrArg _ h0
  · rw [out_B m c ⟨n, h⟩ h0 h1 h']
    exact Prod.ext (funext fun d => step_at m c ⟨n, h⟩ _ _ r d (congrFun hx)) hx
  · rw [out_C m c ⟨n, h⟩ h0 h1 h']
    refine Prod.ext (funext fun d => ?_) hx
    refine pay2_at _ _ _ _ r d _ _ _ _ (fun k => blk0 m c ⟨n, h⟩ r k) (fun k => ?_) (fun k => blk10 m c ⟨n, h⟩ k) (fun k => blk11 m c ⟨n, h⟩ k)
    exact (step_at m c ⟨n, h⟩ _ _ r k (congrFun hx)).trans (congrArg (fun j => _ + RowFold.block 512 _ j) h1)

/-- THE RESULT ARRAY after the run, element by element. -/
theorem final (c : Dev nD) : (dats m 0 c).arrAt 12 (cfgs 0).N
    = (show FVec Ideal S256x2048 .f32 from fun i => result m c (i 0) (i 1)) := by
  refine (dats m 0 c).arrAt_eq_of_covers 12 _ (by decide +kernel) fun t hf y => ?_
  blk_simp
  rw [after0_12]
  have h1 := (flush0_12 t).mp hf
  idx_vars y
  have e0 : (((View.whole main_v19).slice (win0_12.rect t)).emb (ix2 y0 y1) 0 : Fin 256) = row (t.val / 4) y0 :=
    Fin.ext ((emb12 t (ix2 y0 y1) 0).trans (by rw [row_val, (idx t).2.2.2.2.2.2.2.2.2.2.2.2]; simp))
  have e1 : (((View.whole main_v19).slice (win0_12.rect t)).emb (ix2 y0 y1) 1 : Fin 2048) = y1 :=
    Fin.ext ((emb12 t (ix2 y0 y1) 1).trans (by rw [(idx t).2.2.2.2.2.2.2.2.2.2.2.2]; simp))
  exact (fold m c y0 t.val t.isLt h1 y1).trans (congrArg₂ (result m c) e0.symm e1.symm)

end Cert.Kernel4Ideal.Hand

end
-- ==== Proof.MergeSampleRef.lean ====
/-
  What the reference of the sample rows' gated merge computes, read at an index: `Cert.MergeSpec`'s layer of the argument
  arrays.
-/
module

public import proofs.«01_k».proof.Proof.Gen.Reference4Ideal.Read
public import proofs.«01_k».proof.Proof.MergeSpec
public import Idealize.ShloMosaic.Lib.Pointwise

@[expose] public section

set_option maxRecDepth 16384

noncomputable section

open Idealize.ShloMosaic Idealize.ShloMosaic.TcCoe Idealize.SL.Sem

namespace Cert.Reference4Ideal.Hand

open Cert.Reference4Ideal Cert.Reference4Ideal.Gen Cert.Reference4Ideal.Value Cert.Reference4Ideal.Read Cert.MergeSpec

variable (x0 : FVec Ideal S256x2048 .f32) (x1 x2 : FVec Ideal S256x1024 .bf16) (x3 : FVec Ideal S1x2048x8256 .f32)
  (x4 : FVec Ideal S1x4096 .f32) (x5 x6 : FVec Ideal S1x1024x2048 .f32) (x7 : FVec Ideal S1x2048x2048 .f32) (x8 x9 : FVec Ideal S1x2048 .f32)

/-- A gate column, of either gate. -/
theorem v18_at (R : Fin 256) (n : Fin 4096) :
    val_main_v18 (F := Ideal) x0 x3 x4 (ix2 R n)
      = gate (fun k => x0 (ix2 R k)) (fun k (n : Fin 4096) => x3 (ix3 0 k ⟨4160 + n.val, by omega⟩)) (fun n => x4 (ix2 0 n)) n := by
  pointwise [val_main_v18, val_main_v17, val_main_v16, val_main_v15, val_main_v14, val_main_v13, val_main_v12, val_main_v11, val_main_v10,
    val_main_v9, val_main_v8, val_main_v1, val_main_v0, val_main_cst, val_main_cst_0]
  rfl

/-- A merged column. -/
theorem v29_at (R : Fin 256) (n : Fin 2048) :
    val_main_v29 (F := Ideal) x0 x1 x2 x3 x4 x5 x6 (ix2 R n)
      = merged (fun k => x0 (ix2 R k)) (fun k => x1 (ix2 R k)) (fun k => x2 (ix2 R k))
          (fun k (n : Fin 2048) => x3 (ix3 0 k ⟨4160 + n.val, by omega⟩)) (fun k n => x3 (ix3 0 k ⟨6208 + n.val, by omega⟩))
          (fun n => x4 (ix2 0 ⟨n.val, by omega⟩)) (fun n => x4 (ix2 0 ⟨2048 + n.val, by omega⟩))
          (fun k n => x5 (ix3 0 k n)) (fun k n => x6 (ix3 0 k n)) n := by
  have e : ∀ k : Fin 2048, x3 (ix3 0 k ⟨4160 + (2048 + n.val), by omega⟩) = x3 (ix3 0 k ⟨6208 + n.val, by omega⟩) :=
    fun k => congrArg (fun N : Fin 8256 => x3 (ix3 0 k N)) (Fin.ext (by simp; omega))
  pointwise [val_main_v29, val_main_v28, val_main_v27, val_main_v26, val_main_v25, val_main_v24, val_main_v23, val_main_v22, val_main_v21,
    val_main_v20, val_main_v19, v18_at, gate, e]
  rfl

/-- The merge's result. -/
theorem out_at (R : Fin 256) (d : Fin 2048) :
    val_main_v60 (F := Ideal) x0 x1 x2 x3 x4 x5 x6 x7 x8 x9 (ix2 R d)
      = layer (Ideal.ofBits .f32 0x3F9837F0#32) (Ideal.ofBits .f32 0x45000000#32) (Ideal.ofBits .f32 0x3727C5AC#32)
          (fun k => x0 (ix2 R k)) (fun k => x1 (ix2 R k)) (fun k => x2 (ix2 R k))
          (fun k (n : Fin 2048) => x3 (ix3 0 k ⟨4160 + n.val, by omega⟩)) (fun k n => x3 (ix3 0 k ⟨6208 + n.val, by omega⟩))
          (fun n => x4 (ix2 0 ⟨n.val, by omega⟩)) (fun n => x4 (ix2 0 ⟨2048 + n.val, by omega⟩))
          (fun k n => x5 (ix3 0 k n)) (fun k n => x6 (ix3 0 k n)) (fun n d => x7 (ix3 0 n d)) (fun k => x8 (ix2 0 k)) (fun k => x9 (ix2 0 k)) d := by
  have hv : ∀ d : Fin 2048, val_main_v34 (F := Ideal) x0 x1 x2 x3 x4 x5 x6 x7 (ix2 R d)
      = residual (Ideal.ofBits .f32 0x3F9837F0#32) (fun k => x0 (ix2 R k)) (fun d => ∑ n, merged (fun k => x0 (ix2 R k)) (fun k => x1 (ix2 R k))
          (fun k => x2 (ix2 R k)) (fun k (n : Fin 2048) => x3 (ix3 0 k ⟨4160 + n.val, by omega⟩)) (fun k n => x3 (ix3 0 k ⟨6208 + n.val, by omega⟩))
          (fun n => x4 (ix2 0 ⟨n.val, by omega⟩)) (fun n => x4 (ix2 0 ⟨2048 + n.val, by omega⟩))
          (fun k n => x5 (ix3 0 k n)) (fun k n => x6 (ix3 0 k n)) n * x7 (ix3 0 n d)) d := by
    intro d
    pointwise [val_main_v34, val_main_v33, val_main_v32, val_main_v31, val_main_v30, val_main_cst_1, v29_at]
    rfl
  pointwise [val_main_v60, val_main_v59, val_main_v58, val_main_v57, val_main_v56, val_main_v55, val_main_v54, val_main_v53, val_main_v52,
    val_main_v51, val_main_v50, val_main_v49, val_main_v48, val_main_v47, val_main_v46, val_main_v45, val_main_v44, val_main_v43, val_main_v42,
    val_main_v41, val_main_v40, val_main_v39, val_main_v38, val_main_v37, val_main_v36, val_main_v35, val_main_cst_2,
    val_main_cst_3, val_main_cst_4, val_main_cst_5, val_main_cst_6, hv]
  rfl

end Cert.Reference4Ideal.Hand

end
-- ==== Proof.QkvPrompt.lean ====
/-
  What the query, key and value projections of the prompt rows compute: each block of the five results at an index, as a product of
  a row with a column of the input weights, and the result arrays after the run.
-/
module

public import proofs.«01_k».proof.Proof.Gen.Kernel5Ideal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.Hand

open Cert.Kernel5Ideal Cert.Kernel5Ideal.Gen

variable (m : (ℓ : Loc nD τ sig) → Buf (Elt Ideal) ℓ)

/-- The argument arrays, as functions of their coordinates: the rows -/
def H (c : Dev nD) (R : Fin 8192) (k : Fin 2048) : EReal := (show FVec Ideal S8192x2048 .f32 from m ((c : Thread nD τ).loc main_arg0)) (ix2 R k)
/-- and the input weights. -/
def W (c : Dev nD) (k : Fin 2048) (n : Fin 8256) : EReal :=
  (show FVec Ideal S1x2048x8256 .f32 from m ((c : Thread nD τ).loc main_arg1)) (ix3 0 k n)

/-- The windows' index maps in closed form: point `t` is row block `t`; the weights' block is the same at every point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- Row `r` of row block `b`. -/
def row (b : ℕ) (r : Fin 256) : Fin 8192 := ⟨(b * 256 + r.val) % 8192, Nat.mod_lt _ (by decide)⟩

theorem row_val (t : Fin cfg0.N) (r : Fin 256) : (row t.val r).val = t.val * 256 + r.val := by
  have := lt_of_lt_of_eq t.isLt (show cfg0.N = 32 from N_0)
  exact Nat.mod_eq_of_lt (by omega)

theorem blk0 (c : Dev nD) (t : Fin cfg0.N) (r : Fin 256) (k : Fin 2048) :
    (show FVec Ideal S256x2048 .f32 from iblk m c 0 t) (ix2 r k) = H m c (row t.val r) k := by
  unfold H
  have e := row_val t r
  generalize row t.val r = R at e
  blk_point [iblk, V, idx t]

/-- Where an element of the weights' block sits in the transposed input weights. -/
theorem emb1 (t : Fin cfg0.N) (y : (win0_1.xblock (grid0.coords t)).Idx) (a : Fin 2) : (((win0_1.blk t).view.emb y) a : ℕ) = win0_1.index t a * win0_1.size a + (y a : ℕ) :=
  ValueKit.view_emb_slice_whole_unit_val main_v2 _ _ _ y a

theorem blk1 (c : Dev nD) (t : Fin cfg0.N) (n : Fin 3072) (k : Fin 2048) :
    (show FVec Ideal S3072x2048 .bf16 from X0_1 m c t) (ix2 n k) = W m c k ⟨n.val, by omega⟩ := by
  unfold W X0_1
  refine (dif_pos (moved0_1 t (ix2 n k))).trans ?_
  unfold iblk
  blk_simp
  entry_read
  pointwise
  refine congrArg (m (c, Proc.tc.devRef main_arg1)) ?_
  refine (ix3_inj ..).2 ⟨rfl, Fin.ext ?_, Fin.ext ?_⟩
  · exact (emb1 t (fun a => ⟨(ix2 n k a).val, _⟩) 1).trans (by rw [(idx t).2.1]; simp)
  · exact (emb1 t (fun a => ⟨(ix2 n k a).val, _⟩) 0).trans (by rw [(idx t).2.1]; simp)

/-- A third of the weights' block, loaded from row `o` on. -/
theorem ld_at (c : Dev nD) (t : Fin cfg0.N) (o : ℕ) (ho : o ≤ 2048) (h) (n : Fin 1024) (k : Fin 2048) :
    (show FVec Ideal S1024x2048 .bf16 from View.ld (X0_1 m c t) (Rect.unit ![o, 0] ![1024, 2048] h)) (ix2 n k) = W m c k ⟨o + n.val, by omega⟩ := by
  refine Eq.trans (congrArg (X0_1 m c t) (funext fun a => ?_)) (blk1 m c t ⟨o + n.val, by omega⟩ k)
  fin_cases a
  · exact Fin.ext (by simp [Rect.unit, Rect.emb])
  · exact Fin.ext (by simp [Rect.unit, Rect.emb])

/-- A row's product with a column of the input weights. -/
def proj (c : Dev nD) (R : Fin 8192) (n : Fin 8256) : EReal := ∑ k, H m c R k * W m c k n

/-! ### What a point leaves in each result's block -/

theorem prod_at (x : FVec Ideal S256x2048 .f32) (w : FVec Ideal S1024x2048 .bf16) (r : Fin 256) (n : Fin 1024) :
    k0_pay3 (F := Ideal) x w (ix2 r n) = ∑ k : Fin 2048, x (ix2 r k) * w (ix2 n k) := by
  pointwise [k0_pay3, k0_pay1]

/-- A product of a row block with a loaded third of the weights. -/
theorem prod_proj (c : Dev nD) (t : Fin cfg0.N) (o : ℕ) (ho : o ≤ 2048) (h) (r : Fin 256) (n : Fin 1024) :
    k0_pay3 (F := Ideal) (iblk m c 0 t) (View.ld (X0_1 m c t) (Rect.unit ![o, 0] ![1024, 2048] h)) (ix2 r n)
      = proj m c (row t.val r) ⟨o + n.val, by omega⟩ :=
  (prod_at _ _ r n).trans (Finset.sum_congr rfl fun k _ => congrArg₂ (· * ·) (blk0 m c t r k) (ld_at m c t o ho h n k))

/-- The scaled queries are the unscaled product times the scale; -/
theorem pay2_at (x : FVec Ideal S256x2048 .f32) (w : FVec Ideal S1024x2048 .bf16) (r : Fin 256) (n : Fin 1024) :
    k0_pay2 (F := Ideal) x w (ix2 r n) = k0_pay3 (F := Ideal) x w (ix2 r n) * Ideal.ofBits .f32 0x3E0293EE#32 := by
  rw [prod_at]
  pointwise [k0_pay2, k0_pay1]

/-- the half-precision copies are, over the reals, what they copy; -/
theorem pay4_at (x : FVec Ideal S256x2048 .f32) (w : FVec Ideal S1024x2048 .bf16) (r : Fin 256) (n : Fin 1024) :
    k0_pay4 (F := Ideal) x w (ix2 r n) = k0_pay3 (F := Ideal) x w (ix2 r n) := by
  pointwise [k0_pay4]

theorem pay6_at (x : FVec Ideal S256x2048 .f32) (w : FVec Ideal S1024x2048 .bf16) (r : Fin 256) (n : Fin 1024) :
    k0_pay6 (F := Ideal) x w (ix2 r n) = k0_pay3 (F := Ideal) x w (ix2 r n) := by
  rw [prod_at]
  pointwise [k0_pay6, k0_pay5, k0_pay1]

/-- and the values' product is the keys' with the other third. -/
theorem pay5_at (x : FVec Ideal S256x2048 .f32) (w : FVec Ideal S1024x2048 .bf16) (r : Fin 256) (n : Fin 1024) :
    k0_pay5 (F := Ideal) x w (ix2 r n) = k0_pay3 (F := Ideal) x w (ix2 r n) := by
  rw [prod_at]
  pointwise [k0_pay5, k0_pay1]

/-- The results at row `R`, column `n`: the scaled queries, the keys, the values. -/
def resQ (c : Dev nD) (R : Fin 8192) (n : Fin 1024) : EReal := proj m c R ⟨n.val, by omega⟩ * Ideal.ofBits .f32 0x3E0293EE#32
def resK (c : Dev nD) (R : Fin 8192) (n : Fin 1024) : EReal := proj m c R ⟨1024 + n.val, by omega⟩
def resV (c : Dev nD) (R : Fin 8192) (n : Fin 1024) : EReal := proj m c R ⟨2048 + n.val, by omega⟩

theorem q_at (c : Dev nD) (t : Fin cfg0.N) (r : Fin 256) (n : Fin 1024) :
    (show FVec Ideal S256x1024 .bf16 from (outsAt0 m c t).1) (ix2 r n) = resQ m c (row t.val r) n := by
  unfold outsAt0
  frame_out
  refine (pay2_at _ _ r n).trans (congrArg (· * _) ((prod_proj m c t 0 (by omega) _ r n).trans ?_))
  exact congrArg (proj m c _) (Fin.ext (by simp))

theorem k_at (c : Dev nD) (t : Fin cfg0.N) (r : Fin 256) (n : Fin 1024) :
    (show FVec Ideal S256x1024 .f32 from (outsAt0 m c t).2.1) (ix2 r n) = resK m c (row t.val r) n := by
  unfold outsAt0
  frame_out
  exact prod_proj m c t 1024 (by omega) _ r n

theorem v_at (c : Dev nD) (t : Fin cfg0.N) (r : Fin 256) (n : Fin 1024) :
    (show FVec Ideal S256x1024 .f32 from (outsAt0 m c t).2.2.1) (ix2 r n) = resV m c (row t.val r) n := by
  unfold outsAt0
  frame_out
  exact (pay5_at _ _ r n).trans (prod_proj m c t 2048 (by omega) _ r n)

theorem kb_at (c : Dev nD) (t : Fin cfg0.N) (r : Fin 256) (n : Fin 1024) :
    (show FVec Ideal S256x1024 .bf16 from (outsAt0 m c t).2.2.2.1) (ix2 r n) = resK m c (row t.val r) n := by
  unfold outsAt0
  frame_out
  exact (pay4_at _ _ r n).trans (prod_proj m c t 1024 (by omega) _ r n)

theorem vb_at (c : Dev nD) (t : Fin cfg0.N) (r : Fin 256) (n : Fin 1024) :
    (show FVec Ideal S256x1024 .bf16 from (outsAt0 m c t).2.2.2.2) (ix2 r n) = resV m c (row t.val r) n := by
  unfold outsAt0
  frame_out
  exact (pay6_at _ _ r n).trans (prod_proj m c t 2048 (by omega) _ r n)

/-! ### Where an element of each result's block sits in the result array -/

theorem emb2 (t : Fin cfg0.N) (y : S256x1024.Idx) (a : Fin 2) :
    ((((View.whole main_v3_0).slice (win0_2.rect t)).emb y) a : ℕ) = win0_2.index t a * win0_2.size a + (y a : ℕ) :=
  ValueKit.view_emb_slice_whole_unit_val main_v3_0 _ _ _ y a
theorem emb3 (t : Fin cfg0.N) (y : S256x1024.Idx) (a : Fin 2) :
    ((((View.whole main_v3_1).slice (win0_3.rect t)).emb y) a : ℕ) = win0_3.index t a * win0_3.size a + (y a : ℕ) :=
  ValueKit.view_emb_slice_whole_unit_val main_v3_1 _ _ _ y a
theorem emb4 (t : Fin cfg0.N) (y : S256x1024.Idx) (a : Fin 2) :
    ((((View.whole main_v3_2).slice (win0_4.rect t)).emb y) a : ℕ) = win0_4.index t a * win0_4.size a + (y a : ℕ) :=
  ValueKit.view_emb_slice_whole_unit_val main_v3_2 _ _ _ y a
theorem emb5 (t : Fin cfg0.N) (y : S256x1024.Idx) (a : Fin 2) :
    ((((View.whole main_v3_3).slice (win0_5.rect t)).emb y) a : ℕ) = win0_5.index t a * win0_5.size a + (y a : ℕ) :=
  ValueKit.view_emb_slice_whole_unit_val main_v3_3 _ _ _ y a
theorem emb6 (t : Fin cfg0.N) (y : S256x1024.Idx) (a : Fin 2) :
    ((((View.whole main_v3_4).slice (win0_6.rect t)).emb y) a : ℕ) = win0_6.index t a * win0_6.size a + (y a : ℕ) :=
  ValueKit.view_emb_slice_whole_unit_val main_v3_4 _ _ _ y a

/-! ### The result arrays after the run, element by element -/

/-- The queries, scaled. -/
theorem final_q (c : Dev nD) : (dats m 0 c).arrAt 2 (cfgs 0).N = (show FVec Ideal S8192x1024 .bf16 from fun i => resQ m c (i 0) (i 1)) := by
  refine (dats m 0 c).arrAt_eq_of_covers 2 _ (by decide +kernel) fun t hf y => ?_
  blk_simp
  rw [after0_2]
  idx_vars y
  have e := emb2 t (ix2 y0 y1)
  refine (q_at m c t y0 y1).trans (congrArg₂ (resQ m c) (Fin.ext ?_) (Fin.ext ?_)).symm
  · exact (e 0).trans (by rw [row_val]; simp [(idx t).2.2.1])
  · exact (e 1).trans (by simp [(idx t).2.2.1])

/-- The keys. -/
theorem final_k (c : Dev nD) : (dats m 0 c).arrAt 3 (cfgs 0).N = (show FVec Ideal S8192x1024 .f32 from fun i => resK m c (i 0) (i 1)) := by
  refine (dats m 0 c).arrAt_eq_of_covers 3 _ (by decide +kernel) fun t hf y => ?_
  blk_simp
  rw [after0_3]
  idx_vars y
  have e := emb3 t (ix2 y0 y1)
  refine (k_at m c t y0 y1).trans (congrArg₂ (resK m c) (Fin.ext ?_) (Fin.ext ?_)).symm
  · exact (e 0).trans (by rw [row_val]; simp [(idx t).2.2.2.1])
  · exact (e 1).trans (by simp [(idx t).2.2.2.1])

/-- The values. -/
theorem final_v (c : Dev nD) : (dats m 0 c).arrAt 4 (cfgs 0).N = (show FVec Ideal S8192x1024 .f32 from fun i => resV m c (i 0) (i 1)) := by
  refine (dats m 0 c).arrAt_eq_of_covers 4 _ (by decide +kernel) fun t hf y => ?_
  blk_simp
  rw [after0_4]
  idx_vars y
  have e := emb4 t (ix2 y0 y1)
  refine (v_at m c t y0 y1).trans (congrArg₂ (resV m c) (Fin.ext ?_) (Fin.ext ?_)).symm
  · exact (e 0).trans (by rw [row_val]; simp [(idx t).2.2.2.2.1])
  · exact (e 1).trans (by simp [(idx t).2.2.2.2.1])

/-- The keys' half-precision copy. -/
theorem final_kb (c : Dev nD) : (dats m 0 c).arrAt 5 (cfgs 0).N = (show FVec Ideal S8192x1024 .bf16 from fun i => resK m c (i 0) (i 1)) := by
  refine (dats m 0 c).arrAt_eq_of_covers 5 _ (by decide +kernel) fun t hf y => ?_
  blk_simp
  rw [after0_5]
  idx_vars y
  have e := emb5 t (ix2 y0 y1)
  refine (kb_at m c t y0 y1).trans (congrArg₂ (resK m c) (Fin.ext ?_) (Fin.ext ?_)).symm
  · exact (e 0).trans (by rw [row_val]; simp [(idx t).2.2.2.2.2.1])
  · exact (e 1).trans (by simp [(idx t).2.2.2.2.2.1])

/-- The values' half-precision copy. -/
theorem final_vb (c : Dev nD) : (dats m 0 c).arrAt 6 (cfgs 0).N = (show FVec Ideal S8192x1024 .bf16 from fun i => resV m c (i 0) (i 1)) := by
  refine (dats m 0 c).arrAt_eq_of_covers 6 _ (by decide +kernel) fun t hf y => ?_
  blk_simp
  rw [after0_6]
  idx_vars y
  have e := emb6 t (ix2 y0 y1)
  refine (vb_at m c t y0 y1).trans (congrArg₂ (resV m c) (Fin.ext ?_) (Fin.ext ?_)).symm
  · exact (e 0).trans (by rw [row_val]; simp [(idx t).2.2.2.2.2.2])
  · exact (e 1).trans (by simp [(idx t).2.2.2.2.2.2])

end Cert.Kernel5Ideal.Hand

end
-- ==== Proof.QkvPromptRef.lean ====
/-
  What the reference of the prompt rows' query, key and value projections computes, read at an index: a row's product with a
  column of the input weights.
-/
module

public import proofs.«01_k».proof.Proof.Gen.Reference5Ideal.Read
public import Idealize.ShloMosaic.Lib.Pointwise

@[expose] public section

set_option maxRecDepth 16384

noncomputable section

open Idealize.ShloMosaic Idealize.ShloMosaic.TcCoe Idealize.SL.Sem

namespace Cert.Reference5Ideal.Hand

open Cert.Reference5Ideal Cert.Reference5Ideal.Gen Cert.Reference5Ideal.Value Cert.Reference5Ideal.Read

variable (x0 : FVec Ideal S8192x2048 .f32) (x1 : FVec Ideal S1x2048x8256 .f32)

/-- The scaled queries, -/
theorem q_at (R : Fin 8192) (n : Fin 1024) : val_main_v11 (F := Ideal) x0 x1 (ix2 R n)
    = (∑ k : Fin 2048, x0 (ix2 R k) * x1 (ix3 0 k ⟨n.val, by omega⟩)) * Ideal.ofBits .f32 0x3E0293EE#32 := by
  pointwise [val_main_v11, val_main_v10, val_main_v9, val_main_cst, val_main_v2, val_main_v1, val_main_v0]

/-- the keys -/
theorem k_at (R : Fin 8192) (n : Fin 1024) : val_main_v3 (F := Ideal) x0 x1 (ix2 R n)
    = ∑ k : Fin 2048, x0 (ix2 R k) * x1 (ix3 0 k ⟨1024 + n.val, by omega⟩) := by
  pointwise [val_main_v3, val_main_v1, val_main_v0]

/-- and the values, -/
theorem v_at (R : Fin 8192) (n : Fin 1024) : val_main_v4 (F := Ideal) x0 x1 (ix2 R n)
    = ∑ k : Fin 2048, x0 (ix2 R k) * x1 (ix3 0 k ⟨2048 + n.val, by omega⟩) := by
  pointwise [val_main_v4, val_main_v1, val_main_v0]

/-- and the two copies. -/
theorem kb_at (R : Fin 8192) (n : Fin 1024) : val_main_v12 (F := Ideal) x0 x1 (ix2 R n) = val_main_v3 (F := Ideal) x0 x1 (ix2 R n) := by
  pointwise [val_main_v12]

theorem vb_at (R : Fin 8192) (n : Fin 1024) : val_main_v13 (F := Ideal) x0 x1 (ix2 R n) = val_main_v4 (F := Ideal) x0 x1 (ix2 R n) := by
  pointwise [val_main_v13]

end Cert.Reference5Ideal.Hand

end
-- ==== Proof.QkvSample.lean ====
/-
  What the query, key and value projections of the sample rows compute: each block of the five results at an index, as a product of
  a row with a column of the input weights, and the result arrays after the run.
-/
module

public import proofs.«01_k».proof.Proof.Gen.Kernel6Ideal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.Hand

open Cert.Kernel6Ideal Cert.Kernel6Ideal.Gen

variable (m : (ℓ : Loc nD τ sig) → Buf (Elt Ideal) ℓ)

/-- The argument arrays, as functions of their coordinates: the rows -/
def H (c : Dev nD) (R : Fin 256) (k : Fin 2048) : EReal := (show FVec Ideal S256x2048 .f32 from m ((c : Thread nD τ).loc main_arg0)) (ix2 R k)
/-- and the input weights. -/
def W (c : Dev nD) (k : Fin 2048) (n : Fin 8256) : EReal :=
  (show FVec Ideal S1x2048x8256 .f32 from m ((c : Thread nD τ).loc main_arg1)) (ix3 0 k n)

/-- The windows' index maps in closed form: point `t` is row block `t`; the weights' block is the same at every point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- Row `r` of row block `b`. -/
def row (b : ℕ) (r : Fin 256) : Fin 256 := ⟨(b * 256 + r.val) % 256, Nat.mod_lt _ (by decide)⟩

theorem row_val (t : Fin cfg0.N) (r : Fin 256) : (row t.val r).val = t.val * 256 + r.val := by
  have := lt_of_lt_of_eq t.isLt (show cfg0.N = 1 from N_0)
  exact Nat.mod_eq_of_lt (by omega)

theorem blk0 (c : Dev nD) (t : Fin cfg0.N) (r : Fin 256) (k : Fin 2048) :
    (show FVec Ideal S256x2048 .f32 from iblk m c 0 t) (ix2 r k) = H m c (row t.val r) k := by
  unfold H
  have e := row_val t r
  generalize row t.val r = R at e
  blk_point [iblk, V, idx t]

/-- Where an element of the weights' block sits in the transposed input weights. -/
theorem emb1 (t : Fin cfg0.N) (y : (win0_1.xblock (grid0.coords t)).Idx) (a : Fin 2) : (((win0_1.blk t).view.emb y) a : ℕ) = win0_1.index t a * win0_1.size a + (y a : ℕ) :=
  ValueKit.view_emb_slice_whole_unit_val main_v2 _ _ _ y a

theorem blk1 (c : Dev nD) (t : Fin cfg0.N) (n : Fin 3072) (k : Fin 2048) :
    (show FVec Ideal S3072x2048 .bf16 from X0_1 m c t) (ix2 n k) = W m c k ⟨n.val, by omega⟩ := by
  unfold W X0_1
  refine (dif_pos (moved0_1 t (ix2 n k))).trans ?_
  unfold iblk
  blk_simp
  entry_read
  pointwise
  refine congrArg (m (c, Proc.tc.devRef main_arg1)) ?_
  refine (ix3_inj ..).2 ⟨rfl, Fin.ext ?_, Fin.ext ?_⟩
  · exact (emb1 t (fun a => ⟨(ix2 n k a).val, _⟩) 1).trans (by rw [(idx t).2.1]; simp)
  · exact (emb1 t (fun a => ⟨(ix2 n k a).val, _⟩) 0).trans (by rw [(idx t).2.1]; simp)

/-- A third of the weights' block, loaded from row `o` on. -/
theorem ld_at (c : Dev nD) (t : Fin cfg0.N) (o : ℕ) (ho : o ≤ 2048) (h) (n : Fin 1024) (k : Fin 2048) :
    (show FVec Ideal S1024x2048 .bf16 from View.ld (X0_1 m c t) (Rect.unit ![o, 0] ![1024, 2048] h)) (ix2 n k) = W m c k ⟨o + n.val, by omega⟩ := by
  refine Eq.trans (congrArg (X0_1 m c t) (funext fun a => ?_)) (blk1 m c t ⟨o + n.val, by omega⟩ k)
  fin_cases a
  · exact Fin.ext (by simp [Rect.unit, Rect.emb])
  · exact Fin.ext (by simp [Rect.unit, Rect.emb])

/-- A row's product with a column of the input weights. -/
def proj (c : Dev nD) (R : Fin 256) (n : Fin 8256) : EReal := ∑ k, H m c R k * W m c k n

/-! ### What a point leaves in each result's block -/

theorem prod_at (x : FVec Ideal S256x2048 .f32) (w : FVec Ideal S1024x2048 .bf16) (r : Fin 256) (n : Fin 1024) :
    k0_pay3 (F := Ideal) x w (ix2 r n) = ∑ k : Fin 2048, x (ix2 r k) * w (ix2 n k) := by
  pointwise [k0_pay3, k0_pay1]

/-- A product of a row block with a loaded third of the weights. -/
theorem prod_proj (c : Dev nD) (t : Fin cfg0.N) (o : ℕ) (ho : o ≤ 2048) (h) (r : Fin 256) (n : Fin 1024) :
    k0_pay3 (F := Ideal) (iblk m c 0 t) (View.ld (X0_1 m c t) (Rect.unit ![o, 0] ![1024, 2048] h)) (ix2 r n)
      = proj m c (row t.val r) ⟨o + n.val, by omega⟩ :=
  (prod_at _ _ r n).trans (Finset.sum_congr rfl fun k _ => congrArg₂ (· * ·) (blk0 m c t r k) (ld_at m c t o ho h n k))

/-- The scaled queries are the unscaled product times the scale; -/
theorem pay2_at (x : FVec Ideal S256x2048 .f32) (w : FVec Ideal S1024x2048 .bf16) (r : Fin 256) (n : Fin 1024) :
    k0_pay2 (F := Ideal) x w (ix2 r n) = k0_pay3 (F := Ideal) x w (ix2 r n) * Ideal.ofBits .f32 0x3E0293EE#32 := by
  rw [prod_at]
  pointwise [k0_pay2, k0_pay1]

/-- the half-precision copies are, over the reals, what they copy; -/
theorem pay4_at (x : FVec Ideal S256x2048 .f32) (w : FVec Ideal S1024x2048 .bf16) (r : Fin 256) (n : Fin 1024) :
    k0_pay4 (F := Ideal) x w (ix2 r n) = k0_pay3 (F := Ideal) x w (ix2 r n) := by
  pointwise [k0_pay4]

theorem pay6_at (x : FVec Ideal S256x2048 .f32) (w : FVec Ideal S1024x2048 .bf16) (r : Fin 256) (n : Fin 1024) :
    k0_pay6 (F := Ideal) x w (ix2 r n) = k0_pay3 (F := Ideal) x w (ix2 r n) := by
  rw [prod_at]
  pointwise [k0_pay6, k0_pay5, k0_pay1]

/-- and the values' product is the keys' with the other third. -/
theorem pay5_at (x : FVec Ideal S256x2048 .f32) (w : FVec Ideal S1024x2048 .bf16) (r : Fin 256) (n : Fin 1024) :
    k0_pay5 (F := Ideal) x w (ix2 r n) = k0_pay3 (F := Ideal) x w (ix2 r n) := by
  rw [prod_at]
  pointwise [k0_pay5, k0_pay1]

/-- The results at row `R`, column `n`: the scaled queries, the keys, the values. -/
def resQ (c : Dev nD) (R : Fin 256) (n : Fin 1024) : EReal := proj m c R ⟨n.val, by omega⟩ * Ideal.ofBits .f32 0x3E0293EE#32
def resK (c : Dev nD) (R : Fin 256) (n : Fin 1024) : EReal := proj m c R ⟨1024 + n.val, by omega⟩
def resV (c : Dev nD) (R : Fin 256) (n : Fin 1024) : EReal := proj m c R ⟨2048 + n.val, by omega⟩

theorem q_at (c : Dev nD) (t : Fin cfg0.N) (r : Fin 256) (n : Fin 1024) :
    (show FVec Ideal S256x1024 .bf16 from (outsAt0 m c t).1) (ix2 r n) = resQ m c (row t.val r) n := by
  unfold outsAt0
  frame_out
  refine (pay2_at _ _ r n).trans (congrArg (· * _) ((prod_proj m c t 0 (by omega) _ r n).trans ?_))
  exact congrArg (proj m c _) (Fin.ext (by simp))

theorem k_at (c : Dev nD) (t : Fin cfg0.N) (r : Fin 256) (n : Fin 1024) :
    (show FVec Ideal S256x1024 .f32 from (outsAt0 m c t).2.1) (ix2 r n) = resK m c (row t.val r) n := by
  unfold outsAt0
  frame_out
  exact prod_proj m c t 1024 (by omega) _ r n

theorem v_at (c : Dev nD) (t : Fin cfg0.N) (r : Fin 256) (n : Fin 1024) :
    (show FVec Ideal S256x1024 .f32 from (outsAt0 m c t).2.2.1) (ix2 r n) = resV m c (row t.val r) n := by
  unfold outsAt0
  frame_out
  exact (pay5_at _ _ r n).trans (prod_proj m c t 2048 (by omega) _ r n)

theorem kb_at (c : Dev nD) (t : Fin cfg0.N) (r : Fin 256) (n : Fin 1024) :
    (show FVec Ideal S256x1024 .bf16 from (outsAt0 m c t).2.2.2.1) (ix2 r n) = resK m c (row t.val r) n := by
  unfold outsAt0
  frame_out
  exact (pay4_at _ _ r n).trans (prod_proj m c t 1024 (by omega) _ r n)

theorem vb_at (c : Dev nD) (t : Fin cfg0.N) (r : Fin 256) (n : Fin 1024) :
    (show FVec Ideal S256x1024 .bf16 from (outsAt0 m c t).2.2.2.2) (ix2 r n) = resV m c (row t.val r) n := by
  unfold outsAt0
  frame_out
  exact (pay6_at _ _ r n).trans (prod_proj m c t 2048 (by omega) _ r n)

/-! ### Where an element of each result's block sits in the result array -/

theorem emb2 (t : Fin cfg0.N) (y : S256x1024.Idx) (a : Fin 2) :
    ((((View.whole main_v3_0).slice (win0_2.rect t)).emb y) a : ℕ) = win0_2.index t a * win0_2.size a + (y a : ℕ) :=
  ValueKit.view_emb_slice_whole_unit_val main_v3_0 _ _ _ y a
theorem emb3 (t : Fin cfg0.N) (y : S256x1024.Idx) (a : Fin 2) :
    ((((View.whole main_v3_1).slice (win0_3.rect t)).emb y) a : ℕ) = win0_3.index t a * win0_3.size a + (y a : ℕ) :=
  ValueKit.view_emb_slice_whole_unit_val main_v3_1 _ _ _ y a
theorem emb4 (t : Fin cfg0.N) (y : S256x1024.Idx) (a : Fin 2) :
    ((((View.whole main_v3_2).slice (win0_4.rect t)).emb y) a : ℕ) = win0_4.index t a * win0_4.size a + (y a : ℕ) :=
  ValueKit.view_emb_slice_whole_unit_val main_v3_2 _ _ _ y a
theorem emb5 (t : Fin cfg0.N) (y : S256x1024.Idx) (a : Fin 2) :
    ((((View.whole main_v3_3).slice (win0_5.rect t)).emb y) a : ℕ) = win0_5.index t a * win0_5.size a + (y a : ℕ) :=
  ValueKit.view_emb_slice_whole_unit_val main_v3_3 _ _ _ y a
theorem emb6 (t : Fin cfg0.N) (y : S256x1024.Idx) (a : Fin 2) :
    ((((View.whole main_v3_4).slice (win0_6.rect t)).emb y) a : ℕ) = win0_6.index t a * win0_6.size a + (y a : ℕ) :=
  ValueKit.view_emb_slice_whole_unit_val main_v3_4 _ _ _ y a

/-! ### The result arrays after the run, element by element -/

/-- The queries, scaled. -/
theorem final_q (c : Dev nD) : (dats m 0 c).arrAt 2 (cfgs 0).N = (show FVec Ideal S256x1024 .bf16 from fun i => resQ m c (i 0) (i 1)) := by
  refine (dats m 0 c).arrAt_eq_of_covers 2 _ (by decide +kernel) fun t hf y => ?_
  blk_simp
  rw [after0_2]
  idx_vars y
  have e := emb2 t (ix2 y0 y1)
  refine (q_at m c t y0 y1).trans (congrArg₂ (resQ m c) (Fin.ext ?_) (Fin.ext ?_)).symm
  · exact (e 0).trans (by rw [row_val]; simp [(idx t).2.2.1])
  · exact (e 1).trans (by simp [(idx t).2.2.1])

/-- The keys. -/
theorem final_k (c : Dev nD) : (dats m 0 c).arrAt 3 (cfgs 0).N = (show FVec Ideal S256x1024 .f32 from fun i => resK m c (i 0) (i 1)) := by
  refine (dats m 0 c).arrAt_eq_of_covers 3 _ (by decide +kernel) fun t hf y => ?_
  blk_simp
  rw [after0_3]
  idx_vars y
  have e := emb3 t (ix2 y0 y1)
  refine (k_at m c t y0 y1).trans (congrArg₂ (resK m c) (Fin.ext ?_) (Fin.ext ?_)).symm
  · exact (e 0).trans (by rw [row_val]; simp [(idx t).2.2.2.1])
  · exact (e 1).trans (by simp [(idx t).2.2.2.1])

/-- The values. -/
theorem final_v (c : Dev nD) : (dats m 0 c).arrAt 4 (cfgs 0).N = (show FVec Ideal S256x1024 .f32 from fun i => resV m c (i 0) (i 1)) := by
  refine (dats m 0 c).arrAt_eq_of_covers 4 _ (by decide +kernel) fun t hf y => ?_
  blk_simp
  rw [after0_4]
  idx_vars y
  have e := emb4 t (ix2 y0 y1)
  refine (v_at m c t y0 y1).trans (congrArg₂ (resV m c) (Fin.ext ?_) (Fin.ext ?_)).symm
  · exact (e 0).trans (by rw [row_val]; simp [(idx t).2.2.2.2.1])
  · exact (e 1).trans (by simp [(idx t).2.2.2.2.1])

/-- The keys' half-precision copy. -/
theorem final_kb (c : Dev nD) : (dats m 0 c).arrAt 5 (cfgs 0).N = (show FVec Ideal S256x1024 .bf16 from fun i => resK m c (i 0) (i 1)) := by
  refine (dats m 0 c).arrAt_eq_of_covers 5 _ (by decide +kernel) fun t hf y => ?_
  blk_simp
  rw [after0_5]
  idx_vars y
  have e := emb5 t (ix2 y0 y1)
  refine (kb_at m c t y0 y1).trans (congrArg₂ (resK m c) (Fin.ext ?_) (Fin.ext ?_)).symm
  · exact (e 0).trans (by rw [row_val]; simp [(idx t).2.2.2.2.2.1])
  · exact (e 1).trans (by simp [(idx t).2.2.2.2.2.1])

/-- The values' half-precision copy. -/
theorem final_vb (c : Dev nD) : (dats m 0 c).arrAt 6 (cfgs 0).N = (show FVec Ideal S256x1024 .bf16 from fun i => resV m c (i 0) (i 1)) := by
  refine (dats m 0 c).arrAt_eq_of_covers 6 _ (by decide +kernel) fun t hf y => ?_
  blk_simp
  rw [after0_6]
  idx_vars y
  have e := emb6 t (ix2 y0 y1)
  refine (vb_at m c t y0 y1).trans (congrArg₂ (resV m c) (Fin.ext ?_) (Fin.ext ?_)).symm
  · exact (e 0).trans (by rw [row_val]; simp [(idx t).2.2.2.2.2.2])
  · exact (e 1).trans (by simp [(idx t).2.2.2.2.2.2])

end Cert.Kernel6Ideal.Hand

end
-- ==== Proof.QkvSampleRef.lean ====
/-
  What the reference of the sample rows' query, key and value projections computes, read at an index: a row's product with a
  column of the input weights.
-/
module

public import proofs.«01_k».proof.Proof.Gen.Reference6Ideal.Read
public import Idealize.ShloMosaic.Lib.Pointwise

@[expose] public section

set_option maxRecDepth 16384

noncomputable section

open Idealize.ShloMosaic Idealize.ShloMosaic.TcCoe Idealize.SL.Sem

namespace Cert.Reference6Ideal.Hand

open Cert.Reference6Ideal Cert.Reference6Ideal.Gen Cert.Reference6Ideal.Value Cert.Reference6Ideal.Read

variable (x0 : FVec Ideal S256x2048 .f32) (x1 : FVec Ideal S1x2048x8256 .f32)

/-- The scaled queries, -/
theorem q_at (R : Fin 256) (n : Fin 1024) : val_main_v11 (F := Ideal) x0 x1 (ix2 R n)
    = (∑ k : Fin 2048, x0 (ix2 R k) * x1 (ix3 0 k ⟨n.val, by omega⟩)) * Ideal.ofBits .f32 0x3E0293EE#32 := by
  pointwise [val_main_v11, val_main_v10, val_main_v9, val_main_cst, val_main_v2, val_main_v1, val_main_v0]

/-- the keys -/
theorem k_at (R : Fin 256) (n : Fin 1024) : val_main_v3 (F := Ideal) x0 x1 (ix2 R n)
    = ∑ k : Fin 2048, x0 (ix2 R k) * x1 (ix3 0 k ⟨1024 + n.val, by omega⟩) := by
  pointwise [val_main_v3, val_main_v1, val_main_v0]

/-- and the values, -/
theorem v_at (R : Fin 256) (n : Fin 1024) : val_main_v4 (F := Ideal) x0 x1 (ix2 R n)
    = ∑ k : Fin 2048, x0 (ix2 R k) * x1 (ix3 0 k ⟨2048 + n.val, by omega⟩) := by
  pointwise [val_main_v4, val_main_v1, val_main_v0]

/-- and the two copies. -/
theorem kb_at (R : Fin 256) (n : Fin 1024) : val_main_v12 (F := Ideal) x0 x1 (ix2 R n) = val_main_v3 (F := Ideal) x0 x1 (ix2 R n) := by
  pointwise [val_main_v12]

theorem vb_at (R : Fin 256) (n : Fin 1024) : val_main_v13 (F := Ideal) x0 x1 (ix2 R n) = val_main_v4 (F := Ideal) x0 x1 (ix2 R n) := by
  pointwise [val_main_v13]

end Cert.Reference6Ideal.Hand

end
-- ==== Proof.LatSpec.lean ====
/-
  The latent projections' arithmetic on one row: a root-mean-square norm, the rotary embedding of a 64-vector, and the form in
  which a 128-lane register holds a rotated vector.
-/
module

public import Idealize.ShloMosaic.PureOps.Ideal

@[expose] public section

noncomputable section

open Idealize.ShloMosaic

namespace Cert.Lat

/-- A row divided by the root of its mean square, times a gain. -/
def rms (x g : Fin 512 → EReal) (j : Fin 512) : EReal :=
  x j * Ideal.rsqrt (Ideal.div (∑ k, x k * x k) (Ideal.ofBits .f32 0x44000000#32) + Ideal.ofBits .f32 0x358637BD#32) * g j

/-- The rotary frequencies: `10000 ^ (-(2 l) / 64)`. -/
def freq (l : Fin 32) : EReal :=
  Ideal.pow (Ideal.ofBits .f32 0x461C4000#32)
    (Ideal.div (-(Ideal.ofBits .f32 0x40000000#32 * FloatOps.sitofp (F := Ideal) .f32 (BitVec.ofNat 32 l.val))) (Ideal.ofBits .f32 0x42800000#32))

/-- The angles at position `p`. -/
def angle (p : ℕ) (l : Fin 32) : EReal := FloatOps.sitofp (F := Ideal) .f32 (BitVec.ofNat 32 p) * freq l

/-- The rotary embedding: lane `l < 32` and lane `l + 32` turn together by the angle of `l`. -/
def rot (ang : Fin 32 → EReal) (x : Fin 64 → EReal) (l : Fin 64) : EReal :=
  if h : l.val < 32 then x l * Ideal.cos (ang ⟨l.val, h⟩) - x ⟨l.val + 32, by omega⟩ * Ideal.sin (ang ⟨l.val, h⟩)
  else x l * Ideal.cos (ang ⟨l.val - 32, by omega⟩) + x ⟨l.val - 32, by omega⟩ * Ideal.sin (ang ⟨l.val - 32, by omega⟩)

/-- The rotation on 128 lanes, as a sum of the vector and its two turns by 32 lanes, each times a masked table. -/
def lanes (a x : Fin 128 → EReal) (l : Fin 128) : EReal :=
  x l * (if l.val < 64 then Ideal.cos (a l) else 0)
    + x ⟨(l.val + 128 - 96) % 128, Nat.mod_lt _ (by omega)⟩ * (if l.val < 32 then 0 - Ideal.sin (a l) else 0)
    + x ⟨(l.val + 128 - 32) % 128, Nat.mod_lt _ (by omega)⟩ * (if 32 ≤ l.val ∧ l.val < 64 then Ideal.sin (a l) else 0)

/-- A finite nonnegative factor goes into a sum. -/
theorem add_scale {s : EReal} (hs : ∃ r : ℝ, 0 ≤ r ∧ s = (r : EReal)) (a b : EReal) : (a + b) * s = a * s + b * s := by
  obtain ⟨r, hr, rfl⟩ := hs
  rw [mul_comm, EReal.left_distrib_of_nonneg_of_ne_top (by exact_mod_cast hr) (EReal.coe_ne_top r), mul_comm a, mul_comm b]

/-- The lanes' rotation of a scaled vector is the scaled rotation in the first 64 lanes and zero in the others. -/
theorem lanes_eq {s : EReal} (hs : ∃ r : ℝ, 0 ≤ r ∧ s = (r : EReal)) (a x : Fin 128 → EReal) (ang : Fin 32 → EReal) (y : Fin 64 → EReal)
    (ha : ∀ l : Fin 128, l.val < 64 → a l = ang ⟨l.val % 32, Nat.mod_lt _ (by omega)⟩)
    (hx : ∀ l : Fin 128, ∀ h : l.val < 64, x l = y ⟨l.val, h⟩ * s) (l : Fin 128) :
    lanes a x l = if h : l.val < 64 then rot ang y ⟨l.val, h⟩ * s else 0 := by
  unfold lanes
  by_cases h : l.val < 64
  · rw [dif_pos h, if_pos h, ha l h, hx l h]
    unfold rot
    by_cases h' : l.val < 32
    · rw [if_pos h', if_neg (by omega), mul_zero, add_zero, dif_pos h', hx _ (show (l.val + 128 - 96) % 128 < 64 by omega),
        sub_eq_add_neg _ (_ * Ideal.sin _), add_scale hs, zero_sub]
      have e1 : (⟨l.val % 32, Nat.mod_lt _ (by omega)⟩ : Fin 32) = ⟨l.val, h'⟩ := Fin.ext (by simp; omega)
      have e2 : (⟨(l.val + 128 - 96) % 128, by omega⟩ : Fin 64) = ⟨l.val + 32, by omega⟩ := Fin.ext (by simp; omega)
      rw [e1, e2, mul_right_comm, mul_neg, neg_mul, mul_right_comm (y ⟨l.val + 32, _⟩)]
    · rw [if_neg h', if_pos ⟨by omega, h⟩, mul_zero, add_zero, dif_neg h', hx _ (show (l.val + 128 - 32) % 128 < 64 by omega),
        add_scale hs]
      have e1 : (⟨l.val % 32, Nat.mod_lt _ (by omega)⟩ : Fin 32) = ⟨l.val - 32, by omega⟩ := Fin.ext (by simp; omega)
      have e2 : (⟨(l.val + 128 - 32) % 128, by omega⟩ : Fin 64) = ⟨l.val - 32, by omega⟩ := Fin.ext (by simp; omega)
      rw [e1, e2, mul_right_comm, mul_right_comm (y ⟨l.val - 32, _⟩)]
  · rw [dif_neg h, if_neg h, if_neg (by omega), if_neg (by omega)]
    simp

/-- The scale of the queries is a finite nonnegative real, -/
theorem scale_real : ∃ r : ℝ, 0 ≤ r ∧ Ideal.ofBits .f32 0x3DD53B95#32 = (r : EReal) := by
  refine ⟨_, ?_, by simp [Ideal.ofBits, Ideal.ieee]; rfl⟩
  positivity

/-- and so is one. -/
theorem one_real : ∃ r : ℝ, 0 ≤ r ∧ (1 : EReal) = (r : EReal) := ⟨1, zero_le_one, rfl⟩

/-- The six results of a row: the queries, 256 lanes a head (128 plain, 64 rotated, 64 zero), scaled; -/
def queries (s : EReal) (ang : Fin 32 → EReal) (q : Fin 1536 → EReal) (n : Fin 2048) : EReal :=
  if h : n.val % 256 < 128 then q ⟨n.val / 256 * 192 + n.val % 256, by omega⟩ * s
  else if h' : n.val % 256 < 192 then
    rot ang (fun l => q ⟨n.val / 256 * 192 + 128 + l.val, by omega⟩) ⟨n.val % 256 - 128, by omega⟩ * s
  else 0

/-- the shared rotary key, 64 lanes of 128. -/
def padded (x : Fin 64 → EReal) (l : Fin 128) : EReal := if h : l.val < 64 then x ⟨l.val, h⟩ else 0

end Cert.Lat

end
-- ==== Proof.LatPrompt.lean ====
/-
  What the latent projections of the prompt rows compute: each block of the six results at an index, as the row's normed latents, their
  products and rotations, and the result arrays after the run.
-/
module

public import proofs.«01_k».proof.Proof.Gen.Kernel7Ideal.Value
public import proofs.«01_k».proof.Proof.LatSpec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.Hand

open Cert.Kernel7Ideal Cert.Kernel7Ideal.Gen Cert.Lat

variable (m : (ℓ : Loc nD τ sig) → Buf (Elt Ideal) ℓ)

/-! ### The arguments and what the call stages of them -/

/-- The argument arrays, as functions of their coordinates: the rows, -/
def H (c : Dev nD) (R : Fin 8192) (k : Fin 2048) : EReal := (show FVec Ideal S8192x2048 .f32 from m ((c : Thread nD τ).loc main_arg0)) (ix2 R k)
/-- the input weights, -/
def W (c : Dev nD) (k : Fin 2048) (n : Fin 8256) : EReal :=
  (show FVec Ideal S1x2048x8256 .f32 from m ((c : Thread nD τ).loc main_arg1)) (ix3 0 k n)
/-- the gain of the query latent's norm, -/
def Gq (c : Dev nD) (j : Fin 512) : EReal := (show FVec Ideal S1x512 .f32 from m ((c : Thread nD τ).loc main_arg2)) (ix2 0 j)
/-- the weights from the query latent to the queries, -/
def Uq (c : Dev nD) (j : Fin 512) (n : Fin 1536) : EReal :=
  (show FVec Ideal S1x512x1536 .f32 from m ((c : Thread nD τ).loc main_arg3)) (ix3 0 j n)
/-- the gain of the key and value latent's norm, -/
def Gkv (c : Dev nD) (j : Fin 512) : EReal := (show FVec Ideal S1x512 .f32 from m ((c : Thread nD τ).loc main_arg4)) (ix2 0 j)
/-- and the weights from that latent to keys and values. -/
def Ukv (c : Dev nD) (j : Fin 512) (n : Fin 2048) : EReal :=
  (show FVec Ideal S1x512x2048 .f32 from m ((c : Thread nD τ).loc main_arg5)) (ix3 0 j n)

/-- The windows' index maps in closed form: point `t` is row block `t`; the weights' blocks are the same at every point. -/
theorem idx : ∀ t : Fin cfg0.N, win0_0.index t = ![t.val, 0] ∧ win0_1.index t = ![3072, 0] ∧ win0_2.index t = ![0, 0]
    ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)
theorem idxo : ∀ t : Fin cfg0.N, win0_8.index t = ![t.val, 0] ∧ win0_9.index t = ![t.val, 0] ∧ win0_10.index t = ![t.val, 0]
    ∧ win0_11.index t = ![t.val, 0] ∧ win0_12.index t = ![t.val, 0] ∧ win0_13.index t = ![t.val, 0] :=
  (by decide +kernel : ∀ t : Fin grid0.N, _)
/-- A point's coordinate is its number. -/
theorem coord : ∀ t : Fin cfg0.N, (grid0.coords t 0).val = t.val := (by decide +kernel : ∀ t : Fin grid0.N, _)

/-- Row `r` of row block `b`. -/
def row (b : ℕ) (r : Fin 512) : Fin 8192 := ⟨(b * 512 + r.val) % 8192, Nat.mod_lt _ (by decide)⟩

theorem row_val (t : Fin cfg0.N) (r : Fin 512) : (row t.val r).val = t.val * 512 + r.val := by
  have := lt_of_lt_of_eq t.isLt (show cfg0.N = 16 from N_0)
  exact Nat.mod_eq_of_lt (by omega)

theorem blk0 (c : Dev nD) (t : Fin cfg0.N) (r : Fin 512) (k : Fin 2048) :
    (show FVec Ideal S512x2048 .f32 from iblk m c 0 t) (ix2 r k) = H m c (row t.val r) k := by
  unfold H
  have e := row_val t r
  generalize row t.val r = R at e
  blk_point [iblk, V, idx t]

/-- The host transposes the input weights, -/
theorem entry19 (c : Dev nD) : (show FVec Ideal S8256x2048 .bf16 from V m c main_v19)
    = truncf .bf16 (transpose S8256x2048 [1, 0] (shapeCast S2048x8256 (show FVec Ideal S1x2048x8256 .f32 from m ((c : Thread nD τ).loc main_arg1)) shapeCasts_S1x2048x8256_S2048x8256)
        transposes_S2048x8256_S8256x2048_1_0) bitsLt_bf16_f32 := by
  unfold V
  simp only [hostOps0, hostOps0_1, hostOps0_2, List.flatten_cons, List.flatten_nil, List.append_nil, List.cons_append, List.nil_append]
  entry_read
  rfl

/-- passes the gains on, -/
theorem entry21 (c : Dev nD) : (show FVec Ideal S1x512 .f32 from V m c main_v21)
    = shapeCast S1x512 (shapeCast S512 (show FVec Ideal S1x512 .f32 from m ((c : Thread nD τ).loc main_arg2)) shapeCasts_S1x512_S512) shapeCasts_S512_S1x512 := by
  unfold V
  simp only [hostOps0, hostOps0_1, hostOps0_2, List.flatten_cons, List.flatten_nil, List.append_nil, List.cons_append, List.nil_append]
  entry_read
  rfl

/-- both of them, -/
theorem entry23 (c : Dev nD) : (show FVec Ideal S1x512 .f32 from V m c main_v23)
    = shapeCast S1x512 (shapeCast S512 (show FVec Ideal S1x512 .f32 from m ((c : Thread nD τ).loc main_arg4)) shapeCasts_S1x512_S512) shapeCasts_S512_S1x512 := by
  unfold V
  simp only [hostOps0, hostOps0_1, hostOps0_2, List.flatten_cons, List.flatten_nil, List.append_nil, List.cons_append, List.nil_append]
  entry_read
  rfl

/-- pads each head of the query weights with zero columns, -/
theorem entry10 (c : Dev nD) : (show FVec Ideal S512x2048 .bf16 from V m c main_v10)
    = shapeCast S512x2048 (pad S512x8x256 ![0, 0, 0] ![0, 0, 64] ![0, 0, 0] (shapeCast S512x8x192
        (truncf .bf16 (shapeCast S512x1536 (show FVec Ideal S1x512x1536 .f32 from m ((c : Thread nD τ).loc main_arg3)) shapeCasts_S1x512x1536_S512x1536)
          bitsLt_bf16_f32) shapeCasts_S512x1536_S512x8x192) (sitofp .bf16 (constantI S_ 32 0#32))
        pads_S512x8x192_S512x8x256_000_000_0640 h_S_) shapeCasts_S512x8x256_S512x2048 := by
  unfold V
  simp only [hostOps0, hostOps0_1, hostOps0_2, List.flatten_cons, List.flatten_nil, List.append_nil, List.cons_append, List.nil_append]
  entry_read
  rfl

/-- takes each head's key columns -/
theorem entry14 (c : Dev nD) : (show FVec Ideal S512x1024 .bf16 from V m c main_v14)
    = shapeCast S512x1024 (extractStridedSlice S512x8x128 ![0, 0, 0] (shapeCast S512x8x256
        (truncf .bf16 (shapeCast S512x2048 (show FVec Ideal S1x512x2048 .f32 from m ((c : Thread nD τ).loc main_arg5)) shapeCasts_S1x512x2048_S512x2048)
          bitsLt_bf16_f32) shapeCasts_S512x2048_S512x8x256) slices_S512x8x256_S512x8x128_0_0_0) shapeCasts_S512x8x128_S512x1024 := by
  unfold V
  simp only [hostOps0, hostOps0_1, hostOps0_2, List.flatten_cons, List.flatten_nil, List.append_nil, List.cons_append, List.nil_append]
  entry_read
  rfl

/-- and its value columns apart, -/
theorem entry16 (c : Dev nD) : (show FVec Ideal S512x1024 .bf16 from V m c main_v16)
    = shapeCast S512x1024 (extractStridedSlice S512x8x128 ![0, 0, 128] (shapeCast S512x8x256
        (truncf .bf16 (shapeCast S512x2048 (show FVec Ideal S1x512x2048 .f32 from m ((c : Thread nD τ).loc main_arg5)) shapeCasts_S1x512x2048_S512x2048)
          bitsLt_bf16_f32) shapeCasts_S512x2048_S512x8x256) slices_S512x8x256_S512x8x128_0_0_128) shapeCasts_S512x8x128_S512x1024 := by
  unfold V
  simp only [hostOps0, hostOps0_1, hostOps0_2, List.flatten_cons, List.flatten_nil, List.append_nil, List.cons_append, List.nil_append]
  entry_read
  rfl

/-- and computes the frequencies, -/
def freqs : FVec Ideal S32 .f32 := Host.powf (broadcastInDim S32 ![] bcast_S_S32 (constant S_ .f32 0x461C4000#32))
  (Host.divf (Host.negf (addf (broadcastInDim S32 ![] bcast_S_S32 (constant S_ .f32 0x00000000#32))
    (mulf (broadcastInDim S32 ![] bcast_S_S32 (constant S_ .f32 0x40000000#32)) (sitofp .f32 (iotaInDim S32 32 0)))))
    (broadcastInDim S32 ![] bcast_S_S32 (constant S_ .f32 0x42800000#32)))

theorem entry33 (c : Dev nD) : (show FVec Ideal S32 .f32 from V m c main_v33) = freqs := by
  unfold V
  simp only [hostOps0, hostOps0_1, hostOps0_2, List.flatten_cons, List.flatten_nil, List.append_nil, List.cons_append, List.nil_append]
  entry_read
  rfl

def zeros64 : FVec Ideal S64 .f32 := broadcastInDim S64 ![] bcast_S_S64 (constant S_ .f32 0x00000000#32)

theorem entry34 (c : Dev nD) : (show FVec Ideal S64 .f32 from V m c main_v34) = zeros64 := by
  unfold V
  simp only [hostOps0, hostOps0_1, hostOps0_2, List.flatten_cons, List.flatten_nil, List.append_nil, List.cons_append, List.nil_append]
  entry_read
  rfl

/-- laid out, twice, with zeros behind: the host's last two operations, read off any contents they start from. -/
theorem entry36_of (X : (b : DevRef τ sig) → b.ty.Contents (Elt Ideal)) :
    (show FVec Ideal S1x128 .f32 from StableHlo.after (List.drop 30 hostOps0_2) X (Proc.tc.devRef main_v36))
    = shapeCast S1x128 (concatenate S128 0 [⟨S32, (show FVec Ideal S32 .f32 from X (Proc.tc.devRef main_v33))⟩,
        ⟨S32, (show FVec Ideal S32 .f32 from X (Proc.tc.devRef main_v33))⟩,
        ⟨S64, (show FVec Ideal S64 .f32 from X (Proc.tc.devRef main_v34))⟩] concatenates_S32_S32_S64_S128_d0 : FVec Ideal S128 .f32)
        shapeCasts_S128_S1x128 := rfl

/-- A line of operations is its first ones and then the others, -/
theorem after_app (a b : List (HloOp τ sig (Elt Ideal))) (X : (b : DevRef τ sig) → b.ty.Contents (Elt Ideal)) :
    StableHlo.after (a ++ b) X = StableHlo.after b (StableHlo.after a X) := by
  induction a generalizing X with
  | nil => rfl
  | cons o a ih => exact ih _

/-- so the last of three lines can be cut anywhere. -/
theorem after_cut (a b d : List (HloOp τ sig (Elt Ideal))) (n : ℕ) (X : (b : DevRef τ sig) → b.ty.Contents (Elt Ideal)) :
    ∃ Y : (b : DevRef τ sig) → b.ty.Contents (Elt Ideal), StableHlo.after (List.flatten [a, b, d]) X = StableHlo.after (d.drop n) Y := by
  refine ⟨StableHlo.after (a ++ b ++ d.take n) X, ?_⟩
  rw [← after_app, List.append_assoc, List.take_append_drop]
  simp

theorem entry_split (c : Dev nD) : ∃ X : (b : DevRef τ sig) → b.ty.Contents (Elt Ideal),
    ∀ b : Ref sig .tc, V m c b = StableHlo.after (List.drop 30 hostOps0_2) X (Proc.tc.devRef b) :=
  (after_cut _ _ _ 30 _).imp fun _ h b => congrFun h (Proc.tc.devRef b)

theorem entry36 (c : Dev nD) : (show FVec Ideal S1x128 .f32 from V m c main_v36)
    = shapeCast S1x128 (concatenate S128 0 [⟨S32, freqs⟩, ⟨S32, freqs⟩, ⟨S64, zeros64⟩] concatenates_S32_S32_S64_S128_d0
        : FVec Ideal S128 .f32) shapeCasts_S128_S1x128 := by
  obtain ⟨X, h⟩ := entry_split m c
  refine ((h main_v36).trans (entry36_of X)).trans ?_
  rw [show (show FVec Ideal S32 .f32 from X (Proc.tc.devRef main_v33)) = freqs from (h main_v33).symm.trans (entry33 m c),
    show (show FVec Ideal S64 .f32 from X (Proc.tc.devRef main_v34)) = zeros64 from (h main_v34).symm.trans (entry34 m c)]

/-! ### The staged blocks -/

/-- Where an element of the element-addressed weights' block sits in the transposed input weights. -/
theorem emb1 (t : Fin cfg0.N) (y : S1152x2048.Idx) (a : Fin 2) : (((win0_1.blk t).view.emb y) a : ℕ) = win0_1.index t a + (y a : ℕ) :=
  ValueKit.view_emb_slice_whole_unit_val main_v19 _ _ _ y a

/-- The element-addressed block of the transposed input weights starts at the latents' columns. -/
theorem blk1 (c : Dev nD) (t : Fin cfg0.N) (n : Fin 1152) (k : Fin 2048) :
    (show FVec Ideal S1152x2048 .bf16 from iblk m c 1 t) (ix2 n k) = W m c k ⟨3072 + n.val, by omega⟩ := by
  have e : (show FVec Ideal S1152x2048 .bf16 from iblk m c 1 t) (ix2 n k)
      = (show FVec Ideal S8256x2048 .bf16 from V m c main_v19) (ix2 ⟨3072 + n.val, by omega⟩ k) := by
    refine congrArg (V m c main_v19) ((ix2_eta _).symm.trans ((ix2_inj ..).2 ⟨Fin.ext ?_, Fin.ext ?_⟩))
    · exact (emb1 t (ix2 n k) 0).trans (by rw [(idx t).2.1]; rfl)
    · exact (emb1 t (ix2 n k) 1).trans (by rw [(idx t).2.1]; simp)
  rw [e, entry19]
  unfold W
  pointwise

theorem blk2 (c : Dev nD) (t : Fin cfg0.N) (j : Fin 512) : (show FVec Ideal S1x512 .f32 from iblk m c 2 t) (ix2 0 j)
    = Gq m c j := by
  have e : (show FVec Ideal S1x512 .f32 from iblk m c 2 t) (ix2 0 j)
      = (show FVec Ideal S1x512 .f32 from V m c main_v21) (ix2 0 j) := by
    blk_point [iblk, idx t]
  rw [e, entry21]
  unfold Gq
  pointwise

theorem blk3 (c : Dev nD) (t : Fin cfg0.N) (j : Fin 512) : (show FVec Ideal S1x512 .f32 from iblk m c 3 t) (ix2 0 j)
    = Gkv m c j := by
  have e : (show FVec Ideal S1x512 .f32 from iblk m c 3 t) (ix2 0 j)
      = (show FVec Ideal S1x512 .f32 from V m c main_v23) (ix2 0 j) := by
    blk_point [iblk, idx t]
  rw [e, entry23]
  unfold Gkv
  pointwise

/-- The query weights are staged 256 columns a head: the head's 192 columns, then zeros. -/
theorem blk4 (c : Dev nD) (t : Fin cfg0.N) (j : Fin 512) (n : Fin 2048) : (show FVec Ideal S512x2048 .bf16 from iblk m c 4 t) (ix2 j n)
    = if h : n.val % 256 < 192 then Uq m c j ⟨n.val / 256 * 192 + n.val % 256, by omega⟩ else 0 := by
  have e : (show FVec Ideal S512x2048 .bf16 from iblk m c 4 t) (ix2 j n)
      = (show FVec Ideal S512x2048 .bf16 from V m c main_v10) (ix2 j n) := by
    blk_point [iblk, idx t]
  rw [e, entry10]
  unfold Uq
  pointwise
  by_cases h : n.val % 256 < 192
  · rw [dif_pos h, dif_pos ⟨by omega, h⟩]
  · rw [dif_neg h, dif_neg (fun h' => h h'.2)]
    simp [FloatOps.sitofp]

/-- The key weights are each head's first 128 columns, the value weights its other 128. -/
theorem blk5 (c : Dev nD) (t : Fin cfg0.N) (j : Fin 512) (n : Fin 1024) : (show FVec Ideal S512x1024 .bf16 from iblk m c 5 t) (ix2 j n)
    = Ukv m c j ⟨n.val / 128 * 256 + n.val % 128, by omega⟩ := by
  have e : (show FVec Ideal S512x1024 .bf16 from iblk m c 5 t) (ix2 j n)
      = (show FVec Ideal S512x1024 .bf16 from V m c main_v14) (ix2 j n) := by
    blk_point [iblk, idx t]
  rw [e, entry14]
  unfold Ukv
  pointwise

theorem blk6 (c : Dev nD) (t : Fin cfg0.N) (j : Fin 512) (n : Fin 1024) : (show FVec Ideal S512x1024 .bf16 from iblk m c 6 t) (ix2 j n)
    = Ukv m c j ⟨n.val / 128 * 256 + 128 + n.val % 128, by omega⟩ := by
  have e : (show FVec Ideal S512x1024 .bf16 from iblk m c 6 t) (ix2 j n)
      = (show FVec Ideal S512x1024 .bf16 from V m c main_v16) (ix2 j n) := by
    blk_point [iblk, idx t]
  rw [e, entry16]
  unfold Ukv
  pointwise
  exact congrArg (m _) ((ix3_inj ..).2 ⟨rfl, rfl, Fin.ext (Nat.add_assoc _ _ _).symm⟩)

/-- The frequencies are staged twice, on the first 64 lanes. -/
theorem blk7 (c : Dev nD) (t : Fin cfg0.N) (l : Fin 128) (h : l.val < 64) : (show FVec Ideal S1x128 .f32 from iblk m c 7 t) (ix2 0 l)
    = freq ⟨l.val % 32, Nat.mod_lt _ (by omega)⟩ := by
  have e : (show FVec Ideal S1x128 .f32 from iblk m c 7 t) (ix2 0 l)
      = (show FVec Ideal S1x128 .f32 from V m c main_v36) (ix2 0 l) := by
    blk_point [iblk, idx t]
  rw [e, entry36]
  pointwise [freqs, zeros64]
  unfold freq
  show _ = Ideal.pow _ (Ideal.div (-(_ * FloatOps.sitofp (F := Ideal) .f32 (BitVec.ofNat 32 (l.val % 32)))) _)
  by_cases h' : l.val < 32
  · rw [dif_pos h', Nat.mod_eq_of_lt h']
  · rw [dif_neg h', dif_pos (by omega), show l.val % 32 = l.val - 32 by omega]
/-! ### The payloads at an index -/

/-- The angle at row `r` of a point's block, lane `l`: the row's position times the staged frequency. -/
def ang (t : Fin cfg0.N) (f : FVec Ideal S1x128 .f32) (r : Fin 512) (l : Fin 128) : EReal :=
  FloatOps.sitofp (F := Ideal) .f32 (BitVec.ofNat 32 ((t.val * 512 + r.val) % 4096 + 0)) * f (ix2 0 l)

/-- The row's position as a word. -/
theorem word : ∀ (t : Fin cfg0.N) (r : Fin 512), IntOp.addi (IntOp.andi (IntOp.addi (Scalar.muli (BitVec.ofNat 32 (grid0.coords t 0).val) 512#32)
    (BitVec.ofNat 32 r.val)) 4095#32) 0#32 = BitVec.ofNat 32 ((t.val * 512 + r.val) % 4096 + 0) :=
  (by decide +kernel : ∀ (t : Fin grid0.N) (r : Fin 512), _)

/-- The lanes' masks, as bits. -/
theorem mask_lo64 : ∀ l : Fin 128, IntOp.cmpi .slt (BitVec.ofNat 32 l.val) 64#32 = if l.val < 64 then 1#1 else 0#1 := by decide +kernel
theorem mask_lo32 : ∀ l : Fin 128, IntOp.cmpi .slt (BitVec.ofNat 32 l.val) 32#32 = if l.val < 32 then 1#1 else 0#1 := by decide +kernel
theorem mask_hi32 : ∀ l : Fin 128, IntOp.andi (IntOp.cmpi .sge (BitVec.ofNat 32 l.val) 32#32) (IntOp.cmpi .slt (BitVec.ofNat 32 l.val) 64#32)
    = if 32 ≤ l.val ∧ l.val < 64 then 1#1 else 0#1 := by decide +kernel

/-- The masked tables: the cosine on the first 64 lanes, -/
theorem pay7_at (t : Fin cfg0.N) (f : FVec Ideal S1x128 .f32) (r : Fin 512) (l : Fin 128) :
    k0_pay7 (F := Ideal) (grid0.coords t) f (ix2 r l) = if l.val < 64 then Ideal.cos (ang t f r l) else 0 := by
  pointwise [k0_pay7, k0_pay6, k0_pay5]
  rw [word t r, mask_lo64]
  unfold ang
  split_ifs <;> rfl

theorem pay8_at (t : Fin cfg0.N) (f : FVec Ideal S1x128 .f32) (r : Fin 512) (l : Fin 128) :
    k0_pay8 (F := Ideal) (grid0.coords t) f (ix2 r l) = if l.val < 32 then 0 - Ideal.sin (ang t f r l) else 0 := by
  pointwise [k0_pay8, k0_pay6, k0_pay5]
  rw [word t r, mask_lo32]
  unfold ang
  split_ifs <;> rfl

theorem pay9_at (t : Fin cfg0.N) (f : FVec Ideal S1x128 .f32) (r : Fin 512) (l : Fin 128) :
    k0_pay9 (F := Ideal) (grid0.coords t) f (ix2 r l) = if 32 ≤ l.val ∧ l.val < 64 then Ideal.sin (ang t f r l) else 0 := by
  pointwise [k0_pay9, k0_pay6, k0_pay5]
  rw [word t r, mask_hi32]
  unfold ang
  split_ifs <;> rfl

/-- A row's 128 lanes from column `o` on. -/
def piece {n : ℕ} (x : Fin n → EReal) (o : ℕ) (h : o + 128 ≤ n) (l : Fin 128) : EReal := x ⟨o + l.val, by omega⟩

/-- The sum of a 128-vector and its two turns, times the tables. -/
def turn (C S1 S2 x : Fin 128 → EReal) (l : Fin 128) : EReal :=
  x l * C l + x ⟨(l.val + 128 - 96) % 128, Nat.mod_lt _ (by omega)⟩ * S1 l + x ⟨(l.val + 128 - 32) % 128, Nat.mod_lt _ (by omega)⟩ * S2 l

/-- The queries' block from the scaled product `T` and the tables: each head's first 128 columns as they are, its other 128 turned. -/
def heads (C S1 S2 : FVec Ideal S512x128 .f32) (T : FVec Ideal S512x2048 .f32) (y : S512x2048.Idx) : EReal :=
  if (y 1).val % 256 < 128 then T y
  else turn (fun l => C (ix2 (y 0) l)) (fun l => S1 (ix2 (y 0) l)) (fun l => S2 (ix2 (y 0) l))
    (fun l => T (ix2 (y 0) ⟨((y 1).val / 256 * 256 + 128 + l.val) % 2048, Nat.mod_lt _ (by omega)⟩))
    ⟨((y 1).val % 256 - 128) % 128, Nat.mod_lt _ (by omega)⟩

/-- A head's plain part: 128 columns of the queries from an even multiple of 128 on; -/
theorem nope_at (o : ℕ) (h : S512x2048.Slices ![0, o] S512x128) (C S1 S2 : FVec Ideal S512x128 .f32) (T : FVec Ideal S512x2048 .f32) (x : S512x128.Idx)
    (y : S512x2048.Idx) (h0 : (y 0).val = (x 0).val) (h1 : (y 1).val = o + (x 1).val) (ho : o % 256 = 0) :
    (truncf .bf16 (extractStridedSlice S512x128 ![0, o] T h) bitsLt_bf16_f32 : FVec Ideal S512x128 .bf16) x = heads C S1 S2 T y := by
  have hx : (x 1).val < 128 := (x 1).isLt
  unfold heads
  rw [if_pos (by omega)]
  idx_vars x
  have hy : y = ix2 x0 ⟨o + x1.val, lt_of_eq_of_lt h1.symm (y 1).isLt⟩ :=
    (ix2_eta _).symm.trans ((ix2_inj ..).2 ⟨Fin.ext h0, Fin.ext h1⟩)
  rw [hy]
  pointwise

/-- and its rotated part: 128 columns from an odd multiple on, turned. -/
theorem rope_at (o : ℕ) (h : S512x2048.Slices ![0, o] S512x128) (C S1 S2 : FVec Ideal S512x128 .f32) (T : FVec Ideal S512x2048 .f32) (x : S512x128.Idx)
    (y : S512x2048.Idx) (h0 : (y 0).val = (x 0).val) (h1 : (y 1).val = o + (x 1).val) (ho : o % 256 = 128) :
    (truncf .bf16 (addf (addf (mulf (extractStridedSlice S512x128 ![0, o] T h) C)
      (mulf (dynamicRotate 1 96#32 none (extractStridedSlice S512x128 ![0, o] T h) rotates_S512x128_d1) S1))
      (mulf (dynamicRotate 1 32#32 none (extractStridedSlice S512x128 ![0, o] T h) rotates_S512x128_d1) S2)) bitsLt_bf16_f32
      : FVec Ideal S512x128 .bf16) x = heads C S1 S2 T y := by
  have hx : (x 1).val < 128 := (x 1).isLt
  have hy1 : (y 1).val < 2048 := (y 1).isLt
  unfold heads
  rw [if_neg (by omega)]
  idx_vars x
  have e0 : y 0 = x0 := Fin.ext h0
  have e1 : (⟨((y 1).val % 256 - 128) % 128, Nat.mod_lt _ (by omega)⟩ : Fin 128) = x1 := Fin.ext (show ((y 1).val % 256 - 128) % 128 = x1.val by omega)
  rw [e0, e1]
  have e : ∀ l : Fin 128, (⟨((y 1).val / 256 * 256 + 128 + l.val) % 2048, Nat.mod_lt _ (by omega)⟩ : Fin 2048) = ⟨o + l.val, by omega⟩ :=
    fun l => Fin.ext (show ((y 1).val / 256 * 256 + 128 + l.val) % 2048 = o + l.val by omega)
  simp only [e]
  unfold turn
  pointwise

theorem out8_form (i : grid0.Coords) (x0 : Vec Ideal S512x2048 .f32) (x1 : Vec Ideal S1152x2048 .bf16) (x2 : Vec Ideal S1x512 .f32)
    (x3 : Vec Ideal S1x512 .f32) (x4 : Vec Ideal S512x2048 .bf16) (x5 : Vec Ideal S512x1024 .bf16) (x6 : Vec Ideal S512x1024 .bf16)
    (x7 : Vec Ideal S1x128 .f32) (y : S512x2048.Idx) :
    out0_8 i x0 x1 x2 x3 x4 x5 x6 x7 y = heads (k0_pay41 i x0 x1 x2 x3 x4 x5 x6 x7) (k0_pay42 i x0 x1 x2 x3 x4 x5 x6 x7)
      (k0_pay43 i x0 x1 x2 x3 x4 x5 x6 x7) (k0_pay49 i x0 x1 x2 x3 x4 x5 x6 x7) y := by
  unfold out0_8
  generalize k0_pay41 i x0 x1 x2 x3 x4 x5 x6 x7 = C
  generalize k0_pay42 i x0 x1 x2 x3 x4 x5 x6 x7 = S1
  generalize k0_pay43 i x0 x1 x2 x3 x4 x5 x6 x7 = S2
  unfold k0_pay49
  generalize k0_pay46 i x0 x1 x2 x3 x4 x5 x6 x7 = A
  generalize k0_pay48 i x0 x1 x2 x3 x4 x5 x6 x7 = B
  generalize k0_pay44 i x0 x1 x2 x3 x4 x5 x6 x7 = Z
  canon_tiles x h
  case piece15 => exact nope_at _ _ C S1 S2 _ x y h0 (h1.trans (Nat.zero_add _).symm) (by decide)
  case piece8 => exact rope_at 896 slices_S512x2048_o0_896_S512x128 C S1 S2 (k0_pay16 A B Z) x y h0 h1 (by decide)
  case piece14 => exact rope_at 128 slices_S512x2048_o0_128_S512x128 C S1 S2 (k0_pay16 A B Z) x y h0 h1 (by decide)
  all_goals first
    | exact nope_at _ _ C S1 S2 _ x y h0 h1 (by decide)
    | exact rope_at _ _ C S1 S2 (k0_pay16 A B Z) x y h0 h1 (by decide)

/-! ### The rows' latents and what the results hold -/

/-- A row's query latent, -/
def Cq (c : Dev nD) (R : Fin 8192) : Fin 512 → EReal := rms (fun j => ∑ k, H m c R k * W m c k ⟨3072 + j.val, by omega⟩) (Gq m c)
/-- its key and value latent, -/
def Ckv (c : Dev nD) (R : Fin 8192) : Fin 512 → EReal := rms (fun j => ∑ k, H m c R k * W m c k ⟨3584 + j.val, by omega⟩) (Gkv m c)
/-- its rotary key before the rotation, -/
def Kr (c : Dev nD) (R : Fin 8192) (l : Fin 64) : EReal := ∑ k, H m c R k * W m c k ⟨4096 + l.val, by omega⟩
/-- its queries before rotation and scale, -/
def Q (c : Dev nD) (R : Fin 8192) (n : Fin 1536) : EReal := ∑ j, Cq m c R j * Uq m c j n
/-- its keys and values, -/
def Kv (c : Dev nD) (R : Fin 8192) (n : Fin 2048) : EReal := ∑ j, Ckv m c R j * Ukv m c j n
/-- and its angles. -/
def Ang (R : Fin 8192) : Fin 32 → EReal := angle (R.val % 4096 + 0)

/-- The six results: the queries, -/
def resQ (c : Dev nD) (R : Fin 8192) (n : Fin 2048) : EReal := queries (Ideal.ofBits .f32 0x3DD53B95#32) (Ang R) (Q m c R) n
/-- the latent, -/
def resC (c : Dev nD) (R : Fin 8192) (n : Fin 512) : EReal := Ckv m c R n
/-- the rotated key, -/
def resR (c : Dev nD) (R : Fin 8192) (n : Fin 64) : EReal := rot (Ang R) (Kr m c R) n
/-- the same with zeros behind, -/
def resP (c : Dev nD) (R : Fin 8192) (n : Fin 128) : EReal := padded (resR m c R) n
/-- the keys -/
def resK (c : Dev nD) (R : Fin 8192) (n : Fin 1024) : EReal := Kv m c R ⟨n.val / 128 * 256 + n.val % 128, by omega⟩
/-- and the values. -/
def resV (c : Dev nD) (R : Fin 8192) (n : Fin 1024) : EReal := Kv m c R ⟨n.val / 128 * 256 + 128 + n.val % 128, by omega⟩

/-! ### A point's products, latents and tables -/

/-- A load of a whole block is the block. -/
theorem ld_whole {a b : ℕ} {e : EltTy} (X : (⟨2, ![a, b]⟩ : Shape).Idx → Elt Ideal e) (h) : View.ld X (Rect.unit ![0, 0] ![a, b] h) = X :=
  View.ld_unit_lit h X (by intro a; fin_cases a <;> rfl)

/-- The weights' block, and its rows from `o` on. -/
abbrev X1 (c : Dev nD) (t : Fin cfg0.N) : Vec Ideal S1152x2048 .bf16 := iblk m c 1 t

theorem ld1 (c : Dev nD) (t : Fin cfg0.N) (o a : ℕ) (ho : o + a ≤ 1152) (h) (n : Fin a) (k : Fin 2048) :
    (show FVec Ideal ⟨2, ![a, 2048]⟩ .bf16 from View.ld (X1 m c t) (Rect.unit ![o, 0] ![a, 2048] h)) (ix2 n k)
      = W m c k ⟨3072 + (o + n.val), by omega⟩ := by
  refine Eq.trans (congrArg (X1 m c t) (funext fun a => ?_)) (blk1 m c t ⟨o + n.val, by omega⟩ k)
  fin_cases a
  · exact Fin.ext (by simp [Rect.unit, Rect.emb])
  · exact Fin.ext (by simp [Rect.unit, Rect.emb])

theorem pay4_at (x : FVec Ideal S512x2048 .f32) (r : Fin 512) (k : Fin 2048) : k0_pay4 (F := Ideal) x (ix2 r k) = x (ix2 r k) := by
  pointwise [k0_pay4]

/-- A product with rows of the transposed weights, -/
theorem pay10_at (x : FVec Ideal S512x2048 .f32) (w : FVec Ideal S512x2048 .bf16) (r : Fin 512) (n : Fin 512) :
    k0_pay10 (F := Ideal) x w (ix2 r n) = ∑ k, x (ix2 r k) * w (ix2 n k) := by
  pointwise [k0_pay10, k0_pay4]

/-- its rows' norm, -/
theorem pay12_at (x : FVec Ideal S512x512 .f32) (g : FVec Ideal S1x512 .f32) (r : Fin 512) (n : Fin 512) :
    k0_pay12 (F := Ideal) x g (ix2 r n) = rms (fun j => x (ix2 r j)) (fun j => g (ix2 0 j)) n := by
  unfold rms
  pointwise [k0_pay12]

/-- both together, -/
theorem pay13_at (x : FVec Ideal S512x2048 .bf16) (w : FVec Ideal S512x2048 .bf16) (g : FVec Ideal S1x512 .f32) (r : Fin 512) (n : Fin 512) :
    k0_pay13 (F := Ideal) x w g (ix2 r n) = rms (fun j => ∑ k, x (ix2 r k) * w (ix2 j k)) (fun j => g (ix2 0 j)) n := by
  unfold rms
  pointwise [k0_pay13]

theorem pay14_at (x : FVec Ideal S512x2048 .bf16) (w : FVec Ideal S512x2048 .bf16) (g : FVec Ideal S1x512 .f32) (r : Fin 512) (n : Fin 512) :
    k0_pay14 (F := Ideal) x w g (ix2 r n) = k0_pay13 (F := Ideal) x w g (ix2 r n) := by
  pointwise [k0_pay14]

/-- the rotary key's product on the first 64 lanes, -/
theorem pay11_at (x : FVec Ideal S512x2048 .bf16) (w : FVec Ideal S128x2048 .bf16) (r : Fin 512) (n : Fin 128) :
    k0_pay11 (F := Ideal) x (iota .tc S512x128 32 [1] iota_S512x128_d1_w32) w (ix2 r n) = if n.val < 64 then ∑ k, x (ix2 r k) * w (ix2 n k) else 0 := by
  pointwise [k0_pay11]
  rw [mask_lo64]
  split_ifs <;> rfl

/-- the scaled product of the queries, -/
theorem pay16_at (x : FVec Ideal S512x512 .bf16) (w : FVec Ideal S512x2048 .bf16) (r : Fin 512) (n : Fin 2048) :
    k0_pay16 (F := Ideal) x w (constant S512x2048 .f32 0x00000000#32) (ix2 r n)
      = (∑ k, x (ix2 r k) * w (ix2 k n)) * Ideal.ofBits .f32 0x3DD53B95#32 := by
  pointwise [k0_pay16]

/-- the products of the keys and of the values. -/
theorem pay17_at (x : FVec Ideal S512x512 .bf16) (w : FVec Ideal S512x1024 .bf16) (r : Fin 512) (n : Fin 1024) :
    k0_pay17 (F := Ideal) x w (ix2 r n) = ∑ k, x (ix2 r k) * w (ix2 k n) := by
  pointwise [k0_pay17]
theorem pay18_at (x : FVec Ideal S512x512 .bf16) (w : FVec Ideal S512x1024 .bf16) (r : Fin 512) (n : Fin 1024) :
    k0_pay18 (F := Ideal) x w (ix2 r n) = ∑ k, x (ix2 r k) * w (ix2 k n) := by
  pointwise [k0_pay18]

/-- Equal rows have equal norms. -/
theorem rms_congr {x y g g' : Fin 512 → EReal} (h : ∀ j, x j = y j) (hg : ∀ j, g j = g' j) (n : Fin 512) : rms x g n = rms y g' n := by
  rw [funext h, funext hg]

/-- A point's values, at its staged blocks. -/
abbrev p40 (c : Dev nD) (t : Fin cfg0.N) := k0_pay40 (F := Ideal) (grid0.coords t) (iblk m c 0 t) (iblk m c 1 t) (iblk m c 2 t) (iblk m c 3 t) (iblk m c 4 t) (iblk m c 5 t) (iblk m c 6 t) (iblk m c 7 t)
abbrev p41 (c : Dev nD) (t : Fin cfg0.N) := k0_pay41 (F := Ideal) (grid0.coords t) (iblk m c 0 t) (iblk m c 1 t) (iblk m c 2 t) (iblk m c 3 t) (iblk m c 4 t) (iblk m c 5 t) (iblk m c 6 t) (iblk m c 7 t)
abbrev p42 (c : Dev nD) (t : Fin cfg0.N) := k0_pay42 (F := Ideal) (grid0.coords t) (iblk m c 0 t) (iblk m c 1 t) (iblk m c 2 t) (iblk m c 3 t) (iblk m c 4 t) (iblk m c 5 t) (iblk m c 6 t) (iblk m c 7 t)
abbrev p43 (c : Dev nD) (t : Fin cfg0.N) := k0_pay43 (F := Ideal) (grid0.coords t) (iblk m c 0 t) (iblk m c 1 t) (iblk m c 2 t) (iblk m c 3 t) (iblk m c 4 t) (iblk m c 5 t) (iblk m c 6 t) (iblk m c 7 t)
abbrev p45 (c : Dev nD) (t : Fin cfg0.N) := k0_pay45 (F := Ideal) (grid0.coords t) (iblk m c 0 t) (iblk m c 1 t) (iblk m c 2 t) (iblk m c 3 t) (iblk m c 4 t) (iblk m c 5 t) (iblk m c 6 t) (iblk m c 7 t)
abbrev p46 (c : Dev nD) (t : Fin cfg0.N) := k0_pay46 (F := Ideal) (grid0.coords t) (iblk m c 0 t) (iblk m c 1 t) (iblk m c 2 t) (iblk m c 3 t) (iblk m c 4 t) (iblk m c 5 t) (iblk m c 6 t) (iblk m c 7 t)
abbrev p47 (c : Dev nD) (t : Fin cfg0.N) := k0_pay47 (F := Ideal) (grid0.coords t) (iblk m c 0 t) (iblk m c 1 t) (iblk m c 2 t) (iblk m c 3 t) (iblk m c 4 t) (iblk m c 5 t) (iblk m c 6 t) (iblk m c 7 t)
abbrev p49 (c : Dev nD) (t : Fin cfg0.N) := k0_pay49 (F := Ideal) (grid0.coords t) (iblk m c 0 t) (iblk m c 1 t) (iblk m c 2 t) (iblk m c 3 t) (iblk m c 4 t) (iblk m c 5 t) (iblk m c 6 t) (iblk m c 7 t)

theorem p40_at (c : Dev nD) (t : Fin cfg0.N) (r : Fin 512) (k : Fin 2048) : p40 m c t (ix2 r k) = H m c (row t.val r) k :=
  (pay4_at _ r k).trans ((congrFun (ld_whole _ _) _).trans (blk0 m c t r k))

/-- The query latent. -/
theorem p46_at (c : Dev nD) (t : Fin cfg0.N) (r : Fin 512) (j : Fin 512) : p46 m c t (ix2 r j) = Cq m c (row t.val r) j := by
  refine (pay12_at _ _ r j).trans (rms_congr (fun n => (pay10_at _ _ r n).trans (Finset.sum_congr rfl fun k _ => congrArg₂ (· * ·) ?_ ?_)) (fun n => ?_) j)
  · exact (congrFun (ld_whole _ _) _).trans (blk0 m c t r k)
  · exact (ld1 m c t 0 512 (by omega) _ n k).trans (congrArg (W m c k) (Fin.ext (by simp)))
  · exact (congrFun (ld_whole _ _) _).trans (blk2 m c t n)

/-- The key and value latent. -/
theorem kv_latent (c : Dev nD) (t : Fin cfg0.N) (r : Fin 512) (j : Fin 512) (h h') : k0_pay13 (F := Ideal) (p40 m c t)
    (View.ld (X1 m c t) (Rect.unit ![512, 0] ![512, 2048] h)) (View.ld (show Vec Ideal S1x512 .f32 from iblk m c 3 t) (Rect.unit ![0, 0] ![1, 512] h')) (ix2 r j)
      = Ckv m c (row t.val r) j := by
  refine (pay13_at _ _ _ r j).trans (rms_congr (fun n => Finset.sum_congr rfl fun k _ => congrArg₂ (· * ·) ?_ ?_) (fun n => ?_) j)
  · exact p40_at m c t r k
  · exact (ld1 m c t 512 512 (by omega) _ n k).trans (congrArg (W m c k) (Fin.ext (by simp; omega)))
  · exact (congrFun (ld_whole _ _) _).trans (blk3 m c t n)

theorem p47_at (c : Dev nD) (t : Fin cfg0.N) (r : Fin 512) (j : Fin 512) : p47 m c t (ix2 r j) = Ckv m c (row t.val r) j :=
  (pay14_at _ _ _ r j).trans (kv_latent m c t r j _ _)

/-- The rotary key before the rotation. -/
theorem p45_at (c : Dev nD) (t : Fin cfg0.N) (r : Fin 512) (l : Fin 128) (h : l.val < 64) : p45 m c t (ix2 r l) = Kr m c (row t.val r) ⟨l.val, h⟩ := by
  refine (pay11_at _ _ r l).trans ((if_pos h).trans (Finset.sum_congr rfl fun k _ => congrArg₂ (· * ·) ?_ ?_))
  · exact p40_at m c t r k
  · exact (ld1 m c t 1024 128 (by omega) _ l k).trans (congrArg (W m c k) (Fin.ext (by simp; omega)))

/-- The scaled queries before the rotation, at a head's first 192 columns. -/
theorem p49_at (c : Dev nD) (t : Fin cfg0.N) (r : Fin 512) (n : Fin 2048) (h : n.val % 256 < 192) : p49 m c t (ix2 r n)
    = Q m c (row t.val r) ⟨n.val / 256 * 192 + n.val % 256, by omega⟩ * Ideal.ofBits .f32 0x3DD53B95#32 := by
  refine (pay16_at _ _ r n).trans (congrArg (· * _) (Finset.sum_congr rfl fun k _ => congrArg₂ (· * ·) (p46_at m c t r k) ?_))
  refine Eq.trans ?_ ((blk4 m c t k n).trans (dif_pos h))
  show k0_pay15 (F := Ideal) _ (ix2 k n) = _
  rw [ld_whole]
  pointwise [k0_pay15]

/-- The tables' angles on the first 64 lanes. -/
theorem ang_at (c : Dev nD) (t : Fin cfg0.N) (h') (r : Fin 512) (l : Fin 128) (h : l.val < 64) :
    ang t (View.ld (show Vec Ideal S1x128 .f32 from iblk m c 7 t) (Rect.unit ![0, 0] ![1, 128] h')) r l = Ang (row t.val r) ⟨l.val % 32, Nat.mod_lt _ (by omega)⟩ := by
  unfold ang Ang angle
  rw [row_val, ld_whole]
  exact congrArg (_ * ·) (blk7 m c t l h)

/-- What the point's tables make of a vector whose first 64 lanes are `y` times `s`: the rotated `y` times `s`, and zeros. -/
theorem turn_at (c : Dev nD) (t : Fin cfg0.N) (r : Fin 512) {s : EReal} (hs : ∃ a : ℝ, 0 ≤ a ∧ s = (a : EReal)) (x : Fin 128 → EReal) (y : Fin 64 → EReal)
    (hx : ∀ l : Fin 128, ∀ h : l.val < 64, x l = y ⟨l.val, h⟩ * s) (l : Fin 128) :
    turn (fun l => p41 m c t (ix2 r l)) (fun l => p42 m c t (ix2 r l)) (fun l => p43 m c t (ix2 r l)) x l
      = if h : l.val < 64 then rot (Ang (row t.val r)) y ⟨l.val, h⟩ * s else 0 := by
  refine Eq.trans ?_ (lanes_eq hs (ang t _ r) x (Ang (row t.val r)) y (fun l h => ang_at m c t inb_S1x128_S1x128_0_0 r l h) hx l)
  unfold turn lanes
  exact congrArg₂ (· + ·) (congrArg₂ (· + ·) (congrArg (_ * ·) (pay7_at t _ r l)) (congrArg (_ * ·) (pay8_at t _ r l)))
    (congrArg (_ * ·) (pay9_at t _ r l))

/-! ### What a point leaves in each result's block -/

theorem q_at (c : Dev nD) (t : Fin cfg0.N) (r : Fin 512) (n : Fin 2048) :
    (show FVec Ideal S512x2048 .bf16 from (dats m 0 c).after 8 t) (ix2 r n) = resQ m c (row t.val r) n := by
  rw [after0_8]
  refine (out8_form _ _ _ _ _ _ _ _ _ (ix2 r n)).trans ?_
  unfold heads resQ queries
  show (if n.val % 256 < 128 then p49 m c t (ix2 r n) else turn (fun l => p41 m c t (ix2 r l)) (fun l => p42 m c t (ix2 r l)) (fun l => p43 m c t (ix2 r l))
    (fun l => p49 m c t (ix2 r ⟨(n.val / 256 * 256 + 128 + l.val) % 2048, _⟩)) ⟨(n.val % 256 - 128) % 128, _⟩) = _
  by_cases h : n.val % 256 < 128
  · rw [if_pos h, dif_pos h]
    exact p49_at m c t r n (by omega)
  · rw [if_neg h, dif_neg h]
    refine (turn_at m c t r scale_real _ (fun l => Q m c (row t.val r) ⟨n.val / 256 * 192 + 128 + l.val, by omega⟩) (fun l hl => ?_) _).trans ?_
    · have e : (n.val / 256 * 256 + 128 + l.val) % 2048 = n.val / 256 * 256 + 128 + l.val := Nat.mod_eq_of_lt (by omega)
      refine (p49_at m c t r _ (by simp only [e]; omega)).trans (congrArg (· * _) (congrArg (Q m c _) (Fin.ext ?_)))
      simp only [e]
      omega
    · have e : (n.val % 256 - 128) % 128 = n.val % 256 - 128 := Nat.mod_eq_of_lt (by omega)
      by_cases h' : n.val % 256 < 192
      · rw [dif_pos h', dif_pos (by simp only [e]; omega)]
        exact congrArg (· * _) (congrArg (rot _ _) (Fin.ext e))
      · rw [dif_neg h', dif_neg (by simp only [e]; omega)]

theorem c_at (c : Dev nD) (t : Fin cfg0.N) (r : Fin 512) (n : Fin 512) :
    (show FVec Ideal S512x512 .f32 from (dats m 0 c).after 9 t) (ix2 r n) = resC m c (row t.val r) n := by
  rw [after0_9]
  unfold out0_9
  rw [View.canon_cons_unit_lit _ _ _ (by intro a; fin_cases a <;> rfl)]
  exact kv_latent m c t r n _ _

theorem r_at (c : Dev nD) (t : Fin cfg0.N) (r : Fin 512) (n : Fin 64) :
    (show FVec Ideal S512x64 .f32 from (dats m 0 c).after 10 t) (ix2 r n) = resR m c (row t.val r) n := by
  rw [after0_10]
  unfold out0_10
  rw [View.canon_cons_unit_lit _ _ _ (by intro a; fin_cases a <;> rfl)]
  refine Eq.trans ?_ ((turn_at m c t r one_real (fun l => p45 m c t (ix2 r l)) (Kr m c (row t.val r)) (fun l h => (p45_at m c t r l h).trans (mul_one _).symm)
    ⟨n.val, by omega⟩).trans ((dif_pos n.isLt).trans (mul_one _)))
  unfold turn
  pointwise [k0_pay20, k0_pay19]

theorem p_at (c : Dev nD) (t : Fin cfg0.N) (r : Fin 512) (n : Fin 128) :
    (show FVec Ideal S512x128 .bf16 from (dats m 0 c).after 11 t) (ix2 r n) = resP m c (row t.val r) n := by
  rw [after0_11]
  unfold out0_11
  rw [View.canon_cons_unit_lit _ _ _ (by intro a; fin_cases a <;> rfl)]
  refine Eq.trans ?_ ((turn_at m c t r one_real (fun l => p45 m c t (ix2 r l)) (Kr m c (row t.val r)) (fun l h => (p45_at m c t r l h).trans (mul_one _).symm)
    n).trans ?_)
  · unfold turn
    pointwise [k0_pay21, k0_pay19]
  · unfold resP padded resR
    simp only [mul_one]

theorem k_at (c : Dev nD) (t : Fin cfg0.N) (r : Fin 512) (n : Fin 1024) :
    (show FVec Ideal S512x1024 .bf16 from (dats m 0 c).after 12 t) (ix2 r n) = resK m c (row t.val r) n := by
  rw [after0_12]
  unfold out0_12
  rw [View.canon_cons_unit_lit _ _ _ (by intro a; fin_cases a <;> rfl)]
  unfold resK Kv
  refine (pay17_at _ _ r n).trans (Finset.sum_congr rfl fun k _ => congrArg₂ (· * ·) (p47_at m c t r k) ?_)
  exact (congrFun (ld_whole _ _) _).trans (blk5 m c t k n)

theorem v_at (c : Dev nD) (t : Fin cfg0.N) (r : Fin 512) (n : Fin 1024) :
    (show FVec Ideal S512x1024 .bf16 from (dats m 0 c).after 13 t) (ix2 r n) = resV m c (row t.val r) n := by
  rw [after0_13]
  unfold out0_13
  rw [View.canon_cons_unit_lit _ _ _ (by intro a; fin_cases a <;> rfl)]
  unfold resV Kv
  refine (pay18_at _ _ r n).trans (Finset.sum_congr rfl fun k _ => congrArg₂ (· * ·) (p47_at m c t r k) ?_)
  exact (congrFun (ld_whole _ _) _).trans (blk6 m c t k n)

/-! ### Where an element of each result's block sits in the result array, and the arrays after the run -/

theorem emb8 (t : Fin cfg0.N) (y : S512x2048.Idx) (a : Fin 2) :
    ((((View.whole main_v37_0).slice (win0_8.rect t)).emb y) a : ℕ) = win0_8.index t a * win0_8.size a + (y a : ℕ) :=
  ValueKit.view_emb_slice_whole_unit_val main_v37_0 _ _ _ y a

theorem final_q (c : Dev nD) : (dats m 0 c).arrAt 8 (cfgs 0).N = (show FVec Ideal S8192x2048 .bf16 from fun i => resQ m c (i 0) (i 1)) := by
  refine (dats m 0 c).arrAt_eq_of_covers 8 _ (by decide +kernel) fun t hf y => ?_
  blk_simp
  idx_vars y
  have e := emb8 t (ix2 y0 y1)
  refine (q_at m c t y0 y1).trans (congrArg₂ (resQ m c) (Fin.ext ?_) (Fin.ext ?_)).symm
  · exact (e 0).trans (by rw [row_val]; simp [(idxo t).1])
  · exact (e 1).trans (by simp [(idxo t).1])

theorem emb9 (t : Fin cfg0.N) (y : S512x512.Idx) (a : Fin 2) :
    ((((View.whole main_v37_1).slice (win0_9.rect t)).emb y) a : ℕ) = win0_9.index t a * win0_9.size a + (y a : ℕ) :=
  ValueKit.view_emb_slice_whole_unit_val main_v37_1 _ _ _ y a

theorem final_c (c : Dev nD) : (dats m 0 c).arrAt 9 (cfgs 0).N = (show FVec Ideal S8192x512 .f32 from fun i => resC m c (i 0) (i 1)) := by
  refine (dats m 0 c).arrAt_eq_of_covers 9 _ (by decide +kernel) fun t hf y => ?_
  blk_simp
  idx_vars y
  have e := emb9 t (ix2 y0 y1)
  refine (c_at m c t y0 y1).trans (congrArg₂ (resC m c) (Fin.ext ?_) (Fin.ext ?_)).symm
  · exact (e 0).trans (by rw [row_val]; simp [(idxo t).2.1])
  · exact (e 1).trans (by simp [(idxo t).2.1])

theorem emb10 (t : Fin cfg0.N) (y : S512x64.Idx) (a : Fin 2) :
    ((((View.whole main_v37_2).slice (win0_10.rect t)).emb y) a : ℕ) = win0_10.index t a * win0_10.size a + (y a : ℕ) :=
  ValueKit.view_emb_slice_whole_unit_val main_v37_2 _ _ _ y a

theorem final_r (c : Dev nD) : (dats m 0 c).arrAt 10 (cfgs 0).N = (show FVec Ideal S8192x64 .f32 from fun i => resR m c (i 0) (i 1)) := by
  refine (dats m 0 c).arrAt_eq_of_covers 10 _ (by decide +kernel) fun t hf y => ?_
  blk_simp
  idx_vars y
  have e := emb10 t (ix2 y0 y1)
  refine (r_at m c t y0 y1).trans (congrArg₂ (resR m c) (Fin.ext ?_) (Fin.ext ?_)).symm
  · exact (e 0).trans (by rw [row_val]; simp [(idxo t).2.2.1])
  · exact (e 1).trans (by simp [(idxo t).2.2.1])

theorem emb11 (t : Fin cfg0.N) (y : S512x128.Idx) (a : Fin 2) :
    ((((View.whole main_v37_3).slice (win0_11.rect t)).emb y) a : ℕ) = win0_11.index t a * win0_11.size a + (y a : ℕ) :=
  ValueKit.view_emb_slice_whole_unit_val main_v37_3 _ _ _ y a

theorem final_p (c : Dev nD) : (dats m 0 c).arrAt 11 (cfgs 0).N = (show FVec Ideal S8192x128 .bf16 from fun i => resP m c (i 0) (i 1)) := by
  refine (dats m 0 c).arrAt_eq_of_covers 11 _ (by decide +kernel) fun t hf y => ?_
  blk_simp
  idx_vars y
  have e := emb11 t (ix2 y0 y1)
  refine (p_at m c t y0 y1).trans (congrArg₂ (resP m c) (Fin.ext ?_) (Fin.ext ?_)).symm
  · exact (e 0).trans (by rw [row_val]; simp [(idxo t).2.2.2.1])
  · exact (e 1).trans (by simp [(idxo t).2.2.2.1])

theorem emb12 (t : Fin cfg0.N) (y : S512x1024.Idx) (a : Fin 2) :
    ((((View.whole main_v37_4).slice (win0_12.rect t)).emb y) a : ℕ) = win0_12.index t a * win0_12.size a + (y a : ℕ) :=
  ValueKit.view_emb_slice_whole_unit_val main_v37_4 _ _ _ y a

theorem final_k (c : Dev nD) : (dats m 0 c).arrAt 12 (cfgs 0).N = (show FVec Ideal S8192x1024 .bf16 from fun i => resK m c (i 0) (i 1)) := by
  refine (dats m 0 c).arrAt_eq_of_covers 12 _ (by decide +kernel) fun t hf y => ?_
  blk_simp
  idx_vars y
  have e := emb12 t (ix2 y0 y1)
  refine (k_at m c t y0 y1).trans (congrArg₂ (resK m c) (Fin.ext ?_) (Fin.ext ?_)).symm
  · exact (e 0).trans (by rw [row_val]; simp [(idxo t).2.2.2.2.1])
  · exact (e 1).trans (by simp [(idxo t).2.2.2.2.1])

theorem emb13 (t : Fin cfg0.N) (y : S512x1024.Idx) (a : Fin 2) :
    ((((View.whole main_v37_5).slice (win0_13.rect t)).emb y) a : ℕ) = win0_13.index t a * win0_13.size a + (y a : ℕ) :=
  ValueKit.view_emb_slice_whole_unit_val main_v37_5 _ _ _ y a

theorem final_v (c : Dev nD) : (dats m 0 c).arrAt 13 (cfgs 0).N = (show FVec Ideal S8192x1024 .bf16 from fun i => resV m c (i 0) (i 1)) := by
  refine (dats m 0 c).arrAt_eq_of_covers 13 _ (by decide +kernel) fun t hf y => ?_
  blk_simp
  idx_vars y
  have e := emb13 t (ix2 y0 y1)
  refine (v_at m c t y0 y1).trans (congrArg₂ (resV m c) (Fin.ext ?_) (Fin.ext ?_)).symm
  · exact (e 0).trans (by rw [row_val]; simp [(idxo t).2.2.2.2.2])
  · exact (e 1).trans (by simp [(idxo t).2.2.2.2.2])

end Cert.Kernel7Ideal.Hand

end
-- ==== Proof.LatPromptRef.lean ====
/-
  What the reference of the latent projections of the prompt rows computes, read at an index: a row's normed latents, their
  products and rotations.
-/
module

public import proofs.«01_k».proof.Proof.Gen.Reference7Ideal.Read
public import proofs.«01_k».proof.Proof.LatSpec
public import Idealize.ShloMosaic.Lib.Pointwise

@[expose] public section

set_option maxRecDepth 16384

noncomputable section

open Idealize.ShloMosaic Idealize.ShloMosaic.TcCoe Idealize.SL.Sem

namespace Cert.Reference7Ideal.Hand

open Cert.Reference7Ideal Cert.Reference7Ideal.Gen Cert.Reference7Ideal.Value Cert.Reference7Ideal.Read Cert.Lat

variable (x0 : FVec Ideal S8192x2048 .f32) (x1 : FVec Ideal S1x2048x8256 .f32) (x2 : FVec Ideal S1x512 .f32)
  (x3 : FVec Ideal S1x512x1536 .f32) (x4 : FVec Ideal S1x512 .f32) (x5 : FVec Ideal S1x512x2048 .f32)

/-! ### The specification at the arguments -/

/-- A row's query latent, -/
def Cq (R : Fin 8192) : Fin 512 → EReal :=
  rms (fun j => ∑ k : Fin 2048, x0 (ix2 R k) * x1 (ix3 0 k ⟨3072 + j.val, by omega⟩)) (fun j => x2 (ix2 0 j))
/-- its key and value latent, -/
def Ckv (R : Fin 8192) : Fin 512 → EReal :=
  rms (fun j => ∑ k : Fin 2048, x0 (ix2 R k) * x1 (ix3 0 k ⟨3584 + j.val, by omega⟩)) (fun j => x4 (ix2 0 j))
/-- its rotary key before the rotation, -/
def Kr (R : Fin 8192) (l : Fin 64) : EReal := ∑ k : Fin 2048, x0 (ix2 R k) * x1 (ix3 0 k ⟨4096 + l.val, by omega⟩)
/-- its queries before rotation and scale, -/
def Q (R : Fin 8192) (n : Fin 1536) : EReal := ∑ j, Cq x0 x1 x2 R j * x3 (ix3 0 j n)
/-- its keys and values, -/
def Kv (R : Fin 8192) (n : Fin 2048) : EReal := ∑ j, Ckv x0 x1 x4 R j * x5 (ix3 0 j n)
/-- and its angles. -/
def Ang (R : Fin 8192) : Fin 32 → EReal := angle (R.val % 4096 + 0)

/-! ### The program's values at batch `b`, position `t` -/

/-- The row of batch `b`, position `t`. -/
def rw (b : Fin 2) (t : Fin 4096) : Fin 8192 := ⟨b.val * 4096 + t.val, by omega⟩

theorem rw_mod (b : Fin 2) (t : Fin 4096) : (rw b t).val % 4096 = t.val := by
  show (b.val * 4096 + t.val) % 4096 = t.val
  omega

theorem rw_row (R : Fin 8192) : rw ⟨R.val / 4096, by omega⟩ ⟨R.val % 4096, by omega⟩ = R :=
  Fin.ext (show R.val / 4096 * 4096 + R.val % 4096 = R.val by omega)

theorem proj_at (b : Fin 2) (t : Fin 4096) (n : Fin 8256) : val_main_v5 (F := Ideal) x0 x1 (ix3 b t n)
    = ∑ k : Fin 2048, x0 (ix2 (rw b t) k) * x1 (ix3 0 k n) := by
  unfold rw
  pointwise [val_main_v5, val_main_v4, val_main_v3]

/-- The query latent, -/
theorem cq_at (b : Fin 2) (t : Fin 4096) (j : Fin 512) : val_main_v26 (F := Ideal) x0 x1 x2 (ix3 b t j) = Cq x0 x1 x2 (rw b t) j := by
  have e : val_main_v26 (F := Ideal) x0 x1 x2 (ix3 b t j)
      = rms (fun j => val_main_v5 (F := Ideal) x0 x1 (ix3 b t ⟨3072 + j.val, by omega⟩)) (fun j => x2 (ix2 0 j)) j := by
    unfold rms
    pointwise [val_main_v26, val_main_v25, val_main_v24, val_main_v23, val_main_v22, val_main_v21, val_main_v20, val_main_v19, val_main_cst_1,
      val_main_v18, val_main_v17, val_main_cst_0, val_main_v16, val_main_v15, val_main_cst, val_main_v14, val_main_v13, val_main_v9]
  rw [e]
  simp only [proj_at]
  rfl

/-- the key and value latent, -/
theorem ckv_at (b : Fin 2) (t : Fin 4096) (j : Fin 512) : val_main_v81 (F := Ideal) x0 x1 x4 (ix3 b t j) = Ckv x0 x1 x4 (rw b t) j := by
  have e : val_main_v81 (F := Ideal) x0 x1 x4 (ix3 b t j)
      = rms (fun j => val_main_v5 (F := Ideal) x0 x1 (ix3 b t ⟨3584 + j.val, by omega⟩)) (fun j => x4 (ix2 0 j)) j := by
    unfold rms
    pointwise [val_main_v81, val_main_v80, val_main_v79, val_main_v78, val_main_v77, val_main_v76, val_main_v75, val_main_v74, val_main_cst_8,
      val_main_v73, val_main_v72, val_main_cst_7, val_main_v71, val_main_v70, val_main_cst_6, val_main_v69, val_main_v68, val_main_v10]
  rw [e]
  simp only [proj_at]
  rfl

/-- the queries before the rotation, -/
theorem q28_at (b : Fin 2) (t : Fin 4096) (n : Fin 1536) : val_main_v28 (F := Ideal) x0 x1 x2 x3 (ix3 b t n) = Q x0 x1 x2 x3 (rw b t) n := by
  have e : val_main_v28 (F := Ideal) x0 x1 x2 x3 (ix3 b t n) = ∑ j : Fin 512, val_main_v26 (F := Ideal) x0 x1 x2 (ix3 b t j) * x3 (ix3 0 j n) := by
    pointwise [val_main_v28, val_main_v27]
  rw [e]
  simp only [cq_at]
  rfl

/-- the keys and values, -/
theorem kv_at (b : Fin 2) (t : Fin 4096) (n : Fin 2048) : val_main_v118 (F := Ideal) x0 x1 x4 x5 (ix3 b t n) = Kv x0 x1 x4 x5 (rw b t) n := by
  have e : val_main_v118 (F := Ideal) x0 x1 x4 x5 (ix3 b t n) = ∑ j : Fin 512, val_main_v81 (F := Ideal) x0 x1 x4 (ix3 b t j) * x5 (ix3 0 j n) := by
    pointwise [val_main_v118, val_main_v117]
  rw [e]
  simp only [ckv_at]
  rfl

/-- the position as a word, -/
theorem pos : ∀ t : Fin 4096, IntOp.addi 0#32 (BitVec.ofNat 32 t.val) = BitVec.ofNat 32 (t.val + 0) :=
  fun t => BitVec.zero_add _

/-- the angles, computed twice, -/
theorem ang_q (t : Fin 4096) (l : Fin 32) : val_main_v48 (F := Ideal) (ix3 t 0 l) = angle (t.val + 0) l := by
  unfold angle freq
  pointwise [val_main_v48, val_main_v47, val_main_v46, val_main_v45, val_main_v44, val_main_v43, val_main_v42, val_main_v41, val_main_v40, val_main_cst_5,
    val_main_v39, val_main_v38, val_main_cst_4, val_main_v37, val_main_v36, val_main_v35, val_main_cst_3, val_main_v34, val_main_v33, val_main_cst_2,
    val_main_v32, val_main_v2, val_main_v1, val_main_c, val_main_v0]
  rw [pos, Nat.add_zero]

theorem ang_k (t : Fin 4096) (l : Fin 32) : val_main_v97 (F := Ideal) (ix2 t l) = angle (t.val + 0) l := by
  unfold angle freq
  pointwise [val_main_v97, val_main_v96, val_main_v95, val_main_v94, val_main_v93, val_main_v92, val_main_v91, val_main_v90, val_main_cst_12,
    val_main_v89, val_main_v88, val_main_cst_11, val_main_v87, val_main_v86, val_main_v85, val_main_cst_10, val_main_v84, val_main_v83, val_main_cst_9,
    val_main_v82, val_main_v2, val_main_v1, val_main_c, val_main_v0]
  rw [pos, Nat.add_zero]

/-- the rotated part of head `h`'s queries, -/
theorem qrot_at (b : Fin 2) (t : Fin 4096) (h : Fin 8) (l : Fin 64) : val_main_v67 (F := Ideal) x0 x1 x2 x3 (ix4 b t h l)
    = rot (angle (t.val + 0)) (fun l => Q x0 x1 x2 x3 (rw b t) ⟨h.val * 192 + 128 + l.val, by omega⟩) l := by
  have e : val_main_v67 (F := Ideal) x0 x1 x2 x3 (ix4 b t h l)
      = rot (fun l => val_main_v48 (F := Ideal) (ix3 t 0 l)) (fun l => val_main_v28 (F := Ideal) x0 x1 x2 x3 (ix3 b t ⟨h.val * 192 + 128 + l.val, by omega⟩)) l := by
    unfold rot
    pointwise [val_main_v67, val_main_v66, val_main_v65, val_main_v64, val_main_v63, val_main_v62, val_main_v61, val_main_v60, val_main_v59, val_main_v58,
      val_main_v57, val_main_v56, val_main_v55, val_main_v54, val_main_v53, val_main_v52, val_main_v51, val_main_v50, val_main_v49, val_main_v31, val_main_v29]
    by_cases hl : l.val < 32
    · simp only [hl, dite_true, Nat.add_assoc, Nat.add_comm 32 l.val]
    · have e' : 32 + (l.val - 32) = l.val := by omega
      simp only [hl, dite_false, Nat.add_assoc, e']
  rw [e]
  simp only [ang_q, q28_at]

/-- and the rotated key. -/
theorem krot_at (b : Fin 2) (t : Fin 4096) (l : Fin 64) : val_main_v116 (F := Ideal) x0 x1 (ix3 b t l)
    = rot (angle (t.val + 0)) (Kr x0 x1 (rw b t)) l := by
  have e : val_main_v116 (F := Ideal) x0 x1 (ix3 b t l)
      = rot (fun l => val_main_v97 (F := Ideal) (ix2 t l)) (fun l => val_main_v5 (F := Ideal) x0 x1 (ix3 b t ⟨4096 + l.val, by omega⟩)) l := by
    unfold rot
    pointwise [val_main_v116, val_main_v115, val_main_v114, val_main_v113, val_main_v112, val_main_v111, val_main_v110, val_main_v109, val_main_v108, val_main_v107,
      val_main_v106, val_main_v105, val_main_v104, val_main_v103, val_main_v102, val_main_v101, val_main_v100, val_main_v99, val_main_v98, val_main_v11]
    by_cases hl : l.val < 32
    · simp only [hl, dite_true, Nat.add_assoc, Nat.add_comm 32 l.val]
    · have e' : 32 + (l.val - 32) = l.val := by omega
      simp only [hl, dite_false, Nat.add_assoc, e']
  rw [e]
  simp only [ang_k, proj_at]
  rfl

/-! ### The six results -/

/-- A row's batch -/
def bat (R : Fin 8192) : Fin 2 := ⟨R.val / 4096, by omega⟩
/-- and position. -/
def tok (R : Fin 8192) : Fin 4096 := ⟨R.val % 4096, by omega⟩

theorem rw_bat (R : Fin 8192) : rw (bat R) (tok R) = R := rw_row R

/-- The key and value latent as rows, -/
theorem c_at (R : Fin 8192) (n : Fin 512) : val_main_v130 (F := Ideal) x0 x1 x4 (ix2 R n) = Ckv x0 x1 x4 R n := by
  have e : val_main_v130 (F := Ideal) x0 x1 x4 (ix2 R n) = val_main_v81 (F := Ideal) x0 x1 x4 (ix3 (bat R) (tok R) n) := by
    pointwise [val_main_v130]
    rfl
  rw [e, ckv_at, rw_bat]

/-- the rotated key as rows, -/
theorem r_at (R : Fin 8192) (n : Fin 64) : val_main_v131 (F := Ideal) x0 x1 (ix2 R n) = rot (Ang R) (Kr x0 x1 R) n := by
  have e : val_main_v131 (F := Ideal) x0 x1 (ix2 R n) = val_main_v116 (F := Ideal) x0 x1 (ix3 (bat R) (tok R) n) := by
    pointwise [val_main_v131]
    rfl
  rw [e, krot_at, rw_bat]
  rfl

/-- padded to 128 lanes, -/
theorem p_at (R : Fin 8192) (n : Fin 128) : val_main_v133 (F := Ideal) x0 x1 (ix2 R n) = padded (rot (Ang R) (Kr x0 x1 R)) n := by
  have e : val_main_v133 (F := Ideal) x0 x1 (ix2 R n)
      = padded (fun l => val_main_v116 (F := Ideal) x0 x1 (ix3 (bat R) (tok R) l)) n := by
    unfold padded
    pointwise [val_main_v133, val_main_v132, val_main_v127, val_main_v126, val_main_cst_15]
    try rfl
  rw [e]
  simp only [krot_at, rw_bat]
  rfl

/-- the keys' unrotated part, -/
theorem k_at (R : Fin 8192) (n : Fin 1024) : val_main_v135 (F := Ideal) x0 x1 x4 x5 (ix2 R n)
    = Kv x0 x1 x4 x5 R ⟨n.val / 128 * 256 + n.val % 128, by omega⟩ := by
  have e : val_main_v135 (F := Ideal) x0 x1 x4 x5 (ix2 R n)
      = val_main_v118 (F := Ideal) x0 x1 x4 x5 (ix3 (bat R) (tok R) ⟨n.val / 128 * 256 + n.val % 128, by omega⟩) := by
    pointwise [val_main_v135, val_main_v134, val_main_v120, val_main_v119]
    try rfl
  rw [e, kv_at, rw_bat]

/-- the values, -/
theorem v_at (R : Fin 8192) (n : Fin 1024) : val_main_v137 (F := Ideal) x0 x1 x4 x5 (ix2 R n)
    = Kv x0 x1 x4 x5 R ⟨n.val / 128 * 256 + 128 + n.val % 128, by omega⟩ := by
  have e : val_main_v137 (F := Ideal) x0 x1 x4 x5 (ix2 R n)
      = val_main_v118 (F := Ideal) x0 x1 x4 x5 (ix3 (bat R) (tok R) ⟨n.val / 128 * 256 + 128 + n.val % 128, by omega⟩) := by
    pointwise [val_main_v137, val_main_v136, val_main_v121, val_main_v119]
    simp only [Nat.add_assoc]
    try rfl
  rw [e, kv_at, rw_bat]

/-- and the queries, rotated and scaled. -/
theorem q_at (R : Fin 8192) (n : Fin 2048) : val_main_v129 (F := Ideal) x0 x1 x2 x3 (ix2 R n)
    = queries (Ideal.ofBits .f32 0x3DD53B95#32) (Ang R) (Q x0 x1 x2 x3 R) n := by
  have e : val_main_v129 (F := Ideal) x0 x1 x2 x3 (ix2 R n)
      = (if h : n.val % 256 < 128 then val_main_v28 (F := Ideal) x0 x1 x2 x3 (ix3 (bat R) (tok R) ⟨n.val / 256 * 192 + n.val % 256, by omega⟩)
          else if h' : n.val % 256 - 128 < 64 then val_main_v67 (F := Ideal) x0 x1 x2 x3 (ix4 (bat R) (tok R) ⟨n.val / 256, by omega⟩ ⟨n.val % 256 - 128, h'⟩)
          else 0) * Ideal.ofBits .f32 0x3DD53B95#32 := by
    pointwise [val_main_v129, val_main_v128, val_main_v125, val_main_v124, val_main_cst_14, val_main_v123, val_main_v122, val_main_cst_13, val_main_v30, val_main_v29]
    try rfl
  rw [e]
  simp only [q28_at, qrot_at, rw_bat]
  unfold queries
  by_cases h : n.val % 256 < 128
  · simp only [h, dite_true]
  · by_cases h' : n.val % 256 < 192
    · have h'' : n.val % 256 - 128 < 64 := by omega
      simp only [h, h', h'', dite_true, dite_false]
      rfl
    · have h'' : ¬ n.val % 256 - 128 < 64 := by omega
      simp only [h, h', h'', dite_false, zero_mul]

end Cert.Reference7Ideal.Hand

end
-- ==== Proof.LatSample.lean ====
/-
  What the latent projections of the sample rows compute: each block of the six results at an index, as the row's normed latents, their
  products and rotations, and the result arrays after the run.
-/
module

public import proofs.«01_k».proof.Proof.Gen.Kernel8Ideal.Value
public import proofs.«01_k».proof.Proof.LatSpec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.Hand

open Cert.Kernel8Ideal Cert.Kernel8Ideal.Gen Cert.Lat

variable (m : (ℓ : Loc nD τ sig) → Buf (Elt Ideal) ℓ)

/-! ### The arguments and what the call stages of them -/

/-- The argument arrays, as functions of their coordinates: the rows, -/
def H (c : Dev nD) (R : Fin 256) (k : Fin 2048) : EReal := (show FVec Ideal S256x2048 .f32 from m ((c : Thread nD τ).loc main_arg0)) (ix2 R k)
/-- the input weights, -/
def W (c : Dev nD) (k : Fin 2048) (n : Fin 8256) : EReal :=
  (show FVec Ideal S1x2048x8256 .f32 from m ((c : Thread nD τ).loc main_arg1)) (ix3 0 k n)
/-- the gain of the query latent's norm, -/
def Gq (c : Dev nD) (j : Fin 512) : EReal := (show FVec Ideal S1x512 .f32 from m ((c : Thread nD τ).loc main_arg2)) (ix2 0 j)
/-- the weights from the query latent to the queries, -/
def Uq (c : Dev nD) (j : Fin 512) (n : Fin 1536) : EReal :=
  (show FVec Ideal S1x512x1536 .f32 from m ((c : Thread nD τ).loc main_arg3)) (ix3 0 j n)
/-- the gain of the key and value latent's norm, -/
def Gkv (c : Dev nD) (j : Fin 512) : EReal := (show FVec Ideal S1x512 .f32 from m ((c : Thread nD τ).loc main_arg4)) (ix2 0 j)
/-- and the weights from that latent to keys and values. -/
def Ukv (c : Dev nD) (j : Fin 512) (n : Fin 2048) : EReal :=
  (show FVec Ideal S1x512x2048 .f32 from m ((c : Thread nD τ).loc main_arg5)) (ix3 0 j n)

/-- The windows' index maps in closed form: point `t` is row block `t`; the weights' blocks are the same at every point. -/
theorem idx : ∀ t : Fin cfg0.N, win0_0.index t = ![t.val, 0] ∧ win0_1.index t = ![3072, 0] ∧ win0_2.index t = ![0, 0]
    ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)
theorem idxo : ∀ t : Fin cfg0.N, win0_8.index t = ![t.val, 0] ∧ win0_9.index t = ![t.val, 0] ∧ win0_10.index t = ![t.val, 0]
    ∧ win0_11.index t = ![t.val, 0] ∧ win0_12.index t = ![t.val, 0] ∧ win0_13.index t = ![t.val, 0] :=
  (by decide +kernel : ∀ t : Fin grid0.N, _)
/-- A point's coordinate is its number. -/
theorem coord : ∀ t : Fin cfg0.N, (grid0.coords t 0).val = t.val := (by decide +kernel : ∀ t : Fin grid0.N, _)

/-- Row `r` of row block `b`. -/
def row (b : ℕ) (r : Fin 256) : Fin 256 := ⟨(b * 256 + r.val) % 256, Nat.mod_lt _ (by decide)⟩

theorem row_val (t : Fin cfg0.N) (r : Fin 256) : (row t.val r).val = t.val * 256 + r.val := by
  have := lt_of_lt_of_eq t.isLt (show cfg0.N = 1 from N_0)
  exact Nat.mod_eq_of_lt (by omega)

theorem blk0 (c : Dev nD) (t : Fin cfg0.N) (r : Fin 256) (k : Fin 2048) :
    (show FVec Ideal S256x2048 .f32 from iblk m c 0 t) (ix2 r k) = H m c (row t.val r) k := by
  unfold H
  have e := row_val t r
  generalize row t.val r = R at e
  blk_point [iblk, V, idx t]

/-- The host transposes the input weights, -/
theorem entry19 (c : Dev nD) : (show FVec Ideal S8256x2048 .bf16 from V m c main_v19)
    = truncf .bf16 (transpose S8256x2048 [1, 0] (shapeCast S2048x8256 (show FVec Ideal S1x2048x8256 .f32 from m ((c : Thread nD τ).loc main_arg1)) shapeCasts_S1x2048x8256_S2048x8256)
        transposes_S2048x8256_S8256x2048_1_0) bitsLt_bf16_f32 := by
  unfold V
  simp only [hostOps0, hostOps0_1, hostOps0_2, List.flatten_cons, List.flatten_nil, List.append_nil, List.cons_append, List.nil_append]
  entry_read
  rfl

/-- passes the gains on, -/
theorem entry21 (c : Dev nD) : (show FVec Ideal S1x512 .f32 from V m c main_v21)
    = shapeCast S1x512 (shapeCast S512 (show FVec Ideal S1x512 .f32 from m ((c : Thread nD τ).loc main_arg2)) shapeCasts_S1x512_S512) shapeCasts_S512_S1x512 := by
  unfold V
  simp only [hostOps0, hostOps0_1, hostOps0_2, List.flatten_cons, List.flatten_nil, List.append_nil, List.cons_append, List.nil_append]
  entry_read
  rfl

/-- both of them, -/
theorem entry23 (c : Dev nD) : (show FVec Ideal S1x512 .f32 from V m c main_v23)
    = shapeCast S1x512 (shapeCast S512 (show FVec Ideal S1x512 .f32 from m ((c : Thread nD τ).loc main_arg4)) shapeCasts_S1x512_S512) shapeCasts_S512_S1x512 := by
  unfold V
  simp only [hostOps0, hostOps0_1, hostOps0_2, List.flatten_cons, List.flatten_nil, List.append_nil, List.cons_append, List.nil_append]
  entry_read
  rfl

/-- pads each head of the query weights with zero columns, -/
theorem entry10 (c : Dev nD) : (show FVec Ideal S512x2048 .bf16 from V m c main_v10)
    = shapeCast S512x2048 (pad S512x8x256 ![0, 0, 0] ![0, 0, 64] ![0, 0, 0] (shapeCast S512x8x192
        (truncf .bf16 (shapeCast S512x1536 (show FVec Ideal S1x512x1536 .f32 from m ((c : Thread nD τ).loc main_arg3)) shapeCasts_S1x512x1536_S512x1536)
          bitsLt_bf16_f32) shapeCasts_S512x1536_S512x8x192) (sitofp .bf16 (constantI S_ 32 0#32))
        pads_S512x8x192_S512x8x256_000_000_0640 h_S_) shapeCasts_S512x8x256_S512x2048 := by
  unfold V
  simp only [hostOps0, hostOps0_1, hostOps0_2, List.flatten_cons, List.flatten_nil, List.append_nil, List.cons_append, List.nil_append]
  entry_read
  rfl

/-- takes each head's key columns -/
theorem entry14 (c : Dev nD) : (show FVec Ideal S512x1024 .bf16 from V m c main_v14)
    = shapeCast S512x1024 (extractStridedSlice S512x8x128 ![0, 0, 0] (shapeCast S512x8x256
        (truncf .bf16 (shapeCast S512x2048 (show FVec Ideal S1x512x2048 .f32 from m ((c : Thread nD τ).loc main_arg5)) shapeCasts_S1x512x2048_S512x2048)
          bitsLt_bf16_f32) shapeCasts_S512x2048_S512x8x256) slices_S512x8x256_S512x8x128_0_0_0) shapeCasts_S512x8x128_S512x1024 := by
  unfold V
  simp only [hostOps0, hostOps0_1, hostOps0_2, List.flatten_cons, List.flatten_nil, List.append_nil, List.cons_append, List.nil_append]
  entry_read
  rfl

/-- and its value columns apart, -/
theorem entry16 (c : Dev nD) : (show FVec Ideal S512x1024 .bf16 from V m c main_v16)
    = shapeCast S512x1024 (extractStridedSlice S512x8x128 ![0, 0, 128] (shapeCast S512x8x256
        (truncf .bf16 (shapeCast S512x2048 (show FVec Ideal S1x512x2048 .f32 from m ((c : Thread nD τ).loc main_arg5)) shapeCasts_S1x512x2048_S512x2048)
          bitsLt_bf16_f32) shapeCasts_S512x2048_S512x8x256) slices_S512x8x256_S512x8x128_0_0_128) shapeCasts_S512x8x128_S512x1024 := by
  unfold V
  simp only [hostOps0, hostOps0_1, hostOps0_2, List.flatten_cons, List.flatten_nil, List.append_nil, List.cons_append, List.nil_append]
  entry_read
  rfl

/-- and computes the frequencies, -/
def freqs : FVec Ideal S32 .f32 := Host.powf (broadcastInDim S32 ![] bcast_S_S32 (constant S_ .f32 0x461C4000#32))
  (Host.divf (Host.negf (addf (broadcastInDim S32 ![] bcast_S_S32 (constant S_ .f32 0x00000000#32))
    (mulf (broadcastInDim S32 ![] bcast_S_S32 (constant S_ .f32 0x40000000#32)) (sitofp .f32 (iotaInDim S32 32 0)))))
    (broadcastInDim S32 ![] bcast_S_S32 (constant S_ .f32 0x42800000#32)))

theorem entry33 (c : Dev nD) : (show FVec Ideal S32 .f32 from V m c main_v33) = freqs := by
  unfold V
  simp only [hostOps0, hostOps0_1, hostOps0_2, List.flatten_cons, List.flatten_nil, List.append_nil, List.cons_append, List.nil_append]
  entry_read
  rfl

def zeros64 : FVec Ideal S64 .f32 := broadcastInDim S64 ![] bcast_S_S64 (constant S_ .f32 0x00000000#32)

theorem entry34 (c : Dev nD) : (show FVec Ideal S64 .f32 from V m c main_v34) = zeros64 := by
  unfold V
  simp only [hostOps0, hostOps0_1, hostOps0_2, List.flatten_cons, List.flatten_nil, List.append_nil, List.cons_append, List.nil_append]
  entry_read
  rfl

/-- laid out, twice, with zeros behind: the host's last two operations, read off any contents they start from. -/
theorem entry36_of (X : (b : DevRef τ sig) → b.ty.Contents (Elt Ideal)) :
    (show FVec Ideal S1x128 .f32 from StableHlo.after (List.drop 30 hostOps0_2) X (Proc.tc.devRef main_v36))
    = shapeCast S1x128 (concatenate S128 0 [⟨S32, (show FVec Ideal S32 .f32 from X (Proc.tc.devRef main_v33))⟩,
        ⟨S32, (show FVec Ideal S32 .f32 from X (Proc.tc.devRef main_v33))⟩,
        ⟨S64, (show FVec Ideal S64 .f32 from X (Proc.tc.devRef main_v34))⟩] concatenates_S32_S32_S64_S128_d0 : FVec Ideal S128 .f32)
        shapeCasts_S128_S1x128 := rfl

/-- A line of operations is its first ones and then the others, -/
theorem after_app (a b : List (HloOp τ sig (Elt Ideal))) (X : (b : DevRef τ sig) → b.ty.Contents (Elt Ideal)) :
    StableHlo.after (a ++ b) X = StableHlo.after b (StableHlo.after a X) := by
  induction a generalizing X with
  | nil => rfl
  | cons o a ih => exact ih _

/-- so the last of three lines can be cut anywhere. -/
theorem after_cut (a b d : List (HloOp τ sig (Elt Ideal))) (n : ℕ) (X : (b : DevRef τ sig) → b.ty.Contents (Elt Ideal)) :
    ∃ Y : (b : DevRef τ sig) → b.ty.Contents (Elt Ideal), StableHlo.after (List.flatten [a, b, d]) X = StableHlo.after (d.drop n) Y := by
  refine ⟨StableHlo.after (a ++ b ++ d.take n) X, ?_⟩
  rw [← after_app, List.append_assoc, List.take_append_drop]
  simp

theorem entry_split (c : Dev nD) : ∃ X : (b : DevRef τ sig) → b.ty.Contents (Elt Ideal),
    ∀ b : Ref sig .tc, V m c b = StableHlo.after (List.drop 30 hostOps0_2) X (Proc.tc.devRef b) :=
  (after_cut _ _ _ 30 _).imp fun _ h b => congrFun h (Proc.tc.devRef b)

theorem entry36 (c : Dev nD) : (show FVec Ideal S1x128 .f32 from V m c main_v36)
    = shapeCast S1x128 (concatenate S128 0 [⟨S32, freqs⟩, ⟨S32, freqs⟩, ⟨S64, zeros64⟩] concatenates_S32_S32_S64_S128_d0
        : FVec Ideal S128 .f32) shapeCasts_S128_S1x128 := by
  obtain ⟨X, h⟩ := entry_split m c
  refine ((h main_v36).trans (entry36_of X)).trans ?_
  rw [show (show FVec Ideal S32 .f32 from X (Proc.tc.devRef main_v33)) = freqs from (h main_v33).symm.trans (entry33 m c),
    show (show FVec Ideal S64 .f32 from X (Proc.tc.devRef main_v34)) = zeros64 from (h main_v34).symm.trans (entry34 m c)]

/-! ### The staged blocks -/

/-- Where an element of the element-addressed weights' block sits in the transposed input weights. -/
theorem emb1 (t : Fin cfg0.N) (y : S1152x2048.Idx) (a : Fin 2) : (((win0_1.blk t).view.emb y) a : ℕ) = win0_1.index t a + (y a : ℕ) :=
  ValueKit.view_emb_slice_whole_unit_val main_v19 _ _ _ y a

/-- The element-addressed block of the transposed input weights starts at the latents' columns. -/
theorem blk1 (c : Dev nD) (t : Fin cfg0.N) (n : Fin 1152) (k : Fin 2048) :
    (show FVec Ideal S1152x2048 .bf16 from iblk m c 1 t) (ix2 n k) = W m c k ⟨3072 + n.val, by omega⟩ := by
  have e : (show FVec Ideal S1152x2048 .bf16 from iblk m c 1 t) (ix2 n k)
      = (show FVec Ideal S8256x2048 .bf16 from V m c main_v19) (ix2 ⟨3072 + n.val, by omega⟩ k) := by
    refine congrArg (V m c main_v19) ((ix2_eta _).symm.trans ((ix2_inj ..).2 ⟨Fin.ext ?_, Fin.ext ?_⟩))
    · exact (emb1 t (ix2 n k) 0).trans (by rw [(idx t).2.1]; rfl)
    · exact (emb1 t (ix2 n k) 1).trans (by rw [(idx t).2.1]; simp)
  rw [e, entry19]
  unfold W
  pointwise

theorem blk2 (c : Dev nD) (t : Fin cfg0.N) (j : Fin 512) : (show FVec Ideal S1x512 .f32 from iblk m c 2 t) (ix2 0 j)
    = Gq m c j := by
  have e : (show FVec Ideal S1x512 .f32 from iblk m c 2 t) (ix2 0 j)
      = (show FVec Ideal S1x512 .f32 from V m c main_v21) (ix2 0 j) := by
    blk_point [iblk, idx t]
  rw [e, entry21]
  unfold Gq
  pointwise

theorem blk3 (c : Dev nD) (t : Fin cfg0.N) (j : Fin 512) : (show FVec Ideal S1x512 .f32 from iblk m c 3 t) (ix2 0 j)
    = Gkv m c j := by
  have e : (show FVec Ideal S1x512 .f32 from iblk m c 3 t) (ix2 0 j)
      = (show FVec Ideal S1x512 .f32 from V m c main_v23) (ix2 0 j) := by
    blk_point [iblk, idx t]
  rw [e, entry23]
  unfold Gkv
  pointwise

/-- The query weights are staged 256 columns a head: the head's 192 columns, then zeros. -/
theorem blk4 (c : Dev nD) (t : Fin cfg0.N) (j : Fin 512) (n : Fin 2048) : (show FVec Ideal S512x2048 .bf16 from iblk m c 4 t) (ix2 j n)
    = if h : n.val % 256 < 192 then Uq m c j ⟨n.val / 256 * 192 + n.val % 256, by omega⟩ else 0 := by
  have e : (show FVec Ideal S512x2048 .bf16 from iblk m c 4 t) (ix2 j n)
      = (show FVec Ideal S512x2048 .bf16 from V m c main_v10) (ix2 j n) := by
    blk_point [iblk, idx t]
  rw [e, entry10]
  unfold Uq
  pointwise
  by_cases h : n.val % 256 < 192
  · rw [dif_pos h, dif_pos ⟨by omega, h⟩]
  · rw [dif_neg h, dif_neg (fun h' => h h'.2)]
    simp [FloatOps.sitofp]

/-- The key weights are each head's first 128 columns, the value weights its other 128. -/
theorem blk5 (c : Dev nD) (t : Fin cfg0.N) (j : Fin 512) (n : Fin 1024) : (show FVec Ideal S512x1024 .bf16 from iblk m c 5 t) (ix2 j n)
    = Ukv m c j ⟨n.val / 128 * 256 + n.val % 128, by omega⟩ := by
  have e : (show FVec Ideal S512x1024 .bf16 from iblk m c 5 t) (ix2 j n)
      = (show FVec Ideal S512x1024 .bf16 from V m c main_v14) (ix2 j n) := by
    blk_point [iblk, idx t]
  rw [e, entry14]
  unfold Ukv
  pointwise

theorem blk6 (c : Dev nD) (t : Fin cfg0.N) (j : Fin 512) (n : Fin 1024) : (show FVec Ideal S512x1024 .bf16 from iblk m c 6 t) (ix2 j n)
    = Ukv m c j ⟨n.val / 128 * 256 + 128 + n.val % 128, by omega⟩ := by
  have e : (show FVec Ideal S512x1024 .bf16 from iblk m c 6 t) (ix2 j n)
      = (show FVec Ideal S512x1024 .bf16 from V m c main_v16) (ix2 j n) := by
    blk_point [iblk, idx t]
  rw [e, entry16]
  unfold Ukv
  pointwise
  exact congrArg (m _) ((ix3_inj ..).2 ⟨rfl, rfl, Fin.ext (Nat.add_assoc _ _ _).symm⟩)

/-- The frequencies are staged twice, on the first 64 lanes. -/
theorem blk7 (c : Dev nD) (t : Fin cfg0.N) (l : Fin 128) (h : l.val < 64) : (show FVec Ideal S1x128 .f32 from iblk m c 7 t) (ix2 0 l)
    = freq ⟨l.val % 32, Nat.mod_lt _ (by omega)⟩ := by
  have e : (show FVec Ideal S1x128 .f32 from iblk m c 7 t) (ix2 0 l)
      = (show FVec Ideal S1x128 .f32 from V m c main_v36) (ix2 0 l) := by
    blk_point [iblk, idx t]
  rw [e, entry36]
  pointwise [freqs, zeros64]
  unfold freq
  show _ = Ideal.pow _ (Ideal.div (-(_ * FloatOps.sitofp (F := Ideal) .f32 (BitVec.ofNat 32 (l.val % 32)))) _)
  by_cases h' : l.val < 32
  · rw [dif_pos h', Nat.mod_eq_of_lt h']
  · rw [dif_neg h', dif_pos (by omega), show l.val % 32 = l.val - 32 by omega]
/-! ### The payloads at an index -/

/-- The angle at row `r` of a point's block, lane `l`: the row's position times the staged frequency. -/
def ang (t : Fin cfg0.N) (f : FVec Ideal S1x128 .f32) (r : Fin 256) (l : Fin 128) : EReal :=
  FloatOps.sitofp (F := Ideal) .f32 (BitVec.ofNat 32 ((t.val * 256 + r.val) % 16 + 1024)) * f (ix2 0 l)

/-- The row's position as a word. -/
theorem word : ∀ (t : Fin cfg0.N) (r : Fin 256), IntOp.addi (IntOp.andi (IntOp.addi (Scalar.muli 0#32 256#32)
    (BitVec.ofNat 32 r.val)) 15#32) 1024#32 = BitVec.ofNat 32 ((t.val * 256 + r.val) % 16 + 1024) :=
  (by decide +kernel : ∀ (t : Fin grid0.N) (r : Fin 256), _)

/-- The lanes' masks, as bits. -/
theorem mask_lo64 : ∀ l : Fin 128, IntOp.cmpi .slt (BitVec.ofNat 32 l.val) 64#32 = if l.val < 64 then 1#1 else 0#1 := by decide +kernel
theorem mask_lo32 : ∀ l : Fin 128, IntOp.cmpi .slt (BitVec.ofNat 32 l.val) 32#32 = if l.val < 32 then 1#1 else 0#1 := by decide +kernel
theorem mask_hi32 : ∀ l : Fin 128, IntOp.andi (IntOp.cmpi .sge (BitVec.ofNat 32 l.val) 32#32) (IntOp.cmpi .slt (BitVec.ofNat 32 l.val) 64#32)
    = if 32 ≤ l.val ∧ l.val < 64 then 1#1 else 0#1 := by decide +kernel

/-- The masked tables: the cosine on the first 64 lanes, -/
theorem pay7_at (t : Fin cfg0.N) (f : FVec Ideal S1x128 .f32) (r : Fin 256) (l : Fin 128) :
    k0_pay7 (F := Ideal) (grid0.coords t) f (ix2 r l) = if l.val < 64 then Ideal.cos (ang t f r l) else 0 := by
  pointwise [k0_pay7, k0_pay6, k0_pay5]
  rw [word t r, mask_lo64]
  unfold ang
  split_ifs <;> rfl

theorem pay8_at (t : Fin cfg0.N) (f : FVec Ideal S1x128 .f32) (r : Fin 256) (l : Fin 128) :
    k0_pay8 (F := Ideal) (grid0.coords t) f (ix2 r l) = if l.val < 32 then 0 - Ideal.sin (ang t f r l) else 0 := by
  pointwise [k0_pay8, k0_pay6, k0_pay5]
  rw [word t r, mask_lo32]
  unfold ang
  split_ifs <;> rfl

theorem pay9_at (t : Fin cfg0.N) (f : FVec Ideal S1x128 .f32) (r : Fin 256) (l : Fin 128) :
    k0_pay9 (F := Ideal) (grid0.coords t) f (ix2 r l) = if 32 ≤ l.val ∧ l.val < 64 then Ideal.sin (ang t f r l) else 0 := by
  pointwise [k0_pay9, k0_pay6, k0_pay5]
  rw [word t r, mask_hi32]
  unfold ang
  split_ifs <;> rfl

/-- A row's 128 lanes from column `o` on. -/
def piece {n : ℕ} (x : Fin n → EReal) (o : ℕ) (h : o + 128 ≤ n) (l : Fin 128) : EReal := x ⟨o + l.val, by omega⟩

/-- The sum of a 128-vector and its two turns, times the tables. -/
def turn (C S1 S2 x : Fin 128 → EReal) (l : Fin 128) : EReal :=
  x l * C l + x ⟨(l.val + 128 - 96) % 128, Nat.mod_lt _ (by omega)⟩ * S1 l + x ⟨(l.val + 128 - 32) % 128, Nat.mod_lt _ (by omega)⟩ * S2 l

/-- The queries' block from the scaled product `T` and the tables: each head's first 128 columns as they are, its other 128 turned. -/
def heads (C S1 S2 : FVec Ideal S256x128 .f32) (T : FVec Ideal S256x2048 .f32) (y : S256x2048.Idx) : EReal :=
  if (y 1).val % 256 < 128 then T y
  else turn (fun l => C (ix2 (y 0) l)) (fun l => S1 (ix2 (y 0) l)) (fun l => S2 (ix2 (y 0) l))
    (fun l => T (ix2 (y 0) ⟨((y 1).val / 256 * 256 + 128 + l.val) % 2048, Nat.mod_lt _ (by omega)⟩))
    ⟨((y 1).val % 256 - 128) % 128, Nat.mod_lt _ (by omega)⟩

/-- A head's plain part: 128 columns of the queries from an even multiple of 128 on; -/
theorem nope_at (o : ℕ) (h : S256x2048.Slices ![0, o] S256x128) (C S1 S2 : FVec Ideal S256x128 .f32) (T : FVec Ideal S256x2048 .f32) (x : S256x128.Idx)
    (y : S256x2048.Idx) (h0 : (y 0).val = (x 0).val) (h1 : (y 1).val = o + (x 1).val) (ho : o % 256 = 0) :
    (truncf .bf16 (extractStridedSlice S256x128 ![0, o] T h) bitsLt_bf16_f32 : FVec Ideal S256x128 .bf16) x = heads C S1 S2 T y := by
  have hx : (x 1).val < 128 := (x 1).isLt
  unfold heads
  rw [if_pos (by omega)]
  idx_vars x
  have hy : y = ix2 x0 ⟨o + x1.val, lt_of_eq_of_lt h1.symm (y 1).isLt⟩ :=
    (ix2_eta _).symm.trans ((ix2_inj ..).2 ⟨Fin.ext h0, Fin.ext h1⟩)
  rw [hy]
  pointwise

/-- and its rotated part: 128 columns from an odd multiple on, turned. -/
theorem rope_at (o : ℕ) (h : S256x2048.Slices ![0, o] S256x128) (C S1 S2 : FVec Ideal S256x128 .f32) (T : FVec Ideal S256x2048 .f32) (x : S256x128.Idx)
    (y : S256x2048.Idx) (h0 : (y 0).val = (x 0).val) (h1 : (y 1).val = o + (x 1).val) (ho : o % 256 = 128) :
    (truncf .bf16 (addf (addf (mulf (extractStridedSlice S256x128 ![0, o] T h) C)
      (mulf (dynamicRotate 1 96#32 none (extractStridedSlice S256x128 ![0, o] T h) rotates_S256x128_d1) S1))
      (mulf (dynamicRotate 1 32#32 none (extractStridedSlice S256x128 ![0, o] T h) rotates_S256x128_d1) S2)) bitsLt_bf16_f32
      : FVec Ideal S256x128 .bf16) x = heads C S1 S2 T y := by
  have hx : (x 1).val < 128 := (x 1).isLt
  have hy1 : (y 1).val < 2048 := (y 1).isLt
  unfold heads
  rw [if_neg (by omega)]
  idx_vars x
  have e0 : y 0 = x0 := Fin.ext h0
  have e1 : (⟨((y 1).val % 256 - 128) % 128, Nat.mod_lt _ (by omega)⟩ : Fin 128) = x1 := Fin.ext (show ((y 1).val % 256 - 128) % 128 = x1.val by omega)
  rw [e0, e1]
  have e : ∀ l : Fin 128, (⟨((y 1).val / 256 * 256 + 128 + l.val) % 2048, Nat.mod_lt _ (by omega)⟩ : Fin 2048) = ⟨o + l.val, by omega⟩ :=
    fun l => Fin.ext (show ((y 1).val / 256 * 256 + 128 + l.val) % 2048 = o + l.val by omega)
  simp only [e]
  unfold turn
  pointwise

theorem out8_form (i : grid0.Coords) (x0 : Vec Ideal S256x2048 .f32) (x1 : Vec Ideal S1152x2048 .bf16) (x2 : Vec Ideal S1x512 .f32)
    (x3 : Vec Ideal S1x512 .f32) (x4 : Vec Ideal S512x2048 .bf16) (x5 : Vec Ideal S512x1024 .bf16) (x6 : Vec Ideal S512x1024 .bf16)
    (x7 : Vec Ideal S1x128 .f32) (y : S256x2048.Idx) :
    out0_8 i x0 x1 x2 x3 x4 x5 x6 x7 y = heads (k0_pay41 i x0 x1 x2 x3 x4 x5 x6 x7) (k0_pay42 i x0 x1 x2 x3 x4 x5 x6 x7)
      (k0_pay43 i x0 x1 x2 x3 x4 x5 x6 x7) (k0_pay49 i x0 x1 x2 x3 x4 x5 x6 x7) y := by
  unfold out0_8
  generalize k0_pay41 i x0 x1 x2 x3 x4 x5 x6 x7 = C
  generalize k0_pay42 i x0 x1 x2 x3 x4 x5 x6 x7 = S1
  generalize k0_pay43 i x0 x1 x2 x3 x4 x5 x6 x7 = S2
  unfold k0_pay49
  generalize k0_pay46 i x0 x1 x2 x3 x4 x5 x6 x7 = A
  generalize k0_pay48 i x0 x1 x2 x3 x4 x5 x6 x7 = B
  generalize k0_pay44 i x0 x1 x2 x3 x4 x5 x6 x7 = Z
  canon_tiles x h
  case piece15 => exact nope_at _ _ C S1 S2 _ x y h0 (h1.trans (Nat.zero_add _).symm) (by decide)
  case piece8 => exact rope_at 896 slices_S256x2048_o0_896_S256x128 C S1 S2 (k0_pay16 A B Z) x y h0 h1 (by decide)
  case piece14 => exact rope_at 128 slices_S256x2048_o0_128_S256x128 C S1 S2 (k0_pay16 A B Z) x y h0 h1 (by decide)
  all_goals first
    | exact nope_at _ _ C S1 S2 _ x y h0 h1 (by decide)
    | exact rope_at _ _ C S1 S2 (k0_pay16 A B Z) x y h0 h1 (by decide)

/-! ### The rows' latents and what the results hold -/

/-- A row's query latent, -/
def Cq (c : Dev nD) (R : Fin 256) : Fin 512 → EReal := rms (fun j => ∑ k, H m c R k * W m c k ⟨3072 + j.val, by omega⟩) (Gq m c)
/-- its key and value latent, -/
def Ckv (c : Dev nD) (R : Fin 256) : Fin 512 → EReal := rms (fun j => ∑ k, H m c R k * W m c k ⟨3584 + j.val, by omega⟩) (Gkv m c)
/-- its rotary key before the rotation, -/
def Kr (c : Dev nD) (R : Fin 256) (l : Fin 64) : EReal := ∑ k, H m c R k * W m c k ⟨4096 + l.val, by omega⟩
/-- its queries before rotation and scale, -/
def Q (c : Dev nD) (R : Fin 256) (n : Fin 1536) : EReal := ∑ j, Cq m c R j * Uq m c j n
/-- its keys and values, -/
def Kv (c : Dev nD) (R : Fin 256) (n : Fin 2048) : EReal := ∑ j, Ckv m c R j * Ukv m c j n
/-- and its angles. -/
def Ang (R : Fin 256) : Fin 32 → EReal := angle (R.val % 16 + 1024)

/-- The six results: the queries, -/
def resQ (c : Dev nD) (R : Fin 256) (n : Fin 2048) : EReal := queries (Ideal.ofBits .f32 0x3DD53B95#32) (Ang R) (Q m c R) n
/-- the latent, -/
def resC (c : Dev nD) (R : Fin 256) (n : Fin 512) : EReal := Ckv m c R n
/-- the rotated key, -/
def resR (c : Dev nD) (R : Fin 256) (n : Fin 64) : EReal := rot (Ang R) (Kr m c R) n
/-- the same with zeros behind, -/
def resP (c : Dev nD) (R : Fin 256) (n : Fin 128) : EReal := padded (resR m c R) n
/-- the keys -/
def resK (c : Dev nD) (R : Fin 256) (n : Fin 1024) : EReal := Kv m c R ⟨n.val / 128 * 256 + n.val % 128, by omega⟩
/-- and the values. -/
def resV (c : Dev nD) (R : Fin 256) (n : Fin 1024) : EReal := Kv m c R ⟨n.val / 128 * 256 + 128 + n.val % 128, by omega⟩

/-! ### A point's products, latents and tables -/

/-- A load of a whole block is the block. -/
theorem ld_whole {a b : ℕ} {e : EltTy} (X : (⟨2, ![a, b]⟩ : Shape).Idx → Elt Ideal e) (h) : View.ld X (Rect.unit ![0, 0] ![a, b] h) = X :=
  View.ld_unit_lit h X (by intro a; fin_cases a <;> rfl)

/-- The weights' block, and its rows from `o` on. -/
abbrev X1 (c : Dev nD) (t : Fin cfg0.N) : Vec Ideal S1152x2048 .bf16 := iblk m c 1 t

theorem ld1 (c : Dev nD) (t : Fin cfg0.N) (o a : ℕ) (ho : o + a ≤ 1152) (h) (n : Fin a) (k : Fin 2048) :
    (show FVec Ideal ⟨2, ![a, 2048]⟩ .bf16 from View.ld (X1 m c t) (Rect.unit ![o, 0] ![a, 2048] h)) (ix2 n k)
      = W m c k ⟨3072 + (o + n.val), by omega⟩ := by
  refine Eq.trans (congrArg (X1 m c t) (funext fun a => ?_)) (blk1 m c t ⟨o + n.val, by omega⟩ k)
  fin_cases a
  · exact Fin.ext (by simp [Rect.unit, Rect.emb])
  · exact Fin.ext (by simp [Rect.unit, Rect.emb])

theorem pay4_at (x : FVec Ideal S256x2048 .f32) (r : Fin 256) (k : Fin 2048) : k0_pay4 (F := Ideal) x (ix2 r k) = x (ix2 r k) := by
  pointwise [k0_pay4]

/-- A product with rows of the transposed weights, -/
theorem pay10_at (x : FVec Ideal S256x2048 .f32) (w : FVec Ideal S512x2048 .bf16) (r : Fin 256) (n : Fin 512) :
    k0_pay10 (F := Ideal) x w (ix2 r n) = ∑ k, x (ix2 r k) * w (ix2 n k) := by
  pointwise [k0_pay10, k0_pay4]

/-- its rows' norm, -/
theorem pay12_at (x : FVec Ideal S256x512 .f32) (g : FVec Ideal S1x512 .f32) (r : Fin 256) (n : Fin 512) :
    k0_pay12 (F := Ideal) x g (ix2 r n) = rms (fun j => x (ix2 r j)) (fun j => g (ix2 0 j)) n := by
  unfold rms
  pointwise [k0_pay12]

/-- both together, -/
theorem pay13_at (x : FVec Ideal S256x2048 .bf16) (w : FVec Ideal S512x2048 .bf16) (g : FVec Ideal S1x512 .f32) (r : Fin 256) (n : Fin 512) :
    k0_pay13 (F := Ideal) x w g (ix2 r n) = rms (fun j => ∑ k, x (ix2 r k) * w (ix2 j k)) (fun j => g (ix2 0 j)) n := by
  unfold rms
  pointwise [k0_pay13]

theorem pay14_at (x : FVec Ideal S256x2048 .bf16) (w : FVec Ideal S512x2048 .bf16) (g : FVec Ideal S1x512 .f32) (r : Fin 256) (n : Fin 512) :
    k0_pay14 (F := Ideal) x w g (ix2 r n) = k0_pay13 (F := Ideal) x w g (ix2 r n) := by
  pointwise [k0_pay14]

/-- the rotary key's product on the first 64 lanes, -/
theorem pay11_at (x : FVec Ideal S256x2048 .bf16) (w : FVec Ideal S128x2048 .bf16) (r : Fin 256) (n : Fin 128) :
    k0_pay11 (F := Ideal) x (iota .tc S256x128 32 [1] iota_S256x128_d1_w32) w (ix2 r n) = if n.val < 64 then ∑ k, x (ix2 r k) * w (ix2 n k) else 0 := by
  pointwise [k0_pay11]
  rw [mask_lo64]
  split_ifs <;> rfl

/-- the scaled product of the queries, -/
theorem pay16_at (x : FVec Ideal S256x512 .bf16) (w : FVec Ideal S512x2048 .bf16) (r : Fin 256) (n : Fin 2048) :
    k0_pay16 (F := Ideal) x w (constant S256x2048 .f32 0x00000000#32) (ix2 r n)
      = (∑ k, x (ix2 r k) * w (ix2 k n)) * Ideal.ofBits .f32 0x3DD53B95#32 := by
  pointwise [k0_pay16]

/-- the products of the keys and of the values. -/
theorem pay17_at (x : FVec Ideal S256x512 .bf16) (w : FVec Ideal S512x1024 .bf16) (r : Fin 256) (n : Fin 1024) :
    k0_pay17 (F := Ideal) x w (ix2 r n) = ∑ k, x (ix2 r k) * w (ix2 k n) := by
  pointwise [k0_pay17]
theorem pay18_at (x : FVec Ideal S256x512 .bf16) (w : FVec Ideal S512x1024 .bf16) (r : Fin 256) (n : Fin 1024) :
    k0_pay18 (F := Ideal) x w (ix2 r n) = ∑ k, x (ix2 r k) * w (ix2 k n) := by
  pointwise [k0_pay18]

/-- Equal rows have equal norms. -/
theorem rms_congr {x y g g' : Fin 512 → EReal} (h : ∀ j, x j = y j) (hg : ∀ j, g j = g' j) (n : Fin 512) : rms x g n = rms y g' n := by
  rw [funext h, funext hg]

/-- A point's values, at its staged blocks. -/
abbrev p40 (c : Dev nD) (t : Fin cfg0.N) := k0_pay40 (F := Ideal) (grid0.coords t) (iblk m c 0 t) (iblk m c 1 t) (iblk m c 2 t) (iblk m c 3 t) (iblk m c 4 t) (iblk m c 5 t) (iblk m c 6 t) (iblk m c 7 t)
abbrev p41 (c : Dev nD) (t : Fin cfg0.N) := k0_pay41 (F := Ideal) (grid0.coords t) (iblk m c 0 t) (iblk m c 1 t) (iblk m c 2 t) (iblk m c 3 t) (iblk m c 4 t) (iblk m c 5 t) (iblk m c 6 t) (iblk m c 7 t)
abbrev p42 (c : Dev nD) (t : Fin cfg0.N) := k0_pay42 (F := Ideal) (grid0.coords t) (iblk m c 0 t) (iblk m c 1 t) (iblk m c 2 t) (iblk m c 3 t) (iblk m c 4 t) (iblk m c 5 t) (iblk m c 6 t) (iblk m c 7 t)
abbrev p43 (c : Dev nD) (t : Fin cfg0.N) := k0_pay43 (F := Ideal) (grid0.coords t) (iblk m c 0 t) (iblk m c 1 t) (iblk m c 2 t) (iblk m c 3 t) (iblk m c 4 t) (iblk m c 5 t) (iblk m c 6 t) (iblk m c 7 t)
abbrev p45 (c : Dev nD) (t : Fin cfg0.N) := k0_pay45 (F := Ideal) (grid0.coords t) (iblk m c 0 t) (iblk m c 1 t) (iblk m c 2 t) (iblk m c 3 t) (iblk m c 4 t) (iblk m c 5 t) (iblk m c 6 t) (iblk m c 7 t)
abbrev p46 (c : Dev nD) (t : Fin cfg0.N) := k0_pay46 (F := Ideal) (grid0.coords t) (iblk m c 0 t) (iblk m c 1 t) (iblk m c 2 t) (iblk m c 3 t) (iblk m c 4 t) (iblk m c 5 t) (iblk m c 6 t) (iblk m c 7 t)
abbrev p47 (c : Dev nD) (t : Fin cfg0.N) := k0_pay47 (F := Ideal) (grid0.coords t) (iblk m c 0 t) (iblk m c 1 t) (iblk m c 2 t) (iblk m c 3 t) (iblk m c 4 t) (iblk m c 5 t) (iblk m c 6 t) (iblk m c 7 t)
abbrev p49 (c : Dev nD) (t : Fin cfg0.N) := k0_pay49 (F := Ideal) (grid0.coords t) (iblk m c 0 t) (iblk m c 1 t) (iblk m c 2 t) (iblk m c 3 t) (iblk m c 4 t) (iblk m c 5 t) (iblk m c 6 t) (iblk m c 7 t)

theorem p40_at (c : Dev nD) (t : Fin cfg0.N) (r : Fin 256) (k : Fin 2048) : p40 m c t (ix2 r k) = H m c (row t.val r) k :=
  (pay4_at _ r k).trans ((congrFun (ld_whole _ _) _).trans (blk0 m c t r k))

/-- The query latent. -/
theorem p46_at (c : Dev nD) (t : Fin cfg0.N) (r : Fin 256) (j : Fin 512) : p46 m c t (ix2 r j) = Cq m c (row t.val r) j := by
  refine (pay12_at _ _ r j).trans (rms_congr (fun n => (pay10_at _ _ r n).trans (Finset.sum_congr rfl fun k _ => congrArg₂ (· * ·) ?_ ?_)) (fun n => ?_) j)
  · exact (congrFun (ld_whole _ _) _).trans (blk0 m c t r k)
  · exact (ld1 m c t 0 512 (by omega) _ n k).trans (congrArg (W m c k) (Fin.ext (by simp)))
  · exact (congrFun (ld_whole _ _) _).trans (blk2 m c t n)

/-- The key and value latent. -/
theorem kv_latent (c : Dev nD) (t : Fin cfg0.N) (r : Fin 256) (j : Fin 512) (h h') : k0_pay13 (F := Ideal) (p40 m c t)
    (View.ld (X1 m c t) (Rect.unit ![512, 0] ![512, 2048] h)) (View.ld (show Vec Ideal S1x512 .f32 from iblk m c 3 t) (Rect.unit ![0, 0] ![1, 512] h')) (ix2 r j)
      = Ckv m c (row t.val r) j := by
  refine (pay13_at _ _ _ r j).trans (rms_congr (fun n => Finset.sum_congr rfl fun k _ => congrArg₂ (· * ·) ?_ ?_) (fun n => ?_) j)
  · exact p40_at m c t r k
  · exact (ld1 m c t 512 512 (by omega) _ n k).trans (congrArg (W m c k) (Fin.ext (by simp; omega)))
  · exact (congrFun (ld_whole _ _) _).trans (blk3 m c t n)

theorem p47_at (c : Dev nD) (t : Fin cfg0.N) (r : Fin 256) (j : Fin 512) : p47 m c t (ix2 r j) = Ckv m c (row t.val r) j :=
  (pay14_at _ _ _ r j).trans (kv_latent m c t r j _ _)

/-- The rotary key before the rotation. -/
theorem p45_at (c : Dev nD) (t : Fin cfg0.N) (r : Fin 256) (l : Fin 128) (h : l.val < 64) : p45 m c t (ix2 r l) = Kr m c (row t.val r) ⟨l.val, h⟩ := by
  refine (pay11_at _ _ r l).trans ((if_pos h).trans (Finset.sum_congr rfl fun k _ => congrArg₂ (· * ·) ?_ ?_))
  · exact p40_at m c t r k
  · exact (ld1 m c t 1024 128 (by omega) _ l k).trans (congrArg (W m c k) (Fin.ext (by simp; omega)))

/-- The scaled queries before the rotation, at a head's first 192 columns. -/
theorem p49_at (c : Dev nD) (t : Fin cfg0.N) (r : Fin 256) (n : Fin 2048) (h : n.val % 256 < 192) : p49 m c t (ix2 r n)
    = Q m c (row t.val r) ⟨n.val / 256 * 192 + n.val % 256, by omega⟩ * Ideal.ofBits .f32 0x3DD53B95#32 := by
  refine (pay16_at _ _ r n).trans (congrArg (· * _) (Finset.sum_congr rfl fun k _ => congrArg₂ (· * ·) (p46_at m c t r k) ?_))
  refine Eq.trans ?_ ((blk4 m c t k n).trans (dif_pos h))
  show k0_pay15 (F := Ideal) _ (ix2 k n) = _
  rw [ld_whole]
  pointwise [k0_pay15]

/-- The tables' angles on the first 64 lanes. -/
theorem ang_at (c : Dev nD) (t : Fin cfg0.N) (h') (r : Fin 256) (l : Fin 128) (h : l.val < 64) :
    ang t (View.ld (show Vec Ideal S1x128 .f32 from iblk m c 7 t) (Rect.unit ![0, 0] ![1, 128] h')) r l = Ang (row t.val r) ⟨l.val % 32, Nat.mod_lt _ (by omega)⟩ := by
  unfold ang Ang angle
  rw [row_val, ld_whole]
  exact congrArg (_ * ·) (blk7 m c t l h)

/-- What the point's tables make of a vector whose first 64 lanes are `y` times `s`: the rotated `y` times `s`, and zeros. -/
theorem turn_at (c : Dev nD) (t : Fin cfg0.N) (r : Fin 256) {s : EReal} (hs : ∃ a : ℝ, 0 ≤ a ∧ s = (a : EReal)) (x : Fin 128 → EReal) (y : Fin 64 → EReal)
    (hx : ∀ l : Fin 128, ∀ h : l.val < 64, x l = y ⟨l.val, h⟩ * s) (l : Fin 128) :
    turn (fun l => p41 m c t (ix2 r l)) (fun l => p42 m c t (ix2 r l)) (fun l => p43 m c t (ix2 r l)) x l
      = if h : l.val < 64 then rot (Ang (row t.val r)) y ⟨l.val, h⟩ * s else 0 := by
  refine Eq.trans ?_ (lanes_eq hs (ang t _ r) x (Ang (row t.val r)) y (fun l h => ang_at m c t inb_S1x128_S1x128_0_0 r l h) hx l)
  unfold turn lanes
  exact congrArg₂ (· + ·) (congrArg₂ (· + ·) (congrArg (_ * ·) (pay7_at t _ r l)) (congrArg (_ * ·) (pay8_at t _ r l)))
    (congrArg (_ * ·) (pay9_at t _ r l))

/-! ### What a point leaves in each result's block -/

theorem q_at (c : Dev nD) (t : Fin cfg0.N) (r : Fin 256) (n : Fin 2048) :
    (show FVec Ideal S256x2048 .bf16 from (dats m 0 c).after 8 t) (ix2 r n) = resQ m c (row t.val r) n := by
  rw [after0_8]
  refine (out8_form _ _ _ _ _ _ _ _ _ (ix2 r n)).trans ?_
  unfold heads resQ queries
  show (if n.val % 256 < 128 then p49 m c t (ix2 r n) else turn (fun l => p41 m c t (ix2 r l)) (fun l => p42 m c t (ix2 r l)) (fun l => p43 m c t (ix2 r l))
    (fun l => p49 m c t (ix2 r ⟨(n.val / 256 * 256 + 128 + l.val) % 2048, _⟩)) ⟨(n.val % 256 - 128) % 128, _⟩) = _
  by_cases h : n.val % 256 < 128
  · rw [if_pos h, dif_pos h]
    exact p49_at m c t r n (by omega)
  · rw [if_neg h, dif_neg h]
    refine (turn_at m c t r scale_real _ (fun l => Q m c (row t.val r) ⟨n.val / 256 * 192 + 128 + l.val, by omega⟩) (fun l hl => ?_) _).trans ?_
    · have e : (n.val / 256 * 256 + 128 + l.val) % 2048 = n.val / 256 * 256 + 128 + l.val := Nat.mod_eq_of_lt (by omega)
      refine (p49_at m c t r _ (by simp only [e]; omega)).trans (congrArg (· * _) (congrArg (Q m c _) (Fin.ext ?_)))
      simp only [e]
      omega
    · have e : (n.val % 256 - 128) % 128 = n.val % 256 - 128 := Nat.mod_eq_of_lt (by omega)
      by_cases h' : n.val % 256 < 192
      · rw [dif_pos h', dif_pos (by simp only [e]; omega)]
        exact congrArg (· * _) (congrArg (rot _ _) (Fin.ext e))
      · rw [dif_neg h', dif_neg (by simp only [e]; omega)]

theorem c_at (c : Dev nD) (t : Fin cfg0.N) (r : Fin 256) (n : Fin 512) :
    (show FVec Ideal S256x512 .f32 from (dats m 0 c).after 9 t) (ix2 r n) = resC m c (row t.val r) n := by
  rw [after0_9]
  unfold out0_9
  rw [View.canon_cons_unit_lit _ _ _ (by intro a; fin_cases a <;> rfl)]
  exact kv_latent m c t r n _ _

theorem r_at (c : Dev nD) (t : Fin cfg0.N) (r : Fin 256) (n : Fin 64) :
    (show FVec Ideal S256x64 .f32 from (dats m 0 c).after 10 t) (ix2 r n) = resR m c (row t.val r) n := by
  rw [after0_10]
  unfold out0_10
  rw [View.canon_cons_unit_lit _ _ _ (by intro a; fin_cases a <;> rfl)]
  refine Eq.trans ?_ ((turn_at m c t r one_real (fun l => p45 m c t (ix2 r l)) (Kr m c (row t.val r)) (fun l h => (p45_at m c t r l h).trans (mul_one _).symm)
    ⟨n.val, by omega⟩).trans ((dif_pos n.isLt).trans (mul_one _)))
  unfold turn
  pointwise [k0_pay20, k0_pay19]

theorem p_at (c : Dev nD) (t : Fin cfg0.N) (r : Fin 256) (n : Fin 128) :
    (show FVec Ideal S256x128 .bf16 from (dats m 0 c).after 11 t) (ix2 r n) = resP m c (row t.val r) n := by
  rw [after0_11]
  unfold out0_11
  rw [View.canon_cons_unit_lit _ _ _ (by intro a; fin_cases a <;> rfl)]
  refine Eq.trans ?_ ((turn_at m c t r one_real (fun l => p45 m c t (ix2 r l)) (Kr m c (row t.val r)) (fun l h => (p45_at m c t r l h).trans (mul_one _).symm)
    n).trans ?_)
  · unfold turn
    pointwise [k0_pay21, k0_pay19]
  · unfold resP padded resR
    simp only [mul_one]

theorem k_at (c : Dev nD) (t : Fin cfg0.N) (r : Fin 256) (n : Fin 1024) :
    (show FVec Ideal S256x1024 .bf16 from (dats m 0 c).after 12 t) (ix2 r n) = resK m c (row t.val r) n := by
  rw [after0_12]
  unfold out0_12
  rw [View.canon_cons_unit_lit _ _ _ (by intro a; fin_cases a <;> rfl)]
  unfold resK Kv
  refine (pay17_at _ _ r n).trans (Finset.sum_congr rfl fun k _ => congrArg₂ (· * ·) (p47_at m c t r k) ?_)
  exact (congrFun (ld_whole _ _) _).trans (blk5 m c t k n)

theorem v_at (c : Dev nD) (t : Fin cfg0.N) (r : Fin 256) (n : Fin 1024) :
    (show FVec Ideal S256x1024 .bf16 from (dats m 0 c).after 13 t) (ix2 r n) = resV m c (row t.val r) n := by
  rw [after0_13]
  unfold out0_13
  rw [View.canon_cons_unit_lit _ _ _ (by intro a; fin_cases a <;> rfl)]
  unfold resV Kv
  refine (pay18_at _ _ r n).trans (Finset.sum_congr rfl fun k _ => congrArg₂ (· * ·) (p47_at m c t r k) ?_)
  exact (congrFun (ld_whole _ _) _).trans (blk6 m c t k n)

/-! ### Where an element of each result's block sits in the result array, and the arrays after the run -/

theorem emb8 (t : Fin cfg0.N) (y : S256x2048.Idx) (a : Fin 2) :
    ((((View.whole main_v37_0).slice (win0_8.rect t)).emb y) a : ℕ) = win0_8.index t a * win0_8.size a + (y a : ℕ) :=
  ValueKit.view_emb_slice_whole_unit_val main_v37_0 _ _ _ y a

theorem final_q (c : Dev nD) : (dats m 0 c).arrAt 8 (cfgs 0).N = (show FVec Ideal S256x2048 .bf16 from fun i => resQ m c (i 0) (i 1)) := by
  refine (dats m 0 c).arrAt_eq_of_covers 8 _ (by decide +kernel) fun t hf y => ?_
  blk_simp
  idx_vars y
  have e := emb8 t (ix2 y0 y1)
  refine (q_at m c t y0 y1).trans (congrArg₂ (resQ m c) (Fin.ext ?_) (Fin.ext ?_)).symm
  · exact (e 0).trans (by rw [row_val]; simp [(idxo t).1])
  · exact (e 1).trans (by simp [(idxo t).1])

theorem emb9 (t : Fin cfg0.N) (y : S256x512.Idx) (a : Fin 2) :
    ((((View.whole main_v37_1).slice (win0_9.rect t)).emb y) a : ℕ) = win0_9.index t a * win0_9.size a + (y a : ℕ) :=
  ValueKit.view_emb_slice_whole_unit_val main_v37_1 _ _ _ y a

theorem final_c (c : Dev nD) : (dats m 0 c).arrAt 9 (cfgs 0).N = (show FVec Ideal S256x512 .f32 from fun i => resC m c (i 0) (i 1)) := by
  refine (dats m 0 c).arrAt_eq_of_covers 9 _ (by decide +kernel) fun t hf y => ?_
  blk_simp
  idx_vars y
  have e := emb9 t (ix2 y0 y1)
  refine (c_at m c t y0 y1).trans (congrArg₂ (resC m c) (Fin.ext ?_) (Fin.ext ?_)).symm
  · exact (e 0).trans (by rw [row_val]; simp [(idxo t).2.1])
  · exact (e 1).trans (by simp [(idxo t).2.1])

theorem emb10 (t : Fin cfg0.N) (y : S256x64.Idx) (a : Fin 2) :
    ((((View.whole main_v37_2).slice (win0_10.rect t)).emb y) a : ℕ) = win0_10.index t a * win0_10.size a + (y a : ℕ) :=
  ValueKit.view_emb_slice_whole_unit_val main_v37_2 _ _ _ y a

theorem final_r (c : Dev nD) : (dats m 0 c).arrAt 10 (cfgs 0).N = (show FVec Ideal S256x64 .f32 from fun i => resR m c (i 0) (i 1)) := by
  refine (dats m 0 c).arrAt_eq_of_covers 10 _ (by decide +kernel) fun t hf y => ?_
  blk_simp
  idx_vars y
  have e := emb10 t (ix2 y0 y1)
  refine (r_at m c t y0 y1).trans (congrArg₂ (resR m c) (Fin.ext ?_) (Fin.ext ?_)).symm
  · exact (e 0).trans (by rw [row_val]; simp [(idxo t).2.2.1])
  · exact (e 1).trans (by simp [(idxo t).2.2.1])

theorem emb11 (t : Fin cfg0.N) (y : S256x128.Idx) (a : Fin 2) :
    ((((View.whole main_v37_3).slice (win0_11.rect t)).emb y) a : ℕ) = win0_11.index t a * win0_11.size a + (y a : ℕ) :=
  ValueKit.view_emb_slice_whole_unit_val main_v37_3 _ _ _ y a

theorem final_p (c : Dev nD) : (dats m 0 c).arrAt 11 (cfgs 0).N = (show FVec Ideal S256x128 .bf16 from fun i => resP m c (i 0) (i 1)) := by
  refine (dats m 0 c).arrAt_eq_of_covers 11 _ (by decide +kernel) fun t hf y => ?_
  blk_simp
  idx_vars y
  have e := emb11 t (ix2 y0 y1)
  refine (p_at m c t y0 y1).trans (congrArg₂ (resP m c) (Fin.ext ?_) (Fin.ext ?_)).symm
  · exact (e 0).trans (by rw [row_val]; simp [(idxo t).2.2.2.1])
  · exact (e 1).trans (by simp [(idxo t).2.2.2.1])

theorem emb12 (t : Fin cfg0.N) (y : S256x1024.Idx) (a : Fin 2) :
    ((((View.whole main_v37_4).slice (win0_12.rect t)).emb y) a : ℕ) = win0_12.index t a * win0_12.size a + (y a : ℕ) :=
  ValueKit.view_emb_slice_whole_unit_val main_v37_4 _ _ _ y a

theorem final_k (c : Dev nD) : (dats m 0 c).arrAt 12 (cfgs 0).N = (show FVec Ideal S256x1024 .bf16 from fun i => resK m c (i 0) (i 1)) := by
  refine (dats m 0 c).arrAt_eq_of_covers 12 _ (by decide +kernel) fun t hf y => ?_
  blk_simp
  idx_vars y
  have e := emb12 t (ix2 y0 y1)
  refine (k_at m c t y0 y1).trans (congrArg₂ (resK m c) (Fin.ext ?_) (Fin.ext ?_)).symm
  · exact (e 0).trans (by rw [row_val]; simp [(idxo t).2.2.2.2.1])
  · exact (e 1).trans (by simp [(idxo t).2.2.2.2.1])

theorem emb13 (t : Fin cfg0.N) (y : S256x1024.Idx) (a : Fin 2) :
    ((((View.whole main_v37_5).slice (win0_13.rect t)).emb y) a : ℕ) = win0_13.index t a * win0_13.size a + (y a : ℕ) :=
  ValueKit.view_emb_slice_whole_unit_val main_v37_5 _ _ _ y a

theorem final_v (c : Dev nD) : (dats m 0 c).arrAt 13 (cfgs 0).N = (show FVec Ideal S256x1024 .bf16 from fun i => resV m c (i 0) (i 1)) := by
  refine (dats m 0 c).arrAt_eq_of_covers 13 _ (by decide +kernel) fun t hf y => ?_
  blk_simp
  idx_vars y
  have e := emb13 t (ix2 y0 y1)
  refine (v_at m c t y0 y1).trans (congrArg₂ (resV m c) (Fin.ext ?_) (Fin.ext ?_)).symm
  · exact (e 0).trans (by rw [row_val]; simp [(idxo t).2.2.2.2.2])
  · exact (e 1).trans (by simp [(idxo t).2.2.2.2.2])

end Cert.Kernel8Ideal.Hand

end
-- ==== Proof.LatSampleRef.lean ====
/-
  What the reference of the latent projections of the sample rows computes, read at an index: a row's normed latents, their
  products and rotations.
-/
module

public import proofs.«01_k».proof.Proof.Gen.Reference8Ideal.Read
public import proofs.«01_k».proof.Proof.LatSpec
public import Idealize.ShloMosaic.Lib.Pointwise

@[expose] public section

set_option maxRecDepth 16384

noncomputable section

open Idealize.ShloMosaic Idealize.ShloMosaic.TcCoe Idealize.SL.Sem

namespace Cert.Reference8Ideal.Hand

open Cert.Reference8Ideal Cert.Reference8Ideal.Gen Cert.Reference8Ideal.Value Cert.Reference8Ideal.Read Cert.Lat

variable (x0 : FVec Ideal S256x2048 .f32) (x1 : FVec Ideal S1x2048x8256 .f32) (x2 : FVec Ideal S1x512 .f32)
  (x3 : FVec Ideal S1x512x1536 .f32) (x4 : FVec Ideal S1x512 .f32) (x5 : FVec Ideal S1x512x2048 .f32)

/-! ### The specification at the arguments -/

/-- A row's query latent, -/
def Cq (R : Fin 256) : Fin 512 → EReal :=
  rms (fun j => ∑ k : Fin 2048, x0 (ix2 R k) * x1 (ix3 0 k ⟨3072 + j.val, by omega⟩)) (fun j => x2 (ix2 0 j))
/-- its key and value latent, -/
def Ckv (R : Fin 256) : Fin 512 → EReal :=
  rms (fun j => ∑ k : Fin 2048, x0 (ix2 R k) * x1 (ix3 0 k ⟨3584 + j.val, by omega⟩)) (fun j => x4 (ix2 0 j))
/-- its rotary key before the rotation, -/
def Kr (R : Fin 256) (l : Fin 64) : EReal := ∑ k : Fin 2048, x0 (ix2 R k) * x1 (ix3 0 k ⟨4096 + l.val, by omega⟩)
/-- its queries before rotation and scale, -/
def Q (R : Fin 256) (n : Fin 1536) : EReal := ∑ j, Cq x0 x1 x2 R j * x3 (ix3 0 j n)
/-- its keys and values, -/
def Kv (R : Fin 256) (n : Fin 2048) : EReal := ∑ j, Ckv x0 x1 x4 R j * x5 (ix3 0 j n)
/-- and its angles. -/
def Ang (R : Fin 256) : Fin 32 → EReal := angle (R.val % 16 + 1024)

/-! ### The program's values at batch `b`, position `t` -/

/-- The row of batch `b`, position `t`. -/
def rw (b : Fin 16) (t : Fin 16) : Fin 256 := ⟨b.val * 16 + t.val, by omega⟩

theorem rw_mod (b : Fin 16) (t : Fin 16) : (rw b t).val % 16 = t.val := by
  show (b.val * 16 + t.val) % 16 = t.val
  omega

theorem rw_row (R : Fin 256) : rw ⟨R.val / 16, by omega⟩ ⟨R.val % 16, by omega⟩ = R :=
  Fin.ext (show R.val / 16 * 16 + R.val % 16 = R.val by omega)

theorem proj_at (b : Fin 16) (t : Fin 16) (n : Fin 8256) : val_main_v5 (F := Ideal) x0 x1 (ix3 b t n)
    = ∑ k : Fin 2048, x0 (ix2 (rw b t) k) * x1 (ix3 0 k n) := by
  unfold rw
  pointwise [val_main_v5, val_main_v4, val_main_v3]

/-- The query latent, -/
theorem cq_at (b : Fin 16) (t : Fin 16) (j : Fin 512) : val_main_v26 (F := Ideal) x0 x1 x2 (ix3 b t j) = Cq x0 x1 x2 (rw b t) j := by
  have e : val_main_v26 (F := Ideal) x0 x1 x2 (ix3 b t j)
      = rms (fun j => val_main_v5 (F := Ideal) x0 x1 (ix3 b t ⟨3072 + j.val, by omega⟩)) (fun j => x2 (ix2 0 j)) j := by
    unfold rms
    pointwise [val_main_v26, val_main_v25, val_main_v24, val_main_v23, val_main_v22, val_main_v21, val_main_v20, val_main_v19, val_main_cst_1,
      val_main_v18, val_main_v17, val_main_cst_0, val_main_v16, val_main_v15, val_main_cst, val_main_v14, val_main_v13, val_main_v9]
  rw [e]
  simp only [proj_at]
  rfl

/-- the key and value latent, -/
theorem ckv_at (b : Fin 16) (t : Fin 16) (j : Fin 512) : val_main_v81 (F := Ideal) x0 x1 x4 (ix3 b t j) = Ckv x0 x1 x4 (rw b t) j := by
  have e : val_main_v81 (F := Ideal) x0 x1 x4 (ix3 b t j)
      = rms (fun j => val_main_v5 (F := Ideal) x0 x1 (ix3 b t ⟨3584 + j.val, by omega⟩)) (fun j => x4 (ix2 0 j)) j := by
    unfold rms
    pointwise [val_main_v81, val_main_v80, val_main_v79, val_main_v78, val_main_v77, val_main_v76, val_main_v75, val_main_v74, val_main_cst_8,
      val_main_v73, val_main_v72, val_main_cst_7, val_main_v71, val_main_v70, val_main_cst_6, val_main_v69, val_main_v68, val_main_v10]
  rw [e]
  simp only [proj_at]
  rfl

/-- the queries before the rotation, -/
theorem q28_at (b : Fin 16) (t : Fin 16) (n : Fin 1536) : val_main_v28 (F := Ideal) x0 x1 x2 x3 (ix3 b t n) = Q x0 x1 x2 x3 (rw b t) n := by
  have e : val_main_v28 (F := Ideal) x0 x1 x2 x3 (ix3 b t n) = ∑ j : Fin 512, val_main_v26 (F := Ideal) x0 x1 x2 (ix3 b t j) * x3 (ix3 0 j n) := by
    pointwise [val_main_v28, val_main_v27]
  rw [e]
  simp only [cq_at]
  rfl

/-- the keys and values, -/
theorem kv_at (b : Fin 16) (t : Fin 16) (n : Fin 2048) : val_main_v118 (F := Ideal) x0 x1 x4 x5 (ix3 b t n) = Kv x0 x1 x4 x5 (rw b t) n := by
  have e : val_main_v118 (F := Ideal) x0 x1 x4 x5 (ix3 b t n) = ∑ j : Fin 512, val_main_v81 (F := Ideal) x0 x1 x4 (ix3 b t j) * x5 (ix3 0 j n) := by
    pointwise [val_main_v118, val_main_v117]
  rw [e]
  simp only [ckv_at]
  rfl

/-- the position as a word, -/
theorem pos : ∀ t : Fin 16, IntOp.addi 1024#32 (BitVec.ofNat 32 t.val) = BitVec.ofNat 32 (t.val + 1024) := by decide +kernel

/-- the angles, computed twice, -/
theorem ang_q (t : Fin 16) (l : Fin 32) : val_main_v48 (F := Ideal) (ix3 t 0 l) = angle (t.val + 1024) l := by
  unfold angle freq
  pointwise [val_main_v48, val_main_v47, val_main_v46, val_main_v45, val_main_v44, val_main_v43, val_main_v42, val_main_v41, val_main_v40, val_main_cst_5,
    val_main_v39, val_main_v38, val_main_cst_4, val_main_v37, val_main_v36, val_main_v35, val_main_cst_3, val_main_v34, val_main_v33, val_main_cst_2,
    val_main_v32, val_main_v2, val_main_v1, val_main_c, val_main_v0]
  rw [pos]

theorem ang_k (t : Fin 16) (l : Fin 32) : val_main_v97 (F := Ideal) (ix2 t l) = angle (t.val + 1024) l := by
  unfold angle freq
  pointwise [val_main_v97, val_main_v96, val_main_v95, val_main_v94, val_main_v93, val_main_v92, val_main_v91, val_main_v90, val_main_cst_12,
    val_main_v89, val_main_v88, val_main_cst_11, val_main_v87, val_main_v86, val_main_v85, val_main_cst_10, val_main_v84, val_main_v83, val_main_cst_9,
    val_main_v82, val_main_v2, val_main_v1, val_main_c, val_main_v0]
  rw [pos]

/-- the rotated part of head `h`'s queries, -/
theorem qrot_at (b : Fin 16) (t : Fin 16) (h : Fin 8) (l : Fin 64) : val_main_v67 (F := Ideal) x0 x1 x2 x3 (ix4 b t h l)
    = rot (angle (t.val + 1024)) (fun l => Q x0 x1 x2 x3 (rw b t) ⟨h.val * 192 + 128 + l.val, by omega⟩) l := by
  have e : val_main_v67 (F := Ideal) x0 x1 x2 x3 (ix4 b t h l)
      = rot (fun l => val_main_v48 (F := Ideal) (ix3 t 0 l)) (fun l => val_main_v28 (F := Ideal) x0 x1 x2 x3 (ix3 b t ⟨h.val * 192 + 128 + l.val, by omega⟩)) l := by
    unfold rot
    pointwise [val_main_v67, val_main_v66, val_main_v65, val_main_v64, val_main_v63, val_main_v62, val_main_v61, val_main_v60, val_main_v59, val_main_v58,
      val_main_v57, val_main_v56, val_main_v55, val_main_v54, val_main_v53, val_main_v52, val_main_v51, val_main_v50, val_main_v49, val_main_v31, val_main_v29]
    by_cases hl : l.val < 32
    · simp only [hl, dite_true, Nat.add_assoc, Nat.add_comm 32 l.val]
    · have e' : 32 + (l.val - 32) = l.val := by omega
      simp only [hl, dite_false, Nat.add_assoc, e']
  rw [e]
  simp only [ang_q, q28_at]

/-- and the rotated key. -/
theorem krot_at (b : Fin 16) (t : Fin 16) (l : Fin 64) : val_main_v116 (F := Ideal) x0 x1 (ix3 b t l)
    = rot (angle (t.val + 1024)) (Kr x0 x1 (rw b t)) l := by
  have e : val_main_v116 (F := Ideal) x0 x1 (ix3 b t l)
      = rot (fun l => val_main_v97 (F := Ideal) (ix2 t l)) (fun l => val_main_v5 (F := Ideal) x0 x1 (ix3 b t ⟨4096 + l.val, by omega⟩)) l := by
    unfold rot
    pointwise [val_main_v116, val_main_v115, val_main_v114, val_main_v113, val_main_v112, val_main_v111, val_main_v110, val_main_v109, val_main_v108, val_main_v107,
      val_main_v106, val_main_v105, val_main_v104, val_main_v103, val_main_v102, val_main_v101, val_main_v100, val_main_v99, val_main_v98, val_main_v11]
    by_cases hl : l.val < 32
    · simp only [hl, dite_true, Nat.add_assoc, Nat.add_comm 32 l.val]
    · have e' : 32 + (l.val - 32) = l.val := by omega
      simp only [hl, dite_false, Nat.add_assoc, e']
  rw [e]
  simp only [ang_k, proj_at]
  rfl

/-! ### The six results -/

/-- A row's batch -/
def bat (R : Fin 256) : Fin 16 := ⟨R.val / 16, by omega⟩
/-- and position. -/
def tok (R : Fin 256) : Fin 16 := ⟨R.val % 16, by omega⟩

theorem rw_bat (R : Fin 256) : rw (bat R) (tok R) = R := rw_row R

/-- The key and value latent as rows, -/
theorem c_at (R : Fin 256) (n : Fin 512) : val_main_v130 (F := Ideal) x0 x1 x4 (ix2 R n) = Ckv x0 x1 x4 R n := by
  have e : val_main_v130 (F := Ideal) x0 x1 x4 (ix2 R n) = val_main_v81 (F := Ideal) x0 x1 x4 (ix3 (bat R) (tok R) n) := by
    pointwise [val_main_v130]
    rfl
  rw [e, ckv_at, rw_bat]

/-- the rotated key as rows, -/
theorem r_at (R : Fin 256) (n : Fin 64) : val_main_v131 (F := Ideal) x0 x1 (ix2 R n) = rot (Ang R) (Kr x0 x1 R) n := by
  have e : val_main_v131 (F := Ideal) x0 x1 (ix2 R n) = val_main_v116 (F := Ideal) x0 x1 (ix3 (bat R) (tok R) n) := by
    pointwise [val_main_v131]
    rfl
  rw [e, krot_at, rw_bat]
  rfl

/-- padded to 128 lanes, -/
theorem p_at (R : Fin 256) (n : Fin 128) : val_main_v133 (F := Ideal) x0 x1 (ix2 R n) = padded (rot (Ang R) (Kr x0 x1 R)) n := by
  have e : val_main_v133 (F := Ideal) x0 x1 (ix2 R n)
      = padded (fun l => val_main_v116 (F := Ideal) x0 x1 (ix3 (bat R) (tok R) l)) n := by
    unfold padded
    pointwise [val_main_v133, val_main_v132, val_main_v127, val_main_v126, val_main_cst_15]
    try rfl
  rw [e]
  simp only [krot_at, rw_bat]
  rfl

/-- the keys' unrotated part, -/
theorem k_at (R : Fin 256) (n : Fin 1024) : val_main_v135 (F := Ideal) x0 x1 x4 x5 (ix2 R n)
    = Kv x0 x1 x4 x5 R ⟨n.val / 128 * 256 + n.val % 128, by omega⟩ := by
  have e : val_main_v135 (F := Ideal) x0 x1 x4 x5 (ix2 R n)
      = val_main_v118 (F := Ideal) x0 x1 x4 x5 (ix3 (bat R) (tok R) ⟨n.val / 128 * 256 + n.val % 128, by omega⟩) := by
    pointwise [val_main_v135, val_main_v134, val_main_v120, val_main_v119]
    try rfl
  rw [e, kv_at, rw_bat]

/-- the values, -/
theorem v_at (R : Fin 256) (n : Fin 1024) : val_main_v137 (F := Ideal) x0 x1 x4 x5 (ix2 R n)
    = Kv x0 x1 x4 x5 R ⟨n.val / 128 * 256 + 128 + n.val % 128, by omega⟩ := by
  have e : val_main_v137 (F := Ideal) x0 x1 x4 x5 (ix2 R n)
      = val_main_v118 (F := Ideal) x0 x1 x4 x5 (ix3 (bat R) (tok R) ⟨n.val / 128 * 256 + 128 + n.val % 128, by omega⟩) := by
    pointwise [val_main_v137, val_main_v136, val_main_v121, val_main_v119]
    simp only [Nat.add_assoc]
    try rfl
  rw [e, kv_at, rw_bat]

/-- and the queries, rotated and scaled. -/
theorem q_at (R : Fin 256) (n : Fin 2048) : val_main_v129 (F := Ideal) x0 x1 x2 x3 (ix2 R n)
    = queries (Ideal.ofBits .f32 0x3DD53B95#32) (Ang R) (Q x0 x1 x2 x3 R) n := by
  have e : val_main_v129 (F := Ideal) x0 x1 x2 x3 (ix2 R n)
      = (if h : n.val % 256 < 128 then val_main_v28 (F := Ideal) x0 x1 x2 x3 (ix3 (bat R) (tok R) ⟨n.val / 256 * 192 + n.val % 256, by omega⟩)
          else if h' : n.val % 256 - 128 < 64 then val_main_v67 (F := Ideal) x0 x1 x2 x3 (ix4 (bat R) (tok R) ⟨n.val / 256, by omega⟩ ⟨n.val % 256 - 128, h'⟩)
          else 0) * Ideal.ofBits .f32 0x3DD53B95#32 := by
    pointwise [val_main_v129, val_main_v128, val_main_v125, val_main_v124, val_main_cst_14, val_main_v123, val_main_v122, val_main_cst_13, val_main_v30, val_main_v29]
    try rfl
  rw [e]
  simp only [q28_at, qrot_at, rw_bat]
  unfold queries
  by_cases h : n.val % 256 < 128
  · simp only [h, dite_true]
  · by_cases h' : n.val % 256 < 192
    · have h'' : n.val % 256 - 128 < 64 := by omega
      simp only [h, h', h'', dite_true, dite_false]
      rfl
    · have h'' : ¬ n.val % 256 - 128 < 64 := by omega
      simp only [h, h', h'', dite_false, zero_mul]

end Cert.Reference8Ideal.Hand

end
-- ==== Proof.MlaSpec.lean ====
/-
  Latent attention of one query and head: the softmax over the visible keys as one quotient of sums, and the running form of it — a bound on
  the scores so far and a sum scaled by it — that a block by block evaluation keeps.
-/
module

public import Idealize.ShloMosaic.Lib.Pipeline.ValueKit
public import Idealize.ShloMosaic.Lib.Pointwise
public import Idealize.ShloMosaic.Lib.Claim

@[expose] public section

noncomputable section

open Idealize.ShloMosaic

namespace Cert.Mla

/-! ### Sums of extended reals with a real factor -/

/-- A positive real factor passes a sum of two terms, -/
theorem coe_mul_add {r : ℝ} (hr : 0 < r) (x y : EReal) : (r : EReal) * (x + y) = r * x + r * y :=
  EReal.left_distrib_of_nonneg_of_ne_top (EReal.coe_nonneg.mpr hr.le) (EReal.coe_ne_top r) x y

/-- and a sum of any length. -/
theorem coe_mul_sum {r : ℝ} (hr : 0 < r) {ι : Type*} (s : Finset ι) (f : ι → EReal) : (r : EReal) * ∑ k ∈ s, f k = ∑ k ∈ s, (r : EReal) * f k := by
  classical
  induction s using Finset.induction_on with
  | empty => simp
  | insert a s ha ih => rw [Finset.sum_insert ha, Finset.sum_insert ha, coe_mul_add hr, ih]

/-- A sum of reals is the sum of the extended reals. -/
theorem sum_coe {ι : Type*} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-! ### The running form -/

/-- `σ` is a score of weight `w`: a real one, of weight 2 to the score, or a masked one, of weight 0. -/
def Scored (σ : EReal) (w : ℝ) : Prop := (∃ s : ℝ, σ = s ∧ w = Real.rpow 2 s) ∨ (σ = ⊥ ∧ w = 0)

/-- `a` is the sum `A` scaled down by 2 to the real bound `m`, or nothing has been summed yet. -/
def Held (m a A : EReal) : Prop := (m = ⊥ ∧ a = 0 ∧ A = 0) ∨ ∃ μ : ℝ, m = μ ∧ a = ((Real.rpow 2 (-μ) : ℝ) : EReal) * A

theorem two_pos (x : ℝ) : 0 < Real.rpow 2 x := Real.rpow_pos_of_pos (by norm_num) x

theorem two_add (x y : ℝ) : Real.rpow 2 (x + y) = Real.rpow 2 x * Real.rpow 2 y := Real.rpow_add (by norm_num) x y

/-- A score's weight, scaled by a real bound. -/
theorem Scored.exp2 {σ : EReal} {w : ℝ} (h : Scored σ w) (μ : ℝ) : Ideal.exp2 (σ - μ) = ((Real.rpow 2 (-μ) : ℝ) : EReal) * (w : EReal) := by
  rcases h with ⟨s, rfl, rfl⟩ | ⟨rfl, rfl⟩
  · rw [← EReal.coe_sub, Ideal.exp2_coe, ← EReal.coe_mul, ← two_add]
    congr 2; ring
  · rw [EReal.bot_sub, Ideal.exp2_bot, EReal.coe_zero, mul_zero]

/-- One block: the sum so far moved to the new bound, and the block's weighted terms added. -/
theorem Held.step {m a A : EReal} (h : Held m a A) {n : ℕ} {σ : Fin n → EReal} {w : Fin n → ℝ} (hs : ∀ c, Scored (σ c) (w c)) (v : Fin n → EReal)
    {m' : EReal} (hm : ∃ μ : ℝ, m' = μ) :
    Held m' (a * Ideal.exp2 (m - m') + ∑ c, Ideal.exp2 (σ c - m') * v c) (A + ∑ c, (w c : EReal) * v c) := by
  obtain ⟨μ', rfl⟩ := hm
  refine Or.inr ⟨μ', rfl, ?_⟩
  rw [coe_mul_add (two_pos _), coe_mul_sum (two_pos _)]
  congr 1
  · rcases h with ⟨rfl, rfl, rfl⟩ | ⟨μ, rfl, rfl⟩
    · rw [zero_mul, mul_zero]
    · rw [← EReal.coe_sub, Ideal.exp2_coe, mul_right_comm, ← EReal.coe_mul, ← two_add]
      congr 3; ring
  · refine Finset.sum_congr rfl fun c _ => ?_
    rw [(hs c).exp2, mul_assoc]

/-- The bound after a block with a real score is real. -/
theorem Held.bound {m a A : EReal} (h : Held m a A) {n : ℕ} {σ : Fin n → EReal} {w : Fin n → ℝ} (hs : ∀ c, Scored (σ c) (w c)) (c₀ : Fin n) (h₀ : σ c₀ ≠ ⊥) :
    ∃ μ : ℝ, max m (Finset.univ.fold max ⊥ σ) = μ := by
  have hlo : max m (Finset.univ.fold max ⊥ σ) ≠ ⊥ := by
    have h1 : σ c₀ ≤ Finset.univ.fold max ⊥ σ := Finset.le_fold_max (σ c₀) |>.mpr (Or.inr ⟨c₀, Finset.mem_univ _, le_rfl⟩)
    exact fun e => h₀ (le_bot_iff.mp ((h1.trans (le_max_right _ _)).trans_eq e))
  have hhi : max m (Finset.univ.fold max ⊥ σ) < ⊤ := by
    refine max_lt ?_ (Finset.fold_max_lt _ |>.mpr ⟨bot_lt_top, fun c _ => ?_⟩)
    · rcases h with ⟨rfl, -, -⟩ | ⟨μ, rfl, -⟩
      · exact bot_lt_top
      · exact EReal.coe_lt_top μ
    · rcases hs c with ⟨s, e, -⟩ | ⟨e, -⟩
      · rw [e]; exact EReal.coe_lt_top s
      · rw [e]; exact bot_lt_top
  exact ⟨_, (EReal.coe_toReal hhi.ne hlo).symm⟩

/-- Two sums scaled alike have the quotient of the sums, the lower one real and not 0. -/
theorem Held.div {m a A b : EReal} {L : ℝ} (ha : Held m a A) (hb : Held m b (L : EReal)) (hL : 0 < L) : Ideal.div a b = A * ((1 / L : ℝ) : EReal) := by
  rcases hb with ⟨-, -, e⟩ | ⟨μ, rfl, rfl⟩
  · exact absurd (EReal.coe_eq_zero.mp e) hL.ne'
  rcases ha with ⟨e, -, -⟩ | ⟨μ', e, rfl⟩
  · exact absurd e (EReal.coe_ne_bot μ)
  obtain rfl := EReal.coe_eq_coe_iff.mp e
  rw [← EReal.coe_mul, Ideal.div_coe (mul_pos (two_pos _) hL).ne', mul_comm _ A, mul_assoc, ← EReal.coe_mul]
  congr 2
  have := (two_pos (-μ)).ne'
  field_simp

/-! ### The target -/

/-- The score of a query and a key before its scale: the products of the parts without and with rotation. -/
def score (qn : Fin 128 → EReal) (qr : Fin 64 → EReal) (kn : Fin 128 → EReal) (kr : Fin 64 → EReal) : ℝ :=
  ∑ d, (qn d).toReal * (kn d).toReal + ∑ d, (qr d).toReal * (kr d).toReal

/-- The scale of the scores, the binary fraction nearest to 1 over the root of 192. -/
def scale : ℝ := (Ideal.ofBits .f32 0x3D93CD3A#32).toReal

/-- Key `k`'s weight for the query at position `p`: e to the scaled score if its block of 64 is not after the query's, else 0. -/
def weight (s : Fin 4096 → ℝ) (p k : Fin 4096) : ℝ := if k.val / 64 ≤ p.val / 64 then Real.exp (s k * scale) else 0

/-- The weighted values over the weights' sum. -/
def attend (w : Fin 4096 → ℝ) (v : Fin 4096 → EReal) : EReal := (∑ k, (w k : EReal) * v k) * ((1 / ∑ k, w k : ℝ) : EReal)

/-- The weights' sum is positive: the query's own key is visible. -/
theorem weight_sum_pos (s : Fin 4096 → ℝ) (p : Fin 4096) : 0 < ∑ k, weight s p k :=
  Finset.sum_pos' (fun k _ => by unfold weight; split_ifs <;> positivity) ⟨p, Finset.mem_univ _, by unfold weight; rw [if_pos le_rfl]; positivity⟩

/-- The scale over the logarithm of 2, which the kernel puts on the query, turns e to a score into 2 to it. -/
theorem two_score (x : ℝ) : Real.rpow 2 (x * (scale * (1 / Real.log 2))) = Real.exp (x * scale) := by
  have h2 : Real.log 2 ≠ 0 := (Real.log_pos (by norm_num)).ne'
  rw [show Real.rpow 2 _ = Real.exp _ from Real.rpow_def_of_pos (by norm_num) _]
  congr 1
  field_simp

/-- The scale is a real number. -/
theorem scale_eq : Ideal.ofBits .f32 0x3D93CD3A#32 = (scale : EReal) := by
  refine (EReal.coe_toReal ?_ ?_).symm <;> simp [Ideal.ofBits, Ideal.ieee, -EReal.coe_mul]

/-- 2 and 1 as they are written. -/
theorem two_eq : Ideal.ofBits .f32 0x40000000#32 = ((2 : ℝ) : EReal) := by
  simp [Ideal.ofBits, Ideal.ieee, -EReal.coe_mul]; norm_num

end Cert.Mla
-- ==== Proof.MlaBlock.lean ====
/-
  What one block of latent attention over the prompt computes: 512 queries of one head against the keys of the blocks up to their own, the
  running form kept block by block.
-/
module

public import proofs.«01_k».proof.Proof.Gen.Kernel9Ideal.Value
public import proofs.«01_k».proof.Proof.MlaSpec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel9Ideal.Hand

open Cert.Kernel9Ideal Cert.Kernel9Ideal.Gen Cert.Mla

/-! ### The payloads at an index -/

/-- Scores: a query against a key of a part without and a part with rotation, -/
theorem pay10_at (q : FVec Ideal S512x256 .bf16) (kr kn : FVec Ideal S512x128 .bf16) (r c : Fin 512) :
    k0_pay10 q kr kn (ix2 r c) = ∑ d : Fin 256, q (ix2 r d) * (if h : d.val < 128 then kn (ix2 c ⟨d.val, h⟩) else kr (ix2 c ⟨d.val - 128, by omega⟩)) := by
  pointwise [k0_pay10, k0_pay5]

theorem neg_inf : Ideal.ofBits .f32 0xFF800000#32 = ⊥ := by simp [Ideal.ofBits, Ideal.ieee]

/-- the bound after a block, -/
theorem pay38_at (m : FVec Ideal S512x1 .f32) (s : FVec Ideal S512x512 .f32) (r : Fin 512) :
    k0_pay38 m s (ix2 r 0) = max (m (ix2 r 0)) (Finset.univ.fold max ⊥ fun c : Fin 512 => s (ix2 r c)) := by
  pointwise [k0_pay38]
  exact congrArg (fun b => max _ (Finset.fold max b _ _)) neg_inf

/-- the sums after a block, -/
theorem pay42_at (m : FVec Ideal S512x1 .f32) (a : FVec Ideal S512x256 .f32) (v : FVec Ideal S512x256 .bf16) (s : FVec Ideal S512x512 .f32) (r : Fin 512) (d : Fin 256) :
    k0_pay42 m a v s (ix2 r d) = a (ix2 r d) * Ideal.exp2 (m (ix2 r 0) - k0_pay38 m s (ix2 r 0))
      + ∑ c : Fin 512, Ideal.exp2 (s (ix2 r c) - k0_pay38 m s (ix2 r 0)) * v (ix2 c d) := by
  unfold k0_pay42
  generalize k0_pay38 m s = m'
  pointwise
  rfl

/-- and the values beside a block of ones. -/
theorem pay6_at (v : FVec Ideal S512x128 .bf16) (c : Fin 512) (d : Fin 256) :
    k0_pay6 k0_pay29 v (ix2 c d) = if h : d.val < 128 then v (ix2 c ⟨d.val, h⟩) else 1 := by
  pointwise [k0_pay6, k0_pay29]

/-- The word the mask compares for a row or a column: its block of 64. -/
def chunk (n : ℕ) : BitVec 32 :=
  Scalar.select
    (IntOp.andi
      (IntOp.cmpi .ne
        (IntOp.subi (BitVec.setWidth 32 (IntOp.cmpi .sgt (BitVec.ofNat 32 n) 0#32)) (BitVec.setWidth 32 (IntOp.cmpi .slt (BitVec.ofNat 32 n) 0#32)))
        (Scalar.subi (Scalar.extui (Scalar.cmpi .sgt 64#32 0#32)) (Scalar.extui (Scalar.cmpi .slt 64#32 0#32))))
      (IntOp.cmpi .ne (IntOp.remsi .vector (BitVec.ofNat 32 n) 64#32) 0#32))
    (IntOp.subi (IntOp.divsi .vector (BitVec.ofNat 32 n) 64#32) 1#32)
    (IntOp.divsi .vector (BitVec.ofNat 32 n) 64#32)

theorem chunk_eq : ∀ r : Fin 512, chunk r.val = BitVec.ofNat 32 (r.val / 64) := by decide +kernel

theorem chunk_le : ∀ a b : Fin 8, IntOp.cmpi .sle (BitVec.ofNat 32 a.val) (BitVec.ofNat 32 b.val) = if a.val ≤ b.val then 1#1 else 0#1 := by decide +kernel

/-- The mask of a block on the diagonal. -/
abbrev mask : IVec S512x512 1 := k0_pay54 kernelRun0_A.sl.v24 kernelRun0_A.sl.v25 64#32 k0_pay52 k0_pay53

theorem mask_at (r c : Fin 512) : mask (ix2 r c) = if c.val / 64 ≤ r.val / 64 then 1#1 else 0#1 := by
  have h : mask (ix2 r c) = IntOp.cmpi .sle (chunk c.val) (chunk r.val) := by
    unfold mask chunk
    pointwise [k0_pay54, k0_pay52, k0_pay53, kernelRun0_A.sl.v24, kernelRun0_A.sl.v25]
  rw [h, chunk_eq, chunk_eq]
  exact chunk_le ⟨c.val / 64, by omega⟩ ⟨r.val / 64, by omega⟩

/-- Masked scores. -/
theorem pay60_at (q : FVec Ideal S512x256 .bf16) (kr kn : FVec Ideal S512x128 .bf16) (r c : Fin 512) :
    k0_pay60 q mask (k0_pay55 kr) kn (ix2 r c) = if c.val / 64 ≤ r.val / 64 then k0_pay10 q kr kn (ix2 r c) else ⊥ := by
  have h : k0_pay60 q mask (k0_pay55 kr) kn (ix2 r c) = Scalar.select (mask (ix2 r c)) (k0_pay10 q kr kn (ix2 r c)) (Ideal.ofBits .f32 0xFF800000#32) := by
    unfold k0_pay60
    rfl
  rw [h, mask_at, neg_inf]
  split_ifs <;> rfl

/-- The quotient of the values' sums and the ones' sums. -/
theorem pay1_at (a : FVec Ideal S512x256 .f32) (r : Fin 512) (e : Fin 128) :
    k0_pay1 a (ix2 r e) = Ideal.div (a (ix2 r ⟨e.val, by omega⟩)) (a (ix2 r ⟨128 + e.val, by omega⟩)) := by
  pointwise [k0_pay1]

/-! ### One head's running form -/

/-- The bounds `m` and sums `a` of the rows after the keys of `j` blocks, with weights `w` and values `v`. -/
def HeadHeld (w : Fin 512 → ℕ → ℝ) (v : ℕ → Fin 256 → EReal) (j : ℕ) (m : FVec Ideal S512x1 .f32) (a : FVec Ideal S512x256 .f32) : Prop :=
  ∀ r d, Held (m (ix2 r 0)) (a (ix2 r d)) (∑ k ∈ Finset.range (j * 512), (w r k : EReal) * v k d)

/-- One block keeps it. -/
theorem HeadHeld.step {w : Fin 512 → ℕ → ℝ} {v : ℕ → Fin 256 → EReal} {j : ℕ} {m : FVec Ideal S512x1 .f32} {a : FVec Ideal S512x256 .f32}
    (H : HeadHeld w v j m a) {s : FVec Ideal S512x512 .f32} {u : FVec Ideal S512x256 .bf16}
    (hs : ∀ r c : Fin 512, Scored (s (ix2 r c)) (w r (j * 512 + c.val))) (hu : ∀ (c : Fin 512) d, u (ix2 c d) = v (j * 512 + c.val) d)
    (hr : ∀ r : Fin 512, s (ix2 r r) ≠ ⊥) : HeadHeld w v (j + 1) (k0_pay38 m s) (k0_pay42 m a u s) := by
  intro r d
  rw [pay42_at, pay38_at, Nat.add_mul, one_mul, Finset.sum_range_add, ← Fin.sum_univ_eq_sum_range (fun c => (w r (j * 512 + c) : EReal) * v (j * 512 + c) d)]
  simp only [hu]
  exact (H r d).step (hs r) _ ((H r d).bound (hs r) r (hr r))

/-! ### The tiles a block reads -/

/-- Head `g`'s queries, -/
def qT (x : FVec Ideal S512x1024 .bf16) (g : Fin 4) : FVec Ideal S512x256 .bf16 :=
  fun y => x (ix2 (y 0) ⟨g.val * 256 + (y 1).val, by have := (y 1).isLt; change _ < 256 at this; omega⟩)
/-- its keys or values of block `j`, -/
def kT (x : FVec Ideal S4096x512 .bf16) (g : Fin 4) (j : ℕ) : FVec Ideal S512x128 .bf16 :=
  fun y => x (ix2 ⟨(j * 512 + (y 0).val) % 4096, Nat.mod_lt _ (by decide)⟩ ⟨g.val * 128 + (y 1).val, by have := (y 1).isLt; change _ < 128 at this; omega⟩)
/-- and the keys' parts with rotation. -/
def rT (x : FVec Ideal S4096x128 .bf16) (j : ℕ) : FVec Ideal S512x128 .bf16 :=
  fun y => x (ix2 ⟨(j * 512 + (y 0).val) % 4096, Nat.mod_lt _ (by decide)⟩ (y 1))

theorem read_q {M : Memref sig .tc .vmem S512x1024 .bf16} (hM : M.IsWhole) (x : FVec Ideal S512x1024 .bf16) (g : Fin 4) (o : ℕ) (ho : o = g.val * 256) (h) :
    View.readAt (Elt Ideal) M.view (Rect.unit (s := S512x1024) ![0, o] S512x256.size h).toLoadRect (hM.unread x) = qT x g := by
  subst ho
  rw [View.readAt_eq_ld, hM.read_unread]
  funext y
  unfold qT
  refine congrArg x (funext fun a => ?_)
  fin_cases a
  · exact Fin.ext (by simp [Rect.unit, Rect.emb])
  · exact Fin.ext (by simp [Rect.unit, Rect.emb])

theorem read_k {M : Memref sig .tc .vmem S4096x512 .bf16} (hM : M.IsWhole) (x : FVec Ideal S4096x512 .bf16) (g : Fin 4) {j : ℕ} (hj : j < 8)
    {off : Fin 2 → ℕ} (ho : off = ![j * 512, g.val * 128]) (h) :
    View.readAt (Elt Ideal) M.view (Rect.unit (s := S4096x512) off S512x128.size h).toLoadRect (hM.unread x) = kT x g j := by
  subst ho
  rw [View.readAt_eq_ld, hM.read_unread]
  funext y
  unfold kT
  refine congrArg x (funext fun a => ?_)
  have hy : (y 0).val < 512 := (y 0).isLt
  fin_cases a
  · exact Fin.ext (Eq.trans (b := j * 512 + (y 0).val) (by simp [Rect.unit, Rect.emb]) (Nat.mod_eq_of_lt (a := j * 512 + (y 0).val) (b := 4096) (by omega)).symm)
  · exact Fin.ext (by simp [Rect.unit, Rect.emb])

theorem read_r {M : Memref sig .tc .vmem S4096x128 .bf16} (hM : M.IsWhole) (x : FVec Ideal S4096x128 .bf16) {j : ℕ} (hj : j < 8)
    {off : Fin 2 → ℕ} (ho : off = ![j * 512, 0]) (h) :
    View.readAt (Elt Ideal) M.view (Rect.unit (s := S4096x128) off S512x128.size h).toLoadRect (hM.unread x) = rT x j := by
  subst ho
  rw [View.readAt_eq_ld, hM.read_unread]
  funext y
  unfold rT
  refine congrArg x (funext fun a => ?_)
  have hy : (y 0).val < 512 := (y 0).isLt
  fin_cases a
  · exact Fin.ext (Eq.trans (b := j * 512 + (y 0).val) (by simp [Rect.unit, Rect.emb]) (Nat.mod_eq_of_lt (a := j * 512 + (y 0).val) (b := 4096) (by omega)).symm)
  · exact Fin.ext (by simp [Rect.unit, Rect.emb])

/-- Head `g`'s score of row `r` and key `k`. -/
def sc (x0 : FVec Ideal S512x1024 .bf16) (x1 : FVec Ideal S4096x512 .bf16) (x2 : FVec Ideal S4096x128 .bf16) (g : Fin 4) (r : Fin 512) (k : ℕ) : EReal :=
  ∑ d : Fin 256, x0 (ix2 r ⟨g.val * 256 + d.val, by omega⟩)
    * (if h : d.val < 128 then x1 (ix2 ⟨k % 4096, Nat.mod_lt _ (by decide)⟩ ⟨g.val * 128 + d.val, by omega⟩)
        else x2 (ix2 ⟨k % 4096, Nat.mod_lt _ (by decide)⟩ ⟨d.val - 128, by omega⟩))

/-- Head `g`'s values of key `k`, beside ones. -/
def vl (x3 : FVec Ideal S4096x512 .bf16) (g : Fin 4) (k : ℕ) (d : Fin 256) : EReal :=
  if h : d.val < 128 then x3 (ix2 ⟨k % 4096, Nat.mod_lt _ (by decide)⟩ ⟨g.val * 128 + d.val, by omega⟩) else 1

/-- The weight of key `k` for row `r` of block `i` with real scores `S`. -/
def wt (S : Fin 512 → ℕ → ℝ) (i : ℕ) (r : Fin 512) (k : ℕ) : ℝ := if k / 64 ≤ (i * 512 + r.val) / 64 then Real.rpow 2 (S r k) else 0

variable {x0 : FVec Ideal S512x1024 .bf16} {x1 : FVec Ideal S4096x512 .bf16} {x2 : FVec Ideal S4096x128 .bf16} {x3 : FVec Ideal S4096x512 .bf16}

/-- A block before the diagonal, -/
theorem head_step {g : Fin 4} {S : Fin 512 → ℕ → ℝ} (hS : ∀ r k, sc x0 x1 x2 g r k = S r k) {i j : ℕ} (hj : j < i)
    {m : FVec Ideal S512x1 .f32} {a : FVec Ideal S512x256 .f32} (H : HeadHeld (wt S i) (vl x3 g) j m a) :
    HeadHeld (wt S i) (vl x3 g) (j + 1) (k0_pay38 m (k0_pay10 (qT x0 g) (rT x2 j) (kT x1 g j)))
      (k0_pay42 m a (k0_pay6 k0_pay29 (kT x3 g j)) (k0_pay10 (qT x0 g) (rT x2 j) (kT x1 g j))) := by
  have hs : ∀ r c : Fin 512, k0_pay10 (qT x0 g) (rT x2 j) (kT x1 g j) (ix2 r c) = ((S r (j * 512 + c.val) : ℝ) : EReal) := fun r c =>
    (pay10_at _ _ _ r c).trans (hS r (j * 512 + c.val))
  refine H.step (fun r c => Or.inl ⟨_, hs r c, ?_⟩) (fun c d => pay6_at _ c d) fun r => ?_
  · unfold wt
    rw [if_pos (Nat.div_le_div_right (by omega))]
  · rw [hs]; exact EReal.coe_ne_bot _

/-- and the block on it. -/
theorem head_diag {g : Fin 4} {S : Fin 512 → ℕ → ℝ} (hS : ∀ r k, sc x0 x1 x2 g r k = S r k) {i : ℕ}
    {m : FVec Ideal S512x1 .f32} {a : FVec Ideal S512x256 .f32} (H : HeadHeld (wt S i) (vl x3 g) i m a) :
    ∃ m', HeadHeld (wt S i) (vl x3 g) (i + 1) m' (k0_pay42 m a (k0_pay6 k0_pay29 (kT x3 g i)) (k0_pay60 (qT x0 g) mask (k0_pay55 (rT x2 i)) (kT x1 g i))) := by
  have hs : ∀ r c : Fin 512, k0_pay10 (qT x0 g) (rT x2 i) (kT x1 g i) (ix2 r c) = ((S r (i * 512 + c.val) : ℝ) : EReal) := fun r c =>
    (pay10_at _ _ _ r c).trans (hS r (i * 512 + c.val))
  refine ⟨_, H.step (fun r c => ?_) (fun c d => pay6_at _ c d) fun r => ?_⟩
  · rw [pay60_at, hs]
    unfold wt Scored
    by_cases h : c.val / 64 ≤ r.val / 64
    · rw [if_pos h, if_pos (by omega)]
      exact Or.inl ⟨_, rfl, rfl⟩
    · rw [if_neg h, if_neg (by omega)]
      exact Or.inr ⟨rfl, rfl⟩
  · rw [pay60_at, hs, if_pos le_rfl]; exact EReal.coe_ne_bot _

/-- Nothing has been summed before the first block. -/
theorem head_init {w : Fin 512 → ℕ → ℝ} {v : ℕ → Fin 256 → EReal} : HeadHeld w v 0 k0_pay30 k0_pay31 := by
  intro r d
  refine Or.inl ⟨?_, ?_, by simp⟩
  · pointwise [k0_pay30]
    exact neg_inf
  · pointwise [k0_pay31]

/-- A head's result: the weighted values over the weights' sum. -/
theorem head_out {g : Fin 4} {S : Fin 512 → ℕ → ℝ} {i : ℕ} {m : FVec Ideal S512x1 .f32} {a : FVec Ideal S512x256 .f32} (H : HeadHeld (wt S i) (vl x3 g) (i + 1) m a)
    (r : Fin 512) (e : Fin 128) : k0_pay1 a (ix2 r e) = (∑ k ∈ Finset.range ((i + 1) * 512), (wt S i r k : EReal) * vl x3 g k ⟨e.val, by omega⟩)
      * ((1 / ∑ k ∈ Finset.range ((i + 1) * 512), wt S i r k : ℝ) : EReal) := by
  rw [pay1_at]
  refine (H r _).div (m := m (ix2 r 0)) (L := ∑ k ∈ Finset.range ((i + 1) * 512), wt S i r k) ?_ ?_
  · have h := H r ⟨128 + e.val, by omega⟩
    simp only [vl, dif_neg (show ¬ 128 + e.val < 128 by omega), mul_one, sum_coe] at h
    exact h
  · refine Finset.sum_pos' (fun k _ => by unfold wt; split_ifs; exacts [(two_pos _).le, le_rfl]) ⟨i * 512 + r.val, Finset.mem_range.mpr (by omega), ?_⟩
    unfold wt
    rw [if_pos le_rfl]
    exact two_pos _

end Cert.Kernel9Ideal.Hand
-- ==== Proof.MlaRun.lean ====
/-
  The kernel of latent attention over the prompt: its loop over the blocks of keys, and what it stores.
-/
module

public import proofs.«01_k».proof.Proof.Gen.Kernel9Ideal.Value
public import proofs.«01_k».proof.Proof.MlaBlock
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel9Ideal.Hand

open Cert.Kernel9Ideal Cert.Kernel9Ideal.Gen Cert.Mla

/-! ### Trips and offsets -/

/-- The block of queries of a point. -/
abbrev qb (t : Fin cfg0.N) : ℕ := t.val % 8

theorem qb_lt (t : Fin cfg0.N) : qb t < 8 := Nat.mod_lt _ (by decide)

theorem trips1 : ∀ t : Fin cfg0.N, (k0_t1_loop (grid0.coords t)).trips = qb t := by decide +kernel
theorem off1 : ∀ (t : Fin cfg0.N) (k : Fin (k0_t1_loop (grid0.coords t)).trips), k0_off1 (grid0.coords t) k = ![k.val * 512, 0] := by decide +kernel
theorem off2 : ∀ (t : Fin cfg0.N) (k : Fin (k0_t1_loop (grid0.coords t)).trips), k0_off2 (grid0.coords t) k = ![k.val * 512, (0 : Fin 4).val * 128] := by decide +kernel
theorem off3 : ∀ (t : Fin cfg0.N) (k : Fin (k0_t1_loop (grid0.coords t)).trips), k0_off3 (grid0.coords t) k = ![k.val * 512, (1 : Fin 4).val * 128] := by decide +kernel
theorem off4 : ∀ (t : Fin cfg0.N) (k : Fin (k0_t1_loop (grid0.coords t)).trips), k0_off4 (grid0.coords t) k = ![k.val * 512, (2 : Fin 4).val * 128] := by decide +kernel
theorem off5 : ∀ (t : Fin cfg0.N) (k : Fin (k0_t1_loop (grid0.coords t)).trips), k0_off5 (grid0.coords t) k = ![k.val * 512, (3 : Fin 4).val * 128] := by decide +kernel
theorem off11 : ∀ t : Fin cfg0.N, k0_off11 (grid0.coords t) = ![qb t * 512, 0] := by decide +kernel
theorem off12 : ∀ t : Fin cfg0.N, k0_off12 (grid0.coords t) = ![qb t * 512, (0 : Fin 4).val * 128] := by decide +kernel
theorem off13 : ∀ t : Fin cfg0.N, k0_off13 (grid0.coords t) = ![qb t * 512, (1 : Fin 4).val * 128] := by decide +kernel
theorem off14 : ∀ t : Fin cfg0.N, k0_off14 (grid0.coords t) = ![qb t * 512, (2 : Fin 4).val * 128] := by decide +kernel
theorem off15 : ∀ t : Fin cfg0.N, k0_off15 (grid0.coords t) = ![qb t * 512, (3 : Fin 4).val * 128] := by decide +kernel

variable {x0 : FVec Ideal S512x1024 .bf16} {x1 : FVec Ideal S4096x512 .bf16} {x2 : FVec Ideal S4096x128 .bf16} {x3 : FVec Ideal S4096x512 .bf16}
variable (𝒱 : Variants) (c : Dev nD) (bd : Option 𝒱.V) (t : Fin cfg0.N)
  (arg3 : Memref sig .tc .vmem S512x1024 .bf16) (harg3 : arg3.IsWhole) (arg4 : Memref sig .tc .vmem S4096x512 .bf16) (harg4 : arg4.IsWhole)
  (arg5 : Memref sig .tc .vmem S4096x128 .bf16) (harg5 : arg5.IsWhole) (arg6 : Memref sig .tc .vmem S4096x512 .bf16) (harg6 : arg6.IsWhole)
  (arg7 : Memref sig .tc .vmem S512x512 .bf16) (harg7 : arg7.IsWhole)

theorem pay25_eq (q : FVec Ideal S512x256 .bf16) : k0_pay25 q = q := shapeCast_self q _

/-- Head `g`'s scores against block `j`, -/
def sT (x0 : FVec Ideal S512x1024 .bf16) (x1 : FVec Ideal S4096x512 .bf16) (x2 : FVec Ideal S4096x128 .bf16) (g : Fin 4) (j : ℕ) : FVec Ideal S512x512 .f32 :=
  k0_pay10 (k0_pay25 (qT x0 g)) (rT x2 j) (kT x1 g j)
/-- and its values beside ones. -/
def vT (x3 : FVec Ideal S4096x512 .bf16) (g : Fin 4) (j : ℕ) : FVec Ideal S512x256 .bf16 := k0_pay6 k0_pay29 (kT x3 g j)

/-- What the loop carries. -/
abbrev Carry : Type := FVec Ideal S512x1 .f32 × FVec Ideal S512x256 .f32 × FVec Ideal S512x1 .f32 × FVec Ideal S512x256 .f32 × FVec Ideal S512x1 .f32 × FVec Ideal S512x256 .f32 × FVec Ideal S512x1 .f32 × FVec Ideal S512x256 .f32

/-- One trip of the loop. -/
theorem trip_eq (x0 : FVec Ideal S512x1024 .bf16) (x1 : FVec Ideal S4096x512 .bf16) (x2 : FVec Ideal S4096x128 .bf16) (x3 : FVec Ideal S4096x512 .bf16)
    (k : Fin (k0_t1_loop (grid0.coords t)).trips) (z : Carry) :
    tripR_k0_t1 (F := Ideal) 𝒱 c bd (grid0.coords t) arg3 harg3 arg4 harg4 arg5 harg5 arg6 harg6 arg7 harg7 (qT x0 0) (qT x0 1) (qT x0 2) (qT x0 3)
        (harg4.unread x1) (harg5.unread x2) (harg6.unread x3) k z
      = (k0_pay38 z.1 (sT x0 x1 x2 0 k), k0_pay42 z.1 z.2.1 (vT x3 0 k) (sT x0 x1 x2 0 k),
         k0_pay38 z.2.2.1 (sT x0 x1 x2 1 k), k0_pay42 z.2.2.1 z.2.2.2.1 (vT x3 1 k) (sT x0 x1 x2 1 k),
         k0_pay38 z.2.2.2.2.1 (sT x0 x1 x2 2 k), k0_pay42 z.2.2.2.2.1 z.2.2.2.2.2.1 (vT x3 2 k) (sT x0 x1 x2 2 k),
         k0_pay38 z.2.2.2.2.2.2.1 (sT x0 x1 x2 3 k), k0_pay42 z.2.2.2.2.2.2.1 z.2.2.2.2.2.2.2 (vT x3 3 k) (sT x0 x1 x2 3 k)) := by
  have hk : k.val < 8 := lt_trans (lt_of_lt_of_eq k.isLt (trips1 t)) (qb_lt t)
  have e0 := fun h => read_r harg5 x2 hk (off1 t k) h
  have e1 := fun h => read_k harg4 x1 0 hk (off2 t k) h
  have e2 := fun h => read_k harg4 x1 1 hk (off3 t k) h
  have e3 := fun h => read_k harg4 x1 2 hk (off4 t k) h
  have e4 := fun h => read_k harg4 x1 3 hk (off5 t k) h
  have f1 := fun h => read_k harg6 x3 0 hk (off2 t k) h
  have f2 := fun h => read_k harg6 x3 1 hk (off3 t k) h
  have f3 := fun h => read_k harg6 x3 2 hk (off4 t k) h
  have f4 := fun h => read_k harg6 x3 3 hk (off5 t k) h
  unfold tripR_k0_t1 trip_k0_t1
  dsimp only
  unfold sT vT
  rw [← e0 (k0_off1_inb _ k), ← e1 (k0_off2_inb _ k), ← e2 (k0_off3_inb _ k), ← e3 (k0_off4_inb _ k), ← e4 (k0_off5_inb _ k), ← f1 (k0_off2_inb _ k), ← f2 (k0_off3_inb _ k), ← f3 (k0_off4_inb _ k), ← f4 (k0_off5_inb _ k)]
  rfl

/-- The four heads' forms after `j` blocks. -/
theorem loop_held {S : Fin 4 → Fin 512 → ℕ → ℝ} (hS : ∀ g r k, sc x0 x1 x2 g r k = S g r k) :
    ∀ j ≤ qb t, ∀ z : Carry, z = st_k0_t1 (F := Ideal) 𝒱 c bd (grid0.coords t) arg3 harg3 arg4 harg4 arg5 harg5 arg6 harg6 arg7 harg7 (qT x0 0) (qT x0 1) (qT x0 2) (qT x0 3)
        (harg4.unread x1) (harg5.unread x2) (harg6.unread x3) (k0_pay30, k0_pay31, k0_pay32, k0_pay33, k0_pay34, k0_pay35, k0_pay36, k0_pay37) j →
      HeadHeld (wt (S 0) (qb t)) (vl x3 0) j z.1 z.2.1 ∧ HeadHeld (wt (S 1) (qb t)) (vl x3 1) j z.2.2.1 z.2.2.2.1
        ∧ HeadHeld (wt (S 2) (qb t)) (vl x3 2) j z.2.2.2.2.1 z.2.2.2.2.2.1 ∧ HeadHeld (wt (S 3) (qb t)) (vl x3 3) j z.2.2.2.2.2.2.1 z.2.2.2.2.2.2.2 := by
  intro j
  induction j with
  | zero =>
    rintro - z rfl
    rw [st_k0_t1_zero]
    exact ⟨head_init, head_init, head_init, head_init⟩
  | succ j ih =>
    rintro hj z rfl
    have hk : j < (k0_t1_loop (grid0.coords t)).trips := by rw [trips1]; omega
    obtain ⟨h0, h1, h2, h3⟩ := ih (by omega) _ rfl
    rw [st_k0_t1_succ (k := ⟨j, hk⟩), trip_eq]
    unfold sT vT
    simp only [pay25_eq]
    exact ⟨head_step (hS 0) (by omega) h0, head_step (hS 1) (by omega) h1, head_step (hS 2) (by omega) h2, head_step (hS 3) (by omega) h3⟩

theorem head_diag' {g : Fin 4} {S : Fin 512 → ℕ → ℝ} (hS : ∀ r k, sc x0 x1 x2 g r k = S r k) {i : ℕ}
    {m : FVec Ideal S512x1 .f32} {a : FVec Ideal S512x256 .f32} (H : HeadHeld (wt S i) (vl x3 g) i m a) :
    ∃ m', HeadHeld (wt S i) (vl x3 g) (i + 1) m' (k0_pay42 m a (k0_pay6 k0_pay29 (kT x3 g i)) (k0_pay60 (k0_pay25 (qT x0 g)) mask (k0_pay55 (rT x2 i)) (kT x1 g i))) := by
  rw [pay25_eq]
  exact head_diag hS H

theorem trips2 : ∀ t : Fin cfg0.N, (k0_t2_loop (grid0.coords t)).trips = 0 := by decide +kernel

/-- What the four heads store comes from their forms after the last block. -/
theorem run_heads {S : Fin 4 → Fin 512 → ℕ → ℝ} (hS : ∀ g r k, sc x0 x1 x2 g r k = S g r k) :
    (∃ m, HeadHeld (wt (S 0) (qb t)) (vl x3 0) (qb t + 1) m
      (kernelRun0_A.sl.r_22 (F := Ideal) c (grid0.coords t) arg3 harg3 arg4 harg4 arg5 harg5 arg6 harg6 arg7 harg7 x0 x1 x2 x3))
    ∧ (∃ m, HeadHeld (wt (S 1) (qb t)) (vl x3 1) (qb t + 1) m
      (kernelRun0_A.sl.r_23 (F := Ideal) c (grid0.coords t) arg3 harg3 arg4 harg4 arg5 harg5 arg6 harg6 arg7 harg7 x0 x1 x2 x3))
    ∧ (∃ m, HeadHeld (wt (S 2) (qb t)) (vl x3 2) (qb t + 1) m
      (kernelRun0_A.sl.r_24 (F := Ideal) c (grid0.coords t) arg3 harg3 arg4 harg4 arg5 harg5 arg6 harg6 arg7 harg7 x0 x1 x2 x3))
    ∧ ∃ m, HeadHeld (wt (S 3) (qb t)) (vl x3 3) (qb t + 1) m
      (kernelRun0_A.sl.r_25 (F := Ideal) c (grid0.coords t) arg3 harg3 arg4 harg4 arg5 harg5 arg6 harg6 arg7 harg7 x0 x1 x2 x3) := by
  have hk : qb t < 8 := qb_lt t
  obtain ⟨h0, h1, h2, h3⟩ := loop_held Variants.none c none t arg3 harg3 arg4 harg4 arg5 harg5 arg6 harg6 arg7 harg7 hS (x3 := x3) (qb t) le_rfl _ rfl
  obtain ⟨m0, H0⟩ := head_diag' (hS 0) h0
  obtain ⟨m1, H1⟩ := head_diag' (hS 1) h1
  obtain ⟨m2, H2⟩ := head_diag' (hS 2) h2
  obtain ⟨m3, H3⟩ := head_diag' (hS 3) h3
  have t1 : Scf.trips (k0_t1_loop (grid0.coords t)).lb (k0_t1_loop (grid0.coords t)).ub (k0_t1_loop (grid0.coords t)).st = qb t := trips1 t
  have t2 : Scf.trips (k0_t2_loop (grid0.coords t)).lb (k0_t2_loop (grid0.coords t)).ub (k0_t2_loop (grid0.coords t)).st = 0 := trips2 t
  unfold kernelRun0_A.sl.r_22 kernelRun0_A.sl.r_23 kernelRun0_A.sl.r_24 kernelRun0_A.sl.r_25 kernelRun0_A.sl.r_4 kernelRun0_A.sl.r_5
    kernelRun0_A.sl.r_6 kernelRun0_A.sl.r_7 kernelRun0_A.sl.r_8 kernelRun0_A.sl.r_9 kernelRun0_A.sl.r_10 kernelRun0_A.sl.r_11
    kernelRun0_A.sl.r_14 kernelRun0_A.sl.r_15 kernelRun0_A.sl.r_16 kernelRun0_A.sl.r_17 kernelRun0_A.sl.r_18 kernelRun0_A.sl.r_19 kernelRun0_A.sl.r_20 kernelRun0_A.sl.r_21
    kernelRun0_A.sl.r kernelRun0_A.sl.r_1 kernelRun0_A.sl.r_2 kernelRun0_A.sl.r_3 kernelRun0_A.sl.r_12 kernelRun0_A.sl.r_13
  rw [t2, st_k0_t2_zero, t1, read_q harg3 x0 0 0 rfl, read_q harg3 x0 1 256 rfl, read_q harg3 x0 2 512 rfl, read_q harg3 x0 3 768 rfl, read_r harg5 x2 hk (off11 t),
    read_k harg4 x1 0 hk (off12 t), read_k harg4 x1 1 hk (off13 t), read_k harg4 x1 2 hk (off14 t), read_k harg4 x1 3 hk (off15 t),
    read_k harg6 x3 0 hk (off12 t), read_k harg6 x3 1 hk (off13 t), read_k harg6 x3 2 hk (off14 t), read_k harg6 x3 3 hk (off15 t)]
  exact ⟨⟨m0, H0⟩, ⟨m1, H1⟩, ⟨m2, H2⟩, ⟨m3, H3⟩⟩

/-- A head's columns in the block. -/
theorem pick (f : Fin 4 → Fin 512 → Fin 128 → EReal) (y : S512x512.Idx) (x : S512x128.Idx) (g : Fin 4) (h0 : (y 0).val = (x 0).val)
    (h1 : (y 1).val = g.val * 128 + (x 1).val) (a : FVec Ideal S512x128 .bf16) (u : ∀ r e, a (ix2 r e) = f g r e) :
    a x = f ⟨(y 1).val / 128, by have := (y 1).isLt; change _ < 512 at this; omega⟩ (y 0) ⟨(y 1).val % 128, Nat.mod_lt _ (by decide)⟩ := by
  have hx : (x 1).val < 128 := (x 1).isLt
  have e : a x = f g (x 0) (x 1) := (congrArg a (by funext a; fin_cases a <;> rfl)).trans (u (x 0) (x 1))
  have k : ∀ (g' : Fin 4) (r' : Fin 512) (e' : Fin 128), g = g' → (x 0).val = r'.val → (x 1).val = e'.val → f g (x 0) (x 1) = f g' r' e' := by
    intro g' r' e' hg hr he
    obtain rfl := hg
    exact congrArg₂ (f g) (Fin.ext hr) (Fin.ext he)
  exact e.trans (k _ _ _ (Fin.ext (by simp only; omega)) h0.symm (by simp only; omega))

/-- The block the kernel stores: for each head the quotient of its sums. -/
theorem out_at (x0 : FVec Ideal S512x1024 .bf16) (x1 : FVec Ideal S4096x512 .bf16) (x2 : FVec Ideal S4096x128 .bf16) (x3 : FVec Ideal S4096x512 .bf16)
    (f : Fin 4 → Fin 512 → Fin 128 → EReal)
    (u0 : ∀ r e, k0_pay1 (kernelRun0_A.sl.r_22 (F := Ideal) c (grid0.coords t) arg3 harg3 arg4 harg4 arg5 harg5 arg6 harg6 arg7 harg7 x0 x1 x2 x3) (ix2 r e) = f 0 r e)
    (u1 : ∀ r e, k0_pay1 (kernelRun0_A.sl.r_23 (F := Ideal) c (grid0.coords t) arg3 harg3 arg4 harg4 arg5 harg5 arg6 harg6 arg7 harg7 x0 x1 x2 x3) (ix2 r e) = f 1 r e)
    (u2 : ∀ r e, k0_pay1 (kernelRun0_A.sl.r_24 (F := Ideal) c (grid0.coords t) arg3 harg3 arg4 harg4 arg5 harg5 arg6 harg6 arg7 harg7 x0 x1 x2 x3) (ix2 r e) = f 2 r e)
    (u3 : ∀ r e, k0_pay1 (kernelRun0_A.sl.r_25 (F := Ideal) c (grid0.coords t) arg3 harg3 arg4 harg4 arg5 harg5 arg6 harg6 arg7 harg7 x0 x1 x2 x3) (ix2 r e) = f 3 r e)
    :
    out0_A_4 (F := Ideal) c (grid0.coords t) arg3 harg3 arg4 harg4 arg5 harg5 arg6 harg6 arg7 harg7 x0 x1 x2 x3
      = fun y : S512x512.Idx => f ⟨(y 1).val / 128, by have := (y 1).isLt; change _ < 512 at this; omega⟩ (y 0) ⟨(y 1).val % 128, Nat.mod_lt _ (by decide)⟩ := by
  unfold out0_A_4
  rw [View.read_writes_junk_eq_canon]
  unfold kernelRun0_A
  dsimp only
  funext y
  canon_tiles x h
  · exact pick f y x 3 h0 h1 _ u3
  · exact pick f y x 2 h0 h1 _ u2
  · exact pick f y x 1 h0 (by rw [h1]; rfl) _ u1
  · exact pick f y x 0 h0 (by rw [h1]; simp) _ u0

end Cert.Kernel9Ideal.Hand
-- ==== Proof.MlaPrompt.lean ====
/-
  Latent attention over the prompt: the arrays the kernel is given, and its result array after the run.
-/
module

public import proofs.«01_k».proof.Proof.Gen.Kernel9Ideal.Value
public import proofs.«01_k».proof.Proof.MlaRun
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel9Ideal.Hand

open Cert.Kernel9Ideal Cert.Kernel9Ideal.Gen Cert.Mla

variable (m : (ℓ : Loc nD τ sig) → Buf (Elt Ideal) ℓ)

/-! ### The arguments and what the call stages of them -/

/-- The argument arrays, as functions of batch, position, head and channel: the queries' parts without -/
def Qn (c : Dev nD) (b : Fin 2) (p : Fin 4096) (h : Fin 8) (d : Fin 128) : EReal := (show FVec Ideal S2x4096x8x128 .f32 from m ((c : Thread nD τ).loc main_arg0)) (ix4 b p h d)
/-- and with rotation, -/
def Qr (c : Dev nD) (b : Fin 2) (p : Fin 4096) (h : Fin 8) (d : Fin 64) : EReal := (show FVec Ideal S2x4096x8x64 .f32 from m ((c : Thread nD τ).loc main_arg1)) (ix4 b p h d)
/-- the keys' parts without -/
def Kn (c : Dev nD) (b : Fin 2) (p : Fin 4096) (h : Fin 8) (d : Fin 128) : EReal := (show FVec Ideal S2x4096x8x128 .f32 from m ((c : Thread nD τ).loc main_arg2)) (ix4 b p h d)
/-- and with rotation, -/
def Kr (c : Dev nD) (b : Fin 2) (p : Fin 4096) (d : Fin 64) : EReal := (show FVec Ideal S2x4096x64 .f32 from m ((c : Thread nD τ).loc main_arg3)) (ix3 b p d)
/-- and the values. -/
def Vv (c : Dev nD) (b : Fin 2) (p : Fin 4096) (h : Fin 8) (d : Fin 128) : EReal := (show FVec Ideal S2x4096x8x128 .f32 from m ((c : Thread nD τ).loc main_arg4)) (ix4 b p h d)

/-- A row's batch and position. -/
def bt (R : Fin 8192) : Fin 2 := ⟨R.val / 4096, by omega⟩
def ps (R : Fin 8192) : Fin 4096 := ⟨R.val % 4096, Nat.mod_lt _ (by decide)⟩

/-- What the host puts on the queries. -/
def kappa : EReal := Ideal.div (Ideal.ofBits .f32 0x3D93CD3A#32) (Ideal.log (Ideal.ofBits .f32 0x40000000#32))

theorem entry9 (c : Dev nD) : (show FVec Ideal S8192x2048 .bf16 from V m c main_v9)
    = truncf .bf16 (shapeCast S8192x2048 (mulf (concatenate S2x4096x8x256 3 [⟨S2x4096x8x128, (show FVec Ideal S2x4096x8x128 .f32 from m ((c : Thread nD τ).loc main_arg0))⟩,
        ⟨S2x4096x8x64, (show FVec Ideal S2x4096x8x64 .f32 from m ((c : Thread nD τ).loc main_arg1))⟩,
        ⟨S2x4096x8x64, broadcastInDim S2x4096x8x64 ![] bcast_S_S2x4096x8x64 (constant S_ .f32 0x00000000#32)⟩] concatenates_S2x4096x8x128_S2x4096x8x64_S2x4096x8x64_S2x4096x8x256_d3)
      (broadcastInDim S2x4096x8x256 ![] bcast_S_S2x4096x8x256 (Host.divf (constant S_ .f32 0x3D93CD3A#32) (Host.log (constant S_ .f32 0x40000000#32)))))
      shapeCasts_S2x4096x8x256_S8192x2048) bitsLt_bf16_f32 := by
  unfold V
  simp only [StableHlo.after_cons, StableHlo.after_nil]
  after_results_steps
  have e0 : ∀ X : Valuation τ sig (Elt Ideal), (fun k => X (Proc.tc.devRef ((![main_arg0, main_arg1, main_v0] : Fin 3 → Ref sig .tc) k))) 0 = X (Proc.tc.devRef main_arg0) := fun X => rfl
  have e1 : ∀ X : Valuation τ sig (Elt Ideal), (fun k => X (Proc.tc.devRef ((![main_arg0, main_arg1, main_v0] : Fin 3 → Ref sig .tc) k))) 1 = X (Proc.tc.devRef main_arg1) := fun X => rfl
  have e2 : ∀ X : Valuation τ sig (Elt Ideal), (fun k => X (Proc.tc.devRef ((![main_arg0, main_arg1, main_v0] : Fin 3 → Ref sig .tc) k))) 2 = X (Proc.tc.devRef main_v0) := fun X => rfl
  rw [e0, e1, e2]
  after_results_steps
  rfl

theorem entry11 (c : Dev nD) : (show FVec Ideal S8192x1024 .bf16 from V m c main_v11)
    = truncf .bf16 (shapeCast S8192x1024 (show FVec Ideal S2x4096x8x128 .f32 from m ((c : Thread nD τ).loc main_arg2)) shapeCasts_S2x4096x8x128_S8192x1024) bitsLt_bf16_f32 := by
  unfold V
  entry_read
  rfl

theorem entry15 (c : Dev nD) : (show FVec Ideal S8192x1024 .bf16 from V m c main_v15)
    = truncf .bf16 (shapeCast S8192x1024 (show FVec Ideal S2x4096x8x128 .f32 from m ((c : Thread nD τ).loc main_arg4)) shapeCasts_S2x4096x8x128_S8192x1024) bitsLt_bf16_f32 := by
  unfold V
  entry_read
  rfl

theorem entry13 (c : Dev nD) : (show FVec Ideal S8192x128 .bf16 from V m c main_v13)
    = truncf .bf16 (shapeCast S8192x128 (concatenate S2x4096x128 2 [⟨S2x4096x64, (show FVec Ideal S2x4096x64 .f32 from m ((c : Thread nD τ).loc main_arg3))⟩,
        ⟨S2x4096x64, broadcastInDim S2x4096x64 ![] bcast_S_S2x4096x64 (constant S_ .f32 0x00000000#32)⟩] concatenates_S2x4096x64_S2x4096x64_S2x4096x128_d2)
      shapeCasts_S2x4096x128_S8192x128) bitsLt_bf16_f32 := by
  unfold V
  entry_read
  rfl

/-- The queries, beside zeros and scaled; -/
theorem v9_at (c : Dev nD) (R : Fin 8192) (h : Fin 8) (d : Fin 256) :
    (show FVec Ideal S8192x2048 .bf16 from V m c main_v9) (ix2 R ⟨h.val * 256 + d.val, by omega⟩)
      = (if u : d.val < 128 then Qn m c (bt R) (ps R) h ⟨d.val, u⟩ else if w : d.val - 128 < 64 then Qr m c (bt R) (ps R) h ⟨d.val - 128, w⟩ else 0) * kappa := by
  have e1 : (h.val * 256 + d.val) / 256 = h.val := by omega
  have e2 : (h.val * 256 + d.val) % 256 = d.val := by omega
  rw [entry9]
  unfold kappa Qn Qr bt ps
  pointwise

/-- the keys' parts without -/
theorem v11_at (c : Dev nD) (R : Fin 8192) (h : Fin 8) (d : Fin 128) :
    (show FVec Ideal S8192x1024 .bf16 from V m c main_v11) (ix2 R ⟨h.val * 128 + d.val, by omega⟩) = Kn m c (bt R) (ps R) h d := by
  have e1 : (h.val * 128 + d.val) / 128 = h.val := by omega
  have e2 : (h.val * 128 + d.val) % 128 = d.val := by omega
  rw [entry11]
  unfold Kn bt ps
  pointwise

/-- and with rotation, -/
theorem v13_at (c : Dev nD) (R : Fin 8192) (d : Fin 128) :
    (show FVec Ideal S8192x128 .bf16 from V m c main_v13) (ix2 R d) = if u : d.val < 64 then Kr m c (bt R) (ps R) ⟨d.val, u⟩ else 0 := by
  rw [entry13]
  unfold Kr bt ps
  pointwise

/-- and the values. -/
theorem v15_at (c : Dev nD) (R : Fin 8192) (h : Fin 8) (d : Fin 128) :
    (show FVec Ideal S8192x1024 .bf16 from V m c main_v15) (ix2 R ⟨h.val * 128 + d.val, by omega⟩) = Vv m c (bt R) (ps R) h d := by
  have e1 : (h.val * 128 + d.val) / 128 = h.val := by omega
  have e2 : (h.val * 128 + d.val) % 128 = d.val := by omega
  rw [entry15]
  unfold Vv bt ps
  pointwise

/-! ### The blocks a point reads -/

theorem t_lt (t : Fin cfg0.N) : t.val < 32 := lt_of_lt_of_eq t.isLt (show cfg0.N = 32 from N_0)

/-- A point's row of a query, -/
def rq (t : Fin cfg0.N) (r : Fin 512) : Fin 8192 := ⟨(t.val / 16 * 8 + t.val % 8) * 512 + r.val, by have := t_lt t; omega⟩
/-- of a key, -/
def rk (t : Fin cfg0.N) (k : Fin 4096) : Fin 8192 := ⟨t.val / 16 * 4096 + k.val, by have := t_lt t; omega⟩
/-- and its heads. -/
def hd (t : Fin cfg0.N) (g : Fin 4) : Fin 8 := ⟨t.val / 8 % 2 * 4 + g.val, by omega⟩

theorem idx : ∀ t : Fin cfg0.N, win0_0.index t = ![t.val / 16 * 8 + t.val % 8, t.val / 8 % 2] ∧ win0_1.index t = ![t.val / 16, t.val / 8 % 2]
    ∧ win0_2.index t = ![t.val / 16, 0] ∧ win0_3.index t = ![t.val / 16, t.val / 8 % 2] ∧ win0_4.index t = ![t.val / 16 * 8 + t.val % 8, t.val / 8 % 2] :=
  (by decide +kernel : ∀ t : Fin grid0.N, _)

theorem emb0 (t : Fin cfg0.N) (y : S512x1024.Idx) (a : Fin 2) : (((win0_0.blk t).view.emb y) a : ℕ) = win0_0.index t a * win0_0.size a + (y a : ℕ) :=
  ValueKit.view_emb_slice_whole_unit_val main_v9 _ _ _ y a
theorem emb1 (t : Fin cfg0.N) (y : S4096x512.Idx) (a : Fin 2) : (((win0_1.blk t).view.emb y) a : ℕ) = win0_1.index t a * win0_1.size a + (y a : ℕ) :=
  ValueKit.view_emb_slice_whole_unit_val main_v11 _ _ _ y a
theorem emb2 (t : Fin cfg0.N) (y : S4096x128.Idx) (a : Fin 2) : (((win0_2.blk t).view.emb y) a : ℕ) = win0_2.index t a * win0_2.size a + (y a : ℕ) :=
  ValueKit.view_emb_slice_whole_unit_val main_v13 _ _ _ y a
theorem emb3 (t : Fin cfg0.N) (y : S4096x512.Idx) (a : Fin 2) : (((win0_3.blk t).view.emb y) a : ℕ) = win0_3.index t a * win0_3.size a + (y a : ℕ) :=
  ValueKit.view_emb_slice_whole_unit_val main_v15 _ _ _ y a

theorem blk0 (c : Dev nD) (t : Fin cfg0.N) (r : Fin 512) (g : Fin 4) (d : Fin 256) :
    (show FVec Ideal S512x1024 .bf16 from iblk m c 0 t) (ix2 r ⟨g.val * 256 + d.val, by omega⟩)
      = (if u : d.val < 128 then Qn m c (bt (rq t r)) (ps (rq t r)) (hd t g) ⟨d.val, u⟩
          else if w : d.val - 128 < 64 then Qr m c (bt (rq t r)) (ps (rq t r)) (hd t g) ⟨d.val - 128, w⟩ else 0) * kappa := by
  refine Eq.trans (congrArg (V m c main_v9) ((ix2_eta _).symm.trans ((ix2_inj ..).2 ⟨Fin.ext ?_, Fin.ext ?_⟩))) (v9_at m c (rq t r) (hd t g) d)
  · exact (emb0 t (ix2 r ⟨g.val * 256 + d.val, by omega⟩) 0).trans (by simp [(idx t).1, rq])
  · exact (emb0 t (ix2 r ⟨g.val * 256 + d.val, by omega⟩) 1).trans (by simp [(idx t).1, hd]; omega)

theorem blk1 (c : Dev nD) (t : Fin cfg0.N) (k : Fin 4096) (g : Fin 4) (d : Fin 128) :
    (show FVec Ideal S4096x512 .bf16 from iblk m c 1 t) (ix2 k ⟨g.val * 128 + d.val, by omega⟩) = Kn m c (bt (rk t k)) (ps (rk t k)) (hd t g) d := by
  refine Eq.trans (congrArg (V m c main_v11) ((ix2_eta _).symm.trans ((ix2_inj ..).2 ⟨Fin.ext ?_, Fin.ext ?_⟩))) (v11_at m c (rk t k) (hd t g) d)
  · exact (emb1 t (ix2 k ⟨g.val * 128 + d.val, by omega⟩) 0).trans (by simp [(idx t).2.1, rk])
  · exact (emb1 t (ix2 k ⟨g.val * 128 + d.val, by omega⟩) 1).trans (by simp [(idx t).2.1, hd]; omega)

theorem blk2 (c : Dev nD) (t : Fin cfg0.N) (k : Fin 4096) (d : Fin 128) :
    (show FVec Ideal S4096x128 .bf16 from iblk m c 2 t) (ix2 k d) = if u : d.val < 64 then Kr m c (bt (rk t k)) (ps (rk t k)) ⟨d.val, u⟩ else 0 := by
  refine Eq.trans (congrArg (V m c main_v13) ((ix2_eta _).symm.trans ((ix2_inj ..).2 ⟨Fin.ext ?_, Fin.ext ?_⟩))) (v13_at m c (rk t k) d)
  · exact (emb2 t (ix2 k d) 0).trans (by simp [(idx t).2.2.1, rk])
  · exact (emb2 t (ix2 k d) 1).trans (by simp [(idx t).2.2.1])

theorem blk3 (c : Dev nD) (t : Fin cfg0.N) (k : Fin 4096) (g : Fin 4) (d : Fin 128) :
    (show FVec Ideal S4096x512 .bf16 from iblk m c 3 t) (ix2 k ⟨g.val * 128 + d.val, by omega⟩) = Vv m c (bt (rk t k)) (ps (rk t k)) (hd t g) d := by
  refine Eq.trans (congrArg (V m c main_v15) ((ix2_eta _).symm.trans ((ix2_inj ..).2 ⟨Fin.ext ?_, Fin.ext ?_⟩))) (v15_at m c (rk t k) (hd t g) d)
  · exact (emb3 t (ix2 k ⟨g.val * 128 + d.val, by omega⟩) 0).trans (by simp [(idx t).2.2.2.1, rk])
  · exact (emb3 t (ix2 k ⟨g.val * 128 + d.val, by omega⟩) 1).trans (by simp [(idx t).2.2.2.1, hd]; omega)

/-! ### Scores -/

/-- The arguments' scores are real: the queries' and keys' entries are. -/
def Finite (c : Dev nD) : Prop :=
  (∀ b p h d, Qn m c b p h d = ((Qn m c b p h d).toReal : EReal)) ∧ (∀ b p h d, Qr m c b p h d = ((Qr m c b p h d).toReal : EReal))
    ∧ (∀ b p h d, Kn m c b p h d = ((Kn m c b p h d).toReal : EReal)) ∧ (∀ b p d, Kr m c b p d = ((Kr m c b p d).toReal : EReal))

/-- The scale is a real number. -/
theorem kappa_eq : kappa = ((scale * (1 / Real.log 2) : ℝ) : EReal) := by
  have h2 : Real.log 2 ≠ 0 := (Real.log_pos (by norm_num)).ne'
  unfold kappa
  rw [two_eq, Ideal.log_coe, if_neg (by norm_num), Ideal.div_coe h2, scale_eq, ← EReal.coe_mul]

/-- The score of head `h`'s query at `p` and key at `k`. -/
def sr (c : Dev nD) (b : Fin 2) (h : Fin 8) (p k : Fin 4096) : ℝ := score (Qn m c b p h) (Qr m c b p h) (Kn m c b k h) (Kr m c b k)

theorem rk_bt (t : Fin cfg0.N) (k : Fin 4096) (r : Fin 512) : bt (rk t k) = bt (rq t r) := by
  have := t_lt t
  exact Fin.ext (by simp only [bt, rk, rq]; omega)
theorem rk_ps (t : Fin cfg0.N) (k : Fin 4096) : ps (rk t k) = k := by
  exact Fin.ext (by simp only [ps, rk]; omega)
theorem rq_ps (t : Fin cfg0.N) (r : Fin 512) : (ps (rq t r)).val = qb t * 512 + r.val := by
  have := t_lt t
  show ((t.val / 16 * 8 + t.val % 8) * 512 + r.val) % 4096 = t.val % 8 * 512 + r.val
  omega

/-- The kernel's scores of a block are the arguments' scores, scaled. -/
theorem sc_eq (c : Dev nD) (hf : Finite m c) (t : Fin cfg0.N) (g : Fin 4) (r : Fin 512) (k : ℕ) :
    sc (iblk m c 0 t) (iblk m c 1 t) (iblk m c 2 t) g r k
      = ((sr m c (bt (rq t r)) (hd t g) (ps (rq t r)) ⟨k % 4096, Nat.mod_lt _ (by decide)⟩ * (scale * (1 / Real.log 2)) : ℝ) : EReal) := by
  obtain ⟨f0, f1, f2, f3⟩ := hf
  unfold sc sr score
  generalize hK : (⟨k % 4096, Nat.mod_lt _ (by decide)⟩ : Fin 4096) = K
  have hb := rk_bt t K r
  have hp := rk_ps t K
  refine (Fin.sum_univ_add (a := 128) (b := 128) _).trans ?_
  have A : ∀ d : Fin 128, (show FVec Ideal S512x1024 .bf16 from iblk m c 0 t) (ix2 r ⟨g.val * 256 + (Fin.castAdd 128 d).val, by omega⟩)
      * (if h : (Fin.castAdd 128 d).val < 128 then (show FVec Ideal S4096x512 .bf16 from iblk m c 1 t) (ix2 K ⟨g.val * 128 + (Fin.castAdd 128 d).val, by simp at h ⊢; omega⟩)
        else (show FVec Ideal S4096x128 .bf16 from iblk m c 2 t) (ix2 K ⟨(Fin.castAdd 128 d).val - 128, by omega⟩))
      = (((Qn m c (bt (rq t r)) (ps (rq t r)) (hd t g) d).toReal * (Kn m c (bt (rq t r)) K (hd t g) d).toReal * (scale * (1 / Real.log 2)) : ℝ) : EReal) := by
    intro d
    have hd' : (Fin.castAdd 128 d).val < 128 := d.isLt
    rw [dif_pos hd', blk0 m c t r g (Fin.castAdd 128 d), dif_pos hd']
    refine (congrArg (_ * ·) (blk1 m c t K g d)).trans ?_
    rw [hb, hp, kappa_eq]
    refine (congrArg₂ (· * ·) (congrArg (· * _) (f0 _ _ _ d)) (f2 _ _ _ d)).trans ?_
    rw [← EReal.coe_mul, ← EReal.coe_mul]
    exact congrArg _ (by ring)
  have B : ∀ d : Fin 128, (show FVec Ideal S512x1024 .bf16 from iblk m c 0 t) (ix2 r ⟨g.val * 256 + (Fin.natAdd 128 d).val, by have := (Fin.natAdd 128 d).isLt; omega⟩)
      * (if h : (Fin.natAdd 128 d).val < 128 then (show FVec Ideal S4096x512 .bf16 from iblk m c 1 t) (ix2 K ⟨g.val * 128 + (Fin.natAdd 128 d).val, by omega⟩)
        else (show FVec Ideal S4096x128 .bf16 from iblk m c 2 t) (ix2 K ⟨(Fin.natAdd 128 d).val - 128, by have := (Fin.natAdd 128 d).isLt; omega⟩))
      = (((if u : d.val < 64 then (Qr m c (bt (rq t r)) (ps (rq t r)) (hd t g) ⟨d.val, u⟩).toReal * (Kr m c (bt (rq t r)) K ⟨d.val, u⟩).toReal else 0)
          * (scale * (1 / Real.log 2)) : ℝ) : EReal) := by
    intro d
    have hd' : ¬ (Fin.natAdd 128 d).val < 128 := by simp
    have he : (⟨(Fin.natAdd 128 d).val - 128, by have := (Fin.natAdd 128 d).isLt; omega⟩ : Fin 128) = d := Fin.ext (by simp)
    rw [dif_neg hd', blk0 m c t r g (Fin.natAdd 128 d), dif_neg hd', he, blk2 m c t K d, hb, hp, kappa_eq]
    have hv : (Fin.natAdd 128 d).val - 128 = d.val := by simp
    by_cases u : d.val < 64
    · rw [dif_pos u, dif_pos u, dif_pos (hv.trans_lt u)]
      have hx : (⟨(Fin.natAdd 128 d).val - 128, hv.trans_lt u⟩ : Fin 64) = ⟨d.val, u⟩ := Fin.ext hv
      rw [hx]
      refine (congrArg₂ (· * ·) (congrArg (· * _) (f1 _ _ _ _)) (f3 _ _ _)).trans ?_
      rw [← EReal.coe_mul, ← EReal.coe_mul]
      exact congrArg _ (by ring)
    · rw [dif_neg u, dif_neg u, mul_zero, zero_mul]; rfl
  refine (congrArg₂ (· + ·) (Finset.sum_congr rfl fun d _ => A d) (Finset.sum_congr rfl fun d _ => B d)).trans ?_
  rw [sum_coe, sum_coe, ← EReal.coe_add, ← Finset.sum_mul, ← Finset.sum_mul, ← add_mul]
  refine congrArg (fun x : ℝ => ((((∑ d, (Qn m c (bt (rq t r)) (ps (rq t r)) (hd t g) d).toReal * (Kn m c (bt (rq t r)) K (hd t g) d).toReal) + x) * (scale * (1 / Real.log 2)) : ℝ) : EReal)) ?_
  refine (Fin.sum_univ_add (a := 64) (b := 64) _).trans ?_
  refine (congrArg₂ (· + ·) (Finset.sum_congr rfl fun d _ => dif_pos (show (Fin.castAdd 64 d).val < 64 from d.isLt))
    (Finset.sum_congr rfl fun d _ => dif_neg (show ¬ (Fin.natAdd 64 d).val < 64 by simp))).trans ?_
  rw [Finset.sum_const_zero, add_zero]
  rfl

/-! ### The result -/

/-- Head `h`'s attention for the query at `p`. -/
def res (c : Dev nD) (b : Fin 2) (p : Fin 4096) (h : Fin 8) (e : Fin 128) : EReal := attend (weight (sr m c b h p) p) (fun k => Vv m c b k h e)

/-- The sums over the blocks up to the query's own are sums over all keys. -/
theorem head_attend {x3 : FVec Ideal S4096x512 .bf16} {g : Fin 4} {S : Fin 512 → ℕ → ℝ} {i : ℕ} (hi : i < 8) (s : Fin 4096 → ℝ) (v : Fin 4096 → EReal) (r : Fin 512) (e : Fin 128)
    (p : Fin 4096) (hp : p.val = i * 512 + r.val) (hw : ∀ k : Fin 4096, Real.rpow 2 (S r k.val) = Real.exp (s k * scale))
    (hv : ∀ k : Fin 4096, vl x3 g k.val ⟨e.val, by omega⟩ = v k) :
    (∑ k ∈ Finset.range ((i + 1) * 512), (wt S i r k : EReal) * vl x3 g k ⟨e.val, by omega⟩)
      * ((1 / ∑ k ∈ Finset.range ((i + 1) * 512), wt S i r k : ℝ) : EReal) = attend (weight s p) v := by
  have hz : ∀ k ∈ Finset.range 4096, k ∉ Finset.range ((i + 1) * 512) → wt S i r k = 0 := by
    intro k _ hk
    rw [Finset.mem_range] at hk
    exact if_neg (by omega)
  have hs : Finset.range ((i + 1) * 512) ⊆ Finset.range 4096 := Finset.range_subset_range.mpr (by omega)
  have hwt : ∀ k : Fin 4096, wt S i r k.val = weight s p k := by
    intro k
    unfold wt weight
    rw [hp, hw]
  rw [Finset.sum_subset hs hz, Finset.sum_subset hs (fun k h1 h2 => by rw [hz k h1 h2, EReal.coe_zero, zero_mul]),
    ← Fin.sum_univ_eq_sum_range (fun k => wt S i r k), ← Fin.sum_univ_eq_sum_range (fun k => (wt S i r k : EReal) * vl x3 g k ⟨e.val, by omega⟩)]
  simp only [hwt, hv]
  rfl

/-- A point's block of the result. -/
theorem blk_out (c : Dev nD) (hf : Finite m c) (t : Fin cfg0.N) (y : S512x512.Idx) :
    out0_A_4 (F := Ideal) c (grid0.coords t) (ms0_0 t) (hs0_0 t) (ms0_1 t) (hs0_1 t) (ms0_2 t) (hs0_2 t) (ms0_3 t) (hs0_3 t) (ms0_4 t) (hs0_4 t)
        (iblk m c 0 t) (iblk m c 1 t) (iblk m c 2 t) (iblk m c 3 t) y
      = res m c (bt (rq t (y 0))) (ps (rq t (y 0))) (hd t ⟨(y 1).val / 128, by have := (y 1).isLt; change _ < 512 at this; omega⟩) ⟨(y 1).val % 128, Nat.mod_lt _ (by decide)⟩ := by
  have hS : ∀ g r k, sc (iblk m c 0 t) (iblk m c 1 t) (iblk m c 2 t) g r k
      = ((fun (g : Fin 4) (r : Fin 512) (k : ℕ) => sr m c (bt (rq t r)) (hd t g) (ps (rq t r)) ⟨k % 4096, Nat.mod_lt _ (by decide)⟩ * (scale * (1 / Real.log 2))) g r k : EReal) :=
    fun g r k => sc_eq m c hf t g r k
  obtain ⟨⟨m0, h0⟩, ⟨m1, h1⟩, ⟨m2, h2⟩, ⟨m3, h3⟩⟩ := run_heads c t (ms0_0 t) (hs0_0 t) (ms0_1 t) (hs0_1 t) (ms0_2 t) (hs0_2 t) (ms0_3 t) (hs0_3 t) (ms0_4 t) (hs0_4 t) hS (x3 := iblk m c 3 t)
  have key : ∀ (g : Fin 4) (r : Fin 512) (e : Fin 128), _ = res m c (bt (rq t r)) (ps (rq t r)) (hd t g) e := fun g r e =>
    head_attend (x3 := iblk m c 3 t) (g := g)
      (S := (fun (g : Fin 4) (r : Fin 512) (k : ℕ) => sr m c (bt (rq t r)) (hd t g) (ps (rq t r)) ⟨k % 4096, Nat.mod_lt _ (by decide)⟩ * (scale * (1 / Real.log 2))) g)
      (qb_lt t) (sr m c (bt (rq t r)) (hd t g) (ps (rq t r))) (fun k => Vv m c (bt (rq t r)) k (hd t g) e) r e (ps (rq t r)) (rq_ps t r)
      (fun k => by
        have hk : (⟨k.val % 4096, Nat.mod_lt _ (by decide)⟩ : Fin 4096) = k := Fin.ext (Nat.mod_eq_of_lt k.isLt)
        simp only [hk]
        exact two_score _)
      (fun k => by
        have hk : (⟨k.val % 4096, Nat.mod_lt _ (by decide)⟩ : Fin 4096) = k := Fin.ext (Nat.mod_eq_of_lt k.isLt)
        unfold vl
        rw [dif_pos e.isLt, hk]
        refine (blk3 m c t k g e).trans ?_
        rw [rk_bt t k r, rk_ps])
  exact congrFun (out_at c t (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t)
    (fun g r e => res m c (bt (rq t r)) (ps (rq t r)) (hd t g) e)
    (fun r e => (head_out h0 r e).trans (key 0 r e)) (fun r e => (head_out h1 r e).trans (key 1 r e))
    (fun r e => (head_out h2 r e).trans (key 2 r e)) (fun r e => (head_out h3 r e).trans (key 3 r e))) y

theorem emb4 (t : Fin cfg0.N) (y : S512x512.Idx) (a : Fin 2) :
    ((((View.whole main_v16).slice (win0_4.rect t)).emb y) a : ℕ) = win0_4.index t a * win0_4.size a + (y a : ℕ) :=
  ValueKit.view_emb_slice_whole_unit_val main_v16 _ _ _ y a

/-- The result array after the run: for each row and each head the attention of its query. -/
theorem final (c : Dev nD) (hf : Finite m c) : (dats m 0 c).arrAt 4 (cfgs 0).N
    = (show FVec Ideal S8192x1024 .bf16 from fun i => res m c (bt (i 0)) (ps (i 0)) ⟨(i 1).val / 128, by have := (i 1).isLt; change _ < 1024 at this; omega⟩ ⟨(i 1).val % 128, Nat.mod_lt _ (by decide)⟩) := by
  refine (dats m 0 c).arrAt_eq_of_covers 4 _ (by decide +kernel) fun t hf' y => ?_
  blk_simp
  idx_vars y
  have e := emb4 t (ix2 y0 y1)
  rw [after0_4]
  refine (blk_out m c hf t (ix2 y0 y1)).trans ?_
  have key : ∀ (R R' : Fin 8192) (h h' : Fin 8) (d d' : Fin 128), R.val = R'.val → h.val = h'.val → d.val = d'.val →
      res m c (bt R) (ps R) h d = res m c (bt R') (ps R') h' d' := by
    intro R R' h h' d d' h0 h1 h2
    rw [Fin.ext h0, Fin.ext h1, Fin.ext h2]
  have h1 : win0_4.index t 1 = t.val / 8 % 2 := by rw [(idx t).2.2.2.2]; rfl
  refine key _ _ _ _ _ _ ?_ ?_ ?_
  · exact ((e 0).trans (by simp [(idx t).2.2.2.2, rq])).symm
  · simp only [h1, hd]
    have := y1.isLt
    show t.val / 8 % 2 * 4 + y1.val / 128 = (t.val / 8 % 2 * 512 + y1.val) / 128
    omega
  · simp only [h1]
    show y1.val % 128 = (t.val / 8 % 2 * 512 + y1.val) % 128
    omega

end Cert.Kernel9Ideal.Hand
-- ==== Proof.MlaSoftmax.lean ====
/-
  A softmax as a host writes it — the scores less their greatest, e to that, each over the sum of all — put on values: the quotient of the
  weighted sum by the weights' sum.
-/
module

public import proofs.«01_k».proof.Proof.MlaSpec

@[expose] public section

noncomputable section

open Idealize.ShloMosaic

namespace Cert.Mla

/-- `σ` is a score of weight `w`: a real one, of weight e to the score, or a masked one, of weight 0. -/
def Soft (σ : EReal) (w : ℝ) : Prop := (∃ s : ℝ, σ = s ∧ w = Real.exp s) ∨ (σ = ⊥ ∧ w = 0)

/-- A score's weight, scaled by a real bound. -/
theorem Soft.exp {σ : EReal} {w : ℝ} (h : Soft σ w) (μ : ℝ) : Ideal.exp (σ - μ) = ((Real.exp (-μ) * w : ℝ) : EReal) := by
  rcases h with ⟨s, rfl, rfl⟩ | ⟨rfl, rfl⟩
  · rw [← EReal.coe_sub, Ideal.exp_coe, ← Real.exp_add]
    congr 2; ring
  · rw [EReal.bot_sub, Ideal.exp_bot, mul_zero, EReal.coe_zero]

/-- The greatest score of a row is real where one of them is. -/
theorem Soft.bound {n : ℕ} {σ : Fin n → EReal} {w : Fin n → ℝ} (hs : ∀ k, Soft (σ k) (w k)) (k₀ : Fin n) (h₀ : σ k₀ ≠ ⊥) :
    ∃ μ : ℝ, max ⊥ (Finset.univ.fold max ⊥ σ) = μ := by
  have hlo : max ⊥ (Finset.univ.fold max ⊥ σ) ≠ ⊥ := by
    have h1 : σ k₀ ≤ Finset.univ.fold max ⊥ σ := Finset.le_fold_max (σ k₀) |>.mpr (Or.inr ⟨k₀, Finset.mem_univ _, le_rfl⟩)
    exact fun e => h₀ (le_bot_iff.mp ((h1.trans (le_max_right _ _)).trans_eq e))
  have hhi : max ⊥ (Finset.univ.fold max ⊥ σ) < ⊤ := by
    refine max_lt bot_lt_top (Finset.fold_max_lt _ |>.mpr ⟨bot_lt_top, fun k _ => ?_⟩)
    rcases hs k with ⟨s, e, -⟩ | ⟨e, -⟩
    · rw [e]; exact EReal.coe_lt_top s
    · rw [e]; exact bot_lt_top
  exact ⟨_, (EReal.coe_toReal hhi.ne hlo).symm⟩

/-- The softmax put on values. -/
theorem softmax {n : ℕ} {σ : Fin n → EReal} {w : Fin n → ℝ} (hs : ∀ k, Soft (σ k) (w k)) (k₀ : Fin n) (h₀ : σ k₀ ≠ ⊥) (hL : 0 < ∑ k, w k)
    (v : Fin n → EReal) :
    ∑ k, v k * Ideal.div (Ideal.exp (σ k - max ⊥ (Finset.univ.fold max ⊥ σ))) (∑ j, Ideal.exp (σ j - max ⊥ (Finset.univ.fold max ⊥ σ)))
      = (∑ k, (w k : EReal) * v k) * ((1 / ∑ k, w k : ℝ) : EReal) := by
  obtain ⟨μ, hμ⟩ := Soft.bound hs k₀ h₀
  have hp : 0 < Real.exp (-μ) * ∑ k, w k := mul_pos (Real.exp_pos _) hL
  have e : (∑ j, Ideal.exp (σ j - (μ : EReal))) = ((Real.exp (-μ) * ∑ k, w k : ℝ) : EReal) := by
    rw [Finset.mul_sum, ← sum_coe]
    exact Finset.sum_congr rfl fun k _ => (hs k).exp μ
  rw [hμ, e, mul_comm _ (((1 / ∑ k, w k : ℝ) : EReal)), coe_mul_sum (one_div_pos.mpr hL)]
  refine Finset.sum_congr rfl fun k _ => ?_
  rw [(hs k).exp μ, Ideal.div_coe hp.ne', ← EReal.coe_mul, mul_comm (v k), ← mul_assoc, ← EReal.coe_mul]
  congr 2
  have h1 := (Real.exp_pos (-μ)).ne'
  have h2 := hL.ne'
  field_simp

end Cert.Mla
-- ==== Proof.MlaPromptRef.lean ====
/-
  What the reference of latent attention over the prompt computes, read at an index: a query's softmax over the keys of its block of 64 and of
  those before it, put on the values.
-/
module

public import proofs.«01_k».proof.Proof.Gen.Reference9Ideal.Read
public import proofs.«01_k».proof.Proof.MlaSoftmax
public import Idealize.ShloMosaic.Lib.Pointwise

@[expose] public section

set_option maxRecDepth 16384

noncomputable section

open Idealize.ShloMosaic Idealize.ShloMosaic.TcCoe Idealize.SL.Sem

namespace Cert.Reference9Ideal.Hand

open Cert.Reference9Ideal Cert.Reference9Ideal.Gen Cert.Reference9Ideal.Value Cert.Reference9Ideal.Read Cert.Mla

variable (x0 : FVec Ideal S2x4096x8x128 .f32) (x1 : FVec Ideal S2x4096x8x64 .f32) (x2 : FVec Ideal S2x4096x8x128 .f32)
  (x3 : FVec Ideal S2x4096x64 .f32) (x4 : FVec Ideal S2x4096x8x128 .f32)

/-! ### The mask -/

/-- A position's word divided down by 64, as the host divides: towards 0, and one less where the signs differ and something remains. -/
def down (w : BitVec 32) : BitVec 32 :=
  Scalar.select (IntOp.andi (IntOp.cmpi .ne (signi (fun _ : S_.Idx => w) ix0) (signi (fun _ : S_.Idx => 64#32) ix0))
    (IntOp.cmpi .ne (IntOp.remsi .host w 64#32) 0#32)) (IntOp.subi (IntOp.divsi .host w 64#32) 1#32) (IntOp.divsi .host w 64#32)

theorem down_eq : ∀ k : Fin 4096, down (BitVec.ofNat 32 k.val) = BitVec.ofNat 32 (k.val / 64) := by decide +kernel

theorem sle_eq : ∀ k p : Fin 64, IntOp.cmpi .sle (BitVec.ofNat 32 k.val) (BitVec.ofNat 32 p.val) = if k.val ≤ p.val then 1#1 else 0#1 := by decide +kernel

theorem v8_at (k : Fin 4096) : val_main_v8 (F := Ideal) (ix2 0 k) = BitVec.ofNat 32 (k.val / 64) := by
  rw [← down_eq]
  rfl

theorem v10_at (p : Fin 4096) : val_main_v10 (F := Ideal) (ix2 p 0) = BitVec.ofNat 32 (p.val / 64) := by
  rw [← down_eq]
  rfl

theorem mask_at (p k : Fin 4096) : val_main_v13 (F := Ideal) (ix2 p k) = if k.val / 64 ≤ p.val / 64 then 1#1 else 0#1 := by
  have e : val_main_v13 (F := Ideal) (ix2 p k) = IntOp.cmpi .sle (val_main_v8 (F := Ideal) (ix2 0 k)) (val_main_v10 (F := Ideal) (ix2 p 0)) := by
    pointwise [val_main_v13, val_main_v12, val_main_v11]
  rw [e, v8_at, v10_at]
  exact sle_eq ⟨k.val / 64, by omega⟩ ⟨p.val / 64, by omega⟩

/-! ### The scores -/

/-- The arguments' finiteness, as far as the scores need it. -/
def Real4 : Prop := (∀ b p h d, x0 (ix4 b p h d) = ((x0 (ix4 b p h d)).toReal : EReal)) ∧ (∀ b p h d, x1 (ix4 b p h d) = ((x1 (ix4 b p h d)).toReal : EReal))
  ∧ (∀ b p h d, x2 (ix4 b p h d) = ((x2 (ix4 b p h d)).toReal : EReal)) ∧ (∀ b p d, x3 (ix3 b p d) = ((x3 (ix3 b p d)).toReal : EReal))

/-- The score of query `p` and key `k` before its scale. -/
def sr (b : Fin 2) (h : Fin 8) (p k : Fin 4096) : ℝ :=
  score (fun d => x0 (ix4 b p h d)) (fun d => x1 (ix4 b p h d)) (fun d => x2 (ix4 b k h d)) (fun d => x3 (ix3 b k d))

theorem v6_at (hf : Real4 x0 x1 x2 x3) (b : Fin 2) (h : Fin 8) (p k : Fin 4096) :
    val_main_v6 (F := Ideal) x0 x1 x2 x3 (ix4 b h p k) = ((sr x0 x1 x2 x3 b h p k * scale : ℝ) : EReal) := by
  obtain ⟨f0, f1, f2, f3⟩ := hf
  have e : val_main_v6 (F := Ideal) x0 x1 x2 x3 (ix4 b h p k)
      = (∑ d : Fin 128, x0 (ix4 b p h d) * x2 (ix4 b k h d) + ∑ d : Fin 64, x3 (ix3 b k d) * x1 (ix4 b p h d)) * Ideal.ofBits .f32 0x3D93CD3A#32 := by
    pointwise [val_main_v6, val_main_v5, val_main_cst, val_main_v4, val_main_v3, val_main_v2, val_main_v1]
  have s1 : ∑ d : Fin 128, x0 (ix4 b p h d) * x2 (ix4 b k h d) = ((∑ d : Fin 128, (x0 (ix4 b p h d)).toReal * (x2 (ix4 b k h d)).toReal : ℝ) : EReal) := by
    rw [← sum_coe]
    exact Finset.sum_congr rfl fun d _ => by rw [EReal.coe_mul, ← f0, ← f2]
  have s2 : ∑ d : Fin 64, x3 (ix3 b k d) * x1 (ix4 b p h d) = ((∑ d : Fin 64, (x1 (ix4 b p h d)).toReal * (x3 (ix3 b k d)).toReal : ℝ) : EReal) := by
    rw [← sum_coe]
    exact Finset.sum_congr rfl fun d _ => by rw [EReal.coe_mul, ← f1, ← f3, mul_comm]
  rw [e, s1, s2, scale_eq, ← EReal.coe_add, ← EReal.coe_mul]
  rfl

theorem ninf : Ideal.ofBits .f32 0xFF800000#32 = ⊥ := by simp [Ideal.ofBits, Ideal.ieee]

theorem v14_at (hf : Real4 x0 x1 x2 x3) (b : Fin 2) (h : Fin 8) (p k : Fin 4096) :
    val_main_v14 (F := Ideal) x0 x1 x2 x3 (ix4 b h p k) = if k.val / 64 ≤ p.val / 64 then ((sr x0 x1 x2 x3 b h p k * scale : ℝ) : EReal) else ⊥ := by
  have e : val_main_v14 (F := Ideal) x0 x1 x2 x3 (ix4 b h p k)
      = Scalar.select (val_main_v13 (F := Ideal) (ix2 p k)) (val_main_v6 (F := Ideal) x0 x1 x2 x3 (ix4 b h p k)) (Ideal.ofBits .f32 0xFF800000#32) := by
    pointwise [val_main_v14, val_main_call2_v2, val_main_call2_v1, val_main_call2_v0, val_main_cst_1]
    rfl
  rw [e, mask_at, v6_at x0 x1 x2 x3 hf, ninf]
  split_ifs <;> rfl

/-- Each score with its weight. -/
theorem soft_at (hf : Real4 x0 x1 x2 x3) (b : Fin 2) (h : Fin 8) (p k : Fin 4096) :
    Soft (val_main_v14 (F := Ideal) x0 x1 x2 x3 (ix4 b h p k)) (weight (sr x0 x1 x2 x3 b h p) p k) := by
  rw [v14_at x0 x1 x2 x3 hf]
  unfold weight
  split_ifs
  · exact Or.inl ⟨_, rfl, rfl⟩
  · exact Or.inr ⟨rfl, rfl⟩

/-! ### The softmax on the values -/

/-- The greatest score of a row, -/
theorem v17_at (b : Fin 2) (h : Fin 8) (p : Fin 4096) : val_main_v17 (F := Ideal) x0 x1 x2 x3 (ix3 b h p)
    = max ⊥ (Finset.univ.fold max ⊥ fun k : Fin 4096 => val_main_v14 (F := Ideal) x0 x1 x2 x3 (ix4 b h p k)) := by
  have e16 : val_main_v16 (F := Ideal) (ix3 b h p) = ⊥ := by
    rw [val_main_v16_apply, val_main_cst_3_apply]
    exact ninf
  have e2 : val_main_cst_2 (F := Ideal) (Shape.Idx.first h_S_) = ⊥ := by
    rw [val_main_cst_2_apply]
    exact ninf
  have e15 : val_main_v15 (F := Ideal) x0 x1 x2 x3 (ix3 b h p)
      = Finset.univ.fold max ⊥ fun k : Fin 4096 => val_main_v14 (F := Ideal) x0 x1 x2 x3 (ix4 b h p k) := by
    unfold val_main_v15
    generalize val_main_v14 (F := Ideal) x0 x1 x2 x3 = y
    refine (Host.reduce_eq_fold_single (FloatOps.maximumf (F := Ideal) (φ := .f32)) y _ _ (by decide) h_S_ (ix3 b h p)).trans ?_
    rw [e2]
    refine congrArg (Finset.univ.fold max ⊥) (funext fun k => congrArg y (funext fun a => Fin.ext ?_))
    match a with
    | ⟨0, _⟩ => rfl
    | ⟨1, _⟩ => rfl
    | ⟨2, _⟩ => rfl
    | ⟨3, _⟩ => rfl
  rw [val_main_v17_apply, e16, e15]
  rfl

/-- e to a score less it, -/
theorem v21_at (b : Fin 2) (h : Fin 8) (p k : Fin 4096) : val_main_v21 (F := Ideal) x0 x1 x2 x3 (ix4 b h p k)
    = Ideal.exp (val_main_v14 (F := Ideal) x0 x1 x2 x3 (ix4 b h p k) - val_main_v17 (F := Ideal) x0 x1 x2 x3 (ix3 b h p)) := by
  pointwise [val_main_v21, val_main_v20, val_main_v19, val_main_v18]

/-- the sum of these over a row, -/
theorem v22_at (b : Fin 2) (h : Fin 8) (p : Fin 4096) : val_main_v22 (F := Ideal) x0 x1 x2 x3 (ix3 b h p)
    = ∑ k : Fin 4096, val_main_v21 (F := Ideal) x0 x1 x2 x3 (ix4 b h p k) := by
  have z : val_main_cst_4 (F := Ideal) (Shape.Idx.first h_S_) = 0 := by
    rw [val_main_cst_4_apply]
    simp [Ideal.ofBits, Ideal.ieee]
  rw [val_main_v22_apply, z, zero_add]
  refine Finset.sum_congr rfl fun k _ => congrArg _ (funext fun a => ?_)
  match a with
  | ⟨0, _⟩ => rfl
  | ⟨1, _⟩ => rfl
  | ⟨2, _⟩ => rfl
  | ⟨3, _⟩ => rfl

/-- and their quotients put on the values. -/
theorem v26_quot (b : Fin 2) (h : Fin 8) (p : Fin 4096) (e : Fin 128) : val_main_v26 (F := Ideal) x0 x1 x2 x3 x4 (ix4 b h e p)
    = ∑ k : Fin 4096, x4 (ix4 b k h e) * Ideal.div (val_main_v21 (F := Ideal) x0 x1 x2 x3 (ix4 b h p k)) (val_main_v22 (F := Ideal) x0 x1 x2 x3 (ix3 b h p)) := by
  pointwise [val_main_v26, val_main_v25, val_main_v24, val_main_v23]

theorem v26_at (hf : Real4 x0 x1 x2 x3) (b : Fin 2) (h : Fin 8) (p : Fin 4096) (e : Fin 128) :
    val_main_v26 (F := Ideal) x0 x1 x2 x3 x4 (ix4 b h e p) = attend (weight (sr x0 x1 x2 x3 b h p) p) (fun k => x4 (ix4 b k h e)) := by
  have hv : val_main_v14 (F := Ideal) x0 x1 x2 x3 (ix4 b h p p) ≠ ⊥ := by
    rw [v14_at x0 x1 x2 x3 hf, if_pos le_rfl]
    exact EReal.coe_ne_bot _
  have s := softmax (soft_at x0 x1 x2 x3 hf b h p) p hv (weight_sum_pos _ _) (fun k => x4 (ix4 b k h e))
  rw [v26_quot, v22_at]
  simp only [v21_at, v17_at]
  exact s

/-- The result. -/
theorem result (hf : Real4 x0 x1 x2 x3) : val_main_v29 (F := Ideal) x0 x1 x2 x3 x4 = fun i =>
    attend (weight (sr x0 x1 x2 x3 ⟨(i 0).val / 4096, by have h : (i 0).val < 8192 := (i 0).isLt; omega⟩ ⟨(i 1).val / 128, by have h : (i 1).val < 1024 := (i 1).isLt; omega⟩
      ⟨(i 0).val % 4096, Nat.mod_lt _ (by decide)⟩) ⟨(i 0).val % 4096, Nat.mod_lt _ (by decide)⟩)
      (fun k => x4 (ix4 ⟨(i 0).val / 4096, by have h : (i 0).val < 8192 := (i 0).isLt; omega⟩ k ⟨(i 1).val / 128, by have h : (i 1).val < 1024 := (i 1).isLt; omega⟩
        ⟨(i 1).val % 128, Nat.mod_lt _ (by decide)⟩)) := by
  funext i
  have h0 : (i 0).val < 8192 := (i 0).isLt
  have h1 : (i 1).val < 1024 := (i 1).isLt
  rw [← v26_at x0 x1 x2 x3 x4 hf]
  show val_main_v28 (F := Ideal) x0 x1 x2 x3 x4 i = _
  rw [val_main_v28_apply, val_main_v27_apply]
  refine congrArg _ (funext fun a => Fin.ext ?_)
  match a with
  | ⟨0, _⟩ => show ((i 0).val * 1024 + (i 1).val) / 4194304 = (i 0).val / 4096; omega
  | ⟨1, _⟩ => show ((i 0).val * 1024 + (i 1).val) / 128 % 8 = (i 1).val / 128; omega
  | ⟨2, _⟩ => show ((i 0).val * 1024 + (i 1).val) % 128 = (i 1).val % 128; omega
  | ⟨3, _⟩ => show ((i 0).val * 1024 + (i 1).val) / 1024 % 4096 = (i 0).val % 4096; omega

end Cert.Reference9Ideal.Hand
-- ==== Proof.MlaPre.lean ====
/-
  The precondition of latent attention read back: every query and key is a real number.
-/
module

public import proofs.«01_k».proof.Proof.Gen.Pre_finite
public import proofs.«01_k».proof.Proof.MlaPromptRef
public import Idealize.ShloMosaic.Lib.ReduceAll
public import Idealize.ShloMosaic.PureOps.Ideal.Laws

@[expose] public section

noncomputable section

open Idealize.ShloMosaic

namespace Cert.Mla

theorem inf_eq : Ideal.ofBits .f32 0x7F800000#32 = ⊤ := by simp [Ideal.ofBits, Ideal.ieee]

/-- An extended real whose absolute value lies under infinity is real. -/
theorem real_of_abs {x : EReal} (h : Ideal.cmp .olt (max x (-x)) ⊤ = 1#1) : x = (x.toReal : EReal) := by
  have h' : max x (-x) < ⊤ := by
    by_contra hn
    simp [Ideal.cmp, hn] at h
  refine (EReal.coe_toReal ?_ ?_).symm
  · rintro rfl
    exact absurd h' (by simp)
  · rintro rfl
    exact absurd h' (by simp)

/-- An array all of whose absolute values lie under infinity is real throughout. -/
theorem real_of_all {s : Shape} {axes : List (Fin s.rank)} (x : FVec Ideal s .f32) (hb : Cert.Pre_finite.S_.BroadcastsInDim s ![])
    (h : s.ReducesTo axes Cert.Pre_finite.S_) (hu : 0 < Cert.Pre_finite.S_.numel) (j : Cert.Pre_finite.S_.Idx)
    (e : Host.reduce IntOp.andi (cmpf .olt (Host.absf x) (broadcastInDim s ![] hb (constant Cert.Pre_finite.S_ .f32 0x7F800000#32))) (constantI Cert.Pre_finite.S_ 1 1#1) h hu j = 1#1)
    (i : s.Idx) : x i = ((x i).toReal : EReal) := by
  haveI : Subsingleton Cert.Pre_finite.S_.Idx := ⟨fun a b => funext fun k => k.elim0⟩
  refine real_of_abs ?_
  rw [← inf_eq]
  exact Host.reduce_andi_all _ _ h hu j e i

/-- The precondition. -/
theorem real_of_pre (x0 : FVec Ideal Cert.Pre_finite.S2x4096x8x128 .f32) (x1 : FVec Ideal Cert.Pre_finite.S2x4096x8x64 .f32)
    (x2 : FVec Ideal Cert.Pre_finite.S2x4096x8x128 .f32) (x3 : FVec Ideal Cert.Pre_finite.S2x4096x64 .f32) (x4 : FVec Ideal Cert.Pre_finite.S2x4096x8x128 .f32)
    (h : Cert.Pre_finite.fn (F := Ideal) x0 x1 x2 x3 x4 = fun _ => 1#1) : Cert.Reference9Ideal.Hand.Real4 x0 x1 x2 x3 := by
  have h1 := congrFun h ix0
  simp only [Cert.Pre_finite.fn, Cert.Pre_finite.fn_part1] at h1
  obtain ⟨h2, a3⟩ := IntOp.andi_eq_one.1 h1
  obtain ⟨h3, a2⟩ := IntOp.andi_eq_one.1 h2
  obtain ⟨a0, a1⟩ := IntOp.andi_eq_one.1 h3
  exact ⟨fun b p k d => real_of_all x0 _ _ _ _ a0 _, fun b p k d => real_of_all x1 _ _ _ _ a1 _, fun b p k d => real_of_all x2 _ _ _ _ a2 _,
    fun b p d => real_of_all x3 _ _ _ _ a3 _⟩

end Cert.Mla
-- ==== Proof.MlaSampleSpec.lean ====
/-
  Latent attention of one of the sample's queries and heads: the softmax over the 1024 cached keys and the 16 new ones as one quotient of sums.
-/
module

public import proofs.«01_k».proof.Proof.MlaSpec

@[expose] public section

noncomputable section

open Idealize.ShloMosaic

namespace Cert.Mla

/-- The weighted values over the weights' sum, the cached keys and the new ones apart. -/
def attend2 (w : Fin 1024 → ℝ) (u : Fin 16 → ℝ) (v : Fin 1024 → EReal) (z : Fin 16 → EReal) : EReal :=
  (∑ k, (w k : EReal) * v k + ∑ k, (u k : EReal) * z k) * ((1 / (∑ k, w k + ∑ k, u k) : ℝ) : EReal)

/-- The greatest of finitely many reals is real. -/
theorem fold_real {n : ℕ} (hn : 0 < n) (S : Fin n → ℝ) : ∃ μ : ℝ, (Finset.univ.fold max ⊥ fun k => (S k : EReal)) = μ := by
  have hlo : (Finset.univ.fold max ⊥ fun k => (S k : EReal)) ≠ ⊥ := by
    have h1 : (S ⟨0, hn⟩ : EReal) ≤ Finset.univ.fold max ⊥ fun k => (S k : EReal) := Finset.le_fold_max _ |>.mpr (Or.inr ⟨⟨0, hn⟩, Finset.mem_univ _, le_rfl⟩)
    exact fun e => EReal.coe_ne_bot _ (le_bot_iff.mp (h1.trans_eq e))
  have hhi : (Finset.univ.fold max ⊥ fun k => (S k : EReal)) < ⊤ := Finset.fold_max_lt _ |>.mpr ⟨bot_lt_top, fun k _ => EReal.coe_lt_top _⟩
  exact ⟨_, (EReal.coe_toReal hhi.ne hlo).symm⟩

/-- Weights taken below the greatest score, and their quotient. -/
theorem quot2 (S : Fin 1024 → ℝ) (T : Fin 16 → ℝ) (v : Fin 1024 → EReal) (z : Fin 16 → EReal) {m : EReal} (hm : ∃ μ : ℝ, m = μ) :
    Ideal.div (∑ k, Ideal.exp2 ((S k : EReal) - m) * v k + ∑ k, Ideal.exp2 ((T k : EReal) - m) * z k)
        (∑ k, Ideal.exp2 ((S k : EReal) - m) + ∑ k, Ideal.exp2 ((T k : EReal) - m))
      = attend2 (fun k => Real.rpow 2 (S k)) (fun k => Real.rpow 2 (T k)) v z := by
  obtain ⟨μ, rfl⟩ := hm
  have eS : ∀ k, Ideal.exp2 ((S k : EReal) - μ) = ((Real.rpow 2 (-μ) : ℝ) : EReal) * ((Real.rpow 2 (S k) : ℝ) : EReal) :=
    fun k => Scored.exp2 (Or.inl ⟨S k, rfl, rfl⟩) μ
  have eT : ∀ k, Ideal.exp2 ((T k : EReal) - μ) = ((Real.rpow 2 (-μ) : ℝ) : EReal) * ((Real.rpow 2 (T k) : ℝ) : EReal) :=
    fun k => Scored.exp2 (Or.inl ⟨T k, rfl, rfl⟩) μ
  have hL : 0 < ∑ k, Real.rpow 2 (S k) + ∑ k, Real.rpow 2 (T k) :=
    add_pos (Finset.sum_pos (fun k _ => two_pos _) ⟨0, Finset.mem_univ _⟩) (Finset.sum_pos (fun k _ => two_pos _) ⟨0, Finset.mem_univ _⟩)
  refine Held.div (m := (μ : EReal)) (Or.inr ⟨μ, rfl, ?_⟩) (Or.inr ⟨μ, rfl, ?_⟩) hL
  · rw [coe_mul_add (two_pos _), coe_mul_sum (two_pos _), coe_mul_sum (two_pos _)]
    simp only [eS, eT, mul_assoc]
  · rw [EReal.coe_add, ← sum_coe, ← sum_coe, coe_mul_add (two_pos _), coe_mul_sum (two_pos _), coe_mul_sum (two_pos _)]
    simp only [eS, eT]

/-- A sum over all 1040 keys is one over the cached ones and one over the new ones. -/
theorem sum_split {M : Type*} [AddCommMonoid M] (f : Fin 1040 → M) :
    ∑ k, f k = ∑ k : Fin 1024, f ⟨k.val, by omega⟩ + ∑ k : Fin 16, f ⟨1024 + k.val, by omega⟩ :=
  Fin.sum_univ_add (a := 1024) (b := 16) f

/-! ### The target -/

/-- One query's attention in one head: its parts without and with rotation, the cached keys' and the new keys' parts, and their values. -/
def sample (qn : Fin 128 → EReal) (qr : Fin 64 → EReal) (kp : Fin 1024 → Fin 128 → EReal) (rp : Fin 1024 → Fin 64 → EReal) (kn : Fin 16 → Fin 128 → EReal)
    (rn : Fin 16 → Fin 64 → EReal) (vp : Fin 1024 → EReal) (vn : Fin 16 → EReal) : EReal :=
  attend2 (fun k => Real.exp (score qn qr (kp k) (rp k) * scale)) (fun k => Real.exp (score qn qr (kn k) (rn k) * scale)) vp vn

/-- Column `j` of the keys and values that cached key `k`'s latent stands for. -/
def kv (C : Fin 1024 → Fin 512 → EReal) (W : Fin 512 → Fin 2048 → EReal) (k : Fin 1024) (j : Fin 2048) : EReal := ∑ e, C k e * W e j

/-- It is real where the latent and the column are. -/
theorem kv_real {C : Fin 1024 → Fin 512 → EReal} {W : Fin 512 → Fin 2048 → EReal} {k : Fin 1024} {j : Fin 2048} (hC : ∀ e, C k e = ((C k e).toReal : EReal))
    (hW : ∀ e, W e j = ((W e j).toReal : EReal)) : kv C W k j = ((kv C W k j).toReal : EReal) := by
  have e : kv C W k j = ((∑ e, (C k e).toReal * (W e j).toReal : ℝ) : EReal) := by
    rw [← sum_coe]
    exact Finset.sum_congr rfl fun e _ => by rw [EReal.coe_mul, ← hC, ← hW]
  rw [e, EReal.toReal_coe]

/-- A score of real entries with a real factor on the query. -/
theorem score_scaled {qn : Fin 128 → EReal} {qr : Fin 64 → EReal} {kn : Fin 128 → EReal} {kr : Fin 64 → EReal} (h0 : ∀ d, qn d = ((qn d).toReal : EReal))
    (h1 : ∀ d, qr d = ((qr d).toReal : EReal)) (h2 : ∀ d, kn d = ((kn d).toReal : EReal)) (h3 : ∀ d, kr d = ((kr d).toReal : EReal)) (κ : ℝ) :
    ∑ d, qn d * κ * kn d + ∑ d, qr d * κ * kr d = ((score qn qr kn kr * κ : ℝ) : EReal) := by
  have e1 : ∑ d, qn d * κ * kn d = ((∑ d, (qn d).toReal * (kn d).toReal * κ : ℝ) : EReal) := by
    rw [← sum_coe]
    exact Finset.sum_congr rfl fun d _ => by rw [EReal.coe_mul, EReal.coe_mul, ← h0, ← h2, mul_right_comm]
  have e2 : ∑ d, qr d * κ * kr d = ((∑ d, (qr d).toReal * (kr d).toReal * κ : ℝ) : EReal) := by
    rw [← sum_coe]
    exact Finset.sum_congr rfl fun d _ => by rw [EReal.coe_mul, EReal.coe_mul, ← h1, ← h3, mul_right_comm]
  rw [e1, e2, ← EReal.coe_add, ← Finset.sum_mul, ← Finset.sum_mul, ← add_mul]
  rfl

end Cert.Mla
-- ==== Proof.MlaSampleBlock.lean ====
/-
  What one point of latent attention over the sample computes: the 16 queries of one stream, for each of the 8 heads, against the stream's
  cached keys and its new ones.
-/
module

public import proofs.«01_k».proof.Proof.Gen.Kernel10Ideal.Value
public import proofs.«01_k».proof.Proof.MlaSampleSpec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel10Ideal.Hand

open Cert.Kernel10Ideal Cert.Kernel10Ideal.Gen Cert.Mla

/-! ### One head, from its columns of the queries, keys and values -/

/-- The scores of the cached keys. -/
def scP (K : FVec Ideal S1024x128 .bf16) (kr : FVec Ideal S1024x64 .bf16) (q : FVec Ideal S16x256 .bf16) : FVec Ideal S16x1024 .f32 :=
  addf (matmul dot_S16x128_S1024x128_S16x1024_1_1_0_0_n_n none (extractStridedSlice S16x128 ![0, 0] q slices_S16x256_o0_0_S16x128) K (constant S16x1024 .f32 0x00000000#32))
    (matmul dot_S16x64_S1024x64_S16x1024_1_1_0_0_n_n none (extractStridedSlice S16x64 ![0, 128] q slices_S16x256_o0_128_S16x64) kr (constant S16x1024 .f32 0x00000000#32))

/-- The weighted values, of the cached keys and of the new ones. -/
def accum (p : FVec Ideal S16x1024 .f32) (V : FVec Ideal S1024x128 .bf16) (u : FVec Ideal S16x16 .f32) (vn : FVec Ideal S16x128 .bf16) : FVec Ideal S16x128 .f32 :=
  addf (matmul dot_S16x1024_S1024x128_S16x128_1_0_0_1_n_n none (truncf .bf16 p bitsLt_bf16_f32) V (constant S16x128 .f32 0x00000000#32))
    (matmul dot_S16x16_S16x128_S16x128_1_0_0_1_n_n none (truncf .bf16 u bitsLt_bf16_f32) (shapeCast S16x128 vn shapeCasts_S16x128_S16x128) (constant S16x128 .f32 0x00000000#32))

/-- What the head stores. -/
def head (K V : FVec Ideal S1024x128 .bf16) (kr : FVec Ideal S1024x64 .bf16) (krn : FVec Ideal S16x128 .bf16) (q : FVec Ideal S16x256 .bf16)
    (kn vn : FVec Ideal S16x128 .bf16) : FVec Ideal S16x128 .bf16 :=
  let s := scP K kr q
  let t := k0_pay25 krn q kn
  let m := k0_pay34 s t
  k0_pay81 (k0_pay63 (k0_pay44 s m) (k0_pay51 t m)) (accum (k0_pay44 s m) V (k0_pay51 t m) vn)

theorem scP_at (K : FVec Ideal S1024x128 .bf16) (kr : FVec Ideal S1024x64 .bf16) (q : FVec Ideal S16x256 .bf16) (r : Fin 16) (k : Fin 1024) :
    scP K kr q (ix2 r k) = ∑ d : Fin 128, q (ix2 r ⟨d.val, by omega⟩) * K (ix2 k d) + ∑ d : Fin 64, q (ix2 r ⟨128 + d.val, by omega⟩) * kr (ix2 k d) := by
  pointwise [scP]

theorem scN_at (krn : FVec Ideal S16x128 .bf16) (q : FVec Ideal S16x256 .bf16) (kn : FVec Ideal S16x128 .bf16) (r c : Fin 16) :
    k0_pay25 krn q kn (ix2 r c) = ∑ d : Fin 256, q (ix2 r d) * (if h : d.val < 128 then kn (ix2 c ⟨d.val, h⟩) else krn (ix2 c ⟨d.val - 128, by omega⟩)) := by
  pointwise [k0_pay25]

theorem neg_inf : Ideal.ofBits .f32 0xFF800000#32 = ⊥ := by simp [Ideal.ofBits, Ideal.ieee]

theorem max_at (s : FVec Ideal S16x1024 .f32) (t : FVec Ideal S16x16 .f32) (r : Fin 16) :
    k0_pay34 s t (ix2 r 0) = max (Finset.univ.fold max ⊥ fun k : Fin 1024 => s (ix2 r k)) (Finset.univ.fold max ⊥ fun k : Fin 16 => t (ix2 r k)) := by
  pointwise [k0_pay34]
  exact congrArg (fun b => max (Finset.fold max b _ _) (Finset.fold max b _ _)) neg_inf

theorem expP_at (s : FVec Ideal S16x1024 .f32) (m : FVec Ideal S16x1 .f32) (r : Fin 16) (k : Fin 1024) :
    k0_pay44 s m (ix2 r k) = Ideal.exp2 (s (ix2 r k) - m (ix2 r 0)) := by
  pointwise [k0_pay44]
  rfl

theorem expN_at (s : FVec Ideal S16x16 .f32) (m : FVec Ideal S16x1 .f32) (r : Fin 16) (k : Fin 16) :
    k0_pay51 s m (ix2 r k) = Ideal.exp2 (s (ix2 r k) - m (ix2 r 0)) := by
  pointwise [k0_pay51]
  rfl

theorem total_at (p : FVec Ideal S16x1024 .f32) (u : FVec Ideal S16x16 .f32) (r : Fin 16) :
    k0_pay63 p u (ix2 r 0) = ∑ k : Fin 1024, p (ix2 r k) + ∑ k : Fin 16, u (ix2 r k) := by
  pointwise [k0_pay63]

theorem accum_at (p : FVec Ideal S16x1024 .f32) (V : FVec Ideal S1024x128 .bf16) (u : FVec Ideal S16x16 .f32) (vn : FVec Ideal S16x128 .bf16) (r : Fin 16) (e : Fin 128) :
    accum p V u vn (ix2 r e) = ∑ k : Fin 1024, p (ix2 r k) * V (ix2 k e) + ∑ k : Fin 16, u (ix2 r k) * vn (ix2 k e) := by
  pointwise [accum]

theorem quot_at (l : FVec Ideal S16x1 .f32) (a : FVec Ideal S16x128 .f32) (r : Fin 16) (e : Fin 128) :
    k0_pay81 l a (ix2 r e) = Ideal.div (a (ix2 r e)) (l (ix2 r 0)) := by
  pointwise [k0_pay81]

/-- A head whose scores are real stores the quotient of its sums. -/
theorem head_at {K V : FVec Ideal S1024x128 .bf16} {kr : FVec Ideal S1024x64 .bf16} {krn : FVec Ideal S16x128 .bf16} {q : FVec Ideal S16x256 .bf16}
    {kn vn : FVec Ideal S16x128 .bf16} (r : Fin 16) (e : Fin 128) {S : Fin 1024 → ℝ} {T : Fin 16 → ℝ}
    (hS : ∀ k, scP K kr q (ix2 r k) = S k) (hT : ∀ k, k0_pay25 krn q kn (ix2 r k) = T k) :
    head K V kr krn q kn vn (ix2 r e)
      = attend2 (fun k => Real.rpow 2 (S k)) (fun k => Real.rpow 2 (T k)) (fun k => V (ix2 k e)) (fun k => vn (ix2 k e)) := by
  have hm : ∃ μ : ℝ, k0_pay34 (scP K kr q) (k0_pay25 krn q kn) (ix2 r 0) = μ := by
    rw [max_at]
    simp only [hS, hT]
    obtain ⟨a, ha⟩ := fold_real (by decide) S
    obtain ⟨b, hb⟩ := fold_real (by decide) T
    exact ⟨max a b, by rw [ha, hb]; exact (EReal.coe_strictMono.monotone.map_max).symm⟩
  unfold head
  simp only [quot_at, accum_at, total_at, expP_at, expN_at, hS, hT]
  exact quot2 S T _ _ hm

/-! ### The block a point stores -/

variable (x0 : Vec Ideal S16x2048 .bf16) (x1 : Vec Ideal S16x1024 .bf16) (x2 : Vec Ideal S16x128 .bf16) (x3 : Vec Ideal S16x1024 .bf16)
  (x4 : Vec Ideal S1x1024x512 .f32) (x5 : Vec Ideal S1x1024x64 .f32) (x6 x7 : Vec Ideal S512x1024 .bf16)

/-- The cached keys, and values, that a point makes of the latents, -/
def kvP (w : Vec Ideal S512x1024 .bf16) (k : Fin 1024) (j : Fin 1024) : EReal :=
  ∑ e : Fin 512, (show FVec Ideal S1x1024x512 .f32 from x4) (ix3 0 k e) * (show FVec Ideal S512x1024 .bf16 from w) (ix2 e j)

/-- and head `g`'s columns of them, -/
def kT (w : Vec Ideal S512x1024 .bf16) (g : Fin 8) : FVec Ideal S1024x128 .bf16 :=
  fun y => kvP x4 w (y 0) ⟨g.val * 128 + (y 1).val, by have := (y 1).isLt; change _ < 128 at this; omega⟩
/-- of the queries -/
def qT (g : Fin 8) : FVec Ideal S16x256 .bf16 := fun y => x0 (ix2 (y 0) ⟨g.val * 256 + (y 1).val, by have := (y 1).isLt; change _ < 256 at this; omega⟩)
/-- and of the new keys or values; -/
def nT (x : Vec Ideal S16x1024 .bf16) (g : Fin 8) : FVec Ideal S16x128 .bf16 :=
  fun y => x (ix2 (y 0) ⟨g.val * 128 + (y 1).val, by have := (y 1).isLt; change _ < 128 at this; omega⟩)
/-- the cached keys' parts with rotation. -/
def rT : FVec Ideal S1024x64 .bf16 := fun y => x5 (ix3 0 (y 0) (y 1))

theorem pay4_at (a : FVec Ideal S1x1024x512 .f32) (b : FVec Ideal S512x1024 .bf16) (k j : Fin 1024) : k0_pay4 (F := Ideal) a b (ix2 k j) = kvP a b k j := by
  unfold kvP
  pointwise [k0_pay4, k0_pay3]

theorem slice_eq (w : Vec Ideal S512x1024 .bf16) (g : Fin 8) (o : ℕ) (ho : o = g.val * 128) (h : S1024x1024.Slices ![0, o] S1024x128) :
    extractStridedSlice S1024x128 ![0, o] (k0_pay4 (F := Ideal) (View.ld x4 r0_0) (View.ld w r0_1)) h = kT x4 w g := by
  subst ho
  have e : k0_pay4 (F := Ideal) (View.ld x4 r0_0) (View.ld w r0_1) = (show FVec Ideal S1024x1024 .bf16 from fun y => kvP x4 w (y 0) (y 1)) := funext fun y => by
    rw [View.ld_unit_lit _ x4 (by decide), View.ld_unit_lit _ w (by decide), show y = ix2 (y 0) (y 1) from (ix2_eta y).symm]
    exact pay4_at x4 w (y 0) (y 1)
  rw [e]
  funext y
  show kvP x4 w _ _ = kvP x4 w _ _
  refine congrArg₂ (kvP x4 w) (Fin.ext ?_) (Fin.ext ?_)
  · exact Nat.zero_add _
  · rfl

theorem ldq_eq (g : Fin 8) (o : ℕ) (ho : o = g.val * 256) (inb) :
    k0_pay8 (F := Ideal) (View.ld x0 (Rect.unit (s := S16x2048) ![0, o] S16x256.size inb)) = qT x0 g := by
  subst ho
  have e : ∀ a : FVec Ideal S16x256 .bf16, k0_pay8 a = a := fun a => funext fun y => by
    rw [show y = ix2 (y 0) (y 1) from (ix2_eta y).symm]
    pointwise [k0_pay8]
  refine (e _).trans (funext fun y => ?_)
  refine View.ld_unit_apply_of x0 _ _ _ _ _ fun a => ?_
  match a with
  | ⟨0, _⟩ => exact (Nat.zero_add _).symm
  | ⟨1, _⟩ => rfl

theorem ldn_eq (x : Vec Ideal S16x1024 .bf16) (g : Fin 8) (o : ℕ) (ho : o = g.val * 128) (inb) :
    View.ld x (Rect.unit (s := S16x1024) ![0, o] S16x128.size inb) = nT x g := by
  subst ho
  funext y
  refine View.ld_unit_apply_of x _ _ _ _ _ fun a => ?_
  match a with
  | ⟨0, _⟩ => exact (Nat.zero_add _).symm
  | ⟨1, _⟩ => rfl

theorem pay6_eq : k0_pay6 (F := Ideal) (View.ld x5 r0_2) = rT x5 := by
  rw [View.ld_unit_lit _ x5 (by decide)]
  have e : ∀ (a : FVec Ideal S1x1024x64 .f32) (k : Fin 1024) (d : Fin 64), k0_pay6 (F := Ideal) a (ix2 k d) = a (ix3 0 k d) := by
    intro a k d
    pointwise [k0_pay6]
  funext y
  rw [show y = ix2 (y 0) (y 1) from (ix2_eta y).symm]
  exact e x5 (y 0) (y 1)

theorem pay7_eq : k0_pay7 (F := Ideal) (View.ld x2 r0_3) = x2 := by
  rw [View.ld_unit_lit _ x2 (by decide)]
  have e : ∀ (a : FVec Ideal S16x128 .bf16) (k : Fin 16) (d : Fin 128), k0_pay7 a (ix2 k d) = a (ix2 k d) := by
    intro a k d
    pointwise [k0_pay7]
  funext y
  rw [show y = ix2 (y 0) (y 1) from (ix2_eta y).symm]
  exact e x2 (y 0) (y 1)

/-- What head `g` of a point stores. -/
def hd (g : Fin 8) : FVec Ideal S16x128 .bf16 := head (kT x4 x6 g) (kT x4 x7 g) (rT x5) x2 (qT x0 g) (nT x1 g) (nT x3 g)

theorem head_eq (g : Fin 8) {o o' : ℕ} (ho : o = g.val * 128) (ho' : o' = g.val * 256) (h : S1024x1024.Slices ![0, o] S1024x128) (inb inb') :
    head (extractStridedSlice S1024x128 ![0, o] (k0_pay4 (F := Ideal) (View.ld x4 r0_0) (View.ld x6 r0_1)) h)
      (extractStridedSlice S1024x128 ![0, o] (k0_pay4 (F := Ideal) (View.ld x4 r0_0) (View.ld x7 r0_1)) h)
      (k0_pay6 (F := Ideal) (View.ld x5 r0_2)) (k0_pay7 (F := Ideal) (View.ld x2 r0_3))
      (k0_pay8 (F := Ideal) (View.ld x0 (Rect.unit (s := S16x2048) ![0, o'] S16x256.size inb)))
      (View.ld x1 (Rect.unit (s := S16x1024) ![0, o] S16x128.size inb')) (View.ld x3 (Rect.unit (s := S16x1024) ![0, o] S16x128.size inb'))
      = hd x0 x1 x2 x3 x4 x5 x6 x7 g := by
  rw [slice_eq x4 x6 g o ho, slice_eq x4 x7 g o ho, ldq_eq x0 g o' ho', ldn_eq x1 g o ho, ldn_eq x3 g o ho, pay6_eq, pay7_eq]
  rfl

/-- A head's columns in the block. -/
theorem pick (f : Fin 8 → FVec Ideal S16x128 .bf16) (y : S16x1024.Idx) (x : S16x128.Idx) (g : Fin 8) (h0 : (y 0).val = (x 0).val)
    (h1 : (y 1).val = g.val * 128 + (x 1).val) (a : FVec Ideal S16x128 .bf16) (u : a = f g) :
    a x = f ⟨(y 1).val / 128, by have := (y 1).isLt; change _ < 1024 at this; omega⟩ (ix2 (y 0) ⟨(y 1).val % 128, Nat.mod_lt _ (by decide)⟩) := by
  have hx : (x 1).val < 128 := (x 1).isLt
  have k : ∀ (g' : Fin 8) (r' : Fin 16) (e' : Fin 128), g = g' → (x 0).val = r'.val → (x 1).val = e'.val → f g x = f g' (ix2 r' e') := by
    intro g' r' e' hg hr he
    obtain rfl := hg
    refine congrArg (f g) ((ix2_eta x).symm.trans ((ix2_inj ..).2 ⟨Fin.ext hr, Fin.ext he⟩))
  exact (congrFun u x).trans (k _ _ _ (Fin.ext (by simp only; omega)) h0.symm (by simp only; omega))

/-- The block a point stores: head by head. -/
theorem out_at : out0_8 (F := Ideal) x0 x1 x2 x3 x4 x5 x6 x7
    = fun y : S16x1024.Idx => hd x0 x1 x2 x3 x4 x5 x6 x7 ⟨(y 1).val / 128, by have := (y 1).isLt; change _ < 1024 at this; omega⟩
        (ix2 (y 0) ⟨(y 1).val % 128, Nat.mod_lt _ (by decide)⟩) := by
  unfold out0_8
  funext y
  canon_tiles x h
  · exact pick (hd x0 x1 x2 x3 x4 x5 x6 x7) y x 7 h0 h1 _ (head_eq x0 x1 x2 x3 x4 x5 x6 x7 7 rfl rfl slices_S1024x1024_o0_896_S1024x128 _ _)
  · exact pick (hd x0 x1 x2 x3 x4 x5 x6 x7) y x 6 h0 h1 _ (head_eq x0 x1 x2 x3 x4 x5 x6 x7 6 rfl rfl slices_S1024x1024_o0_768_S1024x128 _ _)
  · exact pick (hd x0 x1 x2 x3 x4 x5 x6 x7) y x 5 h0 h1 _ (head_eq x0 x1 x2 x3 x4 x5 x6 x7 5 rfl rfl slices_S1024x1024_o0_640_S1024x128 _ _)
  · exact pick (hd x0 x1 x2 x3 x4 x5 x6 x7) y x 4 h0 h1 _ (head_eq x0 x1 x2 x3 x4 x5 x6 x7 4 rfl rfl slices_S1024x1024_o0_512_S1024x128 _ _)
  · exact pick (hd x0 x1 x2 x3 x4 x5 x6 x7) y x 3 h0 h1 _ (head_eq x0 x1 x2 x3 x4 x5 x6 x7 3 rfl rfl slices_S1024x1024_o0_384_S1024x128 _ _)
  · exact pick (hd x0 x1 x2 x3 x4 x5 x6 x7) y x 2 h0 h1 _ (head_eq x0 x1 x2 x3 x4 x5 x6 x7 2 rfl rfl slices_S1024x1024_o0_256_S1024x128 _ _)
  · exact pick (hd x0 x1 x2 x3 x4 x5 x6 x7) y x 1 h0 (by rw [h1]; rfl) _ (head_eq x0 x1 x2 x3 x4 x5 x6 x7 1 rfl rfl slices_S1024x1024_o0_128_S1024x128 _ _)
  · exact pick (hd x0 x1 x2 x3 x4 x5 x6 x7) y x 0 h0 (by rw [h1]; simp) _ (head_eq x0 x1 x2 x3 x4 x5 x6 x7 0 rfl rfl slices_S1024x1024_o0_0_S1024x128 _ _)

end Cert.Kernel10Ideal.Hand
-- ==== Proof.MlaSample.lean ====
/-
  Latent attention over the sample: the arrays the kernel is given, and its result array after the run.
-/
module

public import proofs.«01_k».proof.Proof.MlaSampleBlock
public import proofs.«01_k».proof.Proof.MlaPrompt

@[expose] public section

set_option maxRecDepth 16384

noncomputable section

open Idealize.ShloMosaic Idealize.ShloMosaic.TcCoe Idealize.SL.Sem
open Idealize.ShloMosaic.Pipeline (Dat)

namespace Cert.Kernel10Ideal.Hand

open Cert.Kernel10Ideal Cert.Kernel10Ideal.Gen Cert.Mla

open Cert.Kernel9Ideal.Hand (kappa kappa_eq)

variable (m : (ℓ : Loc nD τ sig) → Buf (Elt Ideal) ℓ)

/-! ### The arguments and what the call stages of them -/

/-- The argument arrays, as functions of stream, position, head and channel: the queries' parts without -/
def Qn (c : Dev nD) (b p : Fin 16) (h : Fin 8) (d : Fin 128) : EReal := (show FVec Ideal S16x16x8x128 .f32 from m ((c : Thread nD τ).loc main_arg0)) (ix4 b p h d)
/-- and with rotation, -/
def Qr (c : Dev nD) (b p : Fin 16) (h : Fin 8) (d : Fin 64) : EReal := (show FVec Ideal S16x16x8x64 .f32 from m ((c : Thread nD τ).loc main_arg1)) (ix4 b p h d)
/-- the new keys' parts without -/
def Kn (c : Dev nD) (b p : Fin 16) (h : Fin 8) (d : Fin 128) : EReal := (show FVec Ideal S16x16x8x128 .f32 from m ((c : Thread nD τ).loc main_arg2)) (ix4 b p h d)
/-- and with rotation, -/
def Kr (c : Dev nD) (b p : Fin 16) (d : Fin 64) : EReal := (show FVec Ideal S16x16x64 .f32 from m ((c : Thread nD τ).loc main_arg3)) (ix3 b p d)
/-- the new values, -/
def Vv (c : Dev nD) (b p : Fin 16) (h : Fin 8) (d : Fin 128) : EReal := (show FVec Ideal S16x16x8x128 .f32 from m ((c : Thread nD τ).loc main_arg4)) (ix4 b p h d)
/-- the cached latents -/
def Cl (c : Dev nD) (b : Fin 16) (k : Fin 1024) (e : Fin 512) : EReal := (show FVec Ideal S1x16x1024x512 .f32 from m ((c : Thread nD τ).loc main_arg5)) (ix4 0 b k e)
/-- and keys' parts with rotation, -/
def Cr (c : Dev nD) (b : Fin 16) (k : Fin 1024) (d : Fin 64) : EReal := (show FVec Ideal S1x16x1024x64 .f32 from m ((c : Thread nD τ).loc main_arg6)) (ix4 0 b k d)
/-- and the weights that make keys and values of latents. -/
def Wt (c : Dev nD) (e : Fin 512) (j : Fin 2048) : EReal := (show FVec Ideal S1x512x2048 .f32 from m ((c : Thread nD τ).loc main_arg7)) (ix3 0 e j)

/-- A row's stream and position. -/
def st (R : Fin 256) : Fin 16 := ⟨R.val / 16, by omega⟩
def ps (R : Fin 256) : Fin 16 := ⟨R.val % 16, Nat.mod_lt _ (by decide)⟩

set_option maxHeartbeats 2000000 in
theorem entry26 (c : Dev nD) : (show FVec Ideal S256x2048 .bf16 from V m c main_v26)
    = truncf .bf16 (shapeCast S256x2048 (mulf (concatenate S16x16x8x256 3 [⟨S16x16x8x128, (show FVec Ideal S16x16x8x128 .f32 from m ((c : Thread nD τ).loc main_arg0))⟩,
        ⟨S16x16x8x64, (show FVec Ideal S16x16x8x64 .f32 from m ((c : Thread nD τ).loc main_arg1))⟩,
        ⟨S16x16x8x64, broadcastInDim S16x16x8x64 ![] bcast_S_S16x16x8x64 (constant S_ .f32 0x00000000#32)⟩] concatenates_S16x16x8x128_S16x16x8x64_S16x16x8x64_S16x16x8x256_d3)
      (broadcastInDim S16x16x8x256 ![] bcast_S_S16x16x8x256 (Host.divf (constant S_ .f32 0x3D93CD3A#32) (Host.log (constant S_ .f32 0x40000000#32)))))
      shapeCasts_S16x16x8x256_S256x2048) bitsLt_bf16_f32 := by
  unfold V
  simp only [hostOps0, hostOps0_1, hostOps0_2, List.flatten_cons, List.flatten_nil, List.cons_append, List.nil_append, List.append_nil, StableHlo.after_cons, StableHlo.after_nil]
  after_results_steps
  have e0 : ∀ X : Valuation τ sig (Elt Ideal), (fun k => X (Proc.tc.devRef ((![main_arg0, main_arg1, main_v17] : Fin 3 → Ref sig .tc) k))) 0 = X (Proc.tc.devRef main_arg0) := fun X => rfl
  have e1 : ∀ X : Valuation τ sig (Elt Ideal), (fun k => X (Proc.tc.devRef ((![main_arg0, main_arg1, main_v17] : Fin 3 → Ref sig .tc) k))) 1 = X (Proc.tc.devRef main_arg1) := fun X => rfl
  have e2 : ∀ X : Valuation τ sig (Elt Ideal), (fun k => X (Proc.tc.devRef ((![main_arg0, main_arg1, main_v17] : Fin 3 → Ref sig .tc) k))) 2 = X (Proc.tc.devRef main_v17) := fun X => rfl
  rw [e0, e1, e2]
  after_results_steps
  rfl

theorem entry28 (c : Dev nD) : (show FVec Ideal S256x1024 .bf16 from V m c main_v28)
    = truncf .bf16 (shapeCast S256x1024 (show FVec Ideal S16x16x8x128 .f32 from m ((c : Thread nD τ).loc main_arg2)) shapeCasts_S16x16x8x128_S256x1024) bitsLt_bf16_f32 := by
  unfold V
  entry_read
  rfl

theorem entry30 (c : Dev nD) : (show FVec Ideal S256x128 .bf16 from V m c main_v30)
    = truncf .bf16 (shapeCast S256x128 (concatenate S16x16x128 2 [⟨S16x16x64, (show FVec Ideal S16x16x64 .f32 from m ((c : Thread nD τ).loc main_arg3))⟩,
        ⟨S16x16x64, broadcastInDim S16x16x64 ![] bcast_S_S16x16x64 (constant S_ .f32 0x00000000#32)⟩] concatenates_S16x16x64_S16x16x64_S16x16x128_d2)
      shapeCasts_S16x16x128_S256x128) bitsLt_bf16_f32 := by
  unfold V
  entry_read
  rfl

theorem entry32 (c : Dev nD) : (show FVec Ideal S256x1024 .bf16 from V m c main_v32)
    = truncf .bf16 (shapeCast S256x1024 (show FVec Ideal S16x16x8x128 .f32 from m ((c : Thread nD τ).loc main_arg4)) shapeCasts_S16x16x8x128_S256x1024) bitsLt_bf16_f32 := by
  unfold V
  entry_read
  rfl

theorem entry33 (c : Dev nD) : (show FVec Ideal S16x1024x512 .f32 from V m c main_v33)
    = shapeCast S16x1024x512 (show FVec Ideal S1x16x1024x512 .f32 from m ((c : Thread nD τ).loc main_arg5)) shapeCasts_S1x16x1024x512_S16x1024x512 := by
  unfold V
  entry_read
  rfl

theorem entry34 (c : Dev nD) : (show FVec Ideal S16x1024x64 .f32 from V m c main_v34)
    = shapeCast S16x1024x64 (show FVec Ideal S1x16x1024x64 .f32 from m ((c : Thread nD τ).loc main_arg6)) shapeCasts_S1x16x1024x64_S16x1024x64 := by
  unfold V
  entry_read
  rfl

theorem entry14 (c : Dev nD) : (show FVec Ideal S512x1024 .bf16 from V m c main_v14)
    = shapeCast S512x1024 (extractStridedSlice S512x8x128 ![0, 0, 0] (shapeCast S512x8x256 (truncf .bf16
        (shapeCast S512x2048 (show FVec Ideal S1x512x2048 .f32 from m ((c : Thread nD τ).loc main_arg7)) shapeCasts_S1x512x2048_S512x2048) bitsLt_bf16_f32)
        shapeCasts_S512x2048_S512x8x256) slices_S512x8x256_S512x8x128_0_0_0) shapeCasts_S512x8x128_S512x1024 := by
  unfold V
  entry_read
  rfl

theorem entry16 (c : Dev nD) : (show FVec Ideal S512x1024 .bf16 from V m c main_v16)
    = shapeCast S512x1024 (extractStridedSlice S512x8x128 ![0, 0, 128] (shapeCast S512x8x256 (truncf .bf16
        (shapeCast S512x2048 (show FVec Ideal S1x512x2048 .f32 from m ((c : Thread nD τ).loc main_arg7)) shapeCasts_S1x512x2048_S512x2048) bitsLt_bf16_f32)
        shapeCasts_S512x2048_S512x8x256) slices_S512x8x256_S512x8x128_0_0_128) shapeCasts_S512x8x128_S512x1024 := by
  unfold V
  entry_read
  rfl

/-- The queries, beside zeros and scaled; -/
theorem v26_at (c : Dev nD) (R : Fin 256) (h : Fin 8) (d : Fin 256) :
    (show FVec Ideal S256x2048 .bf16 from V m c main_v26) (ix2 R ⟨h.val * 256 + d.val, by omega⟩)
      = (if u : d.val < 128 then Qn m c (st R) (ps R) h ⟨d.val, u⟩ else if w : d.val - 128 < 64 then Qr m c (st R) (ps R) h ⟨d.val - 128, w⟩ else 0) * kappa := by
  have e1 : (h.val * 256 + d.val) / 256 = h.val := by omega
  have e2 : (h.val * 256 + d.val) % 256 = d.val := by omega
  rw [entry26]
  unfold kappa Qn Qr st ps
  pointwise

/-- the new keys' parts without -/
theorem v28_at (c : Dev nD) (R : Fin 256) (h : Fin 8) (d : Fin 128) :
    (show FVec Ideal S256x1024 .bf16 from V m c main_v28) (ix2 R ⟨h.val * 128 + d.val, by omega⟩) = Kn m c (st R) (ps R) h d := by
  have e1 : (h.val * 128 + d.val) / 128 = h.val := by omega
  have e2 : (h.val * 128 + d.val) % 128 = d.val := by omega
  rw [entry28]
  unfold Kn st ps
  pointwise

/-- and with rotation, -/
theorem v30_at (c : Dev nD) (R : Fin 256) (d : Fin 128) :
    (show FVec Ideal S256x128 .bf16 from V m c main_v30) (ix2 R d) = if u : d.val < 64 then Kr m c (st R) (ps R) ⟨d.val, u⟩ else 0 := by
  rw [entry30]
  unfold Kr st ps
  pointwise

/-- the new values, -/
theorem v32_at (c : Dev nD) (R : Fin 256) (h : Fin 8) (d : Fin 128) :
    (show FVec Ideal S256x1024 .bf16 from V m c main_v32) (ix2 R ⟨h.val * 128 + d.val, by omega⟩) = Vv m c (st R) (ps R) h d := by
  have e1 : (h.val * 128 + d.val) / 128 = h.val := by omega
  have e2 : (h.val * 128 + d.val) % 128 = d.val := by omega
  rw [entry32]
  unfold Vv st ps
  pointwise

/-- the cached latents -/
theorem v33_at (c : Dev nD) (b : Fin 16) (k : Fin 1024) (e : Fin 512) : (show FVec Ideal S16x1024x512 .f32 from V m c main_v33) (ix3 b k e) = Cl m c b k e := by
  rw [entry33]
  unfold Cl
  pointwise

/-- and keys' parts with rotation, -/
theorem v34_at (c : Dev nD) (b : Fin 16) (k : Fin 1024) (d : Fin 64) : (show FVec Ideal S16x1024x64 .f32 from V m c main_v34) (ix3 b k d) = Cr m c b k d := by
  rw [entry34]
  unfold Cr
  pointwise

/-- the weights of the keys -/
theorem v14_at (c : Dev nD) (e : Fin 512) (h : Fin 8) (d : Fin 128) :
    (show FVec Ideal S512x1024 .bf16 from V m c main_v14) (ix2 e ⟨h.val * 128 + d.val, by omega⟩) = Wt m c e ⟨h.val * 256 + d.val, by omega⟩ := by
  have e1 : (h.val * 128 + d.val) / 128 = h.val := by omega
  have e2 : (h.val * 128 + d.val) % 128 = d.val := by omega
  rw [entry14]
  unfold Wt
  pointwise

/-- and of the values. -/
theorem v16_at (c : Dev nD) (e : Fin 512) (h : Fin 8) (d : Fin 128) :
    (show FVec Ideal S512x1024 .bf16 from V m c main_v16) (ix2 e ⟨h.val * 128 + d.val, by omega⟩) = Wt m c e ⟨h.val * 256 + (128 + d.val), by omega⟩ := by
  have e1 : (h.val * 128 + d.val) / 128 = h.val := by omega
  have e2 : (h.val * 128 + d.val) % 128 = d.val := by omega
  rw [entry16]
  unfold Wt
  pointwise

/-! ### The blocks a point reads -/

theorem t_lt (t : Fin cfg0.N) : t.val < 16 := lt_of_lt_of_eq t.isLt (show cfg0.N = 16 from N_0)

/-- A point's stream, -/
def sm (t : Fin cfg0.N) : Fin 16 := ⟨t.val, t_lt t⟩
/-- and its rows. -/
def rw' (t : Fin cfg0.N) (r : Fin 16) : Fin 256 := ⟨t.val * 16 + r.val, by have := t_lt t; omega⟩

theorem st_rw (t : Fin cfg0.N) (r : Fin 16) : st (rw' t r) = sm t := Fin.ext (by simp only [st, rw', sm]; omega)
theorem ps_rw (t : Fin cfg0.N) (r : Fin 16) : ps (rw' t r) = r := Fin.ext (by simp only [ps, rw']; omega)

theorem idx : ∀ t : Fin cfg0.N, (win0_0.index t = ![t.val, 0] ∧ win0_1.index t = ![t.val, 0] ∧ win0_2.index t = ![t.val, 0] ∧ win0_3.index t = ![t.val, 0])
    ∧ (win0_4.index t = ![t.val, 0, 0] ∧ win0_5.index t = ![t.val, 0, 0]) ∧ (win0_6.index t = ![0, 0] ∧ win0_7.index t = ![0, 0]) ∧ win0_8.index t = ![t.val, 0] :=
  (by decide +kernel : ∀ t : Fin grid0.N, _)

theorem emb0 (t : Fin cfg0.N) (y : S16x2048.Idx) (a : Fin 2) : (((win0_0.blk t).view.emb y) a : ℕ) = win0_0.index t a * win0_0.size a + (y a : ℕ) :=
  ValueKit.view_emb_slice_whole_unit_val main_v26 _ _ _ y a
theorem emb1 (t : Fin cfg0.N) (y : S16x1024.Idx) (a : Fin 2) : (((win0_1.blk t).view.emb y) a : ℕ) = win0_1.index t a * win0_1.size a + (y a : ℕ) :=
  ValueKit.view_emb_slice_whole_unit_val main_v28 _ _ _ y a
theorem emb2 (t : Fin cfg0.N) (y : S16x128.Idx) (a : Fin 2) : (((win0_2.blk t).view.emb y) a : ℕ) = win0_2.index t a * win0_2.size a + (y a : ℕ) :=
  ValueKit.view_emb_slice_whole_unit_val main_v30 _ _ _ y a
theorem emb3 (t : Fin cfg0.N) (y : S16x1024.Idx) (a : Fin 2) : (((win0_3.blk t).view.emb y) a : ℕ) = win0_3.index t a * win0_3.size a + (y a : ℕ) :=
  ValueKit.view_emb_slice_whole_unit_val main_v32 _ _ _ y a
theorem emb4 (t : Fin cfg0.N) (y : S1x1024x512.Idx) (a : Fin 3) : (((win0_4.blk t).view.emb y) a : ℕ) = win0_4.index t a * win0_4.size a + (y a : ℕ) :=
  ValueKit.view_emb_slice_whole_unit_val main_v33 _ _ _ y a
theorem emb5 (t : Fin cfg0.N) (y : S1x1024x64.Idx) (a : Fin 3) : (((win0_5.blk t).view.emb y) a : ℕ) = win0_5.index t a * win0_5.size a + (y a : ℕ) :=
  ValueKit.view_emb_slice_whole_unit_val main_v34 _ _ _ y a
theorem emb6 (t : Fin cfg0.N) (y : S512x1024.Idx) (a : Fin 2) : (((win0_6.blk t).view.emb y) a : ℕ) = win0_6.index t a * win0_6.size a + (y a : ℕ) :=
  ValueKit.view_emb_slice_whole_unit_val main_v14 _ _ _ y a
theorem emb7 (t : Fin cfg0.N) (y : S512x1024.Idx) (a : Fin 2) : (((win0_7.blk t).view.emb y) a : ℕ) = win0_7.index t a * win0_7.size a + (y a : ℕ) :=
  ValueKit.view_emb_slice_whole_unit_val main_v16 _ _ _ y a

theorem blk0 (c : Dev nD) (t : Fin cfg0.N) (r : Fin 16) (g : Fin 8) (d : Fin 256) :
    (show FVec Ideal S16x2048 .bf16 from iblk m c 0 t) (ix2 r ⟨g.val * 256 + d.val, by omega⟩)
      = (if u : d.val < 128 then Qn m c (sm t) r g ⟨d.val, u⟩ else if w : d.val - 128 < 64 then Qr m c (sm t) r g ⟨d.val - 128, w⟩ else 0) * kappa := by
  have h := v26_at m c (rw' t r) g d
  rw [st_rw, ps_rw] at h
  refine Eq.trans (congrArg (V m c main_v26) ((ix2_eta _).symm.trans ((ix2_inj ..).2 ⟨Fin.ext ?_, Fin.ext ?_⟩))) h
  · exact (emb0 t (ix2 r ⟨g.val * 256 + d.val, by omega⟩) 0).trans (by simp [(idx t).1.1, rw'])
  · exact (emb0 t (ix2 r ⟨g.val * 256 + d.val, by omega⟩) 1).trans (by simp [(idx t).1.1])

theorem blk1 (c : Dev nD) (t : Fin cfg0.N) (r : Fin 16) (g : Fin 8) (d : Fin 128) :
    (show FVec Ideal S16x1024 .bf16 from iblk m c 1 t) (ix2 r ⟨g.val * 128 + d.val, by omega⟩) = Kn m c (sm t) r g d := by
  have h := v28_at m c (rw' t r) g d
  rw [st_rw, ps_rw] at h
  refine Eq.trans (congrArg (V m c main_v28) ((ix2_eta _).symm.trans ((ix2_inj ..).2 ⟨Fin.ext ?_, Fin.ext ?_⟩))) h
  · exact (emb1 t (ix2 r ⟨g.val * 128 + d.val, by omega⟩) 0).trans (by simp [(idx t).1.2.1, rw'])
  · exact (emb1 t (ix2 r ⟨g.val * 128 + d.val, by omega⟩) 1).trans (by simp [(idx t).1.2.1])

theorem blk2 (c : Dev nD) (t : Fin cfg0.N) (r : Fin 16) (d : Fin 128) :
    (show FVec Ideal S16x128 .bf16 from iblk m c 2 t) (ix2 r d) = if u : d.val < 64 then Kr m c (sm t) r ⟨d.val, u⟩ else 0 := by
  have h := v30_at m c (rw' t r) d
  rw [st_rw, ps_rw] at h
  refine Eq.trans (congrArg (V m c main_v30) ((ix2_eta _).symm.trans ((ix2_inj ..).2 ⟨Fin.ext ?_, Fin.ext ?_⟩))) h
  · exact (emb2 t (ix2 r d) 0).trans (by simp [(idx t).1.2.2.1, rw'])
  · exact (emb2 t (ix2 r d) 1).trans (by simp [(idx t).1.2.2.1])

theorem blk3 (c : Dev nD) (t : Fin cfg0.N) (r : Fin 16) (g : Fin 8) (d : Fin 128) :
    (show FVec Ideal S16x1024 .bf16 from iblk m c 3 t) (ix2 r ⟨g.val * 128 + d.val, by omega⟩) = Vv m c (sm t) r g d := by
  have h := v32_at m c (rw' t r) g d
  rw [st_rw, ps_rw] at h
  refine Eq.trans (congrArg (V m c main_v32) ((ix2_eta _).symm.trans ((ix2_inj ..).2 ⟨Fin.ext ?_, Fin.ext ?_⟩))) h
  · exact (emb3 t (ix2 r ⟨g.val * 128 + d.val, by omega⟩) 0).trans (by simp [(idx t).1.2.2.2, rw'])
  · exact (emb3 t (ix2 r ⟨g.val * 128 + d.val, by omega⟩) 1).trans (by simp [(idx t).1.2.2.2])

theorem blk4 (c : Dev nD) (t : Fin cfg0.N) (k : Fin 1024) (e : Fin 512) : (show FVec Ideal S1x1024x512 .f32 from iblk m c 4 t) (ix3 0 k e) = Cl m c (sm t) k e := by
  refine Eq.trans (congrArg (V m c main_v33) (funext fun a => Fin.ext ?_)) (v33_at m c (sm t) k e)
  refine (emb4 t (ix3 0 k e) a).trans ?_
  rw [(idx t).2.1.1]
  match a with
  | ⟨0, _⟩ => simp [sm]
  | ⟨1, _⟩ => simp
  | ⟨2, _⟩ => simp

theorem blk5 (c : Dev nD) (t : Fin cfg0.N) (k : Fin 1024) (d : Fin 64) : (show FVec Ideal S1x1024x64 .f32 from iblk m c 5 t) (ix3 0 k d) = Cr m c (sm t) k d := by
  refine Eq.trans (congrArg (V m c main_v34) (funext fun a => Fin.ext ?_)) (v34_at m c (sm t) k d)
  refine (emb5 t (ix3 0 k d) a).trans ?_
  rw [(idx t).2.1.2]
  match a with
  | ⟨0, _⟩ => simp [sm]
  | ⟨1, _⟩ => simp
  | ⟨2, _⟩ => simp

theorem blk6 (c : Dev nD) (t : Fin cfg0.N) (e : Fin 512) (g : Fin 8) (d : Fin 128) :
    (show FVec Ideal S512x1024 .bf16 from iblk m c 6 t) (ix2 e ⟨g.val * 128 + d.val, by omega⟩) = Wt m c e ⟨g.val * 256 + d.val, by omega⟩ := by
  refine Eq.trans (congrArg (V m c main_v14) ((ix2_eta _).symm.trans ((ix2_inj ..).2 ⟨Fin.ext ?_, Fin.ext ?_⟩))) (v14_at m c e g d)
  · exact (emb6 t (ix2 e ⟨g.val * 128 + d.val, by omega⟩) 0).trans (by simp [(idx t).2.2.1.1])
  · exact (emb6 t (ix2 e ⟨g.val * 128 + d.val, by omega⟩) 1).trans (by simp [(idx t).2.2.1.1])

theorem blk7 (c : Dev nD) (t : Fin cfg0.N) (e : Fin 512) (g : Fin 8) (d : Fin 128) :
    (show FVec Ideal S512x1024 .bf16 from iblk m c 7 t) (ix2 e ⟨g.val * 128 + d.val, by omega⟩) = Wt m c e ⟨g.val * 256 + (128 + d.val), by omega⟩ := by
  refine Eq.trans (congrArg (V m c main_v16) ((ix2_eta _).symm.trans ((ix2_inj ..).2 ⟨Fin.ext ?_, Fin.ext ?_⟩))) (v16_at m c e g d)
  · exact (emb7 t (ix2 e ⟨g.val * 128 + d.val, by omega⟩) 0).trans (by simp [(idx t).2.2.1.2])
  · exact (emb7 t (ix2 e ⟨g.val * 128 + d.val, by omega⟩) 1).trans (by simp [(idx t).2.2.1.2])

/-! ### Scores -/

/-- The arguments' scores are real: the queries' entries are, the keys', the cached latents' and those of the weights that make keys of them. -/
def Finite (c : Dev nD) : Prop :=
  (∀ b p h d, Qn m c b p h d = ((Qn m c b p h d).toReal : EReal)) ∧ (∀ b p h d, Qr m c b p h d = ((Qr m c b p h d).toReal : EReal))
    ∧ (∀ b p h d, Kn m c b p h d = ((Kn m c b p h d).toReal : EReal)) ∧ (∀ b p d, Kr m c b p d = ((Kr m c b p d).toReal : EReal))
    ∧ (∀ b k e, Cl m c b k e = ((Cl m c b k e).toReal : EReal)) ∧ (∀ b k d, Cr m c b k d = ((Cr m c b k d).toReal : EReal))
    ∧ ∀ (e : Fin 512) (h : Fin 8) (d : Fin 128), Wt m c e ⟨h.val * 256 + d.val, by omega⟩ = ((Wt m c e ⟨h.val * 256 + d.val, by omega⟩).toReal : EReal)

/-- Head `h`'s cached keys, -/
def Kp (c : Dev nD) (b : Fin 16) (h : Fin 8) (k : Fin 1024) (d : Fin 128) : EReal := kv (Cl m c b) (Wt m c) k ⟨h.val * 256 + d.val, by omega⟩
/-- and values. -/
def Vp (c : Dev nD) (b : Fin 16) (h : Fin 8) (k : Fin 1024) (d : Fin 128) : EReal := kv (Cl m c b) (Wt m c) k ⟨h.val * 256 + (128 + d.val), by omega⟩

theorem kT6 (c : Dev nD) (t : Fin cfg0.N) (g : Fin 8) (k : Fin 1024) (d : Fin 128) : kT (iblk m c 4 t) (iblk m c 6 t) g (ix2 k d) = Kp m c (sm t) g k d :=
  (show kvP (iblk m c 4 t) (iblk m c 6 t) k ⟨g.val * 128 + d.val, by omega⟩ = _ from Finset.sum_congr rfl fun e _ => congrArg₂ (· * ·) (blk4 m c t k e) (blk6 m c t e g d))
theorem kT7 (c : Dev nD) (t : Fin cfg0.N) (g : Fin 8) (k : Fin 1024) (d : Fin 128) : kT (iblk m c 4 t) (iblk m c 7 t) g (ix2 k d) = Vp m c (sm t) g k d :=
  (show kvP (iblk m c 4 t) (iblk m c 7 t) k ⟨g.val * 128 + d.val, by omega⟩ = _ from Finset.sum_congr rfl fun e _ => congrArg₂ (· * ·) (blk4 m c t k e) (blk7 m c t e g d))

/-- The kernel's scores of the cached keys are the arguments' scores, scaled, -/
theorem scP_eq (c : Dev nD) (hf : Finite m c) (t : Fin cfg0.N) (g : Fin 8) (r : Fin 16) (k : Fin 1024) :
    scP (kT (iblk m c 4 t) (iblk m c 6 t) g) (rT (iblk m c 5 t)) (qT (iblk m c 0 t) g) (ix2 r k)
      = ((score (Qn m c (sm t) r g) (Qr m c (sm t) r g) (Kp m c (sm t) g k) (Cr m c (sm t) k) * (scale * (1 / Real.log 2)) : ℝ) : EReal) := by
  obtain ⟨f0, f1, f2, f3, f4, f5, f6⟩ := hf
  have hK : ∀ d, Kp m c (sm t) g k d = ((Kp m c (sm t) g k d).toReal : EReal) := fun d => kv_real (f4 _ _) (fun e => f6 e g d)
  rw [scP_at, ← score_scaled (f0 _ _ _) (f1 _ _ _) hK (f5 _ _)]
  refine congrArg₂ (· + ·) (Finset.sum_congr rfl fun d _ => ?_) (Finset.sum_congr rfl fun d _ => ?_)
  · refine congrArg₂ (· * ·) ((blk0 m c t r g ⟨d.val, by omega⟩).trans ?_) (kT6 m c t g k d)
    rw [dif_pos d.isLt, kappa_eq]
  · refine congrArg₂ (· * ·) ((blk0 m c t r g ⟨128 + d.val, by omega⟩).trans ?_) (blk5 m c t k d)
    have h1 : ¬ 128 + d.val < 128 := by omega
    have h2 : 128 + d.val - 128 < 64 := by omega
    rw [dif_neg h1, dif_pos h2, kappa_eq]
    exact congrArg (fun x => Qr m c (sm t) r g x * _) (Fin.ext (by simp))

/-- and so are those of the new ones. -/
theorem scN_eq (c : Dev nD) (hf : Finite m c) (t : Fin cfg0.N) (g : Fin 8) (r k : Fin 16) :
    k0_pay25 (F := Ideal) (iblk m c 2 t) (qT (iblk m c 0 t) g) (nT (iblk m c 1 t) g) (ix2 r k)
      = ((score (Qn m c (sm t) r g) (Qr m c (sm t) r g) (Kn m c (sm t) k g) (Kr m c (sm t) k) * (scale * (1 / Real.log 2)) : ℝ) : EReal) := by
  obtain ⟨f0, f1, f2, f3, f4, f5, f6⟩ := hf
  refine (scN_at _ _ _ r k).trans ?_
  rw [← score_scaled (f0 _ _ _) (f1 _ _ _) (f2 _ _ _) (f3 _ _)]
  refine (Fin.sum_univ_add (a := 128) (b := 128) _).trans (congrArg₂ (· + ·) (Finset.sum_congr rfl fun d _ => ?_) ?_)
  · have hd' : (Fin.castAdd 128 d).val < 128 := d.isLt
    rw [dif_pos hd']
    refine congrArg₂ (· * ·) ((blk0 m c t r g (Fin.castAdd 128 d)).trans ?_) (blk1 m c t k g d)
    rw [dif_pos hd', kappa_eq]
    rfl
  · refine (Fin.sum_univ_add (a := 64) (b := 64) _).trans ?_
    have hz : ∀ d : Fin 64, (qT (iblk m c 0 t) g) (ix2 r (Fin.natAdd 128 (Fin.natAdd 64 d))) = 0 := by
      intro d
      refine (blk0 m c t r g (Fin.natAdd 128 (Fin.natAdd 64 d))).trans ?_
      have h1 : ¬ (Fin.natAdd 128 (Fin.natAdd 64 d)).val < 128 := by simp
      have h2 : ¬ (Fin.natAdd 128 (Fin.natAdd 64 d)).val - 128 < 64 := by simp
      rw [dif_neg h1, dif_neg h2, zero_mul]
    refine (congrArg₂ (· + ·) (Finset.sum_congr rfl fun d _ => ?_) (Finset.sum_eq_zero fun d _ => ?_)).trans (add_zero _)
    · have h1 : ¬ (Fin.natAdd 128 (Fin.castAdd 64 d)).val < 128 := by simp
      have hv : (Fin.natAdd 128 (Fin.castAdd 64 d)).val - 128 = d.val := by simp
      have h2 : (Fin.natAdd 128 (Fin.castAdd 64 d)).val - 128 < 64 := hv.trans_lt d.isLt
      rw [dif_neg h1]
      refine congrArg₂ (· * ·) ((blk0 m c t r g (Fin.natAdd 128 (Fin.castAdd 64 d))).trans ?_) ((blk2 m c t k _).trans ?_)
      · rw [dif_neg h1, dif_pos h2, kappa_eq]
        exact congrArg (fun x => Qr m c (sm t) r g x * _) (Fin.ext hv)
      · rw [dif_pos h2]
        exact congrArg (Kr m c (sm t) k) (Fin.ext hv)
    · exact (congrArg (· * _) (hz d)).trans (zero_mul _)

/-! ### The result -/

/-- Head `h`'s attention for the query at `p` of stream `b`. -/
def res (c : Dev nD) (b p : Fin 16) (h : Fin 8) (e : Fin 128) : EReal :=
  sample (Qn m c b p h) (Qr m c b p h) (Kp m c b h) (Cr m c b) (fun k => Kn m c b k h) (Kr m c b) (fun k => Vp m c b h k e) (fun k => Vv m c b k h e)

/-- What a head of a point stores. -/
theorem hd_at (c : Dev nD) (hf : Finite m c) (t : Fin cfg0.N) (g : Fin 8) (r : Fin 16) (e : Fin 128) :
    hd (iblk m c 0 t) (iblk m c 1 t) (iblk m c 2 t) (iblk m c 3 t) (iblk m c 4 t) (iblk m c 5 t) (iblk m c 6 t) (iblk m c 7 t) g (ix2 r e) = res m c (sm t) r g e := by
  refine (head_at r e (scP_eq m c hf t g r) (scN_eq m c hf t g r)).trans ?_
  simp only [two_score, kT7]
  exact congrArg (attend2 _ _ _) (funext fun k => blk3 m c t k g e)

theorem emb8 (t : Fin cfg0.N) (y : S16x1024.Idx) (a : Fin 2) :
    ((((View.whole main_v35).slice (win0_8.rect t)).emb y) a : ℕ) = win0_8.index t a * win0_8.size a + (y a : ℕ) :=
  ValueKit.view_emb_slice_whole_unit_val main_v35 _ _ _ y a

/-- The result array after the run: for each row and each head the attention of its query. -/
theorem final (c : Dev nD) (hf : Finite m c) : (dats m 0 c).arrAt 8 (cfgs 0).N
    = (show FVec Ideal S256x1024 .bf16 from fun i => res m c (st (i 0)) (ps (i 0)) ⟨(i 1).val / 128, by have := (i 1).isLt; change _ < 1024 at this; omega⟩ ⟨(i 1).val % 128, Nat.mod_lt _ (by decide)⟩) := by
  refine (dats m 0 c).arrAt_eq_of_covers 8 _ (by decide +kernel) fun t hf' y => ?_
  blk_simp
  idx_vars y
  have e := emb8 t (ix2 y0 y1)
  rw [after0_8]
  refine (congrFun (out_at _ _ _ _ _ _ _ _) (ix2 y0 y1)).trans ((hd_at m c hf t _ _ _).trans ?_)
  have key : ∀ (b : Fin 16) (p : Fin 16) (R : Fin 256) (h h' : Fin 8) (d d' : Fin 128), R.val = b.val * 16 + p.val → h.val = h'.val → d.val = d'.val →
      res m c b p h d = res m c (st R) (ps R) h' d' := by
    intro b p R h h' d d' h0 h1 h2
    have hb : st R = b := Fin.ext (by simp only [st]; omega)
    have hp : ps R = p := Fin.ext (by simp only [ps]; omega)
    rw [hb, hp, Fin.ext h1, Fin.ext h2]
  have z : win0_8.index t 1 = 0 := congrFun (idx t).2.2.2 1
  have e1 : y1.val = win0_8.index t 1 * 1024 + y1.val := by rw [z, zero_mul, zero_add]
  refine key _ _ _ _ _ _ _ ?_ ?_ ?_
  · exact (e 0).trans (by simp [(idx t).2.2.2, sm])
  · exact congrArg (fun n : ℕ => n / 128) e1
  · exact congrArg (fun n : ℕ => n % 128) e1

end Cert.Kernel10Ideal.Hand
-- ==== Proof.MlaSampleRef.lean ====
/-
  What the reference of latent attention over the sample computes, read at an index: a query's softmax over all the cached and new keys of its
  stream, put on their values.
-/
module

public import proofs.«01_k».proof.Proof.Gen.Reference10Ideal.Read
public import proofs.«01_k».proof.Proof.MlaSoftmax
public import proofs.«01_k».proof.Proof.MlaSampleSpec
public import Idealize.ShloMosaic.Lib.Pointwise

@[expose] public section

set_option maxRecDepth 16384

noncomputable section

open Idealize.ShloMosaic Idealize.ShloMosaic.TcCoe Idealize.SL.Sem

namespace Cert.Reference10Ideal.Hand

open Cert.Reference10Ideal Cert.Reference10Ideal.Gen Cert.Reference10Ideal.Value Cert.Reference10Ideal.Read Cert.Mla

variable (x0 : FVec Ideal S16x16x8x128 .f32) (x1 : FVec Ideal S16x16x8x64 .f32) (x2 : FVec Ideal S16x16x8x128 .f32) (x3 : FVec Ideal S16x16x64 .f32)
  (x4 : FVec Ideal S16x16x8x128 .f32) (x5 : FVec Ideal S1x16x1024x512 .f32) (x6 : FVec Ideal S1x16x1024x64 .f32) (x7 : FVec Ideal S1x512x2048 .f32)

/-! ### The mask -/

/-- A position's word divided down by 64, as the host divides: towards 0, and one less where the signs differ and something remains. -/
def down (w : BitVec 32) : BitVec 32 :=
  Scalar.select (IntOp.andi (IntOp.cmpi .ne (signi (fun _ : S_.Idx => w) ix0) (signi (fun _ : S_.Idx => 64#32) ix0))
    (IntOp.cmpi .ne (IntOp.remsi .host w 64#32) 0#32)) (IntOp.subi (IntOp.divsi .host w 64#32) 1#32) (IntOp.divsi .host w 64#32)

theorem down_eq : ∀ k : Fin 1040, down (BitVec.ofNat 32 k.val) = BitVec.ofNat 32 (k.val / 64) := by decide +kernel

theorem sle_eq : ∀ k : Fin 17, IntOp.cmpi .sle (BitVec.ofNat 32 k.val) 16#32 = 1#1 := by decide +kernel

theorem add_eq : ∀ k : Fin 16, IntOp.addi 1024#32 (BitVec.ofNat 32 k.val) = BitVec.ofNat 32 (1024 + k.val) := by decide +kernel

/-- The new positions follow the cached ones. -/
theorem v3_at (k : Fin 16) : val_main_v3 (F := Ideal) (ix1 k) = BitVec.ofNat 32 (1024 + k.val) := by
  rw [← add_eq]
  rfl

theorem v14_at (k : Fin 1040) : val_main_v14 (F := Ideal) (ix1 k) = BitVec.ofNat 32 k.val := by
  have e : val_main_v14 (F := Ideal) (ix1 k)
      = if u : k.val < 1024 then val_main_v0 (F := Ideal) (ix1 ⟨k.val, u⟩) else val_main_v3 (F := Ideal) (ix1 ⟨k.val - 1024, by omega⟩) := by
    pointwise [val_main_v14]
  rw [e]
  split_ifs with u
  · rfl
  · rw [v3_at]
    congr 1
    show 1024 + (k.val - 1024) = k.val
    omega

theorem v22_at (k : Fin 1040) : val_main_v22 (F := Ideal) (ix2 0 k) = BitVec.ofNat 32 (k.val / 64) := by
  have e21 : val_main_v21 (F := Ideal) (ix2 0 k) = val_main_v14 (F := Ideal) (ix1 k) := by
    pointwise [val_main_v21]
  rw [← down_eq, ← v14_at, ← e21]
  unfold val_main_v22 val_main_call0_v11 val_main_call0_v13 val_main_call0_v10 val_main_call0_v8 val_main_call0_v6 val_main_call0_v3 val_main_call0_v2
  generalize val_main_v21 (F := Ideal) = y
  rfl

theorem v24_at (p : Fin 16) : val_main_v24 (F := Ideal) (ix2 p 0) = 16#32 := by
  have e : val_main_v24 (F := Ideal) (ix2 p 0) = down (val_main_v3 (F := Ideal) (ix1 p)) := rfl
  rw [e, v3_at, down_eq ⟨1024 + p.val, by omega⟩]
  congr 1
  show (1024 + p.val) / 64 = 16
  omega

/-- The mask holds throughout: all the positions lie in the queries' block or before it. -/
theorem mask_at (p : Fin 16) (k : Fin 1040) : val_main_v27 (F := Ideal) (ix2 p k) = 1#1 := by
  have e : val_main_v27 (F := Ideal) (ix2 p k) = IntOp.cmpi .sle (val_main_v22 (F := Ideal) (ix2 0 k)) (val_main_v24 (F := Ideal) (ix2 p 0)) := by
    pointwise [val_main_v27, val_main_v26, val_main_v25]
  rw [e, v22_at, v24_at]
  exact sle_eq ⟨k.val / 64, by omega⟩

/-! ### Keys and values -/

/-- Head `h`'s cached keys, -/
def Kp (b : Fin 16) (h : Fin 8) (k : Fin 1024) (d : Fin 128) : EReal :=
  kv (fun k e => x5 (ix4 0 b k e)) (fun e j => x7 (ix3 0 e j)) k ⟨h.val * 256 + d.val, by omega⟩
/-- and values. -/
def Vp (b : Fin 16) (h : Fin 8) (k : Fin 1024) (d : Fin 128) : EReal :=
  kv (fun k e => x5 (ix4 0 b k e)) (fun e j => x7 (ix3 0 e j)) k ⟨h.val * 256 + (128 + d.val), by omega⟩

theorem v6_at (b : Fin 16) (k : Fin 1024) (j : Fin 2048) :
    val_main_v6 (F := Ideal) x5 x7 (ix3 b k j) = kv (fun k e => x5 (ix4 0 b k e)) (fun e j => x7 (ix3 0 e j)) k j := by
  unfold kv
  pointwise [val_main_v6, val_main_v5, val_main_v4]

theorem v8_at (b : Fin 16) (k : Fin 1024) (h : Fin 8) (d : Fin 128) : val_main_v8 (F := Ideal) x5 x7 (ix4 b k h d) = Kp x5 x7 b h k d := by
  unfold Kp
  rw [← v6_at]
  have e1 : (h.val * 256 + d.val) / 256 = h.val := by omega
  have e2 : (h.val * 256 + d.val) % 256 = d.val := by omega
  pointwise [val_main_v8, val_main_v7]

theorem v10_at (b : Fin 16) (k : Fin 1024) (h : Fin 8) (d : Fin 128) : val_main_v10 (F := Ideal) x5 x7 (ix4 b k h d) = Vp x5 x7 b h k d := by
  unfold Vp
  rw [← v6_at]
  pointwise [val_main_v10, val_main_v7]

/-- The keys' parts without rotation, cached and new, -/
theorem v9_at (b : Fin 16) (k : Fin 1040) (h : Fin 8) (d : Fin 128) : val_main_v9 (F := Ideal) x2 x5 x7 (ix4 b k h d)
    = if u : k.val < 1024 then Kp x5 x7 b h ⟨k.val, u⟩ d else x2 (ix4 b ⟨k.val - 1024, by omega⟩ h d) := by
  simp only [← v8_at]
  pointwise [val_main_v9]

/-- the values, -/
theorem v11_at (b : Fin 16) (k : Fin 1040) (h : Fin 8) (d : Fin 128) : val_main_v11 (F := Ideal) x4 x5 x7 (ix4 b k h d)
    = if u : k.val < 1024 then Vp x5 x7 b h ⟨k.val, u⟩ d else x4 (ix4 b ⟨k.val - 1024, by omega⟩ h d) := by
  simp only [← v10_at]
  pointwise [val_main_v11]

/-- and the keys' parts with rotation. -/
theorem v13_at (b : Fin 16) (k : Fin 1040) (d : Fin 64) : val_main_v13 (F := Ideal) x3 x6 (ix3 b k d)
    = if u : k.val < 1024 then x6 (ix4 0 b ⟨k.val, u⟩ d) else x3 (ix3 b ⟨k.val - 1024, by omega⟩ d) := by
  have e : ∀ k : Fin 1024, x6 (ix4 0 b k d) = val_main_v12 (F := Ideal) x6 (ix3 b k d) := fun k => by pointwise [val_main_v12]
  simp only [e]
  pointwise [val_main_v13]

/-! ### The scores -/

/-- The arguments' finiteness, as far as the scores need it. -/
def Real7 : Prop := (∀ b p h d, x0 (ix4 b p h d) = ((x0 (ix4 b p h d)).toReal : EReal)) ∧ (∀ b p h d, x1 (ix4 b p h d) = ((x1 (ix4 b p h d)).toReal : EReal))
  ∧ (∀ b p h d, x2 (ix4 b p h d) = ((x2 (ix4 b p h d)).toReal : EReal)) ∧ (∀ b p d, x3 (ix3 b p d) = ((x3 (ix3 b p d)).toReal : EReal))
  ∧ (∀ b k e, x5 (ix4 0 b k e) = ((x5 (ix4 0 b k e)).toReal : EReal)) ∧ (∀ b k d, x6 (ix4 0 b k d) = ((x6 (ix4 0 b k d)).toReal : EReal))
  ∧ ∀ (e : Fin 512) (h : Fin 8) (d : Fin 128), x7 (ix3 0 e ⟨h.val * 256 + d.val, by omega⟩) = ((x7 (ix3 0 e ⟨h.val * 256 + d.val, by omega⟩)).toReal : EReal)

/-- The score of query `p` and key `k` before its scale. -/
def sr (b : Fin 16) (h : Fin 8) (p : Fin 16) (k : Fin 1040) : ℝ :=
  score (fun d => x0 (ix4 b p h d)) (fun d => x1 (ix4 b p h d)) (fun d => val_main_v9 (F := Ideal) x2 x5 x7 (ix4 b k h d)) (fun d => val_main_v13 (F := Ideal) x3 x6 (ix3 b k d))

theorem v28_at (hf : Real7 x0 x1 x2 x3 x5 x6 x7) (b : Fin 16) (h : Fin 8) (p : Fin 16) (k : Fin 1040) :
    val_main_v28 (F := Ideal) x0 x1 x2 x3 x5 x6 x7 (ix4 b h p k) = ((sr x0 x1 x2 x3 x5 x6 x7 b h p k * scale : ℝ) : EReal) := by
  obtain ⟨f0, f1, f2, f3, f5, f6, f7⟩ := hf
  have r9 : ∀ d, val_main_v9 (F := Ideal) x2 x5 x7 (ix4 b k h d) = ((val_main_v9 (F := Ideal) x2 x5 x7 (ix4 b k h d)).toReal : EReal) := by
    intro d
    rw [v9_at]
    split_ifs with u
    · exact kv_real (fun e => f5 _ _ _) (fun e => f7 e h d)
    · exact f2 _ _ _ _
  have r13 : ∀ d, val_main_v13 (F := Ideal) x3 x6 (ix3 b k d) = ((val_main_v13 (F := Ideal) x3 x6 (ix3 b k d)).toReal : EReal) := by
    intro d
    rw [v13_at]
    split_ifs with u
    · exact f6 _ _ _
    · exact f3 _ _ _
  have e28 : val_main_v28 (F := Ideal) x0 x1 x2 x3 x5 x6 x7 (ix4 b h p k)
      = Scalar.select (val_main_v27 (F := Ideal) (ix2 p k)) (val_main_v20 (F := Ideal) x0 x1 x2 x3 x5 x6 x7 (ix4 b h p k)) (Ideal.ofBits .f32 0xFF800000#32) := by
    pointwise [val_main_v28, val_main_call2_v2, val_main_call2_v1, val_main_call2_v0, val_main_cst_2]
    rfl
  have e : val_main_v20 (F := Ideal) x0 x1 x2 x3 x5 x6 x7 (ix4 b h p k)
      = (∑ d : Fin 128, x0 (ix4 b p h d) * val_main_v9 (F := Ideal) x2 x5 x7 (ix4 b k h d) + ∑ d : Fin 64, val_main_v13 (F := Ideal) x3 x6 (ix3 b k d) * x1 (ix4 b p h d))
        * Ideal.ofBits .f32 0x3D93CD3A#32 := by
    pointwise [val_main_v20, val_main_v19, val_main_cst, val_main_v18, val_main_v17, val_main_v16, val_main_v15]
  have s := score_scaled (fun d => f0 b p h d) (fun d => f1 b p h d) r9 r13 1
  simp only [EReal.coe_one, mul_one] at s
  rw [e28, mask_at, e, scale_eq, EReal.coe_mul]
  show _ * _ = _
  refine congrArg (· * (scale : EReal)) (Eq.trans ?_ s)
  exact congrArg₂ (· + ·) rfl (Finset.sum_congr rfl fun d _ => mul_comm _ _)

theorem ninf : Ideal.ofBits .f32 0xFF800000#32 = ⊥ := by simp [Ideal.ofBits, Ideal.ieee]

/-! ### The softmax on the values -/

/-- The greatest score of a row, -/
theorem v31_at (b : Fin 16) (h : Fin 8) (p : Fin 16) : val_main_v31 (F := Ideal) x0 x1 x2 x3 x5 x6 x7 (ix3 b h p)
    = max ⊥ (Finset.univ.fold max ⊥ fun k : Fin 1040 => val_main_v28 (F := Ideal) x0 x1 x2 x3 x5 x6 x7 (ix4 b h p k)) := by
  have e30 : val_main_v30 (F := Ideal) (ix3 b h p) = ⊥ := by
    rw [val_main_v30_apply, val_main_cst_4_apply]
    exact ninf
  have e3 : val_main_cst_3 (F := Ideal) (Shape.Idx.first h_S_) = ⊥ := by
    rw [val_main_cst_3_apply]
    exact ninf
  have e29 : val_main_v29 (F := Ideal) x0 x1 x2 x3 x5 x6 x7 (ix3 b h p)
      = Finset.univ.fold max ⊥ fun k : Fin 1040 => val_main_v28 (F := Ideal) x0 x1 x2 x3 x5 x6 x7 (ix4 b h p k) := by
    unfold val_main_v29
    generalize val_main_v28 (F := Ideal) x0 x1 x2 x3 x5 x6 x7 = y
    refine (Host.reduce_eq_fold_single (FloatOps.maximumf (F := Ideal) (φ := .f32)) y _ _ (by decide) h_S_ (ix3 b h p)).trans ?_
    rw [e3]
    refine congrArg (Finset.univ.fold max ⊥) (funext fun k => congrArg y (funext fun a => Fin.ext ?_))
    match a with
    | ⟨0, _⟩ => rfl
    | ⟨1, _⟩ => rfl
    | ⟨2, _⟩ => rfl
    | ⟨3, _⟩ => rfl
  rw [val_main_v31_apply, e30, e29]
  rfl

/-- e to a score less it, -/
theorem v35_at (b : Fin 16) (h : Fin 8) (p : Fin 16) (k : Fin 1040) : val_main_v35 (F := Ideal) x0 x1 x2 x3 x5 x6 x7 (ix4 b h p k)
    = Ideal.exp (val_main_v28 (F := Ideal) x0 x1 x2 x3 x5 x6 x7 (ix4 b h p k) - val_main_v31 (F := Ideal) x0 x1 x2 x3 x5 x6 x7 (ix3 b h p)) := by
  pointwise [val_main_v35, val_main_v34, val_main_v33, val_main_v32]

/-- the sum of these over a row, -/
theorem v36_at (b : Fin 16) (h : Fin 8) (p : Fin 16) : val_main_v36 (F := Ideal) x0 x1 x2 x3 x5 x6 x7 (ix3 b h p)
    = ∑ k : Fin 1040, val_main_v35 (F := Ideal) x0 x1 x2 x3 x5 x6 x7 (ix4 b h p k) := by
  have z : val_main_cst_5 (F := Ideal) (Shape.Idx.first h_S_) = 0 := by
    rw [val_main_cst_5_apply]
    simp [Ideal.ofBits, Ideal.ieee]
  rw [val_main_v36_apply, z, zero_add]
  refine Finset.sum_congr rfl fun k _ => congrArg _ (funext fun a => ?_)
  match a with
  | ⟨0, _⟩ => rfl
  | ⟨1, _⟩ => rfl
  | ⟨2, _⟩ => rfl
  | ⟨3, _⟩ => rfl

/-- and their quotients put on the values. -/
theorem v40_quot (b : Fin 16) (h : Fin 8) (p : Fin 16) (e : Fin 128) : val_main_v40 (F := Ideal) x0 x1 x2 x3 x4 x5 x6 x7 (ix4 b h e p)
    = ∑ k : Fin 1040, val_main_v11 (F := Ideal) x4 x5 x7 (ix4 b k h e)
        * Ideal.div (val_main_v35 (F := Ideal) x0 x1 x2 x3 x5 x6 x7 (ix4 b h p k)) (val_main_v36 (F := Ideal) x0 x1 x2 x3 x5 x6 x7 (ix3 b h p)) := by
  pointwise [val_main_v40, val_main_v39, val_main_v38, val_main_v37]

/-- A query's attention in one head. -/
def res (b p : Fin 16) (h : Fin 8) (e : Fin 128) : EReal :=
  sample (fun d => x0 (ix4 b p h d)) (fun d => x1 (ix4 b p h d)) (Kp x5 x7 b h) (fun k d => x6 (ix4 0 b k d)) (fun k d => x2 (ix4 b k h d)) (fun k d => x3 (ix3 b k d))
    (fun k => Vp x5 x7 b h k e) (fun k => x4 (ix4 b k h e))

theorem v40_at (hf : Real7 x0 x1 x2 x3 x5 x6 x7) (b : Fin 16) (h : Fin 8) (p : Fin 16) (e : Fin 128) :
    val_main_v40 (F := Ideal) x0 x1 x2 x3 x4 x5 x6 x7 (ix4 b h e p) = res x0 x1 x2 x3 x4 x5 x6 x7 b p h e := by
  have hs : ∀ k : Fin 1040, Soft (val_main_v28 (F := Ideal) x0 x1 x2 x3 x5 x6 x7 (ix4 b h p k)) (Real.exp (sr x0 x1 x2 x3 x5 x6 x7 b h p k * scale)) :=
    fun k => Or.inl ⟨_, v28_at x0 x1 x2 x3 x5 x6 x7 hf b h p k, rfl⟩
  have hv : val_main_v28 (F := Ideal) x0 x1 x2 x3 x5 x6 x7 (ix4 b h p 0) ≠ ⊥ := by
    rw [v28_at x0 x1 x2 x3 x5 x6 x7 hf]
    exact EReal.coe_ne_bot _
  have hL : 0 < ∑ k : Fin 1040, Real.exp (sr x0 x1 x2 x3 x5 x6 x7 b h p k * scale) := Finset.sum_pos (fun k _ => Real.exp_pos _) ⟨0, Finset.mem_univ _⟩
  have s := softmax hs 0 hv hL (fun k => val_main_v11 (F := Ideal) x4 x5 x7 (ix4 b k h e))
  rw [v40_quot, v36_at]
  simp only [v35_at, v31_at]
  refine s.trans ?_
  have old : ∀ k : Fin 1024, sr x0 x1 x2 x3 x5 x6 x7 b h p ⟨k.val, by omega⟩
      = score (fun d => x0 (ix4 b p h d)) (fun d => x1 (ix4 b p h d)) (Kp x5 x7 b h k) (fun d => x6 (ix4 0 b k d)) := by
    intro k
    unfold sr
    simp only [v9_at, v13_at, k.isLt, dif_pos]
  have new : ∀ k : Fin 16, sr x0 x1 x2 x3 x5 x6 x7 b h p ⟨1024 + k.val, by omega⟩
      = score (fun d => x0 (ix4 b p h d)) (fun d => x1 (ix4 b p h d)) (fun d => x2 (ix4 b k h d)) (fun d => x3 (ix3 b k d)) := by
    intro k
    have hk : ¬ 1024 + k.val < 1024 := by omega
    have hk' : ∀ u : 1024 + k.val - 1024 < 16, (⟨1024 + k.val - 1024, u⟩ : Fin 16) = k := fun _ => Fin.ext (by simp)
    unfold sr
    simp only [v9_at, v13_at, hk, dif_neg, not_false_eq_true, hk']
  have vold : ∀ k : Fin 1024, val_main_v11 (F := Ideal) x4 x5 x7 (ix4 b ⟨k.val, by omega⟩ h e) = Vp x5 x7 b h k e := by
    intro k
    simp only [v11_at, k.isLt, dif_pos]
  have vnew : ∀ k : Fin 16, val_main_v11 (F := Ideal) x4 x5 x7 (ix4 b ⟨1024 + k.val, by omega⟩ h e) = x4 (ix4 b k h e) := by
    intro k
    have hk : ¬ 1024 + k.val < 1024 := by omega
    have hk' : ∀ u : 1024 + k.val - 1024 < 16, (⟨1024 + k.val - 1024, u⟩ : Fin 16) = k := fun _ => Fin.ext (by simp)
    simp only [v11_at, hk, dif_neg, not_false_eq_true, hk']
  rw [sum_split, sum_split]
  simp only [old, new, vold, vnew]
  rfl

/-- The result. -/
theorem result (hf : Real7 x0 x1 x2 x3 x5 x6 x7) : val_main_v43 (F := Ideal) x0 x1 x2 x3 x4 x5 x6 x7 = fun i =>
    res x0 x1 x2 x3 x4 x5 x6 x7 ⟨(i 0).val / 16, by have h : (i 0).val < 256 := (i 0).isLt; omega⟩ ⟨(i 0).val % 16, Nat.mod_lt _ (by decide)⟩
      ⟨(i 1).val / 128, by have h : (i 1).val < 1024 := (i 1).isLt; omega⟩ ⟨(i 1).val % 128, Nat.mod_lt _ (by decide)⟩ := by
  funext i
  have h0 : (i 0).val < 256 := (i 0).isLt
  have h1 : (i 1).val < 1024 := (i 1).isLt
  rw [← v40_at x0 x1 x2 x3 x4 x5 x6 x7 hf]
  show val_main_v42 (F := Ideal) x0 x1 x2 x3 x4 x5 x6 x7 i = _
  rw [val_main_v42_apply, val_main_v41_apply]
  refine congrArg _ (funext fun a => Fin.ext ?_)
  match a with
  | ⟨0, _⟩ => show ((i 0).val * 1024 + (i 1).val) / 16384 = (i 0).val / 16; omega
  | ⟨1, _⟩ => show ((i 0).val * 1024 + (i 1).val) / 128 % 8 = (i 1).val / 128; omega
  | ⟨2, _⟩ => show ((i 0).val * 1024 + (i 1).val) % 128 = (i 1).val % 128; omega
  | ⟨3, _⟩ => show ((i 0).val * 1024 + (i 1).val) / 1024 % 16 = (i 0).val % 16; omega

end Cert.Reference10Ideal.Hand
-- ==== Proof.MlaSamplePre.lean ====
/-
  The precondition of latent attention over the sample read back: every query and key is a real number, and so are the cached latents and the
  weights that make keys of them.
-/
module

public import proofs.«01_k».proof.Proof.Gen.Pre_finite_past
public import proofs.«01_k».proof.Proof.MlaPre
public import proofs.«01_k».proof.Proof.MlaSampleRef

@[expose] public section

set_option maxRecDepth 16384

noncomputable section

open Idealize.ShloMosaic

namespace Cert.Mla

open Cert.Pre_finite_past in
/-- The weights' columns that make keys, as the precondition takes them. -/
theorem keys_at (x7 : FVec Ideal S1x512x2048 .f32) (e : Fin 512) (h : Fin 8) (d : Fin 128) (h1 : S1x512x2048.ShapeCasts S512x2048) (h2 : S512x2048.ShapeCasts S512x8x256)
    (h3 : S512x8x256.Slices ![0, 0, 0] S512x8x128) :
    extractStridedSlice S512x8x128 ![0, 0, 0] (shapeCast S512x8x256 (shapeCast S512x2048 x7 h1) h2) h3 (ix3 e h d) = x7 (ix3 0 e ⟨h.val * 256 + d.val, by omega⟩) := by
  pointwise

open Cert.Pre_finite_past in
/-- The precondition. -/
theorem real_of_pre_past (x0 : FVec Ideal S16x16x8x128 .f32) (x1 : FVec Ideal S16x16x8x64 .f32) (x2 : FVec Ideal S16x16x8x128 .f32) (x3 : FVec Ideal S16x16x64 .f32)
    (x4 : FVec Ideal S16x16x8x128 .f32) (x5 : FVec Ideal S1x16x1024x512 .f32) (x6 : FVec Ideal S1x16x1024x64 .f32) (x7 : FVec Ideal S1x512x2048 .f32)
    (h : fn (F := Ideal) x0 x1 x2 x3 x4 x5 x6 x7 = fun _ => 1#1) : Cert.Reference10Ideal.Hand.Real7 x0 x1 x2 x3 x5 x6 x7 := by
  have h1 := congrFun h ix0
  simp only [fn, fn_part1, fn_part2] at h1
  obtain ⟨h2, a7⟩ := IntOp.andi_eq_one.1 h1
  obtain ⟨h3, a6⟩ := IntOp.andi_eq_one.1 h2
  obtain ⟨h4, a5⟩ := IntOp.andi_eq_one.1 h3
  obtain ⟨h5, a3⟩ := IntOp.andi_eq_one.1 h4
  obtain ⟨h6, a2⟩ := IntOp.andi_eq_one.1 h5
  obtain ⟨a0, a1⟩ := IntOp.andi_eq_one.1 h6
  refine ⟨fun b p k d => real_of_all x0 _ _ _ _ a0 _, fun b p k d => real_of_all x1 _ _ _ _ a1 _, fun b p k d => real_of_all x2 _ _ _ _ a2 _,
    fun b p d => real_of_all x3 _ _ _ _ a3 _, fun b k e => real_of_all x5 _ _ _ _ a5 _, fun b k d => real_of_all x6 _ _ _ _ a6 _, fun e h d => ?_⟩
  have hw := real_of_all _ _ _ _ _ a7 (ix3 e h d)
  rwa [keys_at] at hw

end Cert.Mla
-- ==== Proof.lean ====
/-
  The claims put together. Each frame is the program's generated frame theorem or its reference run weakened; each equation
  sets a kernel's result arrays beside its reference's, both read as the same functions of the argument arrays.
-/
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.FfnPrompt
public import proofs.«01_k».proof.Proof.FfnPromptRef
public import proofs.«01_k».proof.Proof.FfnSample
public import proofs.«01_k».proof.Proof.FfnSampleRef
public import proofs.«01_k».proof.Proof.MergePrompt
public import proofs.«01_k».proof.Proof.MergePromptRef
public import proofs.«01_k».proof.Proof.MergeSample
public import proofs.«01_k».proof.Proof.MergeSampleRef
public import proofs.«01_k».proof.Proof.QkvPrompt
public import proofs.«01_k».proof.Proof.QkvPromptRef
public import proofs.«01_k».proof.Proof.QkvSample
public import proofs.«01_k».proof.Proof.QkvSampleRef
public import proofs.«01_k».proof.Proof.LatPrompt
public import proofs.«01_k».proof.Proof.LatPromptRef
public import proofs.«01_k».proof.Proof.LatSample
public import proofs.«01_k».proof.Proof.LatSampleRef
public import proofs.«01_k».proof.Proof.Gen.Pre_finite
public import proofs.«01_k».proof.Proof.Gen.Pre_finite_past
public import proofs.«01_k».proof.Proof.MlaPrompt
public import proofs.«01_k».proof.Proof.MlaPromptRef
public import proofs.«01_k».proof.Proof.MlaPre
public import proofs.«01_k».proof.Proof.MlaSample
public import proofs.«01_k».proof.Proof.MlaSampleRef
public import proofs.«01_k».proof.Proof.MlaSamplePre
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The feed-forward block on the prompt's rows: the kernel's result array is the same function of its arguments as the reference's. -/
theorem algebraic_KernelIdeal_ReferenceIdeal : algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  obtain ⟨h0, h1, h2, h3, h4⟩ := hagree c
  rw [(h c).1, Cert.ReferenceIdeal.Read.val_main_v38_eq, h0, h1, h2, h3, h4]
  refine Eq.trans (funext fun i => ?_) (Cert.KernelIdeal.Hand.final m c).symm
  idx_vars i
  exact Cert.ReferenceIdeal.Hand.out_at _ _ _ _ _ i0 i1

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The feed-forward block on the sample's rows: the kernel's result array is the same function of its arguments as the reference's. -/
theorem algebraic_Kernel2Ideal_Reference2Ideal : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  obtain ⟨h0, h1, h2, h3, h4⟩ := hagree c
  rw [(h c).1, Cert.Reference2Ideal.Read.val_main_v38_eq, h0, h1, h2, h3, h4]
  refine Eq.trans (funext fun i => ?_) (Cert.Kernel2Ideal.Hand.final m c).symm
  idx_vars i
  exact Cert.Reference2Ideal.Hand.out_at _ _ _ _ _ i0 i1

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The merge of the two branches on the prompt's rows: the kernel's result array is the same function of its arguments as the reference's. -/
theorem algebraic_Kernel3Ideal_Reference3Ideal : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  obtain ⟨h0, h1, h2, h3, h4, h5, h6, h7, h8, h9⟩ := hagree c
  rw [(h c).1, Cert.Reference3Ideal.Read.val_main_v60_eq, h0, h1, h2, h3, h4, h5, h6, h7, h8, h9]
  refine Eq.trans (funext fun i => ?_) (Cert.Kernel3Ideal.Hand.final m c).symm
  idx_vars i
  exact Cert.Reference3Ideal.Hand.out_at _ _ _ _ _ _ _ _ _ _ i0 i1

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The merge of the two branches on the sample's rows: the kernel's result array is the same function of its arguments as the reference's. -/
theorem algebraic_Kernel4Ideal_Reference4Ideal : algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  obtain ⟨h0, h1, h2, h3, h4, h5, h6, h7, h8, h9⟩ := hagree c
  rw [(h c).1, Cert.Reference4Ideal.Read.val_main_v60_eq, h0, h1, h2, h3, h4, h5, h6, h7, h8, h9]
  refine Eq.trans (funext fun i => ?_) (Cert.Kernel4Ideal.Hand.final m c).symm
  idx_vars i
  exact Cert.Reference4Ideal.Hand.out_at _ _ _ _ _ _ _ _ _ _ i0 i1

theorem quiescent_Reference5Ideal : quiescent_Reference5Ideal := fun m ρ _ =>
  (θ_run Cert.Reference5Ideal.defs _ _).mono (fun r h => ⟨fun c => (h c).2.2.2.2.2, sem_eq_zero_of_no_sems (by decide) r.2⟩)
    (Cert.Reference5Ideal.Value.run (F := Ideal) m ρ)

/-- The query, key and value projections of the prompt's rows: each of the kernel's five result arrays is the same function of its arguments as the
    reference's. -/
theorem algebraic_Kernel5Ideal_Reference5Ideal : algebraic_Kernel5Ideal_Reference5Ideal := by
  intro m ρ m' ρ' _ hagree
  refine ⟨_, _, _, _, _, Cert.Kernel5Ideal.Value.run_blocks (F := Ideal) m ρ, ?_⟩
  refine (θ_run Cert.Reference5Ideal.defs _ _).mono (fun _ h c => ?_) (Cert.Reference5Ideal.Value.run (F := Ideal) m' ρ')
  obtain ⟨h0, h1⟩ := hagree c
  obtain ⟨hq, hk, hv, hkb, hvb, kept⟩ := h c
  refine ⟨hq.trans ?_, hk.trans ?_, hv.trans ?_, hkb.trans ?_, hvb.trans ?_, kept⟩
  · rw [Cert.Reference5Ideal.Read.val_main_v11_eq, h0, h1]
    refine Eq.trans (funext fun i => ?_) (Cert.Kernel5Ideal.Hand.final_q m c).symm
    idx_vars i
    exact Cert.Reference5Ideal.Hand.q_at _ _ i0 i1
  · rw [Cert.Reference5Ideal.Read.val_main_v3_eq, h0, h1]
    refine Eq.trans (funext fun i => ?_) (Cert.Kernel5Ideal.Hand.final_k m c).symm
    idx_vars i
    exact Cert.Reference5Ideal.Hand.k_at _ _ i0 i1
  · rw [Cert.Reference5Ideal.Read.val_main_v4_eq, h0, h1]
    refine Eq.trans (funext fun i => ?_) (Cert.Kernel5Ideal.Hand.final_v m c).symm
    idx_vars i
    exact Cert.Reference5Ideal.Hand.v_at _ _ i0 i1
  · rw [Cert.Reference5Ideal.Read.val_main_v12_eq, h0, h1]
    refine Eq.trans (funext fun i => ?_) (Cert.Kernel5Ideal.Hand.final_kb m c).symm
    idx_vars i
    exact (Cert.Reference5Ideal.Hand.kb_at _ _ i0 i1).trans (Cert.Reference5Ideal.Hand.k_at _ _ i0 i1)
  · rw [Cert.Reference5Ideal.Read.val_main_v13_eq, h0, h1]
    refine Eq.trans (funext fun i => ?_) (Cert.Kernel5Ideal.Hand.final_vb m c).symm
    idx_vars i
    exact (Cert.Reference5Ideal.Hand.vb_at _ _ i0 i1).trans (Cert.Reference5Ideal.Hand.v_at _ _ i0 i1)

theorem quiescent_Reference6Ideal : quiescent_Reference6Ideal := fun m ρ _ =>
  (θ_run Cert.Reference6Ideal.defs _ _).mono (fun r h => ⟨fun c => (h c).2.2.2.2.2, sem_eq_zero_of_no_sems (by decide) r.2⟩)
    (Cert.Reference6Ideal.Value.run (F := Ideal) m ρ)

/-- The query, key and value projections of the sample's rows: each of the kernel's five result arrays is the same function of its arguments as the
    reference's. -/
theorem algebraic_Kernel6Ideal_Reference6Ideal : algebraic_Kernel6Ideal_Reference6Ideal := by
  intro m ρ m' ρ' _ hagree
  refine ⟨_, _, _, _, _, Cert.Kernel6Ideal.Value.run_blocks (F := Ideal) m ρ, ?_⟩
  refine (θ_run Cert.Reference6Ideal.defs _ _).mono (fun _ h c => ?_) (Cert.Reference6Ideal.Value.run (F := Ideal) m' ρ')
  obtain ⟨h0, h1⟩ := hagree c
  obtain ⟨hq, hk, hv, hkb, hvb, kept⟩ := h c
  refine ⟨hq.trans ?_, hk.trans ?_, hv.trans ?_, hkb.trans ?_, hvb.trans ?_, kept⟩
  · rw [Cert.Reference6Ideal.Read.val_main_v11_eq, h0, h1]
    refine Eq.trans (funext fun i => ?_) (Cert.Kernel6Ideal.Hand.final_q m c).symm
    idx_vars i
    exact Cert.Reference6Ideal.Hand.q_at _ _ i0 i1
  · rw [Cert.Reference6Ideal.Read.val_main_v3_eq, h0, h1]
    refine Eq.trans (funext fun i => ?_) (Cert.Kernel6Ideal.Hand.final_k m c).symm
    idx_vars i
    exact Cert.Reference6Ideal.Hand.k_at _ _ i0 i1
  · rw [Cert.Reference6Ideal.Read.val_main_v4_eq, h0, h1]
    refine Eq.trans (funext fun i => ?_) (Cert.Kernel6Ideal.Hand.final_v m c).symm
    idx_vars i
    exact Cert.Reference6Ideal.Hand.v_at _ _ i0 i1
  · rw [Cert.Reference6Ideal.Read.val_main_v12_eq, h0, h1]
    refine Eq.trans (funext fun i => ?_) (Cert.Kernel6Ideal.Hand.final_kb m c).symm
    idx_vars i
    exact (Cert.Reference6Ideal.Hand.kb_at _ _ i0 i1).trans (Cert.Reference6Ideal.Hand.k_at _ _ i0 i1)
  · rw [Cert.Reference6Ideal.Read.val_main_v13_eq, h0, h1]
    refine Eq.trans (funext fun i => ?_) (Cert.Kernel6Ideal.Hand.final_vb m c).symm
    idx_vars i
    exact (Cert.Reference6Ideal.Hand.vb_at _ _ i0 i1).trans (Cert.Reference6Ideal.Hand.v_at _ _ i0 i1)

theorem quiescent_Reference7Ideal : quiescent_Reference7Ideal := fun m ρ _ =>
  (θ_run Cert.Reference7Ideal.defs _ _).mono (fun r h => ⟨fun c => (h c).2.2.2.2.2.2, sem_eq_zero_of_no_sems (by decide) r.2⟩)
    (Cert.Reference7Ideal.Value.run (F := Ideal) m ρ)

/-- The latent projections of the prompt's rows: each of the kernel's six result arrays is the same function of its arguments as
    the reference's. -/
theorem algebraic_Kernel7Ideal_Reference7Ideal : algebraic_Kernel7Ideal_Reference7Ideal := by
  intro m ρ m' ρ' _ hagree
  refine ⟨_, _, _, _, _, _, Cert.Kernel7Ideal.Value.run_blocks (F := Ideal) m ρ, ?_⟩
  refine (θ_run Cert.Reference7Ideal.defs _ _).mono (fun _ h c => ?_) (Cert.Reference7Ideal.Value.run (F := Ideal) m' ρ')
  obtain ⟨h0, h1, h2, h3, h4, h5⟩ := hagree c
  obtain ⟨hq, hc, hr, hp, hk, hv, kept⟩ := h c
  refine ⟨hq.trans ?_, hc.trans ?_, hr.trans ?_, hp.trans ?_, hk.trans ?_, hv.trans ?_, kept⟩
  · rw [Cert.Reference7Ideal.Read.val_main_v129_eq, h0, h1, h2, h3]
    refine Eq.trans (funext fun i => ?_) (Cert.Kernel7Ideal.Hand.final_q m c).symm
    idx_vars i
    exact Cert.Reference7Ideal.Hand.q_at _ _ _ _ i0 i1
  · rw [Cert.Reference7Ideal.Read.val_main_v130_eq, h0, h1, h4]
    refine Eq.trans (funext fun i => ?_) (Cert.Kernel7Ideal.Hand.final_c m c).symm
    idx_vars i
    exact Cert.Reference7Ideal.Hand.c_at _ _ _ i0 i1
  · rw [Cert.Reference7Ideal.Read.val_main_v131_eq, h0, h1]
    refine Eq.trans (funext fun i => ?_) (Cert.Kernel7Ideal.Hand.final_r m c).symm
    idx_vars i
    exact Cert.Reference7Ideal.Hand.r_at _ _ i0 i1
  · rw [Cert.Reference7Ideal.Read.val_main_v133_eq, h0, h1]
    refine Eq.trans (funext fun i => ?_) (Cert.Kernel7Ideal.Hand.final_p m c).symm
    idx_vars i
    exact Cert.Reference7Ideal.Hand.p_at _ _ i0 i1
  · rw [Cert.Reference7Ideal.Read.val_main_v135_eq, h0, h1, h4, h5]
    refine Eq.trans (funext fun i => ?_) (Cert.Kernel7Ideal.Hand.final_k m c).symm
    idx_vars i
    exact Cert.Reference7Ideal.Hand.k_at _ _ _ _ i0 i1
  · rw [Cert.Reference7Ideal.Read.val_main_v137_eq, h0, h1, h4, h5]
    refine Eq.trans (funext fun i => ?_) (Cert.Kernel7Ideal.Hand.final_v m c).symm
    idx_vars i
    exact Cert.Reference7Ideal.Hand.v_at _ _ _ _ i0 i1

theorem quiescent_Reference8Ideal : quiescent_Reference8Ideal := fun m ρ _ =>
  (θ_run Cert.Reference8Ideal.defs _ _).mono (fun r h => ⟨fun c => (h c).2.2.2.2.2.2, sem_eq_zero_of_no_sems (by decide) r.2⟩)
    (Cert.Reference8Ideal.Value.run (F := Ideal) m ρ)

/-- The latent projections of the sample's rows: each of the kernel's six result arrays is the same function of its arguments as
    the reference's. -/
theorem algebraic_Kernel8Ideal_Reference8Ideal : algebraic_Kernel8Ideal_Reference8Ideal := by
  intro m ρ m' ρ' _ hagree
  refine ⟨_, _, _, _, _, _, Cert.Kernel8Ideal.Value.run_blocks (F := Ideal) m ρ, ?_⟩
  refine (θ_run Cert.Reference8Ideal.defs _ _).mono (fun _ h c => ?_) (Cert.Reference8Ideal.Value.run (F := Ideal) m' ρ')
  obtain ⟨h0, h1, h2, h3, h4, h5⟩ := hagree c
  obtain ⟨hq, hc, hr, hp, hk, hv, kept⟩ := h c
  refine ⟨hq.trans ?_, hc.trans ?_, hr.trans ?_, hp.trans ?_, hk.trans ?_, hv.trans ?_, kept⟩
  · rw [Cert.Reference8Ideal.Read.val_main_v129_eq, h0, h1, h2, h3]
    refine Eq.trans (funext fun i => ?_) (Cert.Kernel8Ideal.Hand.final_q m c).symm
    idx_vars i
    exact Cert.Reference8Ideal.Hand.q_at _ _ _ _ i0 i1
  · rw [Cert.Reference8Ideal.Read.val_main_v130_eq, h0, h1, h4]
    refine Eq.trans (funext fun i => ?_) (Cert.Kernel8Ideal.Hand.final_c m c).symm
    idx_vars i
    exact Cert.Reference8Ideal.Hand.c_at _ _ _ i0 i1
  · rw [Cert.Reference8Ideal.Read.val_main_v131_eq, h0, h1]
    refine Eq.trans (funext fun i => ?_) (Cert.Kernel8Ideal.Hand.final_r m c).symm
    idx_vars i
    exact Cert.Reference8Ideal.Hand.r_at _ _ i0 i1
  · rw [Cert.Reference8Ideal.Read.val_main_v133_eq, h0, h1]
    refine Eq.trans (funext fun i => ?_) (Cert.Kernel8Ideal.Hand.final_p m c).symm
    idx_vars i
    exact Cert.Reference8Ideal.Hand.p_at _ _ i0 i1
  · rw [Cert.Reference8Ideal.Read.val_main_v135_eq, h0, h1, h4, h5]
    refine Eq.trans (funext fun i => ?_) (Cert.Kernel8Ideal.Hand.final_k m c).symm
    idx_vars i
    exact Cert.Reference8Ideal.Hand.k_at _ _ _ _ i0 i1
  · rw [Cert.Reference8Ideal.Read.val_main_v137_eq, h0, h1, h4, h5]
    refine Eq.trans (funext fun i => ?_) (Cert.Kernel8Ideal.Hand.final_v m c).symm
    idx_vars i
    exact Cert.Reference8Ideal.Hand.v_at _ _ _ _ i0 i1

theorem quiescent_Reference9Ideal : quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- Latent attention over the prompt, its queries and keys finite: the kernel's result array is the same function of its arguments as the
    reference's. -/
theorem algebraic_Kernel9Ideal_Reference9Ideal : algebraic_Kernel9Ideal_Reference9Ideal_pre_finite := by
  intro m ρ m' ρ' hp hagree
  refine ⟨_, Cert.Kernel9Ideal.Value.run_blocks (F := Ideal) m ρ, ?_⟩
  refine (θ_run Cert.Reference9Ideal.defs _ _).mono (fun _ h c => ⟨?_, (h c).2⟩) (Cert.Reference9Ideal.Value.run (F := Ideal) m' ρ')
  obtain ⟨h0, h1, h2, h3, h4⟩ := hagree c
  have hr := Cert.Mla.real_of_pre _ _ _ _ _ (hp c)
  rw [(h c).1, Cert.Reference9Ideal.Read.val_main_v29_eq, h0, h1, h2, h3, h4]
  exact (Cert.Reference9Ideal.Hand.result _ _ _ _ _ hr).trans (Cert.Kernel9Ideal.Hand.final m c hr).symm

theorem quiescent_Reference10Ideal : quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- Latent attention over the sample, its queries, keys, cached latents and their weights finite: the kernel's result array is the same function of
    its arguments as the reference's. -/
theorem algebraic_Kernel10Ideal_Reference10Ideal : algebraic_Kernel10Ideal_Reference10Ideal_pre_finite_past := by
  intro m ρ m' ρ' hp hagree
  refine ⟨_, Cert.Kernel10Ideal.Value.run_blocks (F := Ideal) m ρ, ?_⟩
  refine (θ_run Cert.Reference10Ideal.defs _ _).mono (fun _ h c => ⟨?_, (h c).2⟩) (Cert.Reference10Ideal.Value.run (F := Ideal) m' ρ')
  obtain ⟨h0, h1, h2, h3, h4, h5, h6, h7⟩ := hagree c
  have hr := Cert.Mla.real_of_pre_past _ _ _ _ _ _ _ _ (hp c)
  rw [(h c).1, Cert.Reference10Ideal.Read.val_main_v43_eq, h0, h1, h2, h3, h4, h5, h6, h7]
  exact (Cert.Reference10Ideal.Hand.result _ _ _ _ _ _ _ _ hr).trans (Cert.Kernel10Ideal.Hand.final m c hr).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts, Cert.Pre_finite.Gen.facts, Cert.Pre_finite_past.Gen.facts,
    fun m ρ _ => Cert.Kernel.Gen.frame m ρ, fun m ρ _ => Cert.KernelIdeal.Gen.frame m ρ, quiescent_ReferenceIdeal,
    fun m ρ _ => Cert.Kernel2.Gen.frame m ρ, fun m ρ _ => Cert.Kernel2Ideal.Gen.frame m ρ, quiescent_Reference2Ideal,
    fun m ρ _ => Cert.Kernel3.Gen.frame m ρ, fun m ρ _ => Cert.Kernel3Ideal.Gen.frame m ρ, quiescent_Reference3Ideal,
    fun m ρ _ => Cert.Kernel4.Gen.frame m ρ, fun m ρ _ => Cert.Kernel4Ideal.Gen.frame m ρ, quiescent_Reference4Ideal,
    fun m ρ _ => Cert.Kernel5.Gen.frame m ρ, fun m ρ _ => Cert.Kernel5Ideal.Gen.frame m ρ, quiescent_Reference5Ideal,
    fun m ρ _ => Cert.Kernel6.Gen.frame m ρ, fun m ρ _ => Cert.Kernel6Ideal.Gen.frame m ρ, quiescent_Reference6Ideal,
    fun m ρ _ => Cert.Kernel7.Gen.frame m ρ, fun m ρ _ => Cert.Kernel7Ideal.Gen.frame m ρ, quiescent_Reference7Ideal,
    fun m ρ _ => Cert.Kernel8.Gen.frame m ρ, fun m ρ _ => Cert.Kernel8Ideal.Gen.frame m ρ, quiescent_Reference8Ideal,
    fun m ρ _ => Cert.Kernel9.Gen.frame m ρ, fun m ρ _ => Cert.Kernel9Ideal.Gen.frame m ρ, fun m ρ _ => Cert.Kernel9Ideal.Gen.frame m ρ,
    quiescent_Reference9Ideal, fun m ρ _ => quiescent_Reference9Ideal m ρ trivial,
    fun m ρ _ => Cert.Kernel10.Gen.frame m ρ, fun m ρ _ => Cert.Kernel10Ideal.Gen.frame m ρ, fun m ρ _ => Cert.Kernel10Ideal.Gen.frame m ρ,
    quiescent_Reference10Ideal, fun m ρ _ => quiescent_Reference10Ideal m ρ trivial,
    (trivial : preserves_Kernel_KernelIdeal), algebraic_KernelIdeal_ReferenceIdeal,
    (trivial : preserves_Kernel2_Kernel2Ideal), algebraic_Kernel2Ideal_Reference2Ideal,
    (trivial : preserves_Kernel3_Kernel3Ideal), algebraic_Kernel3Ideal_Reference3Ideal,
    (trivial : preserves_Kernel4_Kernel4Ideal), algebraic_Kernel4Ideal_Reference4Ideal,
    (trivial : preserves_Kernel5_Kernel5Ideal), algebraic_Kernel5Ideal_Reference5Ideal,
    (trivial : preserves_Kernel6_Kernel6Ideal), algebraic_Kernel6Ideal_Reference6Ideal,
    (trivial : preserves_Kernel7_Kernel7Ideal), algebraic_Kernel7Ideal_Reference7Ideal,
    (trivial : preserves_Kernel8_Kernel8Ideal), algebraic_Kernel8Ideal_Reference8Ideal,
    (trivial : preserves_Kernel9_Kernel9Ideal), algebraic_Kernel9Ideal_Reference9Ideal,
    (trivial : preserves_Kernel10_Kernel10Ideal), algebraic_Kernel10Ideal_Reference10Ideal⟩

end Cert.Proof

end
